-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9)) (m ((c.tc : Thread Cert.Kernel9Ideal.nD Cert.Kernel9Ideal.τ).loc Cert.Kernel9Ideal.main_arg10))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8)) (m ((c.tc : Thread Cert.Reference9Ideal.nD Cert.Reference9Ideal.τ).loc Cert.Reference9Ideal.main_arg9)) (m ((c.tc : Thread Cert.Reference9Ideal.nD Cert.Reference9Ideal.τ).loc Cert.Reference9Ideal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9)
      ∧ r.2.mem ((c.tc : Thread Cert.Kernel9.nD Cert.Kernel9.τ).loc Cert.Kernel9.main_arg10) = m ((c.tc : Thread Cert.Kernel9.nD Cert.Kernel9.τ).loc Cert.Kernel9.main_arg10))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v125) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v24) = v0 c
          ∧ r.2.mem ((c.tc : Thread Cert.Reference4Ideal.nD Cert.Reference4Ideal.τ).loc Cert.Reference4Ideal.main_v39) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v12) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v58_0)) (v1 : (c : Dev Cert.Kernel6Ideal.nD) → Buf (Elt Ideal) ((c.tc : Thread Cert.Kernel6Ideal.nD Cert.Kernel6Ideal.τ).loc Cert.Kernel6Ideal.main_v58_1)) (v2 : (c : Dev Cert.Kernel6Ideal.nD) → Buf (Elt Ideal) ((c.tc : Thread Cert.Kernel6Ideal.nD Cert.Kernel6Ideal.τ).loc Cert.Kernel6Ideal.main_v58_2)) (v3 : (c : Dev Cert.Kernel6Ideal.nD) → Buf (Elt Ideal) ((c.tc : Thread Cert.Kernel6Ideal.nD Cert.Kernel6Ideal.τ).loc Cert.Kernel6Ideal.main_v58_3)) (v4 : (c : Dev Cert.Kernel6Ideal.nD) → Buf (Elt Ideal) ((c.tc : Thread Cert.Kernel6Ideal.nD Cert.Kernel6Ideal.τ).loc Cert.Kernel6Ideal.main_v58_4)) (v5 : (c : Dev Cert.Kernel6Ideal.nD) → Buf (Elt Ideal) ((c.tc : Thread Cert.Kernel6Ideal.nD Cert.Kernel6Ideal.τ).loc Cert.Kernel6Ideal.main_v58_5)) (v6 : (c : Dev Cert.Kernel6Ideal.nD) → Buf (Elt Ideal) ((c.tc : Thread Cert.Kernel6Ideal.nD Cert.Kernel6Ideal.τ).loc Cert.Kernel6Ideal.main_v58_6)) (v7 : (c : Dev Cert.Kernel6Ideal.nD) → Buf (Elt Ideal) ((c.tc : Thread Cert.Kernel6Ideal.nD Cert.Kernel6Ideal.τ).loc Cert.Kernel6Ideal.main_v58_7)) (v8 : (c : Dev Cert.Kernel6Ideal.nD) → Buf (Elt Ideal) ((c.tc : Thread Cert.Kernel6Ideal.nD Cert.Kernel6Ideal.τ).loc Cert.Kernel6Ideal.main_v58_8)) (v9 : (c : Dev Cert.Kernel6Ideal.nD) → Buf (Elt Ideal) ((c.tc : Thread Cert.Kernel6Ideal.nD Cert.Kernel6Ideal.τ).loc Cert.Kernel6Ideal.main_v58_9)) (v10 : (c : Dev Cert.Kernel6Ideal.nD) → Buf (Elt Ideal) ((c.tc : Thread Cert.Kernel6Ideal.nD Cert.Kernel6Ideal.τ).loc Cert.Kernel6Ideal.main_v58_10)) (v11 : (c : Dev Cert.Kernel6Ideal.nD) → Buf (Elt Ideal) ((c.tc : Thread Cert.Kernel6Ideal.nD Cert.Kernel6Ideal.τ).loc Cert.Kernel6Ideal.main_v58_11)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v58_0) = v0 c
          ∧ r.2.mem ((c.tc : Thread Cert.Kernel6Ideal.nD Cert.Kernel6Ideal.τ).loc Cert.Kernel6Ideal.main_v58_1) = v1 c
          ∧ r.2.mem ((c.tc : Thread Cert.Kernel6Ideal.nD Cert.Kernel6Ideal.τ).loc Cert.Kernel6Ideal.main_v58_2) = v2 c
          ∧ r.2.mem ((c.tc : Thread Cert.Kernel6Ideal.nD Cert.Kernel6Ideal.τ).loc Cert.Kernel6Ideal.main_v58_3) = v3 c
          ∧ r.2.mem ((c.tc : Thread Cert.Kernel6Ideal.nD Cert.Kernel6Ideal.τ).loc Cert.Kernel6Ideal.main_v58_4) = v4 c
          ∧ r.2.mem ((c.tc : Thread Cert.Kernel6Ideal.nD Cert.Kernel6Ideal.τ).loc Cert.Kernel6Ideal.main_v58_5) = v5 c
          ∧ r.2.mem ((c.tc : Thread Cert.Kernel6Ideal.nD Cert.Kernel6Ideal.τ).loc Cert.Kernel6Ideal.main_v58_6) = v6 c
          ∧ r.2.mem ((c.tc : Thread Cert.Kernel6Ideal.nD Cert.Kernel6Ideal.τ).loc Cert.Kernel6Ideal.main_v58_7) = v7 c
          ∧ r.2.mem ((c.tc : Thread Cert.Kernel6Ideal.nD Cert.Kernel6Ideal.τ).loc Cert.Kernel6Ideal.main_v58_8) = v8 c
          ∧ r.2.mem ((c.tc : Thread Cert.Kernel6Ideal.nD Cert.Kernel6Ideal.τ).loc Cert.Kernel6Ideal.main_v58_9) = v9 c
          ∧ r.2.mem ((c.tc : Thread Cert.Kernel6Ideal.nD Cert.Kernel6Ideal.τ).loc Cert.Kernel6Ideal.main_v58_10) = v10 c
          ∧ r.2.mem ((c.tc : Thread Cert.Kernel6Ideal.nD Cert.Kernel6Ideal.τ).loc Cert.Kernel6Ideal.main_v58_11) = v11 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v30) = v0 c
          ∧ r.2.mem ((c.tc : Thread Cert.Reference6Ideal.nD Cert.Reference6Ideal.τ).loc Cert.Reference6Ideal.main_v157) = v1 c
          ∧ r.2.mem ((c.tc : Thread Cert.Reference6Ideal.nD Cert.Reference6Ideal.τ).loc Cert.Reference6Ideal.main_v95) = v2 c
          ∧ r.2.mem ((c.tc : Thread Cert.Reference6Ideal.nD Cert.Reference6Ideal.τ).loc Cert.Reference6Ideal.main_v158) = v3 c
          ∧ r.2.mem ((c.tc : Thread Cert.Reference6Ideal.nD Cert.Reference6Ideal.τ).loc Cert.Reference6Ideal.main_v160) = v4 c
          ∧ r.2.mem ((c.tc : Thread Cert.Reference6Ideal.nD Cert.Reference6Ideal.τ).loc Cert.Reference6Ideal.main_v162) = v5 c
          ∧ r.2.mem ((c.tc : Thread Cert.Reference6Ideal.nD Cert.Reference6Ideal.τ).loc Cert.Reference6Ideal.main_v164) = v6 c
          ∧ r.2.mem ((c.tc : Thread Cert.Reference6Ideal.nD Cert.Reference6Ideal.τ).loc Cert.Reference6Ideal.main_v20) = v7 c
          ∧ r.2.mem ((c.tc : Thread Cert.Reference6Ideal.nD Cert.Reference6Ideal.τ).loc Cert.Reference6Ideal.main_v21) = v8 c
          ∧ r.2.mem ((c.tc : Thread Cert.Reference6Ideal.nD Cert.Reference6Ideal.τ).loc Cert.Reference6Ideal.main_v165) = v9 c
          ∧ r.2.mem ((c.tc : Thread Cert.Reference6Ideal.nD Cert.Reference6Ideal.τ).loc Cert.Reference6Ideal.main_v166) = v10 c
          ∧ r.2.mem ((c.tc : Thread Cert.Reference6Ideal.nD Cert.Reference6Ideal.τ).loc Cert.Reference6Ideal.main_v167) = v11 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v58_0)) (v1 : (c : Dev Cert.Kernel7Ideal.nD) → Buf (Elt Ideal) ((c.tc : Thread Cert.Kernel7Ideal.nD Cert.Kernel7Ideal.τ).loc Cert.Kernel7Ideal.main_v58_1)) (v2 : (c : Dev Cert.Kernel7Ideal.nD) → Buf (Elt Ideal) ((c.tc : Thread Cert.Kernel7Ideal.nD Cert.Kernel7Ideal.τ).loc Cert.Kernel7Ideal.main_v58_2)) (v3 : (c : Dev Cert.Kernel7Ideal.nD) → Buf (Elt Ideal) ((c.tc : Thread Cert.Kernel7Ideal.nD Cert.Kernel7Ideal.τ).loc Cert.Kernel7Ideal.main_v58_3)) (v4 : (c : Dev Cert.Kernel7Ideal.nD) → Buf (Elt Ideal) ((c.tc : Thread Cert.Kernel7Ideal.nD Cert.Kernel7Ideal.τ).loc Cert.Kernel7Ideal.main_v58_4)) (v5 : (c : Dev Cert.Kernel7Ideal.nD) → Buf (Elt Ideal) ((c.tc : Thread Cert.Kernel7Ideal.nD Cert.Kernel7Ideal.τ).loc Cert.Kernel7Ideal.main_v58_5)) (v6 : (c : Dev Cert.Kernel7Ideal.nD) → Buf (Elt Ideal) ((c.tc : Thread Cert.Kernel7Ideal.nD Cert.Kernel7Ideal.τ).loc Cert.Kernel7Ideal.main_v58_6)) (v7 : (c : Dev Cert.Kernel7Ideal.nD) → Buf (Elt Ideal) ((c.tc : Thread Cert.Kernel7Ideal.nD Cert.Kernel7Ideal.τ).loc Cert.Kernel7Ideal.main_v58_7)) (v8 : (c : Dev Cert.Kernel7Ideal.nD) → Buf (Elt Ideal) ((c.tc : Thread Cert.Kernel7Ideal.nD Cert.Kernel7Ideal.τ).loc Cert.Kernel7Ideal.main_v58_8)) (v9 : (c : Dev Cert.Kernel7Ideal.nD) → Buf (Elt Ideal) ((c.tc : Thread Cert.Kernel7Ideal.nD Cert.Kernel7Ideal.τ).loc Cert.Kernel7Ideal.main_v58_9)) (v10 : (c : Dev Cert.Kernel7Ideal.nD) → Buf (Elt Ideal) ((c.tc : Thread Cert.Kernel7Ideal.nD Cert.Kernel7Ideal.τ).loc Cert.Kernel7Ideal.main_v58_10)) (v11 : (c : Dev Cert.Kernel7Ideal.nD) → Buf (Elt Ideal) ((c.tc : Thread Cert.Kernel7Ideal.nD Cert.Kernel7Ideal.τ).loc Cert.Kernel7Ideal.main_v58_11)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v58_0) = v0 c
          ∧ r.2.mem ((c.tc : Thread Cert.Kernel7Ideal.nD Cert.Kernel7Ideal.τ).loc Cert.Kernel7Ideal.main_v58_1) = v1 c
          ∧ r.2.mem ((c.tc : Thread Cert.Kernel7Ideal.nD Cert.Kernel7Ideal.τ).loc Cert.Kernel7Ideal.main_v58_2) = v2 c
          ∧ r.2.mem ((c.tc : Thread Cert.Kernel7Ideal.nD Cert.Kernel7Ideal.τ).loc Cert.Kernel7Ideal.main_v58_3) = v3 c
          ∧ r.2.mem ((c.tc : Thread Cert.Kernel7Ideal.nD Cert.Kernel7Ideal.τ).loc Cert.Kernel7Ideal.main_v58_4) = v4 c
          ∧ r.2.mem ((c.tc : Thread Cert.Kernel7Ideal.nD Cert.Kernel7Ideal.τ).loc Cert.Kernel7Ideal.main_v58_5) = v5 c
          ∧ r.2.mem ((c.tc : Thread Cert.Kernel7Ideal.nD Cert.Kernel7Ideal.τ).loc Cert.Kernel7Ideal.main_v58_6) = v6 c
          ∧ r.2.mem ((c.tc : Thread Cert.Kernel7Ideal.nD Cert.Kernel7Ideal.τ).loc Cert.Kernel7Ideal.main_v58_7) = v7 c
          ∧ r.2.mem ((c.tc : Thread Cert.Kernel7Ideal.nD Cert.Kernel7Ideal.τ).loc Cert.Kernel7Ideal.main_v58_8) = v8 c
          ∧ r.2.mem ((c.tc : Thread Cert.Kernel7Ideal.nD Cert.Kernel7Ideal.τ).loc Cert.Kernel7Ideal.main_v58_9) = v9 c
          ∧ r.2.mem ((c.tc : Thread Cert.Kernel7Ideal.nD Cert.Kernel7Ideal.τ).loc Cert.Kernel7Ideal.main_v58_10) = v10 c
          ∧ r.2.mem ((c.tc : Thread Cert.Kernel7Ideal.nD Cert.Kernel7Ideal.τ).loc Cert.Kernel7Ideal.main_v58_11) = v11 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v32) = v0 c
          ∧ r.2.mem ((c.tc : Thread Cert.Reference7Ideal.nD Cert.Reference7Ideal.τ).loc Cert.Reference7Ideal.main_v155) = v1 c
          ∧ r.2.mem ((c.tc : Thread Cert.Reference7Ideal.nD Cert.Reference7Ideal.τ).loc Cert.Reference7Ideal.main_v94) = v2 c
          ∧ r.2.mem ((c.tc : Thread Cert.Reference7Ideal.nD Cert.Reference7Ideal.τ).loc Cert.Reference7Ideal.main_v156) = v3 c
          ∧ r.2.mem ((c.tc : Thread Cert.Reference7Ideal.nD Cert.Reference7Ideal.τ).loc Cert.Reference7Ideal.main_v158) = v4 c
          ∧ r.2.mem ((c.tc : Thread Cert.Reference7Ideal.nD Cert.Reference7Ideal.τ).loc Cert.Reference7Ideal.main_v160) = v5 c
          ∧ r.2.mem ((c.tc : Thread Cert.Reference7Ideal.nD Cert.Reference7Ideal.τ).loc Cert.Reference7Ideal.main_v162) = v6 c
          ∧ r.2.mem ((c.tc : Thread Cert.Reference7Ideal.nD Cert.Reference7Ideal.τ).loc Cert.Reference7Ideal.main_v20) = v7 c
          ∧ r.2.mem ((c.tc : Thread Cert.Reference7Ideal.nD Cert.Reference7Ideal.τ).loc Cert.Reference7Ideal.main_v21) = v8 c
          ∧ r.2.mem ((c.tc : Thread Cert.Reference7Ideal.nD Cert.Reference7Ideal.τ).loc Cert.Reference7Ideal.main_v163) = v9 c
          ∧ r.2.mem ((c.tc : Thread Cert.Reference7Ideal.nD Cert.Reference7Ideal.τ).loc Cert.Reference7Ideal.main_v164) = v10 c
          ∧ r.2.mem ((c.tc : Thread Cert.Reference7Ideal.nD Cert.Reference7Ideal.τ).loc Cert.Reference7Ideal.main_v153) = v11 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v12) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)
      ∧ m' ((c.tc : Thread Cert.Reference9Ideal.nD Cert.Reference9Ideal.τ).loc Cert.Reference9Ideal.main_arg10) = m ((c.tc : Thread Cert.Kernel9Ideal.nD Cert.Kernel9Ideal.τ).loc Cert.Kernel9Ideal.main_arg10)) →
    ∃ (v0 : (c : Dev Cert.Kernel9Ideal.nD) → Buf (Elt Ideal) ((c.tc : Thread Cert.Kernel9Ideal.nD Cert.Kernel9Ideal.τ).loc Cert.Kernel9Ideal.main_v2_0)) (v1 : (c : Dev Cert.Kernel9Ideal.nD) → Buf (Elt Ideal) ((c.tc : Thread Cert.Kernel9Ideal.nD Cert.Kernel9Ideal.τ).loc Cert.Kernel9Ideal.main_v2_1)) (v2 : (c : Dev Cert.Kernel9Ideal.nD) → Buf (Elt Ideal) ((c.tc : Thread Cert.Kernel9Ideal.nD Cert.Kernel9Ideal.τ).loc Cert.Kernel9Ideal.main_v2_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2_0) = v0 c
          ∧ r.2.mem ((c.tc : Thread Cert.Kernel9Ideal.nD Cert.Kernel9Ideal.τ).loc Cert.Kernel9Ideal.main_v2_1) = v1 c
          ∧ r.2.mem ((c.tc : Thread Cert.Kernel9Ideal.nD Cert.Kernel9Ideal.τ).loc Cert.Kernel9Ideal.main_v2_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
          ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v24) = v0 c
          ∧ r.2.mem ((c.tc : Thread Cert.Reference9Ideal.nD Cert.Reference9Ideal.τ).loc Cert.Reference9Ideal.main_v56) = v1 c
          ∧ r.2.mem ((c.tc : Thread Cert.Reference9Ideal.nD Cert.Reference9Ideal.τ).loc Cert.Reference9Ideal.main_v57) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9)
          ∧ r.2.mem ((c.tc : Thread Cert.Reference9Ideal.nD Cert.Reference9Ideal.τ).loc Cert.Reference9Ideal.main_arg10) = m' ((c.tc : Thread Cert.Reference9Ideal.nD Cert.Reference9Ideal.τ).loc Cert.Reference9Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts) (hPre_finite9 : Cert.Pre_finite9.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite9 (hKernel9Ideal := hKernel9Ideal) (hReference9Ideal := hReference9Ideal) (hPre_finite9 := hPre_finite9)
-- ==== Pre_finite.lean ====
abbrev S16384x1024 : Shape := ⟨2, ![16384, 1024]⟩
abbrev S16384x512 : Shape := ⟨2, ![16384, 512]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)

variable [Facts]

def fn {F : FTy → Type} [FloatOps F] (main_arg0 : FVec F S16384x1024 .bf16) (main_arg1 : FVec F S16384x1024 .bf16) (main_arg2 : FVec F S16384x512 .bf16) : IVec S16384x1024 1 :=
  let main_v0 : FVec F S16384x1024 .f32 := (extf .f32 · bitsLt_bf16_f32) main_arg0
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_v4 : FVec F S16384x1024 .f32 := (extf .f32 · bitsLt_bf16_f32) main_arg1
  let main_v5 : FVec F S16384x1024 .f32 := Host.absf main_v4
  let main_cst_0 : FVec F S_ .f32 := constant S_ .f32 0x7F800000#32
  let main_v6 : FVec F S16384x1024 .f32 := broadcastInDim S16384x1024 ![] bcast_S_S16384x1024 main_cst_0
  let main_v7 : IVec S16384x1024 1 := cmpf .olt main_v5 main_v6
  let main_v8 : IVec S16384x1024 1 := andi main_v3 main_v7
  main_v8
-- ==== Pre_finite9.lean ====
abbrev S16384x1024 : Shape := ⟨2, ![16384, 1024]⟩
abbrev S16384x512 : Shape := ⟨2, ![16384, 512]⟩
abbrev S16384x3072 : Shape := ⟨2, ![16384, 3072]⟩
abbrev S512x1024 : Shape := ⟨2, ![512, 1024]⟩
abbrev S1024x1024 : Shape := ⟨2, ![1024, 1024]⟩
abbrev S1x1024 : Shape := ⟨2, ![1, 1024]⟩
abbrev S1024x8 : Shape := ⟨2, ![1024, 8]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bitsLt_bf16_f32 : FTy.bits .bf16 < FTy.bits .f32
  bcast_S_S16384x512 : S_.BroadcastsInDim S16384x512 (![] : Fin 0 → Fin S16384x512.rank)
  reducesTo_S16384x512_S_d0_1 : S16384x512.ReducesTo [0, 1] S_
  bcast_S_S16384x3072 : S_.BroadcastsInDim S16384x3072 (![] : Fin 0 → Fin S16384x3072.rank)
  reducesTo_S16384x3072_S_d0_1 : S16384x3072.ReducesTo [0, 1] S_
  bcast_S_S512x1024 : S_.BroadcastsInDim S512x1024 (![] : Fin 0 → Fin S512x1024.rank)
  reducesTo_S512x1024_S_d0_1 : S512x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x8 : S_.BroadcastsInDim S1024x8 (![] : Fin 0 → Fin S1024x8.rank)
  reducesTo_S1024x8_S_d0_1 : S1024x8.ReducesTo [0, 1] S_

variable [Facts]

def fn_part3 {F : FTy → Type} [FloatOps F] (main_arg9 : FVec F S1x1024 .f32) (main_arg10 : FVec F S1024x8 .f32) (main_v52 : IVec S_ 1) : IVec S_ 1 :=
  let main_v53 : FVec F S1x1024 .f32 := Host.absf main_arg9
  let main_cst_17 : FVec F S_ .f32 := constant S_ .f32 0x7F800000#32
  let main_v54 : FVec F S1x1024 .f32 := broadcastInDim S1x1024 ![] bcast_S_S1x1024 main_cst_17
  let main_v55 : IVec S1x1024 1 := cmpf .olt main_v53 main_v54
  let main_c_18 : IVec S_ 1 := constantI S_ 1 1#1
  let main_v56 : IVec S_ 1 := (fun x v => Host.reduce IntOp.andi x v reducesTo_S1x1024_S_d0_1 h_S_) main_v55 main_c_18
  let main_v57 : IVec S_ 1 := andi main_v52 main_v56
  let main_v58 : FVec F S1024x8 .f32 := Host.absf main_arg10
  let main_cst_19 : FVec F S_ .f32 := constant S_ .f32 0x7F800000#32
  let main_v59 : FVec F S1024x8 .f32 := broadcastInDim S1024x8 ![] bcast_S_S1024x8 main_cst_19
  let main_v60 : IVec S1024x8 1 := cmpf .olt main_v58 main_v59
  let main_c_20 : IVec S_ 1 := constantI S_ 1 1#1
  let main_v61 : IVec S_ 1 := (fun x v => Host.reduce IntOp.andi x v reducesTo_S1024x8_S_d0_1 h_S_) main_v60 main_c_20
  let main_v62 : IVec S_ 1 := andi main_v57 main_v61
  main_v62

def fn_part2 {F : FTy → Type} [FloatOps F] (main_arg6 : FVec F S512x1024 .bf16) (main_arg7 : FVec F S512x1024 .bf16) (main_arg8 : FVec F S1024x1024 .bf16) (main_arg9 : FVec F S1x1024 .f32) (main_arg10 : FVec F S1024x8 .f32) (main_v34 : IVec S_ 1) : IVec S_ 1 :=
  let main_v35 : FVec F S512x1024 .f32 := (extf .f32 · bitsLt_bf16_f32) main_arg6
  let main_v36 : FVec F S512x1024 .f32 := Host.absf main_v35
  let main_cst_11 : FVec F S_ .f32 := constant S_ .f32 0x7F800000#32
  let main_v37 : FVec F S512x1024 .f32 := broadcastInDim S512x1024 ![] bcast_S_S512x1024 main_cst_11
  let main_v38 : IVec S512x1024 1 := cmpf .olt main_v36 main_v37
  let main_c_12 : IVec S_ 1 := constantI S_ 1 1#1
  let main_v39 : IVec S_ 1 := (fun x v => Host.reduce IntOp.andi x v reducesTo_S512x1024_S_d0_1 h_S_) main_v38 main_c_12
  let main_v40 : IVec S_ 1 := andi main_v34 main_v39
  let main_v41 : FVec F S512x1024 .f32 := (extf .f32 · bitsLt_bf16_f32) main_arg7
  let main_v42 : FVec F S512x1024 .f32 := Host.absf main_v41
  let main_cst_13 : FVec F S_ .f32 := constant S_ .f32 0x7F800000#32
  let main_v43 : FVec F S512x1024 .f32 := broadcastInDim S512x1024 ![] bcast_S_S512x1024 main_cst_13
  let main_v44 : IVec S512x1024 1 := cmpf .olt main_v42 main_v43
  let main_c_14 : IVec S_ 1 := constantI S_ 1 1#1
  let main_v45 : IVec S_ 1 := (fun x v => Host.reduce IntOp.andi x v reducesTo_S512x1024_S_d0_1 h_S_) main_v44 main_c_14
  let main_v46 : IVec S_ 1 := andi main_v40 main_v45
  let main_v47 : FVec F S1024x1024 .f32 := (extf .f32 · bitsLt_bf16_f32) main_arg8
  let main_v48 : FVec F S1024x1024 .f32 := Host.absf main_v47
  let main_cst_15 : FVec F S_ .f32 := constant S_ .f32 0x7F800000#32
  let main_v49 : FVec F S1024x1024 .f32 := broadcastInDim S1024x1024 ![] bcast_S_S1024x1024 main_cst_15
  let main_v50 : IVec S1024x1024 1 := cmpf .olt main_v48 main_v49
  let main_c_16 : IVec S_ 1 := constantI S_ 1 1#1
  let main_v51 : IVec S_ 1 := (fun x v => Host.reduce IntOp.andi x v reducesTo_S1024x1024_S_d0_1 h_S_) main_v50 main_c_16
  let main_v52 : IVec S_ 1 := andi main_v46 main_v51
  fn_part3 (F := F) main_arg9 main_arg10 main_v52

def fn_part1 {F : FTy → Type} [FloatOps F] (main_arg3 : FVec F S16384x512 .bf16) (main_arg4 : FVec F S16384x3072 .bf16) (main_arg5 : FVec F S512x1024 .bf16) (main_arg6 : FVec F S512x1024 .bf16) (main_arg7 : FVec F S512x1024 .bf16) (main_arg8 : FVec F S1024x1024 .bf16) (main_arg9 : FVec F S1x1024 .f32) (main_arg10 : FVec F S1024x8 .f32) (main_v16 : IVec S_ 1) : IVec S_ 1 :=
  let main_v17 : FVec F S16384x512 .f32 := (extf .f32 · bitsLt_bf16_f32) main_arg3
  let main_v18 : FVec F S16384x512 .f32 := Host.absf main_v17
  let main_cst_5 : FVec F S_ .f32 := constant S_ .f32 0x7F800000#32
  let main_v19 : FVec F S16384x512 .f32 := broadcastInDim S16384x512 ![] bcast_S_S16384x512 main_cst_5
  let main_v20 : IVec S16384x512 1 := cmpf .olt main_v18 main_v19
  let main_c_6 : IVec S_ 1 := constantI S_ 1 1#1
  let main_v21 : IVec S_ 1 := (fun x v => Host.reduce IntOp.andi x v reducesTo_S16384x512_S_d0_1 h_S_) main_v20 main_c_6
  let main_v22 : IVec S_ 1 := andi main_v16 main_v21
  let main_v23 : FVec F S16384x3072 .f32 := (extf .f32 · bitsLt_bf16_f32) main_arg4
  let main_v24 : FVec F S16384x3072 .f32 := Host.absf main_v23
  let main_cst_7 : FVec F S_ .f32 := constant S_ .f32 0x7F800000#32
  let main_v25 : FVec F S16384x3072 .f32 := broadcastInDim S16384x3072 ![] bcast_S_S16384x3072 main_cst_7
  let main_v26 : IVec S16384x3072 1 := cmpf .olt main_v24 main_v25
  let main_c_8 : IVec S_ 1 := constantI S_ 1 1#1
  let main_v27 : IVec S_ 1 := (fun x v => Host.reduce IntOp.andi x v reducesTo_S16384x3072_S_d0_1 h_S_) main_v26 main_c_8
  let main_v28 : IVec S_ 1 := andi main_v22 main_v27
  let main_v29 : FVec F S512x1024 .f32 := (extf .f32 · bitsLt_bf16_f32) main_arg5
  let main_v30 : FVec F S512x1024 .f32 := Host.absf main_v29
  let main_cst_9 : FVec F S_ .f32 := constant S_ .f32 0x7F800000#32
  let main_v31 : FVec F S512x1024 .f32 := broadcastInDim S512x1024 ![] bcast_S_S512x1024 main_cst_9
  let main_v32 : IVec S512x1024 1 := cmpf .olt main_v30 main_v31
  let main_c_10 : IVec S_ 1 := constantI S_ 1 1#1
  let main_v33 : IVec S_ 1 := (fun x v => Host.reduce IntOp.andi x v reducesTo_S512x1024_S_d0_1 h_S_) main_v32 main_c_10
  let main_v34 : IVec S_ 1 := andi main_v28 main_v33
  fn_part2 (F := F) main_arg6 main_arg7 main_arg8 main_arg9 main_arg10 main_v34

def fn {F : FTy → Type} [FloatOps F] (main_arg0 : FVec F S16384x1024 .f32) (main_arg1 : FVec F S16384x512 .bf16) (main_arg2 : FVec F S16384x512 .bf16) (main_arg3 : FVec F S16384x512 .bf16) (main_arg4 : FVec F S16384x3072 .bf16) (main_arg5 : FVec F S512x1024 .bf16) (main_arg6 : FVec F S512x1024 .bf16) (main_arg7 : FVec F S512x1024 .bf16) (main_arg8 : FVec F S1024x1024 .bf16) (main_arg9 : FVec F S1x1024 .f32) (main_arg10 : FVec F S1024x8 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_c_0 : IVec S_ 1 := constantI S_ 1 1#1
  let main_v4 : IVec S_ 1 := andi main_c_0 main_v3
  let main_v5 : FVec F S16384x512 .f32 := (extf .f32 · bitsLt_bf16_f32) main_arg1
  let main_v6 : FVec F S16384x512 .f32 := Host.absf main_v5
  let main_cst_1 : FVec F S_ .f32 := constant S_ .f32 0x7F800000#32
  let main_v7 : FVec F S16384x512 .f32 := broadcastInDim S16384x512 ![] bcast_S_S16384x512 main_cst_1
  let main_v8 : IVec S16384x512 1 := cmpf .olt main_v6 main_v7
  let main_c_2 : IVec S_ 1 := constantI S_ 1 1#1
  let main_v9 : IVec S_ 1 := (fun x v => Host.reduce IntOp.andi x v reducesTo_S16384x512_S_d0_1 h_S_) main_v8 main_c_2
  let main_v10 : IVec S_ 1 := andi main_v4 main_v9
  let main_v11 : FVec F S16384x512 .f32 := (extf .f32 · bitsLt_bf16_f32) main_arg2
  let main_v12 : FVec F S16384x512 .f32 := Host.absf main_v11
  let main_cst_3 : FVec F S_ .f32 := constant S_ .f32 0x7F800000#32
  let main_v13 : FVec F S16384x512 .f32 := broadcastInDim S16384x512 ![] bcast_S_S16384x512 main_cst_3
  let main_v14 : IVec S16384x512 1 := cmpf .olt main_v12 main_v13
  let main_c_4 : IVec S_ 1 := constantI S_ 1 1#1
  let main_v15 : IVec S_ 1 := (fun x v => Host.reduce IntOp.andi x v reducesTo_S16384x512_S_d0_1 h_S_) main_v14 main_c_4
  let main_v16 : IVec S_ 1 := andi main_v10 main_v15
  fn_part1 (F := F) main_arg3 main_arg4 main_arg5 main_arg6 main_arg7 main_arg8 main_arg9 main_arg10 main_v16
-- ==== Kernel.lean ====
abbrev S16384x1024 : Shape := ⟨2, ![16384, 1024]⟩
abbrev S16384x512 : Shape := ⟨2, ![16384, 512]⟩
abbrev S256x256 : Shape := ⟨2, ![256, 256]⟩
abbrev S8192x256 : Shape := ⟨2, ![8192, 256]⟩
abbrev S8192x128 : Shape := ⟨2, ![8192, 128]⟩
abbrev S256x128 : Shape := ⟨2, ![256, 128]⟩
abbrev S256x1 : Shape := ⟨2, ![256, 1]⟩
abbrev S256 : Shape := ⟨1, ![256]⟩

abbrev nBuf : Space → Nat
  | .hbm => 4
  | .vmem => 11
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x512, .bf16⟩
  | .hbm, ⟨3, _⟩ => ⟨S16384x512, .bf16⟩
  | .local _ .vmem, ⟨0, _⟩ => ⟨S256x256, .bf16⟩
  | .local _ .vmem, ⟨1, _⟩ => ⟨S256x256, .bf16⟩
  | .local _ .vmem, ⟨2, _⟩ => ⟨S8192x256, .bf16⟩
  | .local _ .vmem, ⟨3, _⟩ => ⟨S8192x256, .bf16⟩
  | .local _ .vmem, ⟨4, _⟩ => ⟨S8192x128, .bf16⟩
  | .local _ .vmem, ⟨5, _⟩ => ⟨S8192x128, .bf16⟩
  | .local _ .vmem, ⟨6, _⟩ => ⟨S256x128, .bf16⟩
  | .local _ .vmem, ⟨7, _⟩ => ⟨S256x128, .bf16⟩
  | .local _ .vmem, ⟨8, _⟩ => ⟨S256x1, .f32⟩
  | .local _ .vmem, ⟨9, _⟩ => ⟨S256x1, .f32⟩
  | .local _ .vmem, ⟨10, _⟩ => ⟨S256x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 32], ![false, false, false]⟩

@[reducible] def k0_t1_loop (i : grid0.Coords) : Scf.Loop 32 :=
  let c0_i32_9 : BitVec 32 := 0#32
  let arg2 : BitVec 32 := BitVec.ofNat 32 (i 2).val
  let v15 : BitVec 32 := Scalar.subi arg2 c0_i32_9
  let c1_i32 : BitVec 32 := 1#32
  let v17 : BitVec 32 := Scalar.divsi v15 c1_i32
  let v18 : BitVec 32 := Scalar.muli v17 c1_i32
  let v19 : BitVec 32 := Scalar.addi c0_i32_9 v18
  let c1_i32_10 : BitVec 32 := 1#32
  ⟨c0_i32_9, v19, c1_i32_10⟩
def k0_mult1 (i : grid0.Coords) (k0_t1 : Fin (k0_t1_loop i).trips) : BitVec 32 :=
  let c0_i32_9 : BitVec 32 := 0#32
  let c1_i32_10 : BitVec 32 := 1#32
  let arg10 : BitVec 32 := Scf.iv c0_i32_9 c1_i32_10 k0_t1
  let c256_i32_76 : BitVec 32 := 256#32
  let v130 : BitVec 32 := Scalar.muli arg10 c256_i32_76
  v130
def k0_off1 (i : grid0.Coords) (k0_t1 : Fin (k0_t1_loop i).trips) : Fin 2 → Nat :=
  let c0_i32_9 : BitVec 32 := 0#32
  let c1_i32_10 : BitVec 32 := 1#32
  let arg10 : BitVec 32 := Scf.iv c0_i32_9 c1_i32_10 k0_t1
  let c256_i32_76 : BitVec 32 := 256#32
  let v130 : BitVec 32 := Scalar.muli arg10 c256_i32_76
  let v131 : BitVec 32 := v130
  let v132 : Index := Scalar.indexCast v131
  let c0_77 : Index := 0#32
  ![v132.toNat, 0]
def k0_off2 (i : grid0.Coords) (k0_t1 : Fin (k0_t1_loop i).trips) : Fin 2 → Nat :=
  let c0_i32_9 : BitVec 32 := 0#32
  let c1_i32_10 : BitVec 32 := 1#32
  let arg10 : BitVec 32 := Scf.iv c0_i32_9 c1_i32_10 k0_t1
  let c256_i32_76 : BitVec 32 := 256#32
  let v130 : BitVec 32 := Scalar.muli arg10 c256_i32_76
  let v131 : BitVec 32 := v130
  let v156 : Index := Scalar.indexCast v131
  let c0_89 : Index := 0#32
  ![v156.toNat, 0]
@[reducible] def k0_t2_loop (i : grid0.Coords) : Scf.Loop 32 :=
  let c0_i32_9 : BitVec 32 := 0#32
  let arg2 : BitVec 32 := BitVec.ofNat 32 (i 2).val
  let v15 : BitVec 32 := Scalar.subi arg2 c0_i32_9
  let c1_i32 : BitVec 32 := 1#32
  let v17 : BitVec 32 := Scalar.divsi v15 c1_i32
  let v18 : BitVec 32 := Scalar.muli v17 c1_i32
  let v19 : BitVec 32 := Scalar.addi c0_i32_9 v18
  let v16 : BitVec 32 := Scalar.addi c0_i32_9 v15
  let c1_i32_11 : BitVec 32 := 1#32
  ⟨v19, v16, c1_i32_11⟩
def k0_mult2 (i : grid0.Coords) (k0_t2 : Fin (k0_t2_loop i).trips) : BitVec 32 :=
  let c0_i32_9 : BitVec 32 := 0#32
  let arg2 : BitVec 32 := BitVec.ofNat 32 (i 2).val
  let v15 : BitVec 32 := Scalar.subi arg2 c0_i32_9
  let c1_i32 : BitVec 32 := 1#32
  let v17 : BitVec 32 := Scalar.divsi v15 c1_i32
  let v18 : BitVec 32 := Scalar.muli v17 c1_i32
  let v19 : BitVec 32 := Scalar.addi c0_i32_9 v18
  let c1_i32_11 : BitVec 32 := 1#32
  let arg10 : BitVec 32 := Scf.iv v19 c1_i32_11 k0_t2
  let c256_i32_76 : BitVec 32 := 256#32
  let v130 : BitVec 32 := Scalar.muli arg10 c256_i32_76
  v130
def k0_off3 (i : grid0.Coords) (k0_t2 : Fin (k0_t2_loop i).trips) : Fin 2 → Nat :=
  let c0_i32_9 : BitVec 32 := 0#32
  let arg2 : BitVec 32 := BitVec.ofNat 32 (i 2).val
  let v15 : BitVec 32 := Scalar.subi arg2 c0_i32_9
  let c1_i32 : BitVec 32 := 1#32
  let v17 : BitVec 32 := Scalar.divsi v15 c1_i32
  let v18 : BitVec 32 := Scalar.muli v17 c1_i32
  let v19 : BitVec 32 := Scalar.addi c0_i32_9 v18
  let c1_i32_11 : BitVec 32 := 1#32
  let arg10 : BitVec 32 := Scf.iv v19 c1_i32_11 k0_t2
  let c256_i32_76 : BitVec 32 := 256#32
  let v130 : BitVec 32 := Scalar.muli arg10 c256_i32_76
  let v131 : BitVec 32 := v130
  let v132 : Index := Scalar.indexCast v131
  let c0_77 : Index := 0#32
  ![v132.toNat, 0]
def k0_off4 (i : grid0.Coords) (k0_t2 : Fin (k0_t2_loop i).trips) : Fin 2 → Nat :=
  let c0_i32_9 : BitVec 32 := 0#32
  let arg2 : BitVec 32 := BitVec.ofNat 32 (i 2).val
  let v15 : BitVec 32 := Scalar.subi arg2 c0_i32_9
  let c1_i32 : BitVec 32 := 1#32
  let v17 : BitVec 32 := Scalar.divsi v15 c1_i32
  let v18 : BitVec 32 := Scalar.muli v17 c1_i32
  let v19 : BitVec 32 := Scalar.addi c0_i32_9 v18
  let c1_i32_11 : BitVec 32 := 1#32
  let arg10 : BitVec 32 := Scf.iv v19 c1_i32_11 k0_t2
  let c256_i32_76 : BitVec 32 := 256#32
  let v130 : BitVec 32 := Scalar.muli arg10 c256_i32_76
  let v131 : BitVec 32 := v130
  let v156 : Index := Scalar.indexCast v131
  let c0_89 : Index := 0#32
  ![v156.toNat, 0]
def k0_mult3 (i : grid0.Coords) : BitVec 32 :=
  let arg2 : BitVec 32 := BitVec.ofNat 32 (i 2).val
  let c256_i32 : BitVec 32 := 256#32
  let v20 : BitVec 32 := Scalar.muli arg2 c256_i32
  v20
def k0_off5 (i : grid0.Coords) : Fin 2 → Nat :=
  let arg2 : BitVec 32 := BitVec.ofNat 32 (i 2).val
  let c256_i32 : BitVec 32 := 256#32
  let v20 : BitVec 32 := Scalar.muli arg2 c256_i32
  let v21 : BitVec 32 := v20
  let v22 : Index := Scalar.indexCast v21
  let c0_12 : Index := 0#32
  ![v22.toNat, 0]
def k0_off6 (i : grid0.Coords) : Fin 2 → Nat :=
  let arg2 : BitVec 32 := BitVec.ofNat 32 (i 2).val
  let c256_i32 : BitVec 32 := 256#32
  let v20 : BitVec 32 := Scalar.muli arg2 c256_i32
  let v21 : BitVec 32 := v20
  let v49 : Index := Scalar.indexCast v21
  let c0_25 : Index := 0#32
  ![v49.toNat, 0]
@[reducible] def k0_t3_loop (i : grid0.Coords) : Scf.Loop 32 :=
  let c0_i32_46 : BitVec 32 := 0#32
  let arg2 : BitVec 32 := BitVec.ofNat 32 (i 2).val
  let v76 : BitVec 32 := Scalar.subi arg2 c0_i32_46
  let c1_i32_47 : BitVec 32 := 1#32
  let v78 : BitVec 32 := Scalar.divsi v76 c1_i32_47
  let v79 : BitVec 32 := Scalar.muli v78 c1_i32_47
  let v80 : BitVec 32 := Scalar.addi c0_i32_46 v79
  let c1_i32_48 : BitVec 32 := 1#32
  ⟨c0_i32_46, v80, c1_i32_48⟩
def k0_mult4 (i : grid0.Coords) (k0_t3 : Fin (k0_t3_loop i).trips) : BitVec 32 :=
  let c0_i32_46 : BitVec 32 := 0#32
  let c1_i32_48 : BitVec 32 := 1#32
  let arg10 : BitVec 32 := Scf.iv c0_i32_46 c1_i32_48 k0_t3
  let c256_i32_76 : BitVec 32 := 256#32
  let v130 : BitVec 32 := Scalar.muli arg10 c256_i32_76
  v130
def k0_off7 (i : grid0.Coords) (k0_t3 : Fin (k0_t3_loop i).trips) : Fin 2 → Nat :=
  let c0_i32_46 : BitVec 32 := 0#32
  let c1_i32_48 : BitVec 32 := 1#32
  let arg10 : BitVec 32 := Scf.iv c0_i32_46 c1_i32_48 k0_t3
  let c256_i32_76 : BitVec 32 := 256#32
  let v130 : BitVec 32 := Scalar.muli arg10 c256_i32_76
  let v131 : BitVec 32 := v130
  let v132 : Index := Scalar.indexCast v131
  let c128_77 : Index := 128#32
  ![v132.toNat, 128]
def k0_off8 (i : grid0.Coords) (k0_t3 : Fin (k0_t3_loop i).trips) : Fin 2 → Nat :=
  let c0_i32_46 : BitVec 32 := 0#32
  let c1_i32_48 : BitVec 32 := 1#32
  let arg10 : BitVec 32 := Scf.iv c0_i32_46 c1_i32_48 k0_t3
  let c256_i32_76 : BitVec 32 := 256#32
  let v130 : BitVec 32 := Scalar.muli arg10 c256_i32_76
  let v131 : BitVec 32 := v130
  let v156 : Index := Scalar.indexCast v131
  let c0_89 : Index := 0#32
  ![v156.toNat, 0]
@[reducible] def k0_t4_loop (i : grid0.Coords) : Scf.Loop 32 :=
  let c0_i32_46 : BitVec 32 := 0#32
  let arg2 : BitVec 32 := BitVec.ofNat 32 (i 2).val
  let v76 : BitVec 32 := Scalar.subi arg2 c0_i32_46
  let c1_i32_47 : BitVec 32 := 1#32
  let v78 : BitVec 32 := Scalar.divsi v76 c1_i32_47
  let v79 : BitVec 32 := Scalar.muli v78 c1_i32_47
  let v80 : BitVec 32 := Scalar.addi c0_i32_46 v79
  let v77 : BitVec 32 := Scalar.addi c0_i32_46 v76
  let c1_i32_49 : BitVec 32 := 1#32
  ⟨v80, v77, c1_i32_49⟩
def k0_mult5 (i : grid0.Coords) (k0_t4 : Fin (k0_t4_loop i).trips) : BitVec 32 :=
  let c0_i32_46 : BitVec 32 := 0#32
  let arg2 : BitVec 32 := BitVec.ofNat 32 (i 2).val
  let v76 : BitVec 32 := Scalar.subi arg2 c0_i32_46
  let c1_i32_47 : BitVec 32 := 1#32
  let v78 : BitVec 32 := Scalar.divsi v76 c1_i32_47
  let v79 : BitVec 32 := Scalar.muli v78 c1_i32_47
  let v80 : BitVec 32 := Scalar.addi c0_i32_46 v79
  let c1_i32_49 : BitVec 32 := 1#32
  let arg10 : BitVec 32 := Scf.iv v80 c1_i32_49 k0_t4
  let c256_i32_76 : BitVec 32 := 256#32
  let v130 : BitVec 32 := Scalar.muli arg10 c256_i32_76
  v130
def k0_off9 (i : grid0.Coords) (k0_t4 : Fin (k0_t4_loop i).trips) : Fin 2 → Nat :=
  let c0_i32_46 : BitVec 32 := 0#32
  let arg2 : BitVec 32 := BitVec.ofNat 32 (i 2).val
  let v76 : BitVec 32 := Scalar.subi arg2 c0_i32_46
  let c1_i32_47 : BitVec 32 := 1#32
  let v78 : BitVec 32 := Scalar.divsi v76 c1_i32_47
  let v79 : BitVec 32 := Scalar.muli v78 c1_i32_47
  let v80 : BitVec 32 := Scalar.addi c0_i32_46 v79
  let c1_i32_49 : BitVec 32 := 1#32
  let arg10 : BitVec 32 := Scf.iv v80 c1_i32_49 k0_t4
  let c256_i32_76 : BitVec 32 := 256#32
  let v130 : BitVec 32 := Scalar.muli arg10 c256_i32_76
  let v131 : BitVec 32 := v130
  let v132 : Index := Scalar.indexCast v131
  let c128_77 : Index := 128#32
  ![v132.toNat, 128]
def k0_off10 (i : grid0.Coords) (k0_t4 : Fin (k0_t4_loop i).trips) : Fin 2 → Nat :=
  let c0_i32_46 : BitVec 32 := 0#32
  let arg2 : BitVec 32 := BitVec.ofNat 32 (i 2).val
  let v76 : BitVec 32 := Scalar.subi arg2 c0_i32_46
  let c1_i32_47 : BitVec 32 := 1#32
  let v78 : BitVec 32 := Scalar.divsi v76 c1_i32_47
  let v79 : BitVec 32 := Scalar.muli v78 c1_i32_47
  let v80 : BitVec 32 := Scalar.addi c0_i32_46 v79
  let c1_i32_49 : BitVec 32 := 1#32
  let arg10 : BitVec 32 := Scf.iv v80 c1_i32_49 k0_t4
  let c256_i32_76 : BitVec 32 := 256#32
  let v130 : BitVec 32 := Scalar.muli arg10 c256_i32_76
  let v131 : BitVec 32 := v130
  let v156 : Index := Scalar.indexCast v131
  let c0_89 : Index := 0#32
  ![v156.toNat, 0]
def k0_mult6 (i : grid0.Coords) : BitVec 32 :=
  let arg2 : BitVec 32 := BitVec.ofNat 32 (i 2).val
  let c256_i32_50 : BitVec 32 := 256#32
  let v81 : BitVec 32 := Scalar.muli arg2 c256_i32_50
  v81
def k0_off11 (i : grid0.Coords) : Fin 2 → Nat :=
  let arg2 : BitVec 32 := BitVec.ofNat 32 (i 2).val
  let c256_i32_50 : BitVec 32 := 256#32
  let v81 : BitVec 32 := Scalar.muli arg2 c256_i32_50
  let v82 : BitVec 32 := v81
  let v83 : Index := Scalar.indexCast v82
  let c128_51 : Index := 128#32
  ![v83.toNat, 128]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S16384x1024 : Shape := ⟨2, ![16384, 1024]⟩
abbrev S16384x512 : Shape := ⟨2, ![16384, 512]⟩
abbrev S2x8192x8x128 : Shape := ⟨4, ![2, 8192, 8, 128]⟩
abbrev S2x8192x8x64 : Shape := ⟨4, ![2, 8192, 8, 64]⟩
abbrev S2x8x8192x8192 : Shape := ⟨4, ![2, 8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S2x8x8192 : Shape := ⟨3, ![2, 8, 8192]⟩
abbrev S2x8x8192x1 : Shape := ⟨4, ![2, 8, 8192, 1]⟩
abbrev S2x8x64x8192 : Shape := ⟨4, ![2, 8, 64, 8192]⟩

abbrev nBuf : Space → Nat
  | .hbm => 41
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x512, .bf16⟩
  | .hbm, ⟨3, _⟩ => ⟨S16384x1024, .f32⟩
  | .hbm, ⟨4, _⟩ => ⟨S2x8192x8x128, .f32⟩
  | .hbm, ⟨5, _⟩ => ⟨S16384x1024, .f32⟩
  | .hbm, ⟨6, _⟩ => ⟨S2x8192x8x128, .f32⟩
  | .hbm, ⟨7, _⟩ => ⟨S16384x512, .f32⟩
  | .hbm, ⟨8, _⟩ => ⟨S2x8192x8x64, .f32⟩
  | .hbm, ⟨9, _⟩ => ⟨S2x8x8192x8192, .f32⟩
  | .hbm, ⟨10, _⟩ => ⟨S8192, .i32⟩
  | .hbm, ⟨11, _⟩ => ⟨S1x8192, .i32⟩
  | .hbm, ⟨12, _⟩ => ⟨S8192x1, .i32⟩
  | .hbm, ⟨13, _⟩ => ⟨S8192x8192, .i32⟩
  | .hbm, ⟨14, _⟩ => ⟨S8192x8192, .i32⟩
  | .hbm, ⟨15, _⟩ => ⟨S8192x8192, .i1⟩
  | .hbm, ⟨16, _⟩ => ⟨S_, .f32⟩
  | .hbm, ⟨17, _⟩ => ⟨S_, .f32⟩
  | .hbm, ⟨18, _⟩ => ⟨S2x8x8192x8192, .i1⟩
  | .hbm, ⟨19, _⟩ => ⟨S2x8x8192x8192, .f32⟩
  | .hbm, ⟨20, _⟩ => ⟨S2x8x8192x8192, .f32⟩
  | .hbm, ⟨21, _⟩ => ⟨S_, .f32⟩
  | .hbm, ⟨22, _⟩ => ⟨S2x8x8192, .f32⟩
  | .hbm, ⟨23, _⟩ => ⟨S_, .f32⟩
  | .hbm, ⟨24, _⟩ => ⟨S2x8x8192, .f32⟩
  | .hbm, ⟨25, _⟩ => ⟨S2x8x8192, .f32⟩
  | .hbm, ⟨26, _⟩ => ⟨S2x8x8192x1, .f32⟩
  | .hbm, ⟨27, _⟩ => ⟨S2x8x8192x8192, .f32⟩
  | .hbm, ⟨28, _⟩ => ⟨S2x8x8192x8192, .f32⟩
  | .hbm, ⟨29, _⟩ => ⟨S2x8x8192x8192, .f32⟩
  | .hbm, ⟨30, _⟩ => ⟨S_, .f32⟩
  | .hbm, ⟨31, _⟩ => ⟨S2x8x8192, .f32⟩
  | .hbm, ⟨32, _⟩ => ⟨S2x8x8192x1, .f32⟩
  | .hbm, ⟨33, _⟩ => ⟨S2x8x8192x8192, .f32⟩
  | .hbm, ⟨34, _⟩ => ⟨S2x8x8192x8192, .f32⟩
  | .hbm, ⟨35, _⟩ => ⟨S2x8x8192x8192, .bf16⟩
  | .hbm, ⟨36, _⟩ => ⟨S2x8x8192x8192, .f32⟩
  | .hbm, ⟨37, _⟩ => ⟨S2x8x64x8192, .f32⟩
  | .hbm, ⟨38, _⟩ => ⟨S2x8192x8x64, .f32⟩
  | .hbm, ⟨39, _⟩ => ⟨S16384x512, .f32⟩
  | .hbm, ⟨40, _⟩ => ⟨S16384x512, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Kernel2.lean ====
abbrev S16384x1024 : Shape := ⟨2, ![16384, 1024]⟩
abbrev S16384x128 : Shape := ⟨2, ![16384, 128]⟩
abbrev S8x1024x1792 : Shape := ⟨3, ![8, 1024, 1792]⟩
abbrev S8x1792x1024 : Shape := ⟨3, ![8, 1792, 1024]⟩
abbrev S512x1024 : Shape := ⟨2, ![512, 1024]⟩
abbrev S512x128 : Shape := ⟨2, ![512, 128]⟩
abbrev S1x1024x1792 : Shape := ⟨3, ![1, 1024, 1792]⟩
abbrev S1x1792x1024 : Shape := ⟨3, ![1, 1792, 1024]⟩
abbrev S512 : Shape := ⟨1, ![512]⟩
abbrev S512x1 : Shape := ⟨2, ![512, 1]⟩
abbrev S1024x1792 : Shape := ⟨2, ![1024, 1792]⟩
abbrev S1792x1024 : Shape := ⟨2, ![1792, 1024]⟩
abbrev S512x1792 : Shape := ⟨2, ![512, 1792]⟩

abbrev nBuf : Space → Nat
  | .hbm => 7
  | .vmem => 15
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S16384x128, .f32⟩
  | .hbm, ⟨3, _⟩ => ⟨S8x1024x1792, .bf16⟩
  | .hbm, ⟨4, _⟩ => ⟨S8x1024x1792, .bf16⟩
  | .hbm, ⟨5, _⟩ => ⟨S8x1792x1024, .bf16⟩
  | .hbm, ⟨6, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x128, .f32⟩
  | .local _ .vmem, ⟨5, _⟩ => ⟨S512x128, .f32⟩
  | .local _ .vmem, ⟨6, _⟩ => ⟨S1x1024x1792, .bf16⟩
  | .local _ .vmem, ⟨7, _⟩ => ⟨S1x1024x1792, .bf16⟩
  | .local _ .vmem, ⟨8, _⟩ => ⟨S1x1024x1792, .bf16⟩
  | .local _ .vmem, ⟨9, _⟩ => ⟨S1x1024x1792, .bf16⟩
  | .local _ .vmem, ⟨10, _⟩ => ⟨S1x1792x1024, .bf16⟩
  | .local _ .vmem, ⟨11, _⟩ => ⟨S1x1792x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![32, 8, 1], ![false, false, false]⟩

def k0_cond2 (i : grid0.Coords) : BitVec 1 :=
  let arg1 : BitVec 32 := BitVec.ofNat 32 (i 1).val
  let c7_i32 : BitVec 32 := 7#32
  let v40 : BitVec 1 := Scalar.cmpi .eq arg1 c7_i32
  let arg2 : BitVec 32 := BitVec.ofNat 32 (i 2).val
  let c0_i32_25 : BitVec 32 := 0#32
  let v41 : BitVec 1 := Scalar.cmpi .eq arg2 c0_i32_25
  let v42 : BitVec 1 := Scalar.andi v40 v41
  let v43 : BitVec 32 := Scalar.extui v42
  let c0_i32_26 : BitVec 32 := 0#32
  let v44 : BitVec 1 := Scalar.cmpi .ne v43 c0_i32_26
  v44

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1024x1792 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024x1792 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x1792x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]
-- ==== Reference2Ideal.lean ====
abbrev S16384x1024 : Shape := ⟨2, ![16384, 1024]⟩
abbrev S16384x128 : Shape := ⟨2, ![16384, 128]⟩
abbrev S8x1024x1792 : Shape := ⟨3, ![8, 1024, 1792]⟩
abbrev S8x1792x1024 : Shape := ⟨3, ![8, 1792, 1024]⟩
abbrev S_ : Shape := ⟨0, ![]⟩
abbrev S16384x1 : Shape := ⟨2, ![16384, 1]⟩
abbrev S1x1024x1792 : Shape := ⟨3, ![1, 1024, 1792]⟩
abbrev S1024x1792 : Shape := ⟨2, ![1024, 1792]⟩
abbrev S1x1792x1024 : Shape := ⟨3, ![1, 1792, 1024]⟩
abbrev S1792x1024 : Shape := ⟨2, ![1792, 1024]⟩
abbrev S16384x1792 : Shape := ⟨2, ![16384, 1792]⟩

abbrev nBuf : Space → Nat
  | .hbm => 197
  | .vmem => 0
  | .smem => 0
  | _ => 0

abbrev hbmTy0_0 (i : Nat) : BufTy := match i % 128 with
  | 0 => ⟨S16384x1024, .bf16⟩
  | 1 => ⟨S16384x1024, .f32⟩
  | 2 => ⟨S16384x128, .f32⟩
  | 3 => ⟨S8x1024x1792, .bf16⟩
  | 4 => ⟨S8x1024x1792, .bf16⟩
  | 5 => ⟨S8x1792x1024, .bf16⟩
  | 6 => ⟨S16384x1024, .f32⟩
  | 7 => ⟨S8x1024x1792, .f32⟩
  | 8 => ⟨S8x1024x1792, .f32⟩
  | 9 => ⟨S8x1792x1024, .f32⟩
  | 10 => ⟨S_, .f32⟩
  | 11 => ⟨S16384x1024, .f32⟩
  | 12 => ⟨S16384x1, .f32⟩
  | 13 => ⟨S1x1024x1792, .f32⟩
  | 14 => ⟨S1024x1792, .f32⟩
  | 15 => ⟨S1x1024x1792, .f32⟩
  | 16 => ⟨S1024x1792, .f32⟩
  | 17 => ⟨S1x1792x1024, .f32⟩
  | 18 => ⟨S1792x1024, .f32⟩
  | 19 => ⟨S16384x1792, .f32⟩
  | 20 => ⟨S16384x1792, .f32⟩
  | 21 => ⟨S16384x1792, .f32⟩
  | 22 => ⟨S_, .f32⟩
  | 23 => ⟨S16384x1792, .f32⟩
  | 24 => ⟨S16384x1792, .f32⟩
  | 25 => ⟨S_, .f32⟩
  | 26 => ⟨S16384x1792, .f32⟩
  | 27 => ⟨S16384x1792, .f32⟩
  | 28 => ⟨S16384x1792, .f32⟩
  | 29 => ⟨S16384x1792, .f32⟩
  | 30 => ⟨S16384x1792, .f32⟩
  | 31 => ⟨S16384x1024, .f32⟩
  | 32 => ⟨S16384x1024, .f32⟩
  | 33 => ⟨S16384x1024, .f32⟩
  | 34 => ⟨S16384x1024, .f32⟩
  | 35 => ⟨S16384x1, .f32⟩
  | 36 => ⟨S1x1024x1792, .f32⟩
  | 37 => ⟨S1024x1792, .f32⟩
  | 38 => ⟨S1x1024x1792, .f32⟩
  | 39 => ⟨S1024x1792, .f32⟩
  | 40 => ⟨S1x1792x1024, .f32⟩
  | 41 => ⟨S1792x1024, .f32⟩
  | 42 => ⟨S16384x1792, .f32⟩
  | 43 => ⟨S16384x1792, .f32⟩
  | 44 => ⟨S16384x1792, .f32⟩
  | 45 => ⟨S_, .f32⟩
  | 46 => ⟨S16384x1792, .f32⟩
  | 47 => ⟨S16384x1792, .f32⟩
  | 48 => ⟨S_, .f32⟩
  | 49 => ⟨S16384x1792, .f32⟩
  | 50 => ⟨S16384x1792, .f32⟩
  | 51 => ⟨S16384x1792, .f32⟩
  | 52 => ⟨S16384x1792, .f32⟩
  | 53 => ⟨S16384x1792, .f32⟩
  | 54 => ⟨S16384x1024, .f32⟩
  | 55 => ⟨S16384x1024, .f32⟩
  | 56 => ⟨S16384x1024, .f32⟩
  | 57 => ⟨S16384x1024, .f32⟩
  | 58 => ⟨S16384x1, .f32⟩
  | 59 => ⟨S1x1024x1792, .f32⟩
  | 60 => ⟨S1024x1792, .f32⟩
  | 61 => ⟨S1x1024x1792, .f32⟩
  | 62 => ⟨S1024x1792, .f32⟩
  | 63 => ⟨S1x1792x1024, .f32⟩
  | 64 => ⟨S1792x1024, .f32⟩
  | 65 => ⟨S16384x1792, .f32⟩
  | 66 => ⟨S16384x1792, .f32⟩
  | 67 => ⟨S16384x1792, .f32⟩
  | 68 => ⟨S_, .f32⟩
  | 69 => ⟨S16384x1792, .f32⟩
  | 70 => ⟨S16384x1792, .f32⟩
  | 71 => ⟨S_, .f32⟩
  | 72 => ⟨S16384x1792, .f32⟩
  | 73 => ⟨S16384x1792, .f32⟩
  | 74 => ⟨S16384x1792, .f32⟩
  | 75 => ⟨S16384x1792, .f32⟩
  | 76 => ⟨S16384x1792, .f32⟩
  | 77 => ⟨S16384x1024, .f32⟩
  | 78 => ⟨S16384x1024, .f32⟩
  | 79 => ⟨S16384x1024, .f32⟩
  | 80 => ⟨S16384x1024, .f32⟩
  | 81 => ⟨S16384x1, .f32⟩
  | 82 => ⟨S1x1024x1792, .f32⟩
  | 83 => ⟨S1024x1792, .f32⟩
  | 84 => ⟨S1x1024x1792, .f32⟩
  | 85 => ⟨S1024x1792, .f32⟩
  | 86 => ⟨S1x1792x1024, .f32⟩
  | 87 => ⟨S1792x1024, .f32⟩
  | 88 => ⟨S16384x1792, .f32⟩
  | 89 => ⟨S16384x1792, .f32⟩
  | 90 => ⟨S16384x1792, .f32⟩
  | 91 => ⟨S_, .f32⟩
  | 92 => ⟨S16384x1792, .f32⟩
  | 93 => ⟨S16384x1792, .f32⟩
  | 94 => ⟨S_, .f32⟩
  | 95 => ⟨S16384x1792, .f32⟩
  | 96 => ⟨S16384x1792, .f32⟩
  | 97 => ⟨S16384x1792, .f32⟩
  | 98 => ⟨S16384x1792, .f32⟩
  | 99 => ⟨S16384x1792, .f32⟩
  | 100 => ⟨S16384x1024, .f32⟩
  | 101 => ⟨S16384x1024, .f32⟩
  | 102 => ⟨S16384x1024, .f32⟩
  | 103 => ⟨S16384x1024, .f32⟩
  | 104 => ⟨S16384x1, .f32⟩
  | 105 => ⟨S1x1024x1792, .f32⟩
  | 106 => ⟨S1024x1792, .f32⟩
  | 107 => ⟨S1x1024x1792, .f32⟩
  | 108 => ⟨S1024x1792, .f32⟩
  | 109 => ⟨S1x1792x1024, .f32⟩
  | 110 => ⟨S1792x1024, .f32⟩
  | 111 => ⟨S16384x1792, .f32⟩
  | 112 => ⟨S16384x1792, .f32⟩
  | 113 => ⟨S16384x1792, .f32⟩
  | 114 => ⟨S_, .f32⟩
  | 115 => ⟨S16384x1792, .f32⟩
  | 116 => ⟨S16384x1792, .f32⟩
  | 117 => ⟨S_, .f32⟩
  | 118 => ⟨S16384x1792, .f32⟩
  | 119 => ⟨S16384x1792, .f32⟩
  | 120 => ⟨S16384x1792, .f32⟩
  | 121 => ⟨S16384x1792, .f32⟩
  | 122 => ⟨S16384x1792, .f32⟩
  | 123 => ⟨S16384x1024, .f32⟩
  | 124 => ⟨S16384x1024, .f32⟩
  | 125 => ⟨S16384x1024, .f32⟩
  | 126 => ⟨S16384x1024, .f32⟩
  | 127 => ⟨S16384x1, .f32⟩
  | _ => ⟨S16384x1024, .bf16⟩

abbrev hbmTy0_1 (i : Nat) : BufTy := match i % 128 with
  | 0 => ⟨S1x1024x1792, .f32⟩
  | 1 => ⟨S1024x1792, .f32⟩
  | 2 => ⟨S1x1024x1792, .f32⟩
  | 3 => ⟨S1024x1792, .f32⟩
  | 4 => ⟨S1x1792x1024, .f32⟩
  | 5 => ⟨S1792x1024, .f32⟩
  | 6 => ⟨S16384x1792, .f32⟩
  | 7 => ⟨S16384x1792, .f32⟩
  | 8 => ⟨S16384x1792, .f32⟩
  | 9 => ⟨S_, .f32⟩
  | 10 => ⟨S16384x1792, .f32⟩
  | 11 => ⟨S16384x1792, .f32⟩
  | 12 => ⟨S_, .f32⟩
  | 13 => ⟨S16384x1792, .f32⟩
  | 14 => ⟨S16384x1792, .f32⟩
  | 15 => ⟨S16384x1792, .f32⟩
  | 16 => ⟨S16384x1792, .f32⟩
  | 17 => ⟨S16384x1792, .f32⟩
  | 18 => ⟨S16384x1024, .f32⟩
  | 19 => ⟨S16384x1024, .f32⟩
  | 20 => ⟨S16384x1024, .f32⟩
  | 21 => ⟨S16384x1024, .f32⟩
  | 22 => ⟨S16384x1, .f32⟩
  | 23 => ⟨S1x1024x1792, .f32⟩
  | 24 => ⟨S1024x1792, .f32⟩
  | 25 => ⟨S1x1024x1792, .f32⟩
  | 26 => ⟨S1024x1792, .f32⟩
  | 27 => ⟨S1x1792x1024, .f32⟩
  | 28 => ⟨S1792x1024, .f32⟩
  | 29 => ⟨S16384x1792, .f32⟩
  | 30 => ⟨S16384x1792, .f32⟩
  | 31 => ⟨S16384x1792, .f32⟩
  | 32 => ⟨S_, .f32⟩
  | 33 => ⟨S16384x1792, .f32⟩
  | 34 => ⟨S16384x1792, .f32⟩
  | 35 => ⟨S_, .f32⟩
  | 36 => ⟨S16384x1792, .f32⟩
  | 37 => ⟨S16384x1792, .f32⟩
  | 38 => ⟨S16384x1792, .f32⟩
  | 39 => ⟨S16384x1792, .f32⟩
  | 40 => ⟨S16384x1792, .f32⟩
  | 41 => ⟨S16384x1024, .f32⟩
  | 42 => ⟨S16384x1024, .f32⟩
  | 43 => ⟨S16384x1024, .f32⟩
  | 44 => ⟨S16384x1024, .f32⟩
  | 45 => ⟨S16384x1, .f32⟩
  | 46 => ⟨S1x1024x1792, .f32⟩
  | 47 => ⟨S1024x1792, .f32⟩
  | 48 => ⟨S1x1024x1792, .f32⟩
  | 49 => ⟨S1024x1792, .f32⟩
  | 50 => ⟨S1x1792x1024, .f32⟩
  | 51 => ⟨S1792x1024, .f32⟩
  | 52 => ⟨S16384x1792, .f32⟩
  | 53 => ⟨S16384x1792, .f32⟩
  | 54 => ⟨S16384x1792, .f32⟩
  | 55 => ⟨S_, .f32⟩
  | 56 => ⟨S16384x1792, .f32⟩
  | 57 => ⟨S16384x1792, .f32⟩
  | 58 => ⟨S_, .f32⟩
  | 59 => ⟨S16384x1792, .f32⟩
  | 60 => ⟨S16384x1792, .f32⟩
  | 61 => ⟨S16384x1792, .f32⟩
  | 62 => ⟨S16384x1792, .f32⟩
  | 63 => ⟨S16384x1792, .f32⟩
  | 64 => ⟨S16384x1024, .f32⟩
  | 65 => ⟨S16384x1024, .f32⟩
  | 66 => ⟨S16384x1024, .f32⟩
  | 67 => ⟨S16384x1024, .f32⟩
  | 68 => ⟨S16384x1024, .f32⟩
  | _ => ⟨S16384x1024, .bf16⟩

abbrev hbmTy (i : Nat) : BufTy := match i / 128 with
  | 0 => hbmTy0_0 i
  | 1 => hbmTy0_1 i
  | _ => ⟨S16384x1024, .bf16⟩

abbrev bufTy : (tb : Table) → Fin (tcTables nBuf tb) → BufTy
  | .hbm, ⟨i, _⟩ => hbmTy i
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_call0_v5 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call1_v0 : Ref sig .tc := ⟨.hbm, 43, rfl⟩
abbrev main_call1_v1 : Ref sig .tc := ⟨.hbm, 44, rfl⟩
abbrev main_call1_cst : Ref sig .tc := ⟨.hbm, 45, rfl⟩
abbrev main_call1_v2 : Ref sig .tc := ⟨.hbm, 46, rfl⟩
abbrev main_call1_v3 : Ref sig .tc := ⟨.hbm, 47, rfl⟩
abbrev main_call1_cst_0 : Ref sig .tc := ⟨.hbm, 48, rfl⟩
abbrev main_call1_v4 : Ref sig .tc := ⟨.hbm, 49, rfl⟩
abbrev main_call1_v5 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_call2_v0 : Ref sig .tc := ⟨.hbm, 66, rfl⟩
abbrev main_call2_v1 : Ref sig .tc := ⟨.hbm, 67, rfl⟩
abbrev main_call2_cst : Ref sig .tc := ⟨.hbm, 68, rfl⟩
abbrev main_call2_v2 : Ref sig .tc := ⟨.hbm, 69, rfl⟩
abbrev main_call2_v3 : Ref sig .tc := ⟨.hbm, 70, rfl⟩
abbrev main_call2_cst_0 : Ref sig .tc := ⟨.hbm, 71, rfl⟩
abbrev main_call2_v4 : Ref sig .tc := ⟨.hbm, 72, rfl⟩
abbrev main_call2_v5 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_call3_v0 : Ref sig .tc := ⟨.hbm, 89, rfl⟩
abbrev main_call3_v1 : Ref sig .tc := ⟨.hbm, 90, rfl⟩
abbrev main_call3_cst : Ref sig .tc := ⟨.hbm, 91, rfl⟩
abbrev main_call3_v2 : Ref sig .tc := ⟨.hbm, 92, rfl⟩
abbrev main_call3_v3 : Ref sig .tc := ⟨.hbm, 93, rfl⟩
abbrev main_call3_cst_0 : Ref sig .tc := ⟨.hbm, 94, rfl⟩
abbrev main_call3_v4 : Ref sig .tc := ⟨.hbm, 95, rfl⟩
abbrev main_call3_v5 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_call4_v0 : Ref sig .tc := ⟨.hbm, 112, rfl⟩
abbrev main_call4_v1 : Ref sig .tc := ⟨.hbm, 113, rfl⟩
abbrev main_call4_cst : Ref sig .tc := ⟨.hbm, 114, rfl⟩
abbrev main_call4_v2 : Ref sig .tc := ⟨.hbm, 115, rfl⟩
abbrev main_call4_v3 : Ref sig .tc := ⟨.hbm, 116, rfl⟩
abbrev main_call4_cst_0 : Ref sig .tc := ⟨.hbm, 117, rfl⟩
abbrev main_call4_v4 : Ref sig .tc := ⟨.hbm, 118, rfl⟩
abbrev main_call4_v5 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_call5_v0 : Ref sig .tc := ⟨.hbm, 135, rfl⟩
abbrev main_call5_v1 : Ref sig .tc := ⟨.hbm, 136, rfl⟩
abbrev main_call5_cst : Ref sig .tc := ⟨.hbm, 137, rfl⟩
abbrev main_call5_v2 : Ref sig .tc := ⟨.hbm, 138, rfl⟩
abbrev main_call5_v3 : Ref sig .tc := ⟨.hbm, 139, rfl⟩
abbrev main_call5_cst_0 : Ref sig .tc := ⟨.hbm, 140, rfl⟩
abbrev main_call5_v4 : Ref sig .tc := ⟨.hbm, 141, rfl⟩
abbrev main_call5_v5 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_call6_v0 : Ref sig .tc := ⟨.hbm, 158, rfl⟩
abbrev main_call6_v1 : Ref sig .tc := ⟨.hbm, 159, rfl⟩
abbrev main_call6_cst : Ref sig .tc := ⟨.hbm, 160, rfl⟩
abbrev main_call6_v2 : Ref sig .tc := ⟨.hbm, 161, rfl⟩
abbrev main_call6_v3 : Ref sig .tc := ⟨.hbm, 162, rfl⟩
abbrev main_call6_cst_0 : Ref sig .tc := ⟨.hbm, 163, rfl⟩
abbrev main_call6_v4 : Ref sig .tc := ⟨.hbm, 164, rfl⟩
abbrev main_call6_v5 : Ref sig .tc := ⟨.hbm, 165, rfl⟩
abbrev main_v103 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_call7_v0 : Ref sig .tc := ⟨.hbm, 181, rfl⟩
abbrev main_call7_v1 : Ref sig .tc := ⟨.hbm, 182, rfl⟩
abbrev main_call7_cst : Ref sig .tc := ⟨.hbm, 183, rfl⟩
abbrev main_call7_v2 : Ref sig .tc := ⟨.hbm, 184, rfl⟩
abbrev main_call7_v3 : Ref sig .tc := ⟨.hbm, 185, rfl⟩
abbrev main_call7_cst_0 : Ref sig .tc := ⟨.hbm, 186, rfl⟩
abbrev main_call7_v4 : Ref sig .tc := ⟨.hbm, 187, rfl⟩
abbrev main_call7_v5 : Ref sig .tc := ⟨.hbm, 188, rfl⟩
abbrev main_v118 : Ref sig .tc := ⟨.hbm, 189, rfl⟩
abbrev main_v119 : Ref sig .tc := ⟨.hbm, 190, rfl⟩
abbrev main_v120 : Ref sig .tc := ⟨.hbm, 191, rfl⟩
abbrev main_v121 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_v125 : Ref sig .tc := ⟨.hbm, 196, rfl⟩

abbrev nD : Nat := 1
abbrev τ : Topo := Topo.v7x

variable {F : FTy → Type} [FloatOps F]
-- ==== Kernel3.lean ====
abbrev S16384x1024 : Shape := ⟨2, ![16384, 1024]⟩
abbrev S1024x2816 : Shape := ⟨2, ![1024, 2816]⟩
abbrev S2816x1024 : Shape := ⟨2, ![2816, 1024]⟩
abbrev S512x1024 : Shape := ⟨2, ![512, 1024]⟩
abbrev S1024x1408 : Shape := ⟨2, ![1024, 1408]⟩
abbrev S1408x1024 : Shape := ⟨2, ![1408, 1024]⟩
abbrev S512x1408 : Shape := ⟨2, ![512, 1408]⟩

abbrev nBuf : Space → Nat
  | .hbm => 6
  | .vmem => 13
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1408x1024, .bf16⟩
  | .local _ .vmem, ⟨9, _⟩ => ⟨S1408x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v25 : BitVec 1 := Scalar.cmpi .eq arg1 c1_i32
  let v26 : BitVec 32 := Scalar.extui v25
  let c0_i32_17 : BitVec 32 := 0#32
  let v27 : BitVec 1 := Scalar.cmpi .ne v26 c0_i32_17
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference3Ideal.lean ====
abbrev S16384x1024 : Shape := ⟨2, ![16384, 1024]⟩
abbrev S1024x2816 : Shape := ⟨2, ![1024, 2816]⟩
abbrev S2816x1024 : Shape := ⟨2, ![2816, 1024]⟩
abbrev S16384x2816 : Shape := ⟨2, ![16384, 2816]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S16384x1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S16384x2816, .f32⟩
  | .hbm, ⟨10, _⟩ => ⟨S16384x2816, .f32⟩
  | .hbm, ⟨11, _⟩ => ⟨S16384x2816, .f32⟩
  | .hbm, ⟨12, _⟩ => ⟨S_, .f32⟩
  | .hbm, ⟨13, _⟩ => ⟨S16384x2816, .f32⟩
  | .hbm, ⟨14, _⟩ => ⟨S16384x2816, .f32⟩
  | .hbm, ⟨15, _⟩ => ⟨S_, .f32⟩
  | .hbm, ⟨16, _⟩ => ⟨S16384x2816, .f32⟩
  | .hbm, ⟨17, _⟩ => ⟨S16384x2816, .f32⟩
  | .hbm, ⟨18, _⟩ => ⟨S16384x2816, .f32⟩
  | .hbm, ⟨19, _⟩ => ⟨S16384x2816, .f32⟩
  | .hbm, ⟨20, _⟩ => ⟨S16384x2816, .f32⟩
  | .hbm, ⟨21, _⟩ => ⟨S16384x1024, .f32⟩
  | .hbm, ⟨22, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩

abbrev nD : Nat := 1
abbrev τ : Topo := Topo.v7x

variable {F : FTy → Type} [FloatOps F]
-- ==== Kernel4.lean ====
abbrev S16384x1024 : Shape := ⟨2, ![16384, 1024]⟩
abbrev S16384x512 : Shape := ⟨2, ![16384, 512]⟩
abbrev S16384x3072 : Shape := ⟨2, ![16384, 3072]⟩
abbrev S512x1024 : Shape := ⟨2, ![512, 1024]⟩
abbrev S1024x1024 : Shape := ⟨2, ![1024, 1024]⟩
abbrev S1x1024 : Shape := ⟨2, ![1, 1024]⟩
abbrev S256x1024 : Shape := ⟨2, ![256, 1024]⟩
abbrev S256x512 : Shape := ⟨2, ![256, 512]⟩
abbrev S256x3072 : Shape := ⟨2, ![256, 3072]⟩
abbrev S256 : Shape := ⟨1, ![256]⟩
abbrev S256x1 : Shape := ⟨2, ![256, 1]⟩

abbrev nBuf : Space → Nat
  | .hbm => 12
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x3072, .bf16⟩
  | .hbm, ⟨5, _⟩ => ⟨S512x1024, .bf16⟩
  | .hbm, ⟨6, _⟩ => ⟨S512x1024, .bf16⟩
  | .hbm, ⟨7, _⟩ => ⟨S512x1024, .bf16⟩
  | .hbm, ⟨8, _⟩ => ⟨S1024x1024, .bf16⟩
  | .hbm, ⟨9, _⟩ => ⟨S1x1024, .f32⟩
  | .hbm, ⟨10, _⟩ => ⟨S16384x1024, .f32⟩
  | .hbm, ⟨11, _⟩ => ⟨S16384x1024, .bf16⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x3072, .bf16⟩
  | .local _ .vmem, ⟨9, _⟩ => ⟨S256x3072, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S1x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference4Ideal.lean ====
abbrev S16384x1024 : Shape := ⟨2, ![16384, 1024]⟩
abbrev S16384x512 : Shape := ⟨2, ![16384, 512]⟩
abbrev S16384x3072 : Shape := ⟨2, ![16384, 3072]⟩
abbrev S512x1024 : Shape := ⟨2, ![512, 1024]⟩
abbrev S1024x1024 : Shape := ⟨2, ![1024, 1024]⟩
abbrev S1x1024 : Shape := ⟨2, ![1, 1024]⟩
abbrev S16384x3x1024 : Shape := ⟨3, ![16384, 3, 1024]⟩
abbrev S16384x1x1024 : Shape := ⟨3, ![16384, 1, 1024]⟩
abbrev S1024 : Shape := ⟨1, ![1024]⟩
abbrev S_ : Shape := ⟨0, ![]⟩
abbrev S16384 : Shape := ⟨1, ![16384]⟩
abbrev S16384x1 : Shape := ⟨2, ![16384, 1]⟩

abbrev nBuf : Space → Nat
  | .hbm => 53
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x3072, .bf16⟩
  | .hbm, ⟨5, _⟩ => ⟨S512x1024, .bf16⟩
  | .hbm, ⟨6, _⟩ => ⟨S512x1024, .bf16⟩
  | .hbm, ⟨7, _⟩ => ⟨S512x1024, .bf16⟩
  | .hbm, ⟨8, _⟩ => ⟨S1024x1024, .bf16⟩
  | .hbm, ⟨9, _⟩ => ⟨S1x1024, .f32⟩
  | .hbm, ⟨10, _⟩ => ⟨S16384x3072, .f32⟩
  | .hbm, ⟨11, _⟩ => ⟨S16384x3x1024, .f32⟩
  | .hbm, ⟨12, _⟩ => ⟨S16384x1x1024, .f32⟩
  | .hbm, ⟨13, _⟩ => ⟨S16384x1024, .f32⟩
  | .hbm, ⟨14, _⟩ => ⟨S16384x512, .f32⟩
  | .hbm, ⟨15, _⟩ => ⟨S512x1024, .f32⟩
  | .hbm, ⟨16, _⟩ => ⟨S16384x1024, .f32⟩
  | .hbm, ⟨17, _⟩ => ⟨S16384x1024, .f32⟩
  | .hbm, ⟨18, _⟩ => ⟨S16384x1x1024, .f32⟩
  | .hbm, ⟨19, _⟩ => ⟨S16384x1024, .f32⟩
  | .hbm, ⟨20, _⟩ => ⟨S16384x512, .f32⟩
  | .hbm, ⟨21, _⟩ => ⟨S512x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1x1024, .f32⟩
  | .hbm, ⟨26, _⟩ => ⟨S16384x1024, .f32⟩
  | .hbm, ⟨27, _⟩ => ⟨S16384x512, .f32⟩
  | .hbm, ⟨28, _⟩ => ⟨S512x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S1024x1024, .f32⟩
  | .hbm, ⟨33, _⟩ => ⟨S16384x1024, .f32⟩
  | .hbm, ⟨34, _⟩ => ⟨S16384x1024, .f32⟩
  | .hbm, ⟨35, _⟩ => ⟨S1024, .f32⟩
  | .hbm, ⟨36, _⟩ => ⟨S16384x1024, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S16384x1, .f32⟩
  | .hbm, ⟨47, _⟩ => ⟨S16384x1024, .f32⟩
  | .hbm, ⟨48, _⟩ => ⟨S16384x1024, .f32⟩
  | .hbm, ⟨49, _⟩ => ⟨S1x1024, .f32⟩
  | .hbm, ⟨50, _⟩ => ⟨S16384x1024, .f32⟩
  | .hbm, ⟨51, _⟩ => ⟨S16384x1024, .f32⟩
  | .hbm, ⟨52, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst : Ref sig .tc := ⟨.hbm, 37, rfl⟩
abbrev main_v27 : Ref sig .tc := ⟨.hbm, 38, rfl⟩
abbrev main_v28 : Ref sig .tc := ⟨.hbm, 39, rfl⟩
abbrev main_cst_0 : Ref sig .tc := ⟨.hbm, 40, rfl⟩
abbrev main_v29 : Ref sig .tc := ⟨.hbm, 41, rfl⟩
abbrev main_v30 : Ref sig .tc := ⟨.hbm, 42, rfl⟩
abbrev main_cst_1 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel5.lean ====
abbrev S16384x1024 : Shape := ⟨2, ![16384, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x1024, .f32⟩
  | .hbm, ⟨14, _⟩ => ⟨S16384x1024, .f32⟩
  | .hbm, ⟨15, _⟩ => ⟨S1x1024, .f32⟩
  | .hbm, ⟨16, _⟩ => ⟨S16384x1024, .f32⟩
  | .hbm, ⟨17, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel6.lean ====
abbrev S16384x1024 : Shape := ⟨2, ![16384, 1024]⟩
abbrev S1024 : Shape := ⟨1, ![1024]⟩
abbrev S1024x5536 : Shape := ⟨2, ![1024, 5536]⟩
abbrev S384 : Shape := ⟨1, ![384]⟩
abbrev S384x768 : Shape := ⟨2, ![384, 768]⟩
abbrev S256 : Shape := ⟨1, ![256]⟩
abbrev S256x8x64 : Shape := ⟨3, ![256, 8, 64]⟩
abbrev S1x1024x5536 : Shape := ⟨3, ![1, 1024, 5536]⟩
abbrev S_ : Shape := ⟨0, ![]⟩
abbrev S1x1024x64 : Shape := ⟨3, ![1, 1024, 64]⟩
abbrev S1x1024x32 : Shape := ⟨3, ![1, 1024, 32]⟩
abbrev S1x1024x128 : Shape := ⟨3, ![1, 1024, 128]⟩
abbrev S1x1024x1024 : Shape := ⟨3, ![1, 1024, 1024]⟩
abbrev S1x1024x384 : Shape := ⟨3, ![1, 1024, 384]⟩
abbrev S1x1024x256 : Shape := ⟨3, ![1, 1024, 256]⟩
abbrev S1x1024x512 : Shape := ⟨3, ![1, 1024, 512]⟩
abbrev S1x1024x3072 : Shape := ⟨3, ![1, 1024, 3072]⟩
abbrev S1x1024x5632 : Shape := ⟨3, ![1, 1024, 5632]⟩
abbrev S1024x5632 : Shape := ⟨2, ![1024, 5632]⟩
abbrev S384x8x96 : Shape := ⟨3, ![384, 8, 96]⟩
abbrev S384x8x128 : Shape := ⟨3, ![384, 8, 128]⟩
abbrev S384x1024 : Shape := ⟨2, ![384, 1024]⟩
abbrev S256x8x128 : Shape := ⟨3, ![256, 8, 128]⟩
abbrev S256x1024 : Shape := ⟨2, ![256, 1024]⟩
abbrev S256x512 : Shape := ⟨2, ![256, 512]⟩
abbrev S256x1536 : Shape := ⟨2, ![256, 1536]⟩
abbrev S1x1024 : Shape := ⟨2, ![1, 1024]⟩
abbrev S1x384 : Shape := ⟨2, ![1, 384]⟩
abbrev S1x256 : Shape := ⟨2, ![1, 256]⟩
abbrev S8192 : Shape := ⟨1, ![8192]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x64 : Shape := ⟨2, ![8192, 64]⟩
abbrev S8192x32 : Shape := ⟨2, ![8192, 32]⟩
abbrev S8192x128 : Shape := ⟨2, ![8192, 128]⟩
abbrev S1x8192x128 : Shape := ⟨3, ![1, 8192, 128]⟩
abbrev S3x8192x128 : Shape := ⟨3, ![3, 8192, 128]⟩
abbrev S16384x512 : Shape := ⟨2, ![16384, 512]⟩
abbrev S16384x256 : Shape := ⟨2, ![16384, 256]⟩
abbrev S16384x32 : Shape := ⟨2, ![16384, 32]⟩
abbrev S16384x128 : Shape := ⟨2, ![16384, 128]⟩
abbrev S16384x3072 : Shape := ⟨2, ![16384, 3072]⟩
abbrev S3x256x128 : Shape := ⟨3, ![3, 256, 128]⟩
abbrev S256x256 : Shape := ⟨2, ![256, 256]⟩
abbrev S256x32 : Shape := ⟨2, ![256, 32]⟩
abbrev S256x128 : Shape := ⟨2, ![256, 128]⟩
abbrev S256x3072 : Shape := ⟨2, ![256, 3072]⟩
abbrev S256x1 : Shape := ⟨2, ![256, 1]⟩
abbrev S1024x1024 : Shape := ⟨2, ![1024, 1024]⟩
abbrev S1024x384 : Shape := ⟨2, ![1024, 384]⟩
abbrev S256x384 : Shape := ⟨2, ![256, 384]⟩
abbrev S1x256x128 : Shape := ⟨3, ![1, 256, 128]⟩
abbrev S1024x256 : Shape := ⟨2, ![1024, 256]⟩
abbrev S1024x128 : Shape := ⟨2, ![1024, 128]⟩
abbrev S1024x512 : Shape := ⟨2, ![1024, 512]⟩
abbrev S1024x3072 : Shape := ⟨2, ![1024, 3072]⟩

abbrev nBuf : Space → Nat
  | .hbm => 94
  | .vmem => 34
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5536, .f32⟩
  | .hbm, ⟨3, _⟩ => ⟨S384, .f32⟩
  | .hbm, ⟨4, _⟩ => ⟨S384x768, .f32⟩
  | .hbm, ⟨5, _⟩ => ⟨S256, .f32⟩
  | .hbm, ⟨6, _⟩ => ⟨S256x8x64, .f32⟩
  | .hbm, ⟨7, _⟩ => ⟨S256x8x64, .f32⟩
  | .hbm, ⟨8, _⟩ => ⟨S1x1024x5536, .f32⟩
  | .hbm, ⟨9, _⟩ => ⟨S_, .f32⟩
  | .hbm, ⟨10, _⟩ => ⟨S1x1024x64, .f32⟩
  | .hbm, ⟨11, _⟩ => ⟨S1x1024x32, .f32⟩
  | .hbm, ⟨12, _⟩ => ⟨S_, .f32⟩
  | .hbm, ⟨13, _⟩ => ⟨S1x1024x32, .f32⟩
  | .hbm, ⟨14, _⟩ => ⟨S1x1024x128, .f32⟩
  | .hbm, ⟨15, _⟩ => ⟨S1x1024x1024, .f32⟩
  | .hbm, ⟨16, _⟩ => ⟨S1x1024x384, .f32⟩
  | .hbm, ⟨17, _⟩ => ⟨S1x1024x256, .f32⟩
  | .hbm, ⟨18, _⟩ => ⟨S1x1024x512, .f32⟩
  | .hbm, ⟨19, _⟩ => ⟨S1x1024x128, .f32⟩
  | .hbm, ⟨20, _⟩ => ⟨S1x1024x128, .f32⟩
  | .hbm, ⟨21, _⟩ => ⟨S1x1024x3072, .f32⟩
  | .hbm, ⟨22, _⟩ => ⟨S1x1024x5632, .f32⟩
  | .hbm, ⟨23, _⟩ => ⟨S1024x5632, .f32⟩
  | .hbm, ⟨24, _⟩ => ⟨S1024x5632, .bf16⟩
  | .hbm, ⟨25, _⟩ => ⟨S384x8x96, .f32⟩
  | .hbm, ⟨26, _⟩ => ⟨S_, .i32⟩
  | .hbm, ⟨27, _⟩ => ⟨S_, .f32⟩
  | .hbm, ⟨28, _⟩ => ⟨S384x8x128, .f32⟩
  | .hbm, ⟨29, _⟩ => ⟨S384x1024, .f32⟩
  | .hbm, ⟨30, _⟩ => ⟨S384x1024, .bf16⟩
  | .hbm, ⟨31, _⟩ => ⟨S_, .i32⟩
  | .hbm, ⟨32, _⟩ => ⟨S_, .f32⟩
  | .hbm, ⟨33, _⟩ => ⟨S256x8x128, .f32⟩
  | .hbm, ⟨34, _⟩ => ⟨S256x1024, .f32⟩
  | .hbm, ⟨35, _⟩ => ⟨S256x512, .f32⟩
  | .hbm, ⟨36, _⟩ => ⟨S256x1536, .f32⟩
  | .hbm, ⟨37, _⟩ => ⟨S256x1536, .bf16⟩
  | .hbm, ⟨38, _⟩ => ⟨S1x1024, .f32⟩
  | .hbm, ⟨39, _⟩ => ⟨S1x384, .f32⟩
  | .hbm, ⟨40, _⟩ => ⟨S1x256, .f32⟩
  | .hbm, ⟨41, _⟩ => ⟨S8192, .i32⟩
  | .hbm, ⟨42, _⟩ => ⟨S16, .f32⟩
  | .hbm, ⟨43, _⟩ => ⟨S16, .f32⟩
  | .hbm, ⟨44, _⟩ => ⟨S_, .f32⟩
  | .hbm, ⟨45, _⟩ => ⟨S16, .f32⟩
  | .hbm, ⟨46, _⟩ => ⟨S16, .f32⟩
  | .hbm, ⟨47, _⟩ => ⟨S_, .f32⟩
  | .hbm, ⟨48, _⟩ => ⟨S16, .f32⟩
  | .hbm, ⟨49, _⟩ => ⟨S16, .f32⟩
  | .hbm, ⟨50, _⟩ => ⟨S8192, .f32⟩
  | .hbm, ⟨51, _⟩ => ⟨S8192x1, .f32⟩
  | .hbm, ⟨52, _⟩ => ⟨S1x16, .f32⟩
  | .hbm, ⟨53, _⟩ => ⟨S8192x16, .f32⟩
  | .hbm, ⟨54, _⟩ => ⟨S8192x16, .f32⟩
  | .hbm, ⟨55, _⟩ => ⟨S8192x16, .f32⟩
  | .hbm, ⟨56, _⟩ => ⟨S8192x16, .f32⟩
  | .hbm, ⟨57, _⟩ => ⟨S8192x16, .f32⟩
  | .hbm, ⟨58, _⟩ => ⟨S_, .f32⟩
  | .hbm, ⟨59, _⟩ => ⟨S8192x64, .f32⟩
  | .hbm, ⟨60, _⟩ => ⟨S_, .f32⟩
  | .hbm, ⟨61, _⟩ => ⟨S8192x32, .f32⟩
  | .hbm, ⟨62, _⟩ => ⟨S8192x128, .f32⟩
  | .hbm, ⟨63, _⟩ => ⟨S_, .f32⟩
  | .hbm, ⟨64, _⟩ => ⟨S8192x64, .f32⟩
  | .hbm, ⟨65, _⟩ => ⟨S_, .f32⟩
  | .hbm, ⟨66, _⟩ => ⟨S8192x16, .f32⟩
  | .hbm, ⟨67, _⟩ => ⟨S_, .f32⟩
  | .hbm, ⟨68, _⟩ => ⟨S8192x32, .f32⟩
  | .hbm, ⟨69, _⟩ => ⟨S8192x128, .f32⟩
  | .hbm, ⟨70, _⟩ => ⟨S_, .f32⟩
  | .hbm, ⟨71, _⟩ => ⟨S8192x64, .f32⟩
  | .hbm, ⟨72, _⟩ => ⟨S8192x16, .f32⟩
  | .hbm, ⟨73, _⟩ => ⟨S_, .f32⟩
  | .hbm, ⟨74, _⟩ => ⟨S8192x16, .f32⟩
  | .hbm, ⟨75, _⟩ => ⟨S_, .f32⟩
  | .hbm, ⟨76, _⟩ => ⟨S8192x32, .f32⟩
  | .hbm, ⟨77, _⟩ => ⟨S8192x128, .f32⟩
  | .hbm, ⟨78, _⟩ => ⟨S1x8192x128, .f32⟩
  | .hbm, ⟨79, _⟩ => ⟨S1x8192x128, .f32⟩
  | .hbm, ⟨80, _⟩ => ⟨S1x8192x128, .f32⟩
  | .hbm, ⟨81, _⟩ => ⟨S3x8192x128, .f32⟩
  | .hbm, ⟨82, _⟩ => ⟨S16384x512, .f32⟩
  | .hbm, ⟨83, _⟩ => ⟨S16384x1024, .bf16⟩
  | .hbm, ⟨84, _⟩ => ⟨S16384x256, .f32⟩
  | .hbm, ⟨85, _⟩ => ⟨S16384x32, .f32⟩
  | .hbm, ⟨86, _⟩ => ⟨S16384x1024, .bf16⟩
  | .hbm, ⟨87, _⟩ => ⟨S16384x512, .bf16⟩
  | .hbm, ⟨88, _⟩ => ⟨S16384x1024, .bf16⟩
  | .hbm, ⟨89, _⟩ => ⟨S16384x128, .f32⟩
  | .hbm, ⟨90, _⟩ => ⟨S16384x128, .f32⟩
  | .hbm, ⟨91, _⟩ => ⟨S16384x128, .bf16⟩
  | .hbm, ⟨92, _⟩ => ⟨S16384x128, .bf16⟩
  | .hbm, ⟨93, _⟩ => ⟨S16384x3072, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x5632, .bf16⟩
  | .local _ .vmem, ⟨4, _⟩ => ⟨S1x384, .f32⟩
  | .local _ .vmem, ⟨5, _⟩ => ⟨S384x1024, .bf16⟩
  | .local _ .vmem, ⟨6, _⟩ => ⟨S1x256, .f32⟩
  | .local _ .vmem, ⟨7, _⟩ => ⟨S256x1536, .bf16⟩
  | .local _ .vmem, ⟨8, _⟩ => ⟨S3x256x128, .f32⟩
  | .local _ .vmem, ⟨9, _⟩ => ⟨S3x256x128, .f32⟩
  | .local _ .vmem, ⟨10, _⟩ => ⟨S256x512, .f32⟩
  | .local _ .vmem, ⟨11, _⟩ => ⟨S256x512, .f32⟩
  | .local _ .vmem, ⟨12, _⟩ => ⟨S256x1024, .bf16⟩
  | .local _ .vmem, ⟨13, _⟩ => ⟨S256x1024, .bf16⟩
  | .local _ .vmem, ⟨14, _⟩ => ⟨S256x256, .f32⟩
  | .local _ .vmem, ⟨15, _⟩ => ⟨S256x256, .f32⟩
  | .local _ .vmem, ⟨16, _⟩ => ⟨S256x32, .f32⟩
  | .local _ .vmem, ⟨17, _⟩ => ⟨S256x32, .f32⟩
  | .local _ .vmem, ⟨18, _⟩ => ⟨S256x1024, .bf16⟩
  | .local _ .vmem, ⟨19, _⟩ => ⟨S256x1024, .bf16⟩
  | .local _ .vmem, ⟨20, _⟩ => ⟨S256x512, .bf16⟩
  | .local _ .vmem, ⟨21, _⟩ => ⟨S256x512, .bf16⟩
  | .local _ .vmem, ⟨22, _⟩ => ⟨S256x1024, .bf16⟩
  | .local _ .vmem, ⟨23, _⟩ => ⟨S256x1024, .bf16⟩
  | .local _ .vmem, ⟨24, _⟩ => ⟨S256x128, .f32⟩
  | .local _ .vmem, ⟨25, _⟩ => ⟨S256x128, .f32⟩
  | .local _ .vmem, ⟨26, _⟩ => ⟨S256x128, .f32⟩
  | .local _ .vmem, ⟨27, _⟩ => ⟨S256x128, .f32⟩
  | .local _ .vmem, ⟨28, _⟩ => ⟨S256x128, .bf16⟩
  | .local _ .vmem, ⟨29, _⟩ => ⟨S256x128, .bf16⟩
  | .local _ .vmem, ⟨30, _⟩ => ⟨S256x128, .bf16⟩
  | .local _ .vmem, ⟨31, _⟩ => ⟨S256x128, .bf16⟩
  | .local _ .vmem, ⟨32, _⟩ => ⟨S256x3072, .bf16⟩
  | .local _ .vmem, ⟨33, _⟩ => ⟨S256x3072, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_call0_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_1 : Ref sig .tc := ⟨.hbm, 31, rfl⟩
abbrev main_call1_v0 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_2 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_4 : Ref sig .tc := ⟨.hbm, 58, rfl⟩
abbrev main_v42 : Ref sig .tc := ⟨.hbm, 59, rfl⟩
abbrev main_cst_5 : Ref sig .tc := ⟨.hbm, 60, rfl⟩
abbrev main_v43 : Ref sig .tc := ⟨.hbm, 61, rfl⟩
abbrev main_v44 : Ref sig .tc := ⟨.hbm, 62, rfl⟩
abbrev main_cst_6 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58_0 : Ref sig .tc := ⟨.hbm, 82, rfl⟩
abbrev main_v58_1 : Ref sig .tc := ⟨.hbm, 83, rfl⟩
abbrev main_v58_2 : Ref sig .tc := ⟨.hbm, 84, rfl⟩
abbrev main_v58_3 : Ref sig .tc := ⟨.hbm, 85, rfl⟩
abbrev main_v58_4 : Ref sig .tc := ⟨.hbm, 86, rfl⟩
abbrev main_v58_5 : Ref sig .tc := ⟨.hbm, 87, rfl⟩
abbrev main_v58_6 : Ref sig .tc := ⟨.hbm, 88, rfl⟩
abbrev main_v58_7 : Ref sig .tc := ⟨.hbm, 89, rfl⟩
abbrev main_v58_8 : Ref sig .tc := ⟨.hbm, 90, rfl⟩
abbrev main_v58_9 : Ref sig .tc := ⟨.hbm, 91, rfl⟩
abbrev main_v58_10 : Ref sig .tc := ⟨.hbm, 92, rfl⟩
abbrev main_v58_11 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S3x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x32 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x3072 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference6Ideal.lean ====
abbrev S16384x1024 : Shape := ⟨2, ![16384, 1024]⟩
abbrev S1024 : Shape := ⟨1, ![1024]⟩
abbrev S1024x5536 : Shape := ⟨2, ![1024, 5536]⟩
abbrev S384 : Shape := ⟨1, ![384]⟩
abbrev S384x768 : Shape := ⟨2, ![384, 768]⟩
abbrev S256 : Shape := ⟨1, ![256]⟩
abbrev S256x8x64 : Shape := ⟨3, ![256, 8, 64]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5536 : Shape := ⟨2, ![16384, 5536]⟩
abbrev S16384x512 : Shape := ⟨2, ![16384, 512]⟩
abbrev S16384x384 : Shape := ⟨2, ![16384, 384]⟩
abbrev S16384x256 : Shape := ⟨2, ![16384, 256]⟩
abbrev S16384x32 : Shape := ⟨2, ![16384, 32]⟩
abbrev S16384x128 : Shape := ⟨2, ![16384, 128]⟩
abbrev S16384x3072 : Shape := ⟨2, ![16384, 3072]⟩
abbrev S8192 : Shape := ⟨1, ![8192]⟩
abbrev S1x384 : Shape := ⟨2, ![1, 384]⟩
abbrev S16384x768 : Shape := ⟨2, ![16384, 768]⟩
abbrev S2x8192x8x96 : Shape := ⟨4, ![2, 8192, 8, 96]⟩
abbrev S2x8192x8x64 : Shape := ⟨4, ![2, 8192, 8, 64]⟩
abbrev S2x8192x8x32 : Shape := ⟨4, ![2, 8192, 8, 32]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x1x16 : Shape := ⟨3, ![8192, 1, 16]⟩
abbrev S2x8192x8x16 : Shape := ⟨4, ![2, 8192, 8, 16]⟩
abbrev S1x8192x1x16 : Shape := ⟨4, ![1, 8192, 1, 16]⟩
abbrev S1x256 : Shape := ⟨2, ![1, 256]⟩
abbrev S2x8192x32 : Shape := ⟨3, ![2, 8192, 32]⟩
abbrev S2x8192x16 : Shape := ⟨3, ![2, 8192, 16]⟩
abbrev S1x8192x16 : Shape := ⟨3, ![1, 8192, 16]⟩
abbrev S2x8192x256 : Shape := ⟨3, ![2, 8192, 256]⟩
abbrev S16384x8x64 : Shape := ⟨3, ![16384, 8, 64]⟩
abbrev S2x8192x1x32 : Shape := ⟨4, ![2, 8192, 1, 32]⟩
abbrev S2x8192x8x128 : Shape := ⟨4, ![2, 8192, 8, 128]⟩
abbrev S16384x2x4x64 : Shape := ⟨4, ![16384, 2, 4, 64]⟩
abbrev S16384x4x64 : Shape := ⟨3, ![16384, 4, 64]⟩
abbrev S16384x1x4x64 : Shape := ⟨4, ![16384, 1, 4, 64]⟩
abbrev S16384x4x128 : Shape := ⟨3, ![16384, 4, 128]⟩
abbrev S16384x1x4x128 : Shape := ⟨4, ![16384, 1, 4, 128]⟩
abbrev S16384x2x4x128 : Shape := ⟨4, ![16384, 2, 4, 128]⟩

abbrev nBuf : Space → Nat
  | .hbm => 197
  | .vmem => 0
  | .smem => 0
  | _ => 0

abbrev hbmTy0_0 (i : Nat) : BufTy := match i % 128 with
  | 0 => ⟨S16384x1024, .f32⟩
  | 1 => ⟨S1024, .f32⟩
  | 2 => ⟨S1024x5536, .f32⟩
  | 3 => ⟨S384, .f32⟩
  | 4 => ⟨S384x768, .f32⟩
  | 5 => ⟨S256, .f32⟩
  | 6 => ⟨S256x8x64, .f32⟩
  | 7 => ⟨S256x8x64, .f32⟩
  | 8 => ⟨S16384x1024, .f32⟩
  | 9 => ⟨S_, .f32⟩
  | 10 => ⟨S16384, .f32⟩
  | 11 => ⟨S16384x1, .f32⟩
  | 12 => ⟨S_, .f32⟩
  | 13 => ⟨S16384x1, .f32⟩
  | 14 => ⟨S16384x1, .f32⟩
  | 15 => ⟨S_, .f32⟩
  | 16 => ⟨S16384x1, .f32⟩
  | 17 => ⟨S16384x1, .f32⟩
  | 18 => ⟨S16384x1, .f32⟩
  | 19 => ⟨S16384x1024, .f32⟩
  | 20 => ⟨S16384x1024, .f32⟩
  | 21 => ⟨S1x1024, .f32⟩
  | 22 => ⟨S16384x1024, .f32⟩
  | 23 => ⟨S16384x1024, .f32⟩
  | 24 => ⟨S16384x5536, .f32⟩
  | 25 => ⟨S16384x512, .f32⟩
  | 26 => ⟨S16384x512, .f32⟩
  | 27 => ⟨S16384x384, .f32⟩
  | 28 => ⟨S16384x256, .f32⟩
  | 29 => ⟨S16384x32, .f32⟩
  | 30 => ⟨S16384x512, .f32⟩
  | 31 => ⟨S16384x128, .f32⟩
  | 32 => ⟨S16384x128, .f32⟩
  | 33 => ⟨S16384x3072, .f32⟩
  | 34 => ⟨S8192, .i32⟩
  | 35 => ⟨S16384x512, .f32⟩
  | 36 => ⟨S16384x512, .f32⟩
  | 37 => ⟨S_, .f32⟩
  | 38 => ⟨S16384x512, .f32⟩
  | 39 => ⟨S16384x512, .f32⟩
  | 40 => ⟨S_, .f32⟩
  | 41 => ⟨S16384x512, .f32⟩
  | 42 => ⟨S16384x512, .f32⟩
  | 43 => ⟨S16384x512, .f32⟩
  | 44 => ⟨S16384x384, .f32⟩
  | 45 => ⟨S_, .f32⟩
  | 46 => ⟨S16384, .f32⟩
  | 47 => ⟨S16384x1, .f32⟩
  | 48 => ⟨S_, .f32⟩
  | 49 => ⟨S16384x1, .f32⟩
  | 50 => ⟨S16384x1, .f32⟩
  | 51 => ⟨S_, .f32⟩
  | 52 => ⟨S16384x1, .f32⟩
  | 53 => ⟨S16384x1, .f32⟩
  | 54 => ⟨S16384x1, .f32⟩
  | 55 => ⟨S16384x384, .f32⟩
  | 56 => ⟨S16384x384, .f32⟩
  | 57 => ⟨S1x384, .f32⟩
  | 58 => ⟨S16384x384, .f32⟩
  | 59 => ⟨S16384x384, .f32⟩
  | 60 => ⟨S16384x768, .f32⟩
  | 61 => ⟨S2x8192x8x96, .f32⟩
  | 62 => ⟨S2x8192x8x64, .f32⟩
  | 63 => ⟨S2x8192x8x32, .f32⟩
  | 64 => ⟨S16, .f32⟩
  | 65 => ⟨S16, .f32⟩
  | 66 => ⟨S_, .f32⟩
  | 67 => ⟨S16, .f32⟩
  | 68 => ⟨S16, .f32⟩
  | 69 => ⟨S_, .f32⟩
  | 70 => ⟨S16, .f32⟩
  | 71 => ⟨S16, .f32⟩
  | 72 => ⟨S8192, .f32⟩
  | 73 => ⟨S8192x1, .f32⟩
  | 74 => ⟨S1x16, .f32⟩
  | 75 => ⟨S8192x16, .f32⟩
  | 76 => ⟨S8192x16, .f32⟩
  | 77 => ⟨S8192x16, .f32⟩
  | 78 => ⟨S8192x1x16, .f32⟩
  | 79 => ⟨S8192x1x16, .f32⟩
  | 80 => ⟨S8192x1x16, .f32⟩
  | 81 => ⟨S2x8192x8x16, .f32⟩
  | 82 => ⟨S2x8192x8x16, .f32⟩
  | 83 => ⟨S1x8192x1x16, .f32⟩
  | 84 => ⟨S2x8192x8x16, .f32⟩
  | 85 => ⟨S2x8192x8x16, .f32⟩
  | 86 => ⟨S1x8192x1x16, .f32⟩
  | 87 => ⟨S2x8192x8x16, .f32⟩
  | 88 => ⟨S2x8192x8x16, .f32⟩
  | 89 => ⟨S2x8192x8x16, .f32⟩
  | 90 => ⟨S1x8192x1x16, .f32⟩
  | 91 => ⟨S2x8192x8x16, .f32⟩
  | 92 => ⟨S2x8192x8x16, .f32⟩
  | 93 => ⟨S1x8192x1x16, .f32⟩
  | 94 => ⟨S2x8192x8x16, .f32⟩
  | 95 => ⟨S2x8192x8x16, .f32⟩
  | 96 => ⟨S2x8192x8x16, .f32⟩
  | 97 => ⟨S2x8192x8x32, .f32⟩
  | 98 => ⟨S2x8192x8x96, .f32⟩
  | 99 => ⟨S_, .f32⟩
  | 100 => ⟨S2x8192x8x96, .f32⟩
  | 101 => ⟨S2x8192x8x96, .f32⟩
  | 102 => ⟨S16384x256, .f32⟩
  | 103 => ⟨S_, .f32⟩
  | 104 => ⟨S16384, .f32⟩
  | 105 => ⟨S16384x1, .f32⟩
  | 106 => ⟨S_, .f32⟩
  | 107 => ⟨S16384x1, .f32⟩
  | 108 => ⟨S16384x1, .f32⟩
  | 109 => ⟨S_, .f32⟩
  | 110 => ⟨S16384x1, .f32⟩
  | 111 => ⟨S16384x1, .f32⟩
  | 112 => ⟨S16384x1, .f32⟩
  | 113 => ⟨S16384x256, .f32⟩
  | 114 => ⟨S16384x256, .f32⟩
  | 115 => ⟨S1x256, .f32⟩
  | 116 => ⟨S16384x256, .f32⟩
  | 117 => ⟨S16384x256, .f32⟩
  | 118 => ⟨S2x8192x32, .f32⟩
  | 119 => ⟨S16, .f32⟩
  | 120 => ⟨S16, .f32⟩
  | 121 => ⟨S_, .f32⟩
  | 122 => ⟨S16, .f32⟩
  | 123 => ⟨S16, .f32⟩
  | 124 => ⟨S_, .f32⟩
  | 125 => ⟨S16, .f32⟩
  | 126 => ⟨S16, .f32⟩
  | 127 => ⟨S8192, .f32⟩
  | _ => ⟨S16384x1024, .f32⟩

abbrev hbmTy0_1 (i : Nat) : BufTy := match i % 128 with
  | 0 => ⟨S8192x1, .f32⟩
  | 1 => ⟨S1x16, .f32⟩
  | 2 => ⟨S8192x16, .f32⟩
  | 3 => ⟨S8192x16, .f32⟩
  | 4 => ⟨S8192x16, .f32⟩
  | 5 => ⟨S8192x16, .f32⟩
  | 6 => ⟨S8192x16, .f32⟩
  | 7 => ⟨S2x8192x16, .f32⟩
  | 8 => ⟨S2x8192x16, .f32⟩
  | 9 => ⟨S1x8192x16, .f32⟩
  | 10 => ⟨S2x8192x16, .f32⟩
  | 11 => ⟨S2x8192x16, .f32⟩
  | 12 => ⟨S1x8192x16, .f32⟩
  | 13 => ⟨S2x8192x16, .f32⟩
  | 14 => ⟨S2x8192x16, .f32⟩
  | 15 => ⟨S2x8192x16, .f32⟩
  | 16 => ⟨S1x8192x16, .f32⟩
  | 17 => ⟨S2x8192x16, .f32⟩
  | 18 => ⟨S2x8192x16, .f32⟩
  | 19 => ⟨S1x8192x16, .f32⟩
  | 20 => ⟨S2x8192x16, .f32⟩
  | 21 => ⟨S2x8192x16, .f32⟩
  | 22 => ⟨S2x8192x16, .f32⟩
  | 23 => ⟨S2x8192x32, .f32⟩
  | 24 => ⟨S2x8192x256, .f32⟩
  | 25 => ⟨S2x8192x8x64, .f32⟩
  | 26 => ⟨S16384x8x64, .f32⟩
  | 27 => ⟨S2x8192x1x32, .f32⟩
  | 28 => ⟨S2x8192x8x32, .f32⟩
  | 29 => ⟨S2x8192x8x96, .f32⟩
  | 30 => ⟨S_, .f32⟩
  | 31 => ⟨S2x8192x8x32, .f32⟩
  | 32 => ⟨S2x8192x8x128, .f32⟩
  | 33 => ⟨S2x8192x8x128, .f32⟩
  | 34 => ⟨S_, .f32⟩
  | 35 => ⟨S16384x512, .f32⟩
  | 36 => ⟨S16384x512, .f32⟩
  | 37 => ⟨S16384x2x4x64, .f32⟩
  | 38 => ⟨S_, .f32⟩
  | 39 => ⟨S16384x4x64, .f32⟩
  | 40 => ⟨S16384x1x4x64, .f32⟩
  | 41 => ⟨S16384x4x64, .f32⟩
  | 42 => ⟨S16384x4x128, .f32⟩
  | 43 => ⟨S16384x1x4x64, .f32⟩
  | 44 => ⟨S16384x4x64, .f32⟩
  | 45 => ⟨S16384x4x128, .f32⟩
  | 46 => ⟨S16384x1x4x128, .f32⟩
  | 47 => ⟨S16384x1x4x128, .f32⟩
  | 48 => ⟨S16384x2x4x128, .f32⟩
  | 49 => ⟨S16384x3072, .f32⟩
  | 50 => ⟨S16384x3072, .f32⟩
  | 51 => ⟨S_, .f32⟩
  | 52 => ⟨S16384x3072, .f32⟩
  | 53 => ⟨S16384x3072, .f32⟩
  | 54 => ⟨S_, .f32⟩
  | 55 => ⟨S16384x3072, .f32⟩
  | 56 => ⟨S16384x3072, .f32⟩
  | 57 => ⟨S16384x1024, .f32⟩
  | 58 => ⟨S16384x1024, .bf16⟩
  | 59 => ⟨S16384x32, .f32⟩
  | 60 => ⟨S16384x1024, .f32⟩
  | 61 => ⟨S16384x1024, .bf16⟩
  | 62 => ⟨S16384x512, .f32⟩
  | 63 => ⟨S16384x512, .bf16⟩
  | 64 => ⟨S16384x1024, .f32⟩
  | 65 => ⟨S16384x1024, .bf16⟩
  | 66 => ⟨S16384x128, .bf16⟩
  | 67 => ⟨S16384x128, .bf16⟩
  | 68 => ⟨S16384x3072, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_7 : Ref sig .tc := ⟨.hbm, 66, rfl⟩
abbrev main_v50 : Ref sig .tc := ⟨.hbm, 67, rfl⟩
abbrev main_v51 : Ref sig .tc := ⟨.hbm, 68, rfl⟩
abbrev main_cst_8 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_cst_9 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_cst_10 : Ref sig .tc := ⟨.hbm, 103, rfl⟩
abbrev main_v84 : Ref sig .tc := ⟨.hbm, 104, rfl⟩
abbrev main_v85 : Ref sig .tc := ⟨.hbm, 105, rfl⟩
abbrev main_cst_11 : Ref sig .tc := ⟨.hbm, 106, rfl⟩
abbrev main_v86 : Ref sig .tc := ⟨.hbm, 107, rfl⟩
abbrev main_v87 : Ref sig .tc := ⟨.hbm, 108, rfl⟩
abbrev main_cst_12 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_cst_13 : Ref sig .tc := ⟨.hbm, 121, rfl⟩
abbrev main_v99 : Ref sig .tc := ⟨.hbm, 122, rfl⟩
abbrev main_v100 : Ref sig .tc := ⟨.hbm, 123, rfl⟩
abbrev main_cst_14 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_cst_15 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_cst_16 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_cst_17 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_v150 : Ref sig .tc := ⟨.hbm, 177, rfl⟩
abbrev main_v151 : Ref sig .tc := ⟨.hbm, 178, rfl⟩
abbrev main_cst_18 : Ref sig .tc := ⟨.hbm, 179, rfl⟩
abbrev main_v152 : Ref sig .tc := ⟨.hbm, 180, rfl⟩
abbrev main_v153 : Ref sig .tc := ⟨.hbm, 181, rfl⟩
abbrev main_cst_19 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩

abbrev nD : Nat := 1
abbrev τ : Topo := Topo.v7x

variable {F : FTy → Type} [FloatOps F]
-- ==== Kernel7.lean ====
abbrev S128x1024 : Shape := ⟨2, ![128, 1024]⟩
abbrev S1024 : Shape := ⟨1, ![1024]⟩
abbrev S1024x5536 : Shape := ⟨2, ![1024, 5536]⟩
abbrev S384 : Shape := ⟨1, ![384]⟩
abbrev S384x768 : Shape := ⟨2, ![384, 768]⟩
abbrev S256 : Shape := ⟨1, ![256]⟩
abbrev S256x8x64 : Shape := ⟨3, ![256, 8, 64]⟩
abbrev S1x1024x5536 : Shape := ⟨3, ![1, 1024, 5536]⟩
abbrev S_ : Shape := ⟨0, ![]⟩
abbrev S1x1024x64 : Shape := ⟨3, ![1, 1024, 64]⟩
abbrev S1x1024x32 : Shape := ⟨3, ![1, 1024, 32]⟩
abbrev S1x1024x128 : Shape := ⟨3, ![1, 1024, 128]⟩
abbrev S1x1024x1024 : Shape := ⟨3, ![1, 1024, 1024]⟩
abbrev S1x1024x384 : Shape := ⟨3, ![1, 1024, 384]⟩
abbrev S1x1024x256 : Shape := ⟨3, ![1, 1024, 256]⟩
abbrev S1x1024x512 : Shape := ⟨3, ![1, 1024, 512]⟩
abbrev S1x1024x3072 : Shape := ⟨3, ![1, 1024, 3072]⟩
abbrev S1x1024x5632 : Shape := ⟨3, ![1, 1024, 5632]⟩
abbrev S1024x5632 : Shape := ⟨2, ![1024, 5632]⟩
abbrev S384x8x96 : Shape := ⟨3, ![384, 8, 96]⟩
abbrev S384x8x128 : Shape := ⟨3, ![384, 8, 128]⟩
abbrev S384x1024 : Shape := ⟨2, ![384, 1024]⟩
abbrev S256x8x128 : Shape := ⟨3, ![256, 8, 128]⟩
abbrev S256x1024 : Shape := ⟨2, ![256, 1024]⟩
abbrev S256x512 : Shape := ⟨2, ![256, 512]⟩
abbrev S256x1536 : Shape := ⟨2, ![256, 1536]⟩
abbrev S1x1024 : Shape := ⟨2, ![1, 1024]⟩
abbrev S1x384 : Shape := ⟨2, ![1, 384]⟩
abbrev S1x256 : Shape := ⟨2, ![1, 256]⟩
abbrev S128 : Shape := ⟨1, ![128]⟩
abbrev S16 : Shape := ⟨1, ![16]⟩
abbrev S128x1 : Shape := ⟨2, ![128, 1]⟩
abbrev S1x16 : Shape := ⟨2, ![1, 16]⟩
abbrev S128x16 : Shape := ⟨2, ![128, 16]⟩
abbrev S128x64 : Shape := ⟨2, ![128, 64]⟩
abbrev S128x32 : Shape := ⟨2, ![128, 32]⟩
abbrev S128x128 : Shape := ⟨2, ![128, 128]⟩
abbrev S1x128x128 : Shape := ⟨3, ![1, 128, 128]⟩
abbrev S3x128x128 : Shape := ⟨3, ![3, 128, 128]⟩
abbrev S128x512 : Shape := ⟨2, ![128, 512]⟩
abbrev S128x256 : Shape := ⟨2, ![128, 256]⟩
abbrev S128x3072 : Shape := ⟨2, ![128, 3072]⟩
abbrev S1024x1024 : Shape := ⟨2, ![1024, 1024]⟩
abbrev S1024x384 : Shape := ⟨2, ![1024, 384]⟩
abbrev S128x384 : Shape := ⟨2, ![128, 384]⟩
abbrev S1024x256 : Shape := ⟨2, ![1024, 256]⟩
abbrev S128x1536 : Shape := ⟨2, ![128, 1536]⟩
abbrev S1024x128 : Shape := ⟨2, ![1024, 128]⟩
abbrev S1024x512 : Shape := ⟨2, ![1024, 512]⟩
abbrev S1024x3072 : Shape := ⟨2, ![1024, 3072]⟩

abbrev nBuf : Space → Nat
  | .hbm => 95
  | .vmem => 20
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x5536, .f32⟩
  | .hbm, ⟨3, _⟩ => ⟨S384, .f32⟩
  | .hbm, ⟨4, _⟩ => ⟨S384x768, .f32⟩
  | .hbm, ⟨5, _⟩ => ⟨S256, .f32⟩
  | .hbm, ⟨6, _⟩ => ⟨S256x8x64, .f32⟩
  | .hbm, ⟨7, _⟩ => ⟨S256x8x64, .f32⟩
  | .hbm, ⟨8, _⟩ => ⟨S1x1024x5536, .f32⟩
  | .hbm, ⟨9, _⟩ => ⟨S_, .f32⟩
  | .hbm, ⟨10, _⟩ => ⟨S1x1024x64, .f32⟩
  | .hbm, ⟨11, _⟩ => ⟨S1x1024x32, .f32⟩
  | .hbm, ⟨12, _⟩ => ⟨S_, .f32⟩
  | .hbm, ⟨13, _⟩ => ⟨S1x1024x32, .f32⟩
  | .hbm, ⟨14, _⟩ => ⟨S1x1024x128, .f32⟩
  | .hbm, ⟨15, _⟩ => ⟨S1x1024x1024, .f32⟩
  | .hbm, ⟨16, _⟩ => ⟨S1x1024x384, .f32⟩
  | .hbm, ⟨17, _⟩ => ⟨S1x1024x256, .f32⟩
  | .hbm, ⟨18, _⟩ => ⟨S1x1024x512, .f32⟩
  | .hbm, ⟨19, _⟩ => ⟨S1x1024x128, .f32⟩
  | .hbm, ⟨20, _⟩ => ⟨S1x1024x128, .f32⟩
  | .hbm, ⟨21, _⟩ => ⟨S1x1024x3072, .f32⟩
  | .hbm, ⟨22, _⟩ => ⟨S1x1024x5632, .f32⟩
  | .hbm, ⟨23, _⟩ => ⟨S1024x5632, .f32⟩
  | .hbm, ⟨24, _⟩ => ⟨S1024x5632, .bf16⟩
  | .hbm, ⟨25, _⟩ => ⟨S384x8x96, .f32⟩
  | .hbm, ⟨26, _⟩ => ⟨S_, .i32⟩
  | .hbm, ⟨27, _⟩ => ⟨S_, .f32⟩
  | .hbm, ⟨28, _⟩ => ⟨S384x8x128, .f32⟩
  | .hbm, ⟨29, _⟩ => ⟨S384x1024, .f32⟩
  | .hbm, ⟨30, _⟩ => ⟨S384x1024, .bf16⟩
  | .hbm, ⟨31, _⟩ => ⟨S_, .i32⟩
  | .hbm, ⟨32, _⟩ => ⟨S_, .f32⟩
  | .hbm, ⟨33, _⟩ => ⟨S256x8x128, .f32⟩
  | .hbm, ⟨34, _⟩ => ⟨S256x1024, .f32⟩
  | .hbm, ⟨35, _⟩ => ⟨S256x512, .f32⟩
  | .hbm, ⟨36, _⟩ => ⟨S256x1536, .f32⟩
  | .hbm, ⟨37, _⟩ => ⟨S256x1536, .bf16⟩
  | .hbm, ⟨38, _⟩ => ⟨S1x1024, .f32⟩
  | .hbm, ⟨39, _⟩ => ⟨S1x384, .f32⟩
  | .hbm, ⟨40, _⟩ => ⟨S1x256, .f32⟩
  | .hbm, ⟨41, _⟩ => ⟨S_, .i32⟩
  | .hbm, ⟨42, _⟩ => ⟨S128, .i32⟩
  | .hbm, ⟨43, _⟩ => ⟨S16, .f32⟩
  | .hbm, ⟨44, _⟩ => ⟨S16, .f32⟩
  | .hbm, ⟨45, _⟩ => ⟨S_, .f32⟩
  | .hbm, ⟨46, _⟩ => ⟨S16, .f32⟩
  | .hbm, ⟨47, _⟩ => ⟨S16, .f32⟩
  | .hbm, ⟨48, _⟩ => ⟨S_, .f32⟩
  | .hbm, ⟨49, _⟩ => ⟨S16, .f32⟩
  | .hbm, ⟨50, _⟩ => ⟨S16, .f32⟩
  | .hbm, ⟨51, _⟩ => ⟨S128, .f32⟩
  | .hbm, ⟨52, _⟩ => ⟨S128x1, .f32⟩
  | .hbm, ⟨53, _⟩ => ⟨S1x16, .f32⟩
  | .hbm, ⟨54, _⟩ => ⟨S128x16, .f32⟩
  | .hbm, ⟨55, _⟩ => ⟨S128x16, .f32⟩
  | .hbm, ⟨56, _⟩ => ⟨S128x16, .f32⟩
  | .hbm, ⟨57, _⟩ => ⟨S128x16, .f32⟩
  | .hbm, ⟨58, _⟩ => ⟨S128x16, .f32⟩
  | .hbm, ⟨59, _⟩ => ⟨S_, .f32⟩
  | .hbm, ⟨60, _⟩ => ⟨S128x64, .f32⟩
  | .hbm, ⟨61, _⟩ => ⟨S_, .f32⟩
  | .hbm, ⟨62, _⟩ => ⟨S128x32, .f32⟩
  | .hbm, ⟨63, _⟩ => ⟨S128x128, .f32⟩
  | .hbm, ⟨64, _⟩ => ⟨S_, .f32⟩
  | .hbm, ⟨65, _⟩ => ⟨S128x64, .f32⟩
  | .hbm, ⟨66, _⟩ => ⟨S_, .f32⟩
  | .hbm, ⟨67, _⟩ => ⟨S128x16, .f32⟩
  | .hbm, ⟨68, _⟩ => ⟨S_, .f32⟩
  | .hbm, ⟨69, _⟩ => ⟨S128x32, .f32⟩
  | .hbm, ⟨70, _⟩ => ⟨S128x128, .f32⟩
  | .hbm, ⟨71, _⟩ => ⟨S_, .f32⟩
  | .hbm, ⟨72, _⟩ => ⟨S128x64, .f32⟩
  | .hbm, ⟨73, _⟩ => ⟨S128x16, .f32⟩
  | .hbm, ⟨74, _⟩ => ⟨S_, .f32⟩
  | .hbm, ⟨75, _⟩ => ⟨S128x16, .f32⟩
  | .hbm, ⟨76, _⟩ => ⟨S_, .f32⟩
  | .hbm, ⟨77, _⟩ => ⟨S128x32, .f32⟩
  | .hbm, ⟨78, _⟩ => ⟨S128x128, .f32⟩
  | .hbm, ⟨79, _⟩ => ⟨S1x128x128, .f32⟩
  | .hbm, ⟨80, _⟩ => ⟨S1x128x128, .f32⟩
  | .hbm, ⟨81, _⟩ => ⟨S1x128x128, .f32⟩
  | .hbm, ⟨82, _⟩ => ⟨S3x128x128, .f32⟩
  | .hbm, ⟨83, _⟩ => ⟨S128x512, .f32⟩
  | .hbm, ⟨84, _⟩ => ⟨S128x1024, .bf16⟩
  | .hbm, ⟨85, _⟩ => ⟨S128x256, .f32⟩
  | .hbm, ⟨86, _⟩ => ⟨S128x32, .f32⟩
  | .hbm, ⟨87, _⟩ => ⟨S128x1024, .bf16⟩
  | .hbm, ⟨88, _⟩ => ⟨S128x512, .bf16⟩
  | .hbm, ⟨89, _⟩ => ⟨S128x1024, .bf16⟩
  | .hbm, ⟨90, _⟩ => ⟨S128x128, .f32⟩
  | .hbm, ⟨91, _⟩ => ⟨S128x128, .f32⟩
  | .hbm, ⟨92, _⟩ => ⟨S128x128, .bf16⟩
  | .hbm, ⟨93, _⟩ => ⟨S128x128, .bf16⟩
  | .hbm, ⟨94, _⟩ => ⟨S128x3072, .f32⟩
  | .local _ .vmem, ⟨0, _⟩ => ⟨S128x1024, .f32⟩
  | .local _ .vmem, ⟨1, _⟩ => ⟨S1x1024, .f32⟩
  | .local _ .vmem, ⟨2, _⟩ => ⟨S1024x5632, .bf16⟩
  | .local _ .vmem, ⟨3, _⟩ => ⟨S1x384, .f32⟩
  | .local _ .vmem, ⟨4, _⟩ => ⟨S384x1024, .bf16⟩
  | .local _ .vmem, ⟨5, _⟩ => ⟨S1x256, .f32⟩
  | .local _ .vmem, ⟨6, _⟩ => ⟨S256x1536, .bf16⟩
  | .local _ .vmem, ⟨7, _⟩ => ⟨S3x128x128, .f32⟩
  | .local _ .vmem, ⟨8, _⟩ => ⟨S128x512, .f32⟩
  | .local _ .vmem, ⟨9, _⟩ => ⟨S128x1024, .bf16⟩
  | .local _ .vmem, ⟨10, _⟩ => ⟨S128x256, .f32⟩
  | .local _ .vmem, ⟨11, _⟩ => ⟨S128x32, .f32⟩
  | .local _ .vmem, ⟨12, _⟩ => ⟨S128x1024, .bf16⟩
  | .local _ .vmem, ⟨13, _⟩ => ⟨S128x512, .bf16⟩
  | .local _ .vmem, ⟨14, _⟩ => ⟨S128x1024, .bf16⟩
  | .local _ .vmem, ⟨15, _⟩ => ⟨S128x128, .f32⟩
  | .local _ .vmem, ⟨16, _⟩ => ⟨S128x128, .f32⟩
  | .local _ .vmem, ⟨17, _⟩ => ⟨S128x128, .bf16⟩
  | .local _ .vmem, ⟨18, _⟩ => ⟨S128x128, .bf16⟩
  | .local _ .vmem, ⟨19, _⟩ => ⟨S128x3072, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_call0_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_1 : Ref sig .tc := ⟨.hbm, 31, rfl⟩
abbrev main_call1_v0 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_2 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_v31 : Ref sig .tc := ⟨.hbm, 47, rfl⟩
abbrev main_cst_4 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_5 : Ref sig .tc := ⟨.hbm, 59, rfl⟩
abbrev main_v42 : Ref sig .tc := ⟨.hbm, 60, rfl⟩
abbrev main_cst_6 : Ref sig .tc := ⟨.hbm, 61, rfl⟩
abbrev main_v43 : Ref sig .tc := ⟨.hbm, 62, rfl⟩
abbrev main_v44 : Ref sig .tc := ⟨.hbm, 63, rfl⟩
abbrev main_cst_7 : Ref sig .tc := ⟨.hbm, 64, rfl⟩
abbrev main_v45 : Ref sig .tc := ⟨.hbm, 65, rfl⟩
abbrev main_cst_8 : Ref sig .tc := ⟨.hbm, 66, rfl⟩
abbrev main_v46 : Ref sig .tc := ⟨.hbm, 67, rfl⟩
abbrev main_cst_9 : Ref sig .tc := ⟨.hbm, 68, rfl⟩
abbrev main_v47 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_cst_11 : Ref sig .tc := ⟨.hbm, 74, rfl⟩
abbrev main_v51 : Ref sig .tc := ⟨.hbm, 75, rfl⟩
abbrev main_cst_12 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58_0 : Ref sig .tc := ⟨.hbm, 83, rfl⟩
abbrev main_v58_1 : Ref sig .tc := ⟨.hbm, 84, rfl⟩
abbrev main_v58_2 : Ref sig .tc := ⟨.hbm, 85, rfl⟩
abbrev main_v58_3 : Ref sig .tc := ⟨.hbm, 86, rfl⟩
abbrev main_v58_4 : Ref sig .tc := ⟨.hbm, 87, rfl⟩
abbrev main_v58_5 : Ref sig .tc := ⟨.hbm, 88, rfl⟩
abbrev main_v58_6 : Ref sig .tc := ⟨.hbm, 89, rfl⟩
abbrev main_v58_7 : Ref sig .tc := ⟨.hbm, 90, rfl⟩
abbrev main_v58_8 : Ref sig .tc := ⟨.hbm, 91, rfl⟩
abbrev main_v58_9 : Ref sig .tc := ⟨.hbm, 92, rfl⟩
abbrev main_v58_10 : Ref sig .tc := ⟨.hbm, 93, rfl⟩
abbrev main_v58_11 : Ref sig .tc := ⟨.hbm, 94, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S128x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S128x128 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S128x128 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]

abbrev stage0_19 : Fin 1 → Memref sig .tc .vmem S128x3072 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true]
-- ==== Reference7Ideal.lean ====
abbrev S128x1024 : Shape := ⟨2, ![128, 1024]⟩
abbrev S1024 : Shape := ⟨1, ![1024]⟩
abbrev S1024x5536 : Shape := ⟨2, ![1024, 5536]⟩
abbrev S384 : Shape := ⟨1, ![384]⟩
abbrev S384x768 : Shape := ⟨2, ![384, 768]⟩
abbrev S256 : Shape := ⟨1, ![256]⟩
abbrev S256x8x64 : Shape := ⟨3, ![256, 8, 64]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x5536 : Shape := ⟨2, ![128, 5536]⟩
abbrev S128x512 : Shape := ⟨2, ![128, 512]⟩
abbrev S128x384 : Shape := ⟨2, ![128, 384]⟩
abbrev S128x256 : Shape := ⟨2, ![128, 256]⟩
abbrev S128x32 : Shape := ⟨2, ![128, 32]⟩
abbrev S128x128 : Shape := ⟨2, ![128, 128]⟩
abbrev S128x3072 : Shape := ⟨2, ![128, 3072]⟩
abbrev S1 : Shape := ⟨1, ![1]⟩
abbrev S1x384 : Shape := ⟨2, ![1, 384]⟩
abbrev S128x768 : Shape := ⟨2, ![128, 768]⟩
abbrev S128x1x8x96 : Shape := ⟨4, ![128, 1, 8, 96]⟩
abbrev S128x1x8x64 : Shape := ⟨4, ![128, 1, 8, 64]⟩
abbrev S128x1x8x32 : Shape := ⟨4, ![128, 1, 8, 32]⟩
abbrev S16 : Shape := ⟨1, ![16]⟩
abbrev S1x1 : Shape := ⟨2, ![1, 1]⟩
abbrev S1x16 : Shape := ⟨2, ![1, 16]⟩
abbrev S1x1x16 : Shape := ⟨3, ![1, 1, 16]⟩
abbrev S128x1x8x16 : Shape := ⟨4, ![128, 1, 8, 16]⟩
abbrev S1x1x1x16 : Shape := ⟨4, ![1, 1, 1, 16]⟩
abbrev S1x256 : Shape := ⟨2, ![1, 256]⟩
abbrev S128x1x32 : Shape := ⟨3, ![128, 1, 32]⟩
abbrev S128x1x16 : Shape := ⟨3, ![128, 1, 16]⟩
abbrev S128x1x256 : Shape := ⟨3, ![128, 1, 256]⟩
abbrev S128x8x64 : Shape := ⟨3, ![128, 8, 64]⟩
abbrev S128x1x1x32 : Shape := ⟨4, ![128, 1, 1, 32]⟩
abbrev S128x1x8x128 : Shape := ⟨4, ![128, 1, 8, 128]⟩
abbrev S128x2x4x64 : Shape := ⟨4, ![128, 2, 4, 64]⟩
abbrev S128x4x64 : Shape := ⟨3, ![128, 4, 64]⟩
abbrev S128x1x4x64 : Shape := ⟨4, ![128, 1, 4, 64]⟩
abbrev S128x4x128 : Shape := ⟨3, ![128, 4, 128]⟩
abbrev S128x1x4x128 : Shape := ⟨4, ![128, 1, 4, 128]⟩
abbrev S128x2x4x128 : Shape := ⟨4, ![128, 2, 4, 128]⟩

abbrev nBuf : Space → Nat
  | .hbm => 194
  | .vmem => 0
  | .smem => 0
  | _ => 0

abbrev hbmTy0_0 (i : Nat) : BufTy := match i % 128 with
  | 0 => ⟨S128x1024, .f32⟩
  | 1 => ⟨S1024, .f32⟩
  | 2 => ⟨S1024x5536, .f32⟩
  | 3 => ⟨S384, .f32⟩
  | 4 => ⟨S384x768, .f32⟩
  | 5 => ⟨S256, .f32⟩
  | 6 => ⟨S256x8x64, .f32⟩
  | 7 => ⟨S256x8x64, .f32⟩
  | 8 => ⟨S128x1024, .f32⟩
  | 9 => ⟨S_, .f32⟩
  | 10 => ⟨S128, .f32⟩
  | 11 => ⟨S128x1, .f32⟩
  | 12 => ⟨S_, .f32⟩
  | 13 => ⟨S128x1, .f32⟩
  | 14 => ⟨S128x1, .f32⟩
  | 15 => ⟨S_, .f32⟩
  | 16 => ⟨S128x1, .f32⟩
  | 17 => ⟨S128x1, .f32⟩
  | 18 => ⟨S128x1, .f32⟩
  | 19 => ⟨S128x1024, .f32⟩
  | 20 => ⟨S128x1024, .f32⟩
  | 21 => ⟨S1x1024, .f32⟩
  | 22 => ⟨S128x1024, .f32⟩
  | 23 => ⟨S128x1024, .f32⟩
  | 24 => ⟨S128x5536, .f32⟩
  | 25 => ⟨S128x512, .f32⟩
  | 26 => ⟨S128x512, .f32⟩
  | 27 => ⟨S128x384, .f32⟩
  | 28 => ⟨S128x256, .f32⟩
  | 29 => ⟨S128x32, .f32⟩
  | 30 => ⟨S128x512, .f32⟩
  | 31 => ⟨S128x128, .f32⟩
  | 32 => ⟨S128x128, .f32⟩
  | 33 => ⟨S128x3072, .f32⟩
  | 34 => ⟨S1, .i32⟩
  | 35 => ⟨S_, .i32⟩
  | 36 => ⟨S1, .i32⟩
  | 37 => ⟨S1, .i32⟩
  | 38 => ⟨S128x512, .f32⟩
  | 39 => ⟨S128x512, .f32⟩
  | 40 => ⟨S_, .f32⟩
  | 41 => ⟨S128x512, .f32⟩
  | 42 => ⟨S128x512, .f32⟩
  | 43 => ⟨S_, .f32⟩
  | 44 => ⟨S128x512, .f32⟩
  | 45 => ⟨S128x512, .f32⟩
  | 46 => ⟨S128x512, .f32⟩
  | 47 => ⟨S128x384, .f32⟩
  | 48 => ⟨S_, .f32⟩
  | 49 => ⟨S128, .f32⟩
  | 50 => ⟨S128x1, .f32⟩
  | 51 => ⟨S_, .f32⟩
  | 52 => ⟨S128x1, .f32⟩
  | 53 => ⟨S128x1, .f32⟩
  | 54 => ⟨S_, .f32⟩
  | 55 => ⟨S128x1, .f32⟩
  | 56 => ⟨S128x1, .f32⟩
  | 57 => ⟨S128x1, .f32⟩
  | 58 => ⟨S128x384, .f32⟩
  | 59 => ⟨S128x384, .f32⟩
  | 60 => ⟨S1x384, .f32⟩
  | 61 => ⟨S128x384, .f32⟩
  | 62 => ⟨S128x384, .f32⟩
  | 63 => ⟨S128x768, .f32⟩
  | 64 => ⟨S128x1x8x96, .f32⟩
  | 65 => ⟨S128x1x8x64, .f32⟩
  | 66 => ⟨S128x1x8x32, .f32⟩
  | 67 => ⟨S16, .f32⟩
  | 68 => ⟨S16, .f32⟩
  | 69 => ⟨S_, .f32⟩
  | 70 => ⟨S16, .f32⟩
  | 71 => ⟨S16, .f32⟩
  | 72 => ⟨S_, .f32⟩
  | 73 => ⟨S16, .f32⟩
  | 74 => ⟨S16, .f32⟩
  | 75 => ⟨S1, .f32⟩
  | 76 => ⟨S1x1, .f32⟩
  | 77 => ⟨S1x16, .f32⟩
  | 78 => ⟨S1x16, .f32⟩
  | 79 => ⟨S1x16, .f32⟩
  | 80 => ⟨S1x1x16, .f32⟩
  | 81 => ⟨S1x1x16, .f32⟩
  | 82 => ⟨S1x1x16, .f32⟩
  | 83 => ⟨S128x1x8x16, .f32⟩
  | 84 => ⟨S128x1x8x16, .f32⟩
  | 85 => ⟨S1x1x1x16, .f32⟩
  | 86 => ⟨S128x1x8x16, .f32⟩
  | 87 => ⟨S128x1x8x16, .f32⟩
  | 88 => ⟨S1x1x1x16, .f32⟩
  | 89 => ⟨S128x1x8x16, .f32⟩
  | 90 => ⟨S128x1x8x16, .f32⟩
  | 91 => ⟨S128x1x8x16, .f32⟩
  | 92 => ⟨S1x1x1x16, .f32⟩
  | 93 => ⟨S128x1x8x16, .f32⟩
  | 94 => ⟨S128x1x8x16, .f32⟩
  | 95 => ⟨S1x1x1x16, .f32⟩
  | 96 => ⟨S128x1x8x16, .f32⟩
  | 97 => ⟨S128x1x8x16, .f32⟩
  | 98 => ⟨S128x1x8x16, .f32⟩
  | 99 => ⟨S128x1x8x32, .f32⟩
  | 100 => ⟨S128x1x8x96, .f32⟩
  | 101 => ⟨S128x256, .f32⟩
  | 102 => ⟨S_, .f32⟩
  | 103 => ⟨S128, .f32⟩
  | 104 => ⟨S128x1, .f32⟩
  | 105 => ⟨S_, .f32⟩
  | 106 => ⟨S128x1, .f32⟩
  | 107 => ⟨S128x1, .f32⟩
  | 108 => ⟨S_, .f32⟩
  | 109 => ⟨S128x1, .f32⟩
  | 110 => ⟨S128x1, .f32⟩
  | 111 => ⟨S128x1, .f32⟩
  | 112 => ⟨S128x256, .f32⟩
  | 113 => ⟨S128x256, .f32⟩
  | 114 => ⟨S1x256, .f32⟩
  | 115 => ⟨S128x256, .f32⟩
  | 116 => ⟨S128x256, .f32⟩
  | 117 => ⟨S128x1x32, .f32⟩
  | 118 => ⟨S16, .f32⟩
  | 119 => ⟨S16, .f32⟩
  | 120 => ⟨S_, .f32⟩
  | 121 => ⟨S16, .f32⟩
  | 122 => ⟨S16, .f32⟩
  | 123 => ⟨S_, .f32⟩
  | 124 => ⟨S16, .f32⟩
  | 125 => ⟨S16, .f32⟩
  | 126 => ⟨S1, .f32⟩
  | 127 => ⟨S1x1, .f32⟩
  | _ => ⟨S128x1024, .f32⟩

abbrev hbmTy0_1 (i : Nat) : BufTy := match i % 128 with
  | 0 => ⟨S1x16, .f32⟩
  | 1 => ⟨S1x16, .f32⟩
  | 2 => ⟨S1x16, .f32⟩
  | 3 => ⟨S1x16, .f32⟩
  | 4 => ⟨S1x16, .f32⟩
  | 5 => ⟨S128x1x16, .f32⟩
  | 6 => ⟨S128x1x16, .f32⟩
  | 7 => ⟨S1x1x16, .f32⟩
  | 8 => ⟨S128x1x16, .f32⟩
  | 9 => ⟨S128x1x16, .f32⟩
  | 10 => ⟨S1x1x16, .f32⟩
  | 11 => ⟨S128x1x16, .f32⟩
  | 12 => ⟨S128x1x16, .f32⟩
  | 13 => ⟨S128x1x16, .f32⟩
  | 14 => ⟨S1x1x16, .f32⟩
  | 15 => ⟨S128x1x16, .f32⟩
  | 16 => ⟨S128x1x16, .f32⟩
  | 17 => ⟨S1x1x16, .f32⟩
  | 18 => ⟨S128x1x16, .f32⟩
  | 19 => ⟨S128x1x16, .f32⟩
  | 20 => ⟨S128x1x16, .f32⟩
  | 21 => ⟨S128x1x32, .f32⟩
  | 22 => ⟨S128x1x256, .f32⟩
  | 23 => ⟨S128x1x8x64, .f32⟩
  | 24 => ⟨S128x8x64, .f32⟩
  | 25 => ⟨S128x1x1x32, .f32⟩
  | 26 => ⟨S128x1x8x32, .f32⟩
  | 27 => ⟨S128x1x8x96, .f32⟩
  | 28 => ⟨S_, .f32⟩
  | 29 => ⟨S128x1x8x32, .f32⟩
  | 30 => ⟨S128x1x8x128, .f32⟩
  | 31 => ⟨S128x1x8x128, .f32⟩
  | 32 => ⟨S_, .f32⟩
  | 33 => ⟨S128x512, .f32⟩
  | 34 => ⟨S128x512, .f32⟩
  | 35 => ⟨S128x2x4x64, .f32⟩
  | 36 => ⟨S_, .f32⟩
  | 37 => ⟨S128x4x64, .f32⟩
  | 38 => ⟨S128x1x4x64, .f32⟩
  | 39 => ⟨S128x4x64, .f32⟩
  | 40 => ⟨S128x4x128, .f32⟩
  | 41 => ⟨S128x1x4x64, .f32⟩
  | 42 => ⟨S128x4x64, .f32⟩
  | 43 => ⟨S128x4x128, .f32⟩
  | 44 => ⟨S128x1x4x128, .f32⟩
  | 45 => ⟨S128x1x4x128, .f32⟩
  | 46 => ⟨S128x2x4x128, .f32⟩
  | 47 => ⟨S128x3072, .f32⟩
  | 48 => ⟨S128x3072, .f32⟩
  | 49 => ⟨S_, .f32⟩
  | 50 => ⟨S128x3072, .f32⟩
  | 51 => ⟨S128x3072, .f32⟩
  | 52 => ⟨S_, .f32⟩
  | 53 => ⟨S128x3072, .f32⟩
  | 54 => ⟨S128x3072, .f32⟩
  | 55 => ⟨S128x1024, .f32⟩
  | 56 => ⟨S128x1024, .bf16⟩
  | 57 => ⟨S128x32, .f32⟩
  | 58 => ⟨S128x1024, .f32⟩
  | 59 => ⟨S128x1024, .bf16⟩
  | 60 => ⟨S128x512, .f32⟩
  | 61 => ⟨S128x512, .bf16⟩
  | 62 => ⟨S128x1024, .f32⟩
  | 63 => ⟨S128x1024, .bf16⟩
  | 64 => ⟨S128x128, .bf16⟩
  | 65 => ⟨S128x128, .bf16⟩
  | _ => ⟨S128x1024, .f32⟩

abbrev hbmTy (i : Nat) : BufTy := match i / 128 with
  | 0 => hbmTy0_0 i
  | 1 => hbmTy0_1 i
  | _ => ⟨S128x1024, .f32⟩

abbrev bufTy : (tb : Table) → Fin (tcTables nBuf tb) → BufTy
  | .hbm, ⟨i, _⟩ => hbmTy i
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_7 : Ref sig .tc := ⟨.hbm, 69, rfl⟩
abbrev main_v52 : Ref sig .tc := ⟨.hbm, 70, rfl⟩
abbrev main_v53 : Ref sig .tc := ⟨.hbm, 71, rfl⟩
abbrev main_cst_8 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_cst_9 : Ref sig .tc := ⟨.hbm, 102, rfl⟩
abbrev main_v83 : Ref sig .tc := ⟨.hbm, 103, rfl⟩
abbrev main_v84 : Ref sig .tc := ⟨.hbm, 104, rfl⟩
abbrev main_cst_10 : Ref sig .tc := ⟨.hbm, 105, rfl⟩
abbrev main_v85 : Ref sig .tc := ⟨.hbm, 106, rfl⟩
abbrev main_v86 : Ref sig .tc := ⟨.hbm, 107, rfl⟩
abbrev main_cst_11 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_cst_12 : Ref sig .tc := ⟨.hbm, 120, rfl⟩
abbrev main_v98 : Ref sig .tc := ⟨.hbm, 121, rfl⟩
abbrev main_v99 : Ref sig .tc := ⟨.hbm, 122, rfl⟩
abbrev main_cst_13 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_cst_14 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_cst_15 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_cst_16 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_cst_17 : Ref sig .tc := ⟨.hbm, 177, rfl⟩
abbrev main_v150 : Ref sig .tc := ⟨.hbm, 178, rfl⟩
abbrev main_v151 : Ref sig .tc := ⟨.hbm, 179, rfl⟩
abbrev main_cst_18 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩

abbrev nD : Nat := 1
abbrev τ : Topo := Topo.v7x

variable {F : FTy → Type} [FloatOps F]
-- ==== Kernel8.lean ====
abbrev S128x1024 : Shape := ⟨2, ![128, 1024]⟩
abbrev S1024 : Shape := ⟨1, ![1024]⟩
abbrev S1x1024 : Shape := ⟨2, ![1, 1024]⟩
abbrev S128 : Shape := ⟨1, ![128]⟩
abbrev S128x1 : Shape := ⟨2, ![128, 1]⟩

abbrev nBuf : Space → Nat
  | .hbm => 4
  | .vmem => 3
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1x1024, .f32⟩
  | .hbm, ⟨3, _⟩ => ⟨S128x1024, .f32⟩
  | .local _ .vmem, ⟨0, _⟩ => ⟨S128x1024, .f32⟩
  | .local _ .vmem, ⟨1, _⟩ => ⟨S1x1024, .f32⟩
  | .local _ .vmem, ⟨2, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference8Ideal.lean ====
abbrev S128x1024 : Shape := ⟨2, ![128, 1024]⟩
abbrev S1024 : Shape := ⟨1, ![1024]⟩
abbrev S_ : Shape := ⟨0, ![]⟩
abbrev S128 : Shape := ⟨1, ![128]⟩
abbrev S128x1 : Shape := ⟨2, ![128, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S128x1024, .f32⟩
  | .hbm, ⟨3, _⟩ => ⟨S_, .f32⟩
  | .hbm, ⟨4, _⟩ => ⟨S128, .f32⟩
  | .hbm, ⟨5, _⟩ => ⟨S128x1, .f32⟩
  | .hbm, ⟨6, _⟩ => ⟨S_, .f32⟩
  | .hbm, ⟨7, _⟩ => ⟨S128x1, .f32⟩
  | .hbm, ⟨8, _⟩ => ⟨S128x1, .f32⟩
  | .hbm, ⟨9, _⟩ => ⟨S_, .f32⟩
  | .hbm, ⟨10, _⟩ => ⟨S128x1, .f32⟩
  | .hbm, ⟨11, _⟩ => ⟨S128x1, .f32⟩
  | .hbm, ⟨12, _⟩ => ⟨S128x1, .f32⟩
  | .hbm, ⟨13, _⟩ => ⟨S128x1024, .f32⟩
  | .hbm, ⟨14, _⟩ => ⟨S128x1024, .f32⟩
  | .hbm, ⟨15, _⟩ => ⟨S1x1024, .f32⟩
  | .hbm, ⟨16, _⟩ => ⟨S128x1024, .f32⟩
  | .hbm, ⟨17, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel9.lean ====
abbrev S16384x1024 : Shape := ⟨2, ![16384, 1024]⟩
abbrev S16384x512 : Shape := ⟨2, ![16384, 512]⟩
abbrev S16384x3072 : Shape := ⟨2, ![16384, 3072]⟩
abbrev S512x1024 : Shape := ⟨2, ![512, 1024]⟩
abbrev S1024x1024 : Shape := ⟨2, ![1024, 1024]⟩
abbrev S1x1024 : Shape := ⟨2, ![1, 1024]⟩
abbrev S1024x8 : Shape := ⟨2, ![1024, 8]⟩
abbrev S_ : Shape := ⟨0, ![]⟩
abbrev S1024x128 : Shape := ⟨2, ![1024, 128]⟩
abbrev S16384x128 : Shape := ⟨2, ![16384, 128]⟩
abbrev S256x1024 : Shape := ⟨2, ![256, 1024]⟩
abbrev S256x512 : Shape := ⟨2, ![256, 512]⟩
abbrev S256x3072 : Shape := ⟨2, ![256, 3072]⟩
abbrev S256x128 : Shape := ⟨2, ![256, 128]⟩
abbrev S256 : Shape := ⟨1, ![256]⟩
abbrev S256x1 : Shape := ⟨2, ![256, 1]⟩

abbrev nBuf : Space → Nat
  | .hbm => 18
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x3072, .bf16⟩
  | .hbm, ⟨5, _⟩ => ⟨S512x1024, .bf16⟩
  | .hbm, ⟨6, _⟩ => ⟨S512x1024, .bf16⟩
  | .hbm, ⟨7, _⟩ => ⟨S512x1024, .bf16⟩
  | .hbm, ⟨8, _⟩ => ⟨S1024x1024, .bf16⟩
  | .hbm, ⟨9, _⟩ => ⟨S1x1024, .f32⟩
  | .hbm, ⟨10, _⟩ => ⟨S1024x8, .f32⟩
  | .hbm, ⟨11, _⟩ => ⟨S_, .i32⟩
  | .hbm, ⟨12, _⟩ => ⟨S_, .f32⟩
  | .hbm, ⟨13, _⟩ => ⟨S1024x128, .f32⟩
  | .hbm, ⟨14, _⟩ => ⟨S1024x128, .bf16⟩
  | .hbm, ⟨15, _⟩ => ⟨S16384x1024, .f32⟩
  | .hbm, ⟨16, _⟩ => ⟨S16384x1024, .bf16⟩
  | .hbm, ⟨17, _⟩ => ⟨S16384x128, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x3072, .bf16⟩
  | .local _ .vmem, ⟨9, _⟩ => ⟨S256x3072, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S1x1024, .f32⟩
  | .local _ .vmem, ⟨15, _⟩ => ⟨S1024x128, .bf16⟩
  | .local _ .vmem, ⟨16, _⟩ => ⟨S256x1024, .f32⟩
  | .local _ .vmem, ⟨17, _⟩ => ⟨S256x1024, .f32⟩
  | .local _ .vmem, ⟨18, _⟩ => ⟨S256x1024, .bf16⟩
  | .local _ .vmem, ⟨19, _⟩ => ⟨S256x1024, .bf16⟩
  | .local _ .vmem, ⟨20, _⟩ => ⟨S256x128, .f32⟩
  | .local _ .vmem, ⟨21, _⟩ => ⟨S256x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_v1 : Ref sig .tc := ⟨.hbm, 14, rfl⟩
abbrev main_v2_0 : Ref sig .tc := ⟨.hbm, 15, rfl⟩
abbrev main_v2_1 : Ref sig .tc := ⟨.hbm, 16, rfl⟩
abbrev main_v2_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference9Ideal.lean ====
abbrev S16384x1024 : Shape := ⟨2, ![16384, 1024]⟩
abbrev S16384x512 : Shape := ⟨2, ![16384, 512]⟩
abbrev S16384x3072 : Shape := ⟨2, ![16384, 3072]⟩
abbrev S512x1024 : Shape := ⟨2, ![512, 1024]⟩
abbrev S1024x1024 : Shape := ⟨2, ![1024, 1024]⟩
abbrev S1x1024 : Shape := ⟨2, ![1, 1024]⟩
abbrev S1024x8 : Shape := ⟨2, ![1024, 8]⟩
abbrev S16384x3x1024 : Shape := ⟨3, ![16384, 3, 1024]⟩
abbrev S16384x1x1024 : Shape := ⟨3, ![16384, 1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S16384x8 : Shape := ⟨2, ![16384, 8]⟩
abbrev S16384x2 : Shape := ⟨2, ![16384, 2]⟩
abbrev S16384x2x1 : Shape := ⟨3, ![16384, 2, 1]⟩
abbrev S1x1x8 : Shape := ⟨3, ![1, 1, 8]⟩
abbrev S16384x2x8 : Shape := ⟨3, ![16384, 2, 8]⟩
abbrev S16384x128 : Shape := ⟨2, ![16384, 128]⟩

abbrev nBuf : Space → Nat
  | .hbm => 85
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x3072, .bf16⟩
  | .hbm, ⟨5, _⟩ => ⟨S512x1024, .bf16⟩
  | .hbm, ⟨6, _⟩ => ⟨S512x1024, .bf16⟩
  | .hbm, ⟨7, _⟩ => ⟨S512x1024, .bf16⟩
  | .hbm, ⟨8, _⟩ => ⟨S1024x1024, .bf16⟩
  | .hbm, ⟨9, _⟩ => ⟨S1x1024, .f32⟩
  | .hbm, ⟨10, _⟩ => ⟨S1024x8, .f32⟩
  | .hbm, ⟨11, _⟩ => ⟨S16384x3072, .f32⟩
  | .hbm, ⟨12, _⟩ => ⟨S16384x3x1024, .f32⟩
  | .hbm, ⟨13, _⟩ => ⟨S16384x1x1024, .f32⟩
  | .hbm, ⟨14, _⟩ => ⟨S16384x1024, .f32⟩
  | .hbm, ⟨15, _⟩ => ⟨S16384x512, .f32⟩
  | .hbm, ⟨16, _⟩ => ⟨S512x1024, .f32⟩
  | .hbm, ⟨17, _⟩ => ⟨S16384x1024, .f32⟩
  | .hbm, ⟨18, _⟩ => ⟨S16384x1024, .f32⟩
  | .hbm, ⟨19, _⟩ => ⟨S16384x1x1024, .f32⟩
  | .hbm, ⟨20, _⟩ => ⟨S16384x1024, .f32⟩
  | .hbm, ⟨21, _⟩ => ⟨S16384x512, .f32⟩
  | .hbm, ⟨22, _⟩ => ⟨S512x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1x1024, .f32⟩
  | .hbm, ⟨27, _⟩ => ⟨S16384x1024, .f32⟩
  | .hbm, ⟨28, _⟩ => ⟨S16384x512, .f32⟩
  | .hbm, ⟨29, _⟩ => ⟨S512x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S1024x1024, .f32⟩
  | .hbm, ⟨34, _⟩ => ⟨S16384x1024, .f32⟩
  | .hbm, ⟨35, _⟩ => ⟨S16384x1024, .f32⟩
  | .hbm, ⟨36, _⟩ => ⟨S1024, .f32⟩
  | .hbm, ⟨37, _⟩ => ⟨S16384x1024, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S16384x1, .f32⟩
  | .hbm, ⟨48, _⟩ => ⟨S16384x1024, .f32⟩
  | .hbm, ⟨49, _⟩ => ⟨S16384x1024, .f32⟩
  | .hbm, ⟨50, _⟩ => ⟨S1x1024, .f32⟩
  | .hbm, ⟨51, _⟩ => ⟨S16384x1024, .f32⟩
  | .hbm, ⟨52, _⟩ => ⟨S16384x1024, .f32⟩
  | .hbm, ⟨53, _⟩ => ⟨S16384x8, .f32⟩
  | .hbm, ⟨54, _⟩ => ⟨S16384x2, .f32⟩
  | .hbm, ⟨55, _⟩ => ⟨S16384x2, .i32⟩
  | .hbm, ⟨56, _⟩ => ⟨S_, .f32⟩
  | .hbm, ⟨57, _⟩ => ⟨S16384, .f32⟩
  | .hbm, ⟨58, _⟩ => ⟨S_, .f32⟩
  | .hbm, ⟨59, _⟩ => ⟨S16384, .f32⟩
  | .hbm, ⟨60, _⟩ => ⟨S16384, .f32⟩
  | .hbm, ⟨61, _⟩ => ⟨S16384x1, .f32⟩
  | .hbm, ⟨62, _⟩ => ⟨S16384x2, .f32⟩
  | .hbm, ⟨63, _⟩ => ⟨S16384x2, .f32⟩
  | .hbm, ⟨64, _⟩ => ⟨S16384x2, .f32⟩
  | .hbm, ⟨65, _⟩ => ⟨S_, .f32⟩
  | .hbm, ⟨66, _⟩ => ⟨S16384, .f32⟩
  | .hbm, ⟨67, _⟩ => ⟨S16384x1, .f32⟩
  | .hbm, ⟨68, _⟩ => ⟨S16384x2, .f32⟩
  | .hbm, ⟨69, _⟩ => ⟨S16384x2, .f32⟩
  | .hbm, ⟨70, _⟩ => ⟨S16384x2x1, .i32⟩
  | .hbm, ⟨71, _⟩ => ⟨S1x1x8, .i32⟩
  | .hbm, ⟨72, _⟩ => ⟨S16384x2x8, .i32⟩
  | .hbm, ⟨73, _⟩ => ⟨S16384x2x8, .i32⟩
  | .hbm, ⟨74, _⟩ => ⟨S16384x2x8, .i1⟩
  | .hbm, ⟨75, _⟩ => ⟨S16384x2x8, .f32⟩
  | .hbm, ⟨76, _⟩ => ⟨S16384x2x1, .f32⟩
  | .hbm, ⟨77, _⟩ => ⟨S16384x2x8, .f32⟩
  | .hbm, ⟨78, _⟩ => ⟨S16384x2x8, .f32⟩
  | .hbm, ⟨79, _⟩ => ⟨S_, .f32⟩
  | .hbm, ⟨80, _⟩ => ⟨S16384x8, .f32⟩
  | .hbm, ⟨81, _⟩ => ⟨S16384x1024, .bf16⟩
  | .hbm, ⟨82, _⟩ => ⟨S_, .i32⟩
  | .hbm, ⟨83, _⟩ => ⟨S_, .f32⟩
  | .hbm, ⟨84, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst : Ref sig .tc := ⟨.hbm, 38, rfl⟩
abbrev main_v27 : Ref sig .tc := ⟨.hbm, 39, rfl⟩
abbrev main_v28 : Ref sig .tc := ⟨.hbm, 40, rfl⟩
abbrev main_cst_0 : Ref sig .tc := ⟨.hbm, 41, rfl⟩
abbrev main_v29 : Ref sig .tc := ⟨.hbm, 42, rfl⟩
abbrev main_v30 : Ref sig .tc := ⟨.hbm, 43, rfl⟩
abbrev main_cst_1 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_values : Ref sig .tc := ⟨.hbm, 54, rfl⟩
abbrev main_indices : Ref sig .tc := ⟨.hbm, 55, rfl⟩
abbrev main_cst_2 : Ref sig .tc := ⟨.hbm, 56, rfl⟩
abbrev main_v40 : Ref sig .tc := ⟨.hbm, 57, rfl⟩
abbrev main_cst_3 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_4 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_call0_v0 : Ref sig .tc := ⟨.hbm, 70, rfl⟩
abbrev main_call0_v1 : Ref sig .tc := ⟨.hbm, 71, rfl⟩
abbrev main_call0_v2 : Ref sig .tc := ⟨.hbm, 72, rfl⟩
abbrev main_call0_v3 : Ref sig .tc := ⟨.hbm, 73, rfl⟩
abbrev main_call0_v4 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_5 : Ref sig .tc := ⟨.hbm, 79, rfl⟩
abbrev main_v55 : Ref sig .tc := ⟨.hbm, 80, rfl⟩
abbrev main_v56 : Ref sig .tc := ⟨.hbm, 81, rfl⟩
abbrev main_c : Ref sig .tc := ⟨.hbm, 82, rfl⟩
abbrev main_call1_v0 : Ref sig .tc := ⟨.hbm, 83, rfl⟩
abbrev main_v57 : Ref sig .tc := ⟨.hbm, 84, rfl⟩

abbrev nD : Nat := 1
abbrev τ : Topo := Topo.v7x

variable {F : FTy → Type} [FloatOps F]
-- ==== Proof.OnlineSoftmax.lean ====
/- The arithmetic of a softmax-weighted sum taken block by block, over the extended reals: no program appears here. -/
module

public import Idealize.ShloMosaic.PureOps.Ideal
public import Mathlib.Algebra.BigOperators.Fin

@[expose] public section

noncomputable section

namespace Cert.OnlineSoftmax

open Idealize.ShloMosaic

/-- The largest of the first `n` scores. -/
def top (s : ℕ → EReal) (n : ℕ) : EReal := (Finset.range n).sup s

/-- The sum of the first `n` weights, each relative to the largest score so far. -/
def mass (s : ℕ → EReal) (n : ℕ) : EReal := ∑ j ∈ Finset.range n, Ideal.exp (s j - top s n)

/-- The weighted sum of the first `n` values, with the same weights. -/
def pull (s v : ℕ → EReal) (n : ℕ) : EReal := ∑ j ∈ Finset.range n, Ideal.exp (s j - top s n) * v j

/-- An exponential is never negative. -/
theorem exp_nonneg (x : EReal) : 0 ≤ Ideal.exp x := by
  induction x with
  | bot => simp
  | top => simp
  | coe r => rw [Ideal.exp_coe]; exact_mod_cast (Real.exp_pos r).le

/-- The exponential of anything below the top is finite. -/
theorem exp_ne_top {x : EReal} (h : x ≠ ⊤) : Ideal.exp x ≠ ⊤ := by
  induction x with
  | bot => simp
  | top => exact absurd rfl h
  | coe r => rw [Ideal.exp_coe]; exact EReal.coe_ne_top _

/-- A nonnegative finite factor goes into a finite sum. -/
theorem mul_sum_of_nonneg {ι : Type} (S : Finset ι) (f : ι → EReal) {c : EReal} (h0 : 0 ≤ c) (ht : c ≠ ⊤) :
    c * ∑ j ∈ S, f j = ∑ j ∈ S, c * f j := by
  classical
  induction S using Finset.induction_on with
  | empty => simp
  | insert a S ha ih => rw [Finset.sum_insert ha, Finset.sum_insert ha, EReal.left_distrib_of_nonneg_of_ne_top h0 ht, ih]

/-- Moving a weight from one reference score to a larger one. -/
theorem exp_shift {a b x : EReal} (hx : x ≤ a) (ha : a ≠ ⊤) (hab : a ≤ b) (hb : b ≠ ⊤) :
    Ideal.exp (a - b) * Ideal.exp (x - a) = Ideal.exp (x - b) := by
  induction x with
  | top => exact absurd (top_le_iff.1 hx) ha
  | bot => simp [sub_eq_add_neg]
  | coe x =>
    induction a with
    | top => exact absurd rfl ha
    | bot => exact absurd (le_bot_iff.1 hx) (EReal.coe_ne_bot _)
    | coe a =>
      induction b with
      | top => exact absurd rfl hb
      | bot => exact absurd (le_bot_iff.1 hab) (EReal.coe_ne_bot _)
      | coe b =>
        rw [← EReal.coe_sub, ← EReal.coe_sub, ← EReal.coe_sub, Ideal.exp_coe, Ideal.exp_coe, Ideal.exp_coe, ← EReal.coe_mul,
          ← Real.exp_add]
        congr 2; ring

/-- The largest score stays below the top when every score does. -/
theorem top_ne_top {s : ℕ → EReal} (hs : ∀ j, s j ≠ ⊤) (n : ℕ) : top s n ≠ ⊤ := by
  have : top s n < ⊤ := (Finset.sup_lt_iff bot_lt_top).2 fun j _ => lt_top_iff_ne_top.2 (hs j)
  exact this.ne

/-- The largest score grows with the number of scores. -/
theorem top_mono (s : ℕ → EReal) {n n' : ℕ} (h : n ≤ n') : top s n ≤ top s n' :=
  Finset.sup_mono (Finset.range_subset_range.2 h)

/-- A difference with a finite-from-above second term stays below the top. -/
theorem sub_top_ne_top {a b : EReal} (hab : a ≤ b) (hb : b ≠ ⊤) : a - b ≠ ⊤ := by
  induction a with
  | top => exact absurd (top_le_iff.1 hab) hb
  | bot => simp [sub_eq_add_neg]
  | coe a =>
    induction b with
    | top => exact absurd rfl hb
    | bot => exact absurd (le_bot_iff.1 hab) (EReal.coe_ne_bot _)
    | coe b => rw [← EReal.coe_sub]; exact EReal.coe_ne_top _

/-- The largest of the scores after a block of `w` more. -/
theorem top_add (s : ℕ → EReal) (n w : ℕ) (T : EReal) (hT : T = (Finset.univ : Finset (Fin w)).sup fun t => s (n + t)) :
    max (top s n) T = top s (n + w) := by
  subst hT
  apply le_antisymm
  · refine max_le (top_mono s (Nat.le_add_right _ _)) (Finset.sup_le fun t _ => ?_)
    exact Finset.le_sup (f := s) (Finset.mem_range.2 (by have := t.isLt; omega))
  · refine Finset.sup_le fun j hj => ?_
    have hj := Finset.mem_range.1 hj
    by_cases h : j < n
    · exact le_max_of_le_left (Finset.le_sup (f := s) (Finset.mem_range.2 h))
    · refine le_max_of_le_right ?_
      have := Finset.le_sup (f := fun t : Fin w => s (n + t)) (Finset.mem_univ (⟨j - n, by omega⟩ : Fin w))
      have e : n + (j - n) = j := by omega
      simpa [e] using this

/-- The sum of the weights after a block of `w` more scores. -/
theorem mass_add (s : ℕ → EReal) (hs : ∀ j, s j ≠ ⊤) (n w : ℕ) :
    Ideal.exp (top s n - top s (n + w)) * mass s n + ∑ t : Fin w, Ideal.exp (s (n + t) - top s (n + w)) = mass s (n + w) := by
  have hm := top_mono s (Nat.le_add_right n w)
  unfold mass
  rw [Finset.sum_range_add, mul_sum_of_nonneg _ _ (exp_nonneg _) (exp_ne_top (sub_top_ne_top hm (top_ne_top hs _))),
    Finset.sum_range (fun i => Ideal.exp (s (n + i) - top s (n + w)))]
  refine congrArg (· + _) (Finset.sum_congr rfl fun j hj => ?_)
  exact exp_shift (Finset.le_sup (f := s) hj) (top_ne_top hs _) hm (top_ne_top hs _)

/-- The weighted sum after a block of `w` more values. -/
theorem pull_add (s v : ℕ → EReal) (hs : ∀ j, s j ≠ ⊤) (n w : ℕ) :
    Ideal.exp (top s n - top s (n + w)) * pull s v n + ∑ t : Fin w, Ideal.exp (s (n + t) - top s (n + w)) * v (n + t)
      = pull s v (n + w) := by
  have hm := top_mono s (Nat.le_add_right n w)
  unfold pull
  rw [Finset.sum_range_add, mul_sum_of_nonneg _ _ (exp_nonneg _) (exp_ne_top (sub_top_ne_top hm (top_ne_top hs _))),
    Finset.sum_range (fun i => Ideal.exp (s (n + i) - top s (n + w)) * v (n + i))]
  refine congrArg (· + _) (Finset.sum_congr rfl fun j hj => ?_)
  rw [← mul_assoc, exp_shift (a := top s n) (Finset.le_sup (f := s) hj) (top_ne_top hs _) hm (top_ne_top hs _)]

/-- Scores at the bottom past `n` change none of the three. -/
theorem top_bot (s : ℕ → EReal) {n n' : ℕ} (h : n ≤ n') (hb : ∀ j, n ≤ j → s j = ⊥) : top s n' = top s n := by
  refine le_antisymm (Finset.sup_le fun j hj => ?_) (top_mono s h)
  by_cases hj' : j < n
  · exact Finset.le_sup (f := s) (Finset.mem_range.2 hj')
  · rw [hb j (by omega)]; exact bot_le

/-- A weight at the bottom is nothing. -/
theorem exp_bot_sub (b : EReal) : Ideal.exp (⊥ - b) = 0 := by simp [sub_eq_add_neg]

/-- The sum of the weights does not see scores at the bottom. -/
theorem mass_bot (s : ℕ → EReal) {n n' : ℕ} (h : n ≤ n') (hb : ∀ j, n ≤ j → s j = ⊥) : mass s n' = mass s n := by
  unfold mass
  rw [top_bot s h hb]
  refine (Finset.sum_subset (Finset.range_subset_range.2 h) fun j _ hj => ?_).symm
  rw [hb j (by simpa using hj), exp_bot_sub]

/-- The weighted sum does not see values whose score is at the bottom. -/
theorem pull_bot (s v : ℕ → EReal) {n n' : ℕ} (h : n ≤ n') (hb : ∀ j, n ≤ j → s j = ⊥) : pull s v n' = pull s v n := by
  unfold pull
  rw [top_bot s h hb]
  refine (Finset.sum_subset (Finset.range_subset_range.2 h) fun j _ hj => ?_).symm
  rw [hb j (by simpa using hj), exp_bot_sub, zero_mul]

/-- The sum of the weights is a positive real as soon as one score is finite. -/
theorem mass_real (s : ℕ → EReal) (hs : ∀ j, s j ≠ ⊤) {n j₀ : ℕ} (hj : j₀ < n) (h₀ : s j₀ ≠ ⊥) :
    ∃ r : ℝ, 0 < r ∧ mass s n = (r : EReal) := by
  have ht := top_ne_top hs n
  have hle : ∀ j ∈ Finset.range n, s j ≤ top s n := fun j hj => Finset.le_sup (f := s) hj
  have hfin : ∀ j ∈ Finset.range n, ∃ r : ℝ, 0 ≤ r ∧ Ideal.exp (s j - top s n) = (r : EReal) := fun j hj => by
    have h1 := exp_ne_top (sub_top_ne_top (hle j hj) ht)
    have h2 := exp_nonneg (s j - top s n)
    refine ⟨(Ideal.exp (s j - top s n)).toReal, EReal.toReal_nonneg h2, (EReal.coe_toReal h1 ?_).symm⟩
    intro h; rw [h] at h2; exact absurd h2 (by simp)
  choose! f hf0 hf using hfin
  have hpos : 0 < f j₀ := by
    have hm := Finset.mem_range.2 hj
    have hb : top s n ≠ ⊥ := fun h => h₀ (le_bot_iff.1 (h ▸ hle j₀ hm))
    have e := hf j₀ hm
    obtain ⟨a, ha⟩ : ∃ a : ℝ, s j₀ = (a : EReal) := ⟨_, (EReal.coe_toReal (hs j₀) h₀).symm⟩
    obtain ⟨b, hb⟩ : ∃ b : ℝ, top s n = (b : EReal) := ⟨_, (EReal.coe_toReal ht hb).symm⟩
    rw [ha, hb, ← EReal.coe_sub, Ideal.exp_coe] at e
    have e' : Real.exp (a - b) = f j₀ := by exact_mod_cast e
    rw [← e']; exact Real.exp_pos _
  refine ⟨∑ j ∈ Finset.range n, f j, ?_, ?_⟩
  · exact Finset.sum_pos' hf0 ⟨j₀, Finset.mem_range.2 hj, hpos⟩
  · unfold mass
    rw [Finset.sum_congr rfl hf]
    induction Finset.range n using Finset.induction_on with
    | empty => simp
    | insert a S ha ih => rw [Finset.sum_insert ha, Finset.sum_insert ha, ih, EReal.coe_add]

/-- The weighted sum over the sum of the weights is the sum of the values by their shares. -/
theorem pull_div_mass (s v : ℕ → EReal) (hs : ∀ j, s j ≠ ⊤) {n j₀ : ℕ} (hj : j₀ < n) (h₀ : s j₀ ≠ ⊥) :
    Ideal.div (pull s v n) (mass s n) = ∑ j ∈ Finset.range n, Ideal.div (Ideal.exp (s j - top s n)) (mass s n) * v j := by
  obtain ⟨r, hr, e⟩ := mass_real s hs hj h₀
  have h0 : (0 : EReal) ≤ ((1 / r : ℝ) : EReal) := by exact_mod_cast (one_div_pos.2 hr).le
  rw [e, Ideal.div_coe hr.ne', mul_comm, pull, mul_sum_of_nonneg _ _ h0 (EReal.coe_ne_top _)]
  refine Finset.sum_congr rfl fun j _ => ?_
  rw [Ideal.div_coe hr.ne', ← mul_assoc, mul_comm ((1 / r : ℝ) : EReal)]

end Cert.OnlineSoftmax

end
-- ==== Proof.Payload.lean ====
/- What one block of keys does to the running maximum, sum and accumulator, read at one query row. -/
module

public import proofs.«01_k».proof.Proof.Gen.KernelIdeal.Skeleton
public import proofs.«01_k».proof.Proof.OnlineSoftmax
public import Idealize.ShloMosaic.Lib.Pointwise

@[expose] public section

set_option maxRecDepth 16384

noncomputable section

namespace Cert.Mla
open Idealize.ShloMosaic Idealize.ShloMosaic.TcCoe Idealize.SL.Sem
open Cert.KernelIdeal Cert.KernelIdeal.Gen

/-- A word of a small number is that number, signed. -/
theorem toInt_small {a : ℕ} (ha : a < 2 ^ 31) : (BitVec.ofNat 32 a).toInt = (a : ℤ) := by
  have e : (BitVec.ofNat 32 a).toNat = a := by rw [BitVec.toNat_ofNat]; exact Nat.mod_eq_of_lt (by omega)
  rw [BitVec.toInt_eq_toNat_of_lt (by rw [e]; omega), e]

/-- Choosing on a signed comparison of two small words is choosing on the numbers. -/
theorem select_le {α : Type} {a b : ℕ} (ha : a < 2 ^ 31) (hb : b < 2 ^ 31) (x y : α) :
    Scalar.select (IntOp.cmpi .sle (BitVec.ofNat 32 a) (BitVec.ofNat 32 b)) x y = if a ≤ b then x else y := by
  show Scalar.select (BitVec.ofBool (decide ((BitVec.ofNat 32 a).toInt ≤ (BitVec.ofNat 32 b).toInt))) x y = _
  rw [toInt_small ha, toInt_small hb]
  by_cases h : a ≤ b
  · rw [if_pos h, decide_eq_true (by exact_mod_cast h)]; rfl
  · rw [if_neg h, decide_eq_false (by exact_mod_cast h)]; rfl

/-- The strict form. -/
theorem select_lt {α : Type} {a b : ℕ} (ha : a < 2 ^ 31) (hb : b < 2 ^ 31) (x y : α) :
    Scalar.select (IntOp.cmpi .slt (BitVec.ofNat 32 a) (BitVec.ofNat 32 b)) x y = if a < b then x else y := by
  show Scalar.select (BitVec.ofBool (decide ((BitVec.ofNat 32 a).toInt < (BitVec.ofNat 32 b).toInt))) x y = _
  rw [toInt_small ha, toInt_small hb]
  by_cases h : a < b
  · rw [if_pos h, decide_eq_true (by exact_mod_cast h)]; rfl
  · rw [if_neg h, decide_eq_false (by exact_mod_cast h)]; rfl

/-- The pattern of minus infinity is the bottom. -/
theorem ofBits_neg_inf : Ideal.ofBits .f32 0xFF800000#32 = ⊥ := by
  simp [Ideal.ofBits, Ideal.ieee]

/-- Folding the maximum from the bottom is the supremum. -/
theorem fold_max_bot {ι : Type} (S : Finset ι) (f : ι → EReal) : S.fold max ⊥ f = S.sup f := rfl

/-- A query row's scores against a block of keys. -/
theorem score_at (q K : FVec Ideal S256x128 .bf16) (r t : Fin 256) :
    k0_pay8 (F := Ideal) q K (ix2 r t) = ∑ d : Fin 128, q (ix2 r d) * K (ix2 t d) := by
  pointwise [k0_pay8]

/-- The same on the diagonal block, where later keys are cut off. -/
theorem diag_at (q K : FVec Ideal S256x128 .bf16) (r t : Fin 256) :
    k0_pay22 (F := Ideal) q K (ix2 r t) = if t.val ≤ r.val then ∑ d : Fin 128, q (ix2 r d) * K (ix2 t d) else ⊥ := by
  pointwise [k0_pay22]
  rw [select_le (by omega) (by omega), ofBits_neg_inf]

/-- The running maximum after a block. -/
theorem newTop_at (S : FVec Ideal S256x256 .f32) (m : FVec Ideal S256x1 .f32) (r : Fin 256) :
    k0_pay28 (F := Ideal) S m (ix2 r 0) = max (m (ix2 r 0)) (Finset.univ.sup fun t : Fin 256 => S (ix2 r t)) := by
  pointwise [k0_pay28, k0_pay23]
  rw [ofBits_neg_inf]; rfl

/-- The running sum of the weights after a block. -/
theorem newMass_at (S : FVec Ideal S256x256 .f32) (m l : FVec Ideal S256x1 .f32) (r : Fin 256) :
    k0_pay26 (F := Ideal) S m l (ix2 r 0) = Ideal.exp (m (ix2 r 0) - k0_pay28 (F := Ideal) S m (ix2 r 0)) * l (ix2 r 0)
      + ∑ t : Fin 256, Ideal.exp (S (ix2 r t) - k0_pay28 (F := Ideal) S m (ix2 r 0)) := by
  pointwise [k0_pay26, k0_pay28, k0_pay23, k0_pay24, k0_pay25]

/-- The running weighted sum of the values after a block. -/
theorem newPull_at (S : FVec Ideal S256x256 .f32) (m : FVec Ideal S256x1 .f32) (a : FVec Ideal S256x128 .f32) (V : FVec Ideal S256x128 .bf16) (r : Fin 256) (d : Fin 128) :
    k0_pay27 (F := Ideal) S m a V (ix2 r d) = Ideal.exp (m (ix2 r 0) - k0_pay28 (F := Ideal) S m (ix2 r 0)) * a (ix2 r d)
      + ∑ t : Fin 256, Ideal.exp (S (ix2 r t) - k0_pay28 (F := Ideal) S m (ix2 r 0)) * V (ix2 t d) := by
  pointwise [k0_pay27, k0_pay28, k0_pay23, k0_pay24, k0_pay25]

/-- The block stored: the first head's quotient in the low half of the lanes, the second's in the high half. -/
theorem out_at (o a : FVec Ideal S256x128 .f32) (l : FVec Ideal S256x1 .f32) (r : Fin 256) (d : Fin 128) :
    k0_pay4 (F := Ideal) o a l (ix2 r d) = if d.val < 64 then o (ix2 r d) else Ideal.div (a (ix2 r d)) (l (ix2 r 0)) := by
  pointwise [k0_pay4]
  exact select_lt (by omega) (by omega) _ _

/-- The first head's quotient. -/
theorem half_at (a : FVec Ideal S256x128 .f32) (l : FVec Ideal S256x1 .f32) (r : Fin 256) (d : Fin 128) :
    k0_pay29 (F := Ideal) a l (ix2 r d) = Ideal.div (a (ix2 r d)) (l (ix2 r 0)) := by
  pointwise [k0_pay29]

/-- The running maximum starts at the bottom. -/
theorem start_top (r : Fin 256) : k0_pay5 (F := Ideal) (ix2 r 0) = ⊥ := by
  pointwise [k0_pay5]
  exact ofBits_neg_inf
/-- The running sum starts at nothing. -/
theorem start_mass (r : Fin 256) : k0_pay6 (F := Ideal) (ix2 r 0) = 0 := by
  pointwise [k0_pay6]
/-- The accumulator starts at nothing. -/
theorem start_pull (r : Fin 256) (d : Fin 128) : k0_pay7 (F := Ideal) (ix2 r d) = 0 := by
  pointwise [k0_pay7]

end Cert.Mla

end
-- ==== Proof.Rows.lean ====
/- One query row's running softmax, and how a block of keys moves it on. -/
module

public import proofs.«01_k».proof.Proof.Payload

@[expose] public section

set_option maxRecDepth 16384

noncomputable section

namespace Cert.Mla
open Idealize.ShloMosaic Idealize.ShloMosaic.TcCoe Idealize.SL.Sem
open Cert.KernelIdeal Cert.KernelIdeal.Gen Cert.OnlineSoftmax

/-- The three buffers hold, at every query row, the running maximum, sum and accumulator over the first `n` keys. -/
def Holds (s : Fin 256 → ℕ → EReal) (v : Fin 128 → ℕ → EReal) (n : ℕ) (m l : FVec Ideal S256x1 .f32) (a : FVec Ideal S256x128 .f32) : Prop :=
  ∀ r : Fin 256, m (ix2 r 0) = top (s r) n ∧ l (ix2 r 0) = mass (s r) n ∧ ∀ d : Fin 128, a (ix2 r d) = pull (s r) (v d) n

/-- Before any key the buffers hold the bottom, nothing and nothing. -/
theorem holds_start (s : Fin 256 → ℕ → EReal) (v : Fin 128 → ℕ → EReal) : Holds s v 0 (k0_pay5 (F := Ideal)) (k0_pay6 (F := Ideal)) (k0_pay7 (F := Ideal)) :=
  fun r => ⟨by rw [start_top]; rfl, by rw [start_mass]; rfl, fun d => by rw [start_pull]; rfl⟩

/-- One block of 256 keys. -/
theorem holds_block {s : Fin 256 → ℕ → EReal} {v : Fin 128 → ℕ → EReal} (hs : ∀ r j, s r j ≠ ⊤) {n : ℕ}
    {m l : FVec Ideal S256x1 .f32} {a : FVec Ideal S256x128 .f32} (h : Holds s v n m l a)
    (S : FVec Ideal S256x256 .f32) (hS : ∀ r t : Fin 256, S (ix2 r t) = s r (n + t))
    (V : FVec Ideal S256x128 .bf16) (hV : ∀ (t : Fin 256) (d : Fin 128), V (ix2 t d) = v d (n + t)) :
    Holds s v (n + 256) (k0_pay28 S m) (k0_pay26 S m l) (k0_pay27 S m a V) := by
  intro r
  obtain ⟨hm, hl, ha⟩ := h r
  have hT : k0_pay28 (F := Ideal) S m (ix2 r 0) = top (s r) (n + 256) := by
    rw [newTop_at, hm]
    exact top_add (s r) n 256 _ (Finset.sup_congr rfl fun t _ => hS r t)
  refine ⟨hT, ?_, fun d => ?_⟩
  · rw [newMass_at, hT, hm, hl, ← mass_add (s r) (hs r) n 256]
    exact congrArg _ (Finset.sum_congr rfl fun t _ => by rw [hS])
  · rw [newPull_at, hT, hm, ha, ← pull_add (s r) (v d) (hs r) n 256]
    exact congrArg _ (Finset.sum_congr rfl fun t _ => by rw [hS, hV])

end Cert.Mla

end
-- ==== Proof.Trips.lean ====
/- The loop over earlier blocks: what the three scratch buffers read after its trips. -/
module

public import proofs.«01_k».proof.Proof.Gen.KernelIdeal.Value
public import proofs.«01_k».proof.Proof.Rows
public import Idealize.ShloMosaic.Lib.VecWindow
public import Idealize.ShloMosaic.Lib.Pipeline.ValueKit

@[expose] public section

set_option maxRecDepth 16384

noncomputable section

namespace Cert.Mla
open Idealize.ShloMosaic Idealize.ShloMosaic.TcCoe Idealize.SL.Sem
open Cert.KernelIdeal Cert.KernelIdeal.Gen Cert.OnlineSoftmax

/-- The rows of keys of block `n`, in one head's lanes. -/
def keyBlock (X : FVec Ideal S8192x256 .bf16) (h : Fin 2) (n : ℕ) (hn : n < 32) : FVec Ideal S256x128 .bf16 :=
  fun j => X (ix2 ⟨256 * n + (j 0).val, by have : (j 0).val < 256 := (j 0).isLt; omega⟩ ⟨128 * h.val + (j 1).val, by have : (j 1).val < 128 := (j 1).isLt; omega⟩)

/-- The rows of values of block `n`. -/
def valBlock (X : FVec Ideal S8192x128 .bf16) (n : ℕ) (hn : n < 32) : FVec Ideal S256x128 .bf16 :=
  fun j => X (ix2 ⟨256 * n + (j 0).val, by have : (j 0).val < 256 := (j 0).isLt; omega⟩ (j 1))

/-- A load of a block of keys. -/
theorem keys_read (arg4 : Memref sig .tc .vmem S8192x256 .bf16) (X4 : BufTy.Contents (Elt Ideal) arg4.view.ty) (h : Fin 2) (n : ℕ) (hn : n < 32)
    {off : Fin 2 → ℕ} (inb : ∀ a, off a + S256x128.size a ≤ S8192x256.size a) (e : off = ![256 * n, 128 * h.val]) :
    View.readAt (Elt Ideal) arg4.view (Rect.unit (s := S8192x256) off S256x128.size inb).toLoadRect X4
      = keyBlock (arg4.view.read (Elt Ideal) X4) h n hn := by
  subst e
  funext j
  refine congrArg (arg4.view.read (Elt Ideal) X4) (funext fun a => Fin.ext ?_)
  match a with
  | 0 => show 256 * n + 1 * (j 0).val = 256 * n + (j 0).val; omega
  | 1 => show 128 * h.val + 1 * (j 1).val = 128 * h.val + (j 1).val; omega

/-- A load of a block of values. -/
theorem vals_read (arg5 : Memref sig .tc .vmem S8192x128 .bf16) (X5 : BufTy.Contents (Elt Ideal) arg5.view.ty) (n : ℕ) (hn : n < 32)
    {off : Fin 2 → ℕ} (inb : ∀ a, off a + S256x128.size a ≤ S8192x128.size a) (e : off = ![256 * n, 0]) :
    View.readAt (Elt Ideal) arg5.view (Rect.unit (s := S8192x128) off S256x128.size inb).toLoadRect X5
      = valBlock (arg5.view.read (Elt Ideal) X5) n hn := by
  subst e
  funext j
  refine congrArg (arg5.view.read (Elt Ideal) X5) (funext fun a => Fin.ext ?_)
  match a with
  | 0 => show 256 * n + 1 * (j 0).val = 256 * n + (j 0).val; omega
  | 1 => show 0 + 1 * (j 1).val = (j 1).val; omega

/-- Row `r`'s scores in query block `qi`, cut off after the row's own position. -/
def score (q : FVec Ideal S256x128 .bf16) (X : FVec Ideal S8192x256 .bf16) (h : Fin 2) (qi : ℕ) (r : Fin 256) (j : ℕ) : EReal :=
  if hj : j < 8192 then
    if j ≤ 256 * qi + r.val then
      ∑ d : Fin 128, q (ix2 r d) * X (ix2 ⟨j, hj⟩ ⟨128 * h.val + d.val, by omega⟩)
    else ⊥
  else ⊥

/-- Column `d` of the values. -/
def value (X : FVec Ideal S8192x128 .bf16) (d : Fin 128) (j : ℕ) : EReal :=
  if hj : j < 8192 then X (ix2 ⟨j, hj⟩ d) else 0

/-- A block before the diagonal is not cut off. -/
theorem score_block (q : FVec Ideal S256x128 .bf16) (X : FVec Ideal S8192x256 .bf16) (h : Fin 2) {qi k : ℕ} (hk : k < 32) (hq : k < qi)
    (r t : Fin 256) : k0_pay8 (F := Ideal) q (keyBlock X h k hk) (ix2 r t) = score q X h qi r (256 * k + t.val) := by
  rw [score_at, score, dif_pos (by omega), if_pos (by omega)]
  rfl

/-- The diagonal block. -/
theorem score_diag (q : FVec Ideal S256x128 .bf16) (X : FVec Ideal S8192x256 .bf16) (h : Fin 2) {qi : ℕ} (hq : qi < 32)
    (r t : Fin 256) : k0_pay22 (F := Ideal) q (keyBlock X h qi hq) (ix2 r t) = score q X h qi r (256 * qi + t.val) := by
  rw [diag_at, score, dif_pos (by omega)]
  by_cases e : t.val ≤ r.val
  · rw [if_pos e, if_pos (by omega)]
    rfl
  · rw [if_neg e, if_neg (by omega)]

/-- A block of values. -/
theorem value_block (X : FVec Ideal S8192x128 .bf16) {k : ℕ} (hk : k < 32) (t : Fin 256) (d : Fin 128) :
    valBlock X k hk (ix2 t d) = value X d (256 * k + t.val) := by
  rw [value, dif_pos (by omega)]
  rfl

section Loop
variable (𝒱 : Variants) (c : Dev nD) (bd : Option 𝒱.V) (i : grid0.Coords) (arg3 : Memref sig .tc .vmem S256x256 .bf16) (harg3 : arg3.IsWhole) (arg4 : Memref sig .tc .vmem S8192x256 .bf16) (harg4 : arg4.IsWhole) (arg5 : Memref sig .tc .vmem S8192x128 .bf16) (harg5 : arg5.IsWhole) (arg6 : Memref sig .tc .vmem S256x128 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x128 .f32) (harg9 : arg9.IsWhole)
   (v2 : FVec Ideal S256x128 .bf16) (X4 : BufTy.Contents (Elt Ideal) arg4.view.ty) (X5 : BufTy.Contents (Elt Ideal) arg5.view.ty)

/-- The number of trips is the query block's number. -/
theorem trips1 : (k0_t1_loop i).trips = (i 2).val := by
  have h : ∀ b : Fin 32, Scf.trips 0#32 (Scalar.addi 0#32 (Scalar.muli (Scalar.divsi (Scalar.subi (BitVec.ofNat 32 b.val) 0#32) 1#32) 1#32)) 1#32 = b.val := by
    decide +kernel
  exact h (i 2)

/-- One trip of the first head's loop, read in the three scratch buffers. -/
theorem trip1 (k : Fin (k0_t1_loop i).trips) (hk : k.val < 32) f7 f8 f9 :
    arg7.view.read (Elt Ideal) (arg7.view.writes (Elt Ideal) f7 (tripL_k0_t1 (F := Ideal) 𝒱 c bd i arg3 harg3 arg4 harg4 arg5 harg5 arg6 harg6 arg7 harg7 arg8 harg8 arg9 harg9 v2 X4 X5 k f7 f8 f9).1)
        = k0_pay28 (k0_pay8 v2 (keyBlock (arg4.view.read (Elt Ideal) X4) 0 k.val hk)) (arg7.view.read (Elt Ideal) f7)
    ∧ arg8.view.read (Elt Ideal) (arg8.view.writes (Elt Ideal) f8 (tripL_k0_t1 (F := Ideal) 𝒱 c bd i arg3 harg3 arg4 harg4 arg5 harg5 arg6 harg6 arg7 harg7 arg8 harg8 arg9 harg9 v2 X4 X5 k f7 f8 f9).2.1)
        = k0_pay26 (k0_pay8 v2 (keyBlock (arg4.view.read (Elt Ideal) X4) 0 k.val hk)) (arg7.view.read (Elt Ideal) f7) (arg8.view.read (Elt Ideal) f8)
    ∧ arg9.view.read (Elt Ideal) (arg9.view.writes (Elt Ideal) f9 (tripL_k0_t1 (F := Ideal) 𝒱 c bd i arg3 harg3 arg4 harg4 arg5 harg5 arg6 harg6 arg7 harg7 arg8 harg8 arg9 harg9 v2 X4 X5 k f7 f8 f9).2.2)
        = k0_pay27 (k0_pay8 v2 (keyBlock (arg4.view.read (Elt Ideal) X4) 0 k.val hk)) (arg7.view.read (Elt Ideal) f7) (arg9.view.read (Elt Ideal) f9) (valBlock (arg5.view.read (Elt Ideal) X5) k.val hk) := by
  unfold tripL_k0_t1 trip_k0_t1
  dsimp only
  have hK := keys_read arg4 X4 0 k.val hk (k0_off1_inb i k) (k0_off1_eq i k)
  have hV := vals_read arg5 X5 k.val hk (k0_off2_inb i k) (k0_off2_eq i k)
  have h7 := View.readAt_full (Val := Elt Ideal) arg7.view f7 (off := ![0, 0]) inb_S256x1_S256x1_0_0
  have h8 := View.readAt_full (Val := Elt Ideal) arg8.view f8 (off := ![0, 0]) inb_S256x1_S256x1_0_0
  have h9 := View.readAt_full (Val := Elt Ideal) arg9.view f9 (off := ![0, 0]) inb_S256x128_S256x128_0_0
  rw [← hK, ← hV, ← h7, ← h8, ← h9]
  exact ⟨View.read_writes_full arg7.view f7 _ _ [], View.read_writes_full arg8.view f8 _ _ [], View.read_writes_full arg9.view f9 _ _ []⟩
/-- The second head's loop makes as many. -/
theorem trips3 : (k0_t3_loop i).trips = (i 2).val := trips1 i

/-- One trip of the second head's loop, read in the three scratch buffers. -/
theorem trip3 (w : BitVec 32) (a0 a1 : IVec S256x256 32) (m0 : FVec Ideal S256x1 .f32) (k : Fin (k0_t3_loop i).trips) (hk : k.val < 32) f7 f8 f9 :
    arg7.view.read (Elt Ideal) (arg7.view.writes (Elt Ideal) f7 (tripL_k0_t3 (F := Ideal) 𝒱 c bd i arg3 harg3 arg4 harg4 arg5 harg5 arg6 harg6 arg7 harg7 arg8 harg8 arg9 harg9 w a0 a1 v2 m0 X4 X5 k f7 f8 f9).1)
        = k0_pay28 (k0_pay8 v2 (keyBlock (arg4.view.read (Elt Ideal) X4) 1 k.val hk)) (arg7.view.read (Elt Ideal) f7)
    ∧ arg8.view.read (Elt Ideal) (arg8.view.writes (Elt Ideal) f8 (tripL_k0_t3 (F := Ideal) 𝒱 c bd i arg3 harg3 arg4 harg4 arg5 harg5 arg6 harg6 arg7 harg7 arg8 harg8 arg9 harg9 w a0 a1 v2 m0 X4 X5 k f7 f8 f9).2.1)
        = k0_pay26 (k0_pay8 v2 (keyBlock (arg4.view.read (Elt Ideal) X4) 1 k.val hk)) (arg7.view.read (Elt Ideal) f7) (arg8.view.read (Elt Ideal) f8)
    ∧ arg9.view.read (Elt Ideal) (arg9.view.writes (Elt Ideal) f9 (tripL_k0_t3 (F := Ideal) 𝒱 c bd i arg3 harg3 arg4 harg4 arg5 harg5 arg6 harg6 arg7 harg7 arg8 harg8 arg9 harg9 w a0 a1 v2 m0 X4 X5 k f7 f8 f9).2.2)
        = k0_pay27 (k0_pay8 v2 (keyBlock (arg4.view.read (Elt Ideal) X4) 1 k.val hk)) (arg7.view.read (Elt Ideal) f7) (arg9.view.read (Elt Ideal) f9) (valBlock (arg5.view.read (Elt Ideal) X5) k.val hk) := by
  unfold tripL_k0_t3 trip_k0_t3
  dsimp only
  have hK := keys_read arg4 X4 1 k.val hk (k0_off7_inb i k) (k0_off7_eq i k)
  have hV := vals_read arg5 X5 k.val hk (k0_off8_inb i k) (k0_off8_eq i k)
  have h7 := View.readAt_full (Val := Elt Ideal) arg7.view f7 (off := ![0, 0]) inb_S256x1_S256x1_0_0
  have h8 := View.readAt_full (Val := Elt Ideal) arg8.view f8 (off := ![0, 0]) inb_S256x1_S256x1_0_0
  have h9 := View.readAt_full (Val := Elt Ideal) arg9.view f9 (off := ![0, 0]) inb_S256x128_S256x128_0_0
  rw [← hK, ← hV, ← h7, ← h8, ← h9]
  exact ⟨View.read_writes_full arg7.view f7 _ _ [], View.read_writes_full arg8.view f8 _ _ [], View.read_writes_full arg9.view f9 _ _ []⟩
/-- After `k` trips the buffers hold the first `256 k` keys. -/
theorem reads1 G7 G8 G9
    (hs : ∀ r j, score v2 (arg4.view.read (Elt Ideal) X4) 0 (i 2).val r j ≠ ⊤)
    (h0 : Holds (score v2 (arg4.view.read (Elt Ideal) X4) 0 (i 2).val) (value (arg5.view.read (Elt Ideal) X5)) 0 (arg7.view.read (Elt Ideal) G7) (arg8.view.read (Elt Ideal) G8) (arg9.view.read (Elt Ideal) G9)) :
    ∀ k, k ≤ (i 2).val → Holds (score v2 (arg4.view.read (Elt Ideal) X4) 0 (i 2).val) (value (arg5.view.read (Elt Ideal) X5)) (256 * k)
      (arg7.view.read (Elt Ideal) (arg7.view.writes (Elt Ideal) G7 (pb_k0_t1 (F := Ideal) 𝒱 c bd i arg3 harg3 arg4 harg4 arg5 harg5 arg6 harg6 arg7 harg7 arg8 harg8 arg9 harg9 v2 X4 X5 G7 G8 G9 k).1))
      (arg8.view.read (Elt Ideal) (arg8.view.writes (Elt Ideal) G8 (pb_k0_t1 (F := Ideal) 𝒱 c bd i arg3 harg3 arg4 harg4 arg5 harg5 arg6 harg6 arg7 harg7 arg8 harg8 arg9 harg9 v2 X4 X5 G7 G8 G9 k).2.1))
      (arg9.view.read (Elt Ideal) (arg9.view.writes (Elt Ideal) G9 (pb_k0_t1 (F := Ideal) 𝒱 c bd i arg3 harg3 arg4 harg4 arg5 harg5 arg6 harg6 arg7 harg7 arg8 harg8 arg9 harg9 v2 X4 X5 G7 G8 G9 k).2.2)) := by
  intro k
  induction k with
  | zero => exact fun _ => h0
  | succ k ih =>
    intro hk
    have hk' : k < (k0_t1_loop i).trips := by rw [trips1]; omega
    have h32 : (i 2).val < 32 := (i 2).isLt
    have e := pb_k0_t1_succ (F := Ideal) 𝒱 c bd i arg3 harg3 arg4 harg4 arg5 harg5 arg6 harg6 arg7 harg7 arg8 harg8 arg9 harg9 v2 X4 X5 G7 G8 G9 ⟨k, hk'⟩
    dsimp only at e
    rw [e, View.writes_append, View.writes_append, View.writes_append]
    obtain ⟨e7, e8, e9⟩ := trip1 𝒱 c bd i arg3 harg3 arg4 harg4 arg5 harg5 arg6 harg6 arg7 harg7 arg8 harg8 arg9 harg9 v2 X4 X5 ⟨k, hk'⟩ (by show k < 32; omega)
      (arg7.view.writes (Elt Ideal) G7 (pb_k0_t1 (F := Ideal) 𝒱 c bd i arg3 harg3 arg4 harg4 arg5 harg5 arg6 harg6 arg7 harg7 arg8 harg8 arg9 harg9 v2 X4 X5 G7 G8 G9 k).1)
      (arg8.view.writes (Elt Ideal) G8 (pb_k0_t1 (F := Ideal) 𝒱 c bd i arg3 harg3 arg4 harg4 arg5 harg5 arg6 harg6 arg7 harg7 arg8 harg8 arg9 harg9 v2 X4 X5 G7 G8 G9 k).2.1)
      (arg9.view.writes (Elt Ideal) G9 (pb_k0_t1 (F := Ideal) 𝒱 c bd i arg3 harg3 arg4 harg4 arg5 harg5 arg6 harg6 arg7 harg7 arg8 harg8 arg9 harg9 v2 X4 X5 G7 G8 G9 k).2.2)
    rw [e7, e8, e9]
    exact holds_block hs (ih (by omega)) _ (fun r t => score_block v2 _ 0 _ (by omega) r t) _ (fun t d => value_block _ _ t d)

/-- After `k` trips the buffers hold the first `256 k` keys. -/
theorem reads3 (w : BitVec 32) (a0 a1 : IVec S256x256 32) (m0 : FVec Ideal S256x1 .f32) G7 G8 G9
    (hs : ∀ r j, score v2 (arg4.view.read (Elt Ideal) X4) 1 (i 2).val r j ≠ ⊤)
    (h0 : Holds (score v2 (arg4.view.read (Elt Ideal) X4) 1 (i 2).val) (value (arg5.view.read (Elt Ideal) X5)) 0 (arg7.view.read (Elt Ideal) G7) (arg8.view.read (Elt Ideal) G8) (arg9.view.read (Elt Ideal) G9)) :
    ∀ k, k ≤ (i 2).val → Holds (score v2 (arg4.view.read (Elt Ideal) X4) 1 (i 2).val) (value (arg5.view.read (Elt Ideal) X5)) (256 * k)
      (arg7.view.read (Elt Ideal) (arg7.view.writes (Elt Ideal) G7 (pb_k0_t3 (F := Ideal) 𝒱 c bd i arg3 harg3 arg4 harg4 arg5 harg5 arg6 harg6 arg7 harg7 arg8 harg8 arg9 harg9 w a0 a1 v2 m0 X4 X5 G7 G8 G9 k).1))
      (arg8.view.read (Elt Ideal) (arg8.view.writes (Elt Ideal) G8 (pb_k0_t3 (F := Ideal) 𝒱 c bd i arg3 harg3 arg4 harg4 arg5 harg5 arg6 harg6 arg7 harg7 arg8 harg8 arg9 harg9 w a0 a1 v2 m0 X4 X5 G7 G8 G9 k).2.1))
      (arg9.view.read (Elt Ideal) (arg9.view.writes (Elt Ideal) G9 (pb_k0_t3 (F := Ideal) 𝒱 c bd i arg3 harg3 arg4 harg4 arg5 harg5 arg6 harg6 arg7 harg7 arg8 harg8 arg9 harg9 w a0 a1 v2 m0 X4 X5 G7 G8 G9 k).2.2)) := by
  intro k
  induction k with
  | zero => exact fun _ => h0
  | succ k ih =>
    intro hk
    have hk' : k < (k0_t3_loop i).trips := by rw [trips3]; omega
    have h32 : (i 2).val < 32 := (i 2).isLt
    have e := pb_k0_t3_succ (F := Ideal) 𝒱 c bd i arg3 harg3 arg4 harg4 arg5 harg5 arg6 harg6 arg7 harg7 arg8 harg8 arg9 harg9 w a0 a1 v2 m0 X4 X5 G7 G8 G9 ⟨k, hk'⟩
    dsimp only at e
    rw [e, View.writes_append, View.writes_append, View.writes_append]
    obtain ⟨e7, e8, e9⟩ := trip3 𝒱 c bd i arg3 harg3 arg4 harg4 arg5 harg5 arg6 harg6 arg7 harg7 arg8 harg8 arg9 harg9 v2 X4 X5 w a0 a1 m0 ⟨k, hk'⟩ (by show k < 32; omega)
      (arg7.view.writes (Elt Ideal) G7 (pb_k0_t3 (F := Ideal) 𝒱 c bd i arg3 harg3 arg4 harg4 arg5 harg5 arg6 harg6 arg7 harg7 arg8 harg8 arg9 harg9 w a0 a1 v2 m0 X4 X5 G7 G8 G9 k).1)
      (arg8.view.writes (Elt Ideal) G8 (pb_k0_t3 (F := Ideal) 𝒱 c bd i arg3 harg3 arg4 harg4 arg5 harg5 arg6 harg6 arg7 harg7 arg8 harg8 arg9 harg9 w a0 a1 v2 m0 X4 X5 G7 G8 G9 k).2.1)
      (arg9.view.writes (Elt Ideal) G9 (pb_k0_t3 (F := Ideal) 𝒱 c bd i arg3 harg3 arg4 harg4 arg5 harg5 arg6 harg6 arg7 harg7 arg8 harg8 arg9 harg9 w a0 a1 v2 m0 X4 X5 G7 G8 G9 k).2.2)
    rw [e7, e8, e9]
    exact holds_block hs (ih (by omega)) _ (fun r t => score_block v2 _ 1 _ (by omega) r t) _ (fun t d => value_block _ _ t d)

/-- No blocks lie between the earlier ones and the diagonal. -/
theorem none2 G7 G8 G9 :
    pb_k0_t2 (F := Ideal) 𝒱 c bd i arg3 harg3 arg4 harg4 arg5 harg5 arg6 harg6 arg7 harg7 arg8 harg8 arg9 harg9 v2 X4 X5 G7 G8 G9 (Scf.trips (k0_t2_loop i).lb (k0_t2_loop i).ub (k0_t2_loop i).st) = ([], [], []) := by
  have e : Scf.trips (k0_t2_loop i).lb (k0_t2_loop i).ub (k0_t2_loop i).st = 0 := Nat.le_zero.mp (k0_t2_abs i).2.1
  rw [e]
  rfl

/-- No blocks lie between the earlier ones and the diagonal. -/
theorem none4 (w : BitVec 32) (a0 a1 : IVec S256x256 32) (m0 : FVec Ideal S256x1 .f32) G7 G8 G9 :
    pb_k0_t4 (F := Ideal) 𝒱 c bd i arg3 harg3 arg4 harg4 arg5 harg5 arg6 harg6 arg7 harg7 arg8 harg8 arg9 harg9 w a0 a1 v2 m0 X4 X5 G7 G8 G9 (Scf.trips (k0_t4_loop i).lb (k0_t4_loop i).ub (k0_t4_loop i).st) = ([], [], []) := by
  have e : Scf.trips (k0_t4_loop i).lb (k0_t4_loop i).ub (k0_t4_loop i).st = 0 := Nat.le_zero.mp (k0_t4_abs i).2.1
  rw [e]
  rfl

end Loop
end Cert.Mla

end
-- ==== Proof.Body.lean ====
/- One grid point: what its output block holds, head by head. -/
module

public import proofs.«01_k».proof.Proof.Trips

@[expose] public section

set_option maxRecDepth 16384

noncomputable section

namespace Cert.Mla
open Idealize.ShloMosaic Idealize.ShloMosaic.TcCoe Idealize.SL.Sem
open Cert.KernelIdeal Cert.KernelIdeal.Gen Cert.OnlineSoftmax

/-- One head's queries out of the pair's block. -/
def headOf (x : FVec Ideal S256x256 .bf16) (h : Fin 2) : FVec Ideal S256x128 .bf16 :=
  fun j => x (ix2 (j 0) ⟨128 * h.val + (j 1).val, by have : (j 1).val < 128 := (j 1).isLt; omega⟩)

/-- A load of one head's queries. -/
theorem queries_read (arg3 : Memref sig .tc .vmem S256x256 .bf16) (X3 : BufTy.Contents (Elt Ideal) arg3.view.ty) (h : Fin 2)
    {off : Fin 2 → ℕ} (inb : ∀ a, off a + S256x128.size a ≤ S256x256.size a) (e : off = ![0, 128 * h.val]) :
    View.readAt (Elt Ideal) arg3.view (Rect.unit (s := S256x256) off S256x128.size inb).toLoadRect X3
      = headOf (arg3.view.read (Elt Ideal) X3) h := by
  subst e
  funext j
  refine congrArg (arg3.view.read (Elt Ideal) X3) (funext fun a => Fin.ext ?_)
  match a with
  | 0 => show 0 + 1 * (j 0).val = (j 0).val; omega
  | 1 => show 128 * h.val + 1 * (j 1).val = 128 * h.val + (j 1).val; omega

/-- The last write of a whole buffer, and what was there before it: reading after both. -/
theorem readCov_append {s : Shape} {e : EltTy} (v : View sig .tc .vmem s e) {off : Fin s.rank → ℕ} (inb : ∀ a, off a + s.size a ≤ s.size a)
    (L L' : List (View.Piece (Elt Ideal) s e)) :
    v.readCov ([] ++ (L ++ L')) (Rect.unit off s.size inb).toLoadRect = v.read (Elt Ideal) (v.writes (Elt Ideal) (v.writes (Elt Ideal) v.junk L') L) := by
  rw [List.nil_append, View.readCov, View.readAt_full, View.writes_append]

section Body
variable (c : Dev nD) (i : grid0.Coords) (arg3 : Memref sig .tc .vmem S256x256 .bf16) (harg3 : arg3.IsWhole) (arg4 : Memref sig .tc .vmem S8192x256 .bf16) (harg4 : arg4.IsWhole) (arg5 : Memref sig .tc .vmem S8192x128 .bf16) (harg5 : arg5.IsWhole) (arg6 : Memref sig .tc .vmem S256x128 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x128 .f32) (harg9 : arg9.IsWhole)
   (x0 : FVec Ideal S256x256 .bf16) (x1 : FVec Ideal S8192x256 .bf16) (x2 : FVec Ideal S8192x128 .bf16)

/-- The first head before its diagonal block. -/
theorem early0 (hs : ∀ r j, score (headOf x0 0) x1 0 (i 2).val r j ≠ ⊤) :
    Holds (score (headOf x0 0) x1 0 (i 2).val) (value x2) (256 * (i 2).val)
      (kernelRun0_A.sl.v28 (F := Ideal) c i arg3 harg3 arg4 harg4 arg5 harg5 arg6 harg6 arg7 harg7 arg8 harg8 arg9 harg9 x0 x1 x2) (kernelRun0_A.sl.v37 (F := Ideal) c i arg3 harg3 arg4 harg4 arg5 harg5 arg6 harg6 arg7 harg7 arg8 harg8 arg9 harg9 x0 x1 x2) (kernelRun0_A.sl.v45 (F := Ideal) c i arg3 harg3 arg4 harg4 arg5 harg5 arg6 harg6 arg7 harg7 arg8 harg8 arg9 harg9 x0 x1 x2) := by
  unfold kernelRun0_A.sl.v28 kernelRun0_A.sl.v37 kernelRun0_A.sl.v45
  rw [none2]
  dsimp only
  rw [readCov_append, readCov_append, readCov_append, queries_read arg3 _ 0 (off := ![0, 0]) _ rfl, harg3.read_unread]
  have h := reads1 Variants.none c none i arg3 harg3 arg4 harg4 arg5 harg5 arg6 harg6 arg7 harg7 arg8 harg8 arg9 harg9 (headOf x0 0) (harg4.unread x1) (harg5.unread x2)
    (arg7.view.writes (Elt Ideal) arg7.view.junk (kernelRun0_A.sl.HS0_1 (F := Ideal)))
    (arg8.view.writes (Elt Ideal) arg8.view.junk (kernelRun0_A.sl.HS1_1 (F := Ideal)))
    (arg9.view.writes (Elt Ideal) arg9.view.junk (kernelRun0_A.sl.HS2_1 (F := Ideal)))
  rw [harg4.read_unread, harg5.read_unread] at h
  have e7 : arg7.view.read (Elt Ideal) (arg7.view.writes (Elt Ideal) arg7.view.junk (kernelRun0_A.sl.HS0_1 (F := Ideal))) = k0_pay5 (F := Ideal) := View.read_writes_full arg7.view _ _ _ []
  have e8 : arg8.view.read (Elt Ideal) (arg8.view.writes (Elt Ideal) arg8.view.junk (kernelRun0_A.sl.HS1_1 (F := Ideal))) = k0_pay6 (F := Ideal) := View.read_writes_full arg8.view _ _ _ []
  have e9 : arg9.view.read (Elt Ideal) (arg9.view.writes (Elt Ideal) arg9.view.junk (kernelRun0_A.sl.HS2_1 (F := Ideal))) = k0_pay7 (F := Ideal) := View.read_writes_full arg9.view _ _ _ []
  rw [e7, e8, e9] at h
  have h' := h hs (holds_start _ _) (i 2).val le_rfl
  rw [show Scf.trips (k0_t1_loop i).lb (k0_t1_loop i).ub (k0_t1_loop i).st = (i 2).val from trips1 i]
  exact h'

/-- The first head through its diagonal block: the numbers divided for its half of the output. -/
theorem late0 (hs : ∀ r j, score (headOf x0 0) x1 0 (i 2).val r j ≠ ⊤) :
    ∃ m, Holds (score (headOf x0 0) x1 0 (i 2).val) (value x2) (256 * (i 2).val + 256)
      m (kernelRun0_A.sl.v60 (F := Ideal) c i arg3 harg3 arg4 harg4 arg5 harg5 arg6 harg6 arg7 harg7 arg8 harg8 arg9 harg9 x0 x1 x2) (kernelRun0_A.sl.v59 (F := Ideal) c i arg3 harg3 arg4 harg4 arg5 harg5 arg6 harg6 arg7 harg7 arg8 harg8 arg9 harg9 x0 x1 x2) := by
  have h32 : (i 2).val < 32 := (i 2).isLt
  refine ⟨k0_pay28 (kernelRun0_A.sl.r (F := Ideal) c i arg3 harg3 arg4 harg4 x0 x1) (kernelRun0_A.sl.v28 (F := Ideal) c i arg3 harg3 arg4 harg4 arg5 harg5 arg6 harg6 arg7 harg7 arg8 harg8 arg9 harg9 x0 x1 x2), ?_⟩
  have e60 : kernelRun0_A.sl.v60 (F := Ideal) c i arg3 harg3 arg4 harg4 arg5 harg5 arg6 harg6 arg7 harg7 arg8 harg8 arg9 harg9 x0 x1 x2 = k0_pay26 (kernelRun0_A.sl.r (F := Ideal) c i arg3 harg3 arg4 harg4 x0 x1) (kernelRun0_A.sl.v28 (F := Ideal) c i arg3 harg3 arg4 harg4 arg5 harg5 arg6 harg6 arg7 harg7 arg8 harg8 arg9 harg9 x0 x1 x2) (kernelRun0_A.sl.v37 (F := Ideal) c i arg3 harg3 arg4 harg4 arg5 harg5 arg6 harg6 arg7 harg7 arg8 harg8 arg9 harg9 x0 x1 x2) := by
    unfold kernelRun0_A.sl.v60 kernelRun0_A.sl.HS1_1_1
    exact View.readCov_full arg8.view _ _ _ _
  have e59 : kernelRun0_A.sl.v59 (F := Ideal) c i arg3 harg3 arg4 harg4 arg5 harg5 arg6 harg6 arg7 harg7 arg8 harg8 arg9 harg9 x0 x1 x2 = k0_pay27 (kernelRun0_A.sl.r (F := Ideal) c i arg3 harg3 arg4 harg4 x0 x1) (kernelRun0_A.sl.v28 (F := Ideal) c i arg3 harg3 arg4 harg4 arg5 harg5 arg6 harg6 arg7 harg7 arg8 harg8 arg9 harg9 x0 x1 x2) (kernelRun0_A.sl.v45 (F := Ideal) c i arg3 harg3 arg4 harg4 arg5 harg5 arg6 harg6 arg7 harg7 arg8 harg8 arg9 harg9 x0 x1 x2) (valBlock x2 (i 2).val h32) := by
    unfold kernelRun0_A.sl.v59 kernelRun0_A.sl.HS2_1_1
    refine (View.readCov_full arg9.view _ _ _ _).trans ?_
    rw [vals_read arg5 _ (i 2).val h32 (k0_off6_inb i) (k0_off6_eq i), harg5.read_unread]
  rw [e60, e59]
  refine holds_block hs (early0 c i arg3 harg3 arg4 harg4 arg5 harg5 arg6 harg6 arg7 harg7 arg8 harg8 arg9 harg9 x0 x1 x2 hs) _ (fun r t => ?_) _ (fun t d => value_block x2 h32 t d)
  unfold kernelRun0_A.sl.r
  rw [queries_read arg3 _ 0 (off := ![0, 0]) _ rfl, harg3.read_unread, keys_read arg4 _ 0 (i 2).val h32 (k0_off5_inb i) (k0_off5_eq i), harg4.read_unread]
  exact score_diag _ _ _ h32 r t

/-- The second head before its diagonal block. -/
theorem early1 (hs : ∀ r j, score (headOf x0 1) x1 1 (i 2).val r j ≠ ⊤) :
    Holds (score (headOf x0 1) x1 1 (i 2).val) (value x2) (256 * (i 2).val)
      (kernelRun0_A.sl.v89 (F := Ideal) c i arg3 harg3 arg4 harg4 arg5 harg5 arg6 harg6 arg7 harg7 arg8 harg8 arg9 harg9 x0 x1 x2) (kernelRun0_A.sl.v98 (F := Ideal) c i arg3 harg3 arg4 harg4 arg5 harg5 arg6 harg6 arg7 harg7 arg8 harg8 arg9 harg9 x0 x1 x2) (kernelRun0_A.sl.v106 (F := Ideal) c i arg3 harg3 arg4 harg4 arg5 harg5 arg6 harg6 arg7 harg7 arg8 harg8 arg9 harg9 x0 x1 x2) := by
  unfold kernelRun0_A.sl.v89 kernelRun0_A.sl.v98 kernelRun0_A.sl.v106
  rw [none4]
  dsimp only
  rw [readCov_append, readCov_append, readCov_append]
  have eq : kernelRun0_A.sl.r_2 (F := Ideal) c arg3 harg3 x0 = headOf x0 1 := by
    unfold kernelRun0_A.sl.r_2
    rw [queries_read arg3 _ 1 (off := ![0, 128]) _ rfl, harg3.read_unread]
  rw [eq, show Scf.trips (k0_t3_loop i).lb (k0_t3_loop i).ub (k0_t3_loop i).st = (i 2).val from trips3 i]
  have h := reads3 Variants.none c none i arg3 harg3 arg4 harg4 arg5 harg5 arg6 harg6 arg7 harg7 arg8 harg8 arg9 harg9 (headOf x0 1) (harg4.unread x1) (harg5.unread x2)
  rw [harg4.read_unread, harg5.read_unread] at h
  refine h (BitVec.ofNat 32 (i 2).val) _ _ _ _ _ _ hs ?_ (i 2).val le_rfl
  rw [View.read_writes_full, View.read_writes_full, View.read_writes_full]
  exact holds_start _ _

/-- The second head through its diagonal block. -/
theorem late1 (hs : ∀ r j, score (headOf x0 1) x1 1 (i 2).val r j ≠ ⊤) :
    ∃ m, Holds (score (headOf x0 1) x1 1 (i 2).val) (value x2) (256 * (i 2).val + 256)
      m (kernelRun0_A.sl.v121 (F := Ideal) c i arg3 harg3 arg4 harg4 arg5 harg5 arg6 harg6 arg7 harg7 arg8 harg8 arg9 harg9 x0 x1 x2) (kernelRun0_A.sl.v120 (F := Ideal) c i arg3 harg3 arg4 harg4 arg5 harg5 arg6 harg6 arg7 harg7 arg8 harg8 arg9 harg9 x0 x1 x2) := by
  have h32 : (i 2).val < 32 := (i 2).isLt
  have eK : View.readAt (Elt Ideal) arg4.view (Rect.unit (s := S8192x256) (k0_off11 i) S256x128.size (k0_off11_inb i)).toLoadRect (harg4.unread x1) = keyBlock x1 1 (i 2).val h32 := by
    rw [keys_read arg4 _ 1 (i 2).val h32 (k0_off11_inb i) (k0_off11_eq i), harg4.read_unread]
  have eV : View.readAt (Elt Ideal) arg5.view (Rect.unit (s := S8192x128) (k0_off6 i) S256x128.size (k0_off6_inb i)).toLoadRect (harg5.unread x2) = valBlock x2 (i 2).val h32 := by
    rw [vals_read arg5 _ (i 2).val h32 (k0_off6_inb i) (k0_off6_eq i), harg5.read_unread]
  have eq : kernelRun0_A.sl.r_2 (F := Ideal) c arg3 harg3 x0 = headOf x0 1 := by
    unfold kernelRun0_A.sl.r_2
    rw [queries_read arg3 _ 1 (off := ![0, 128]) _ rfl, harg3.read_unread]
  refine ⟨k0_pay28 (k0_pay22 (headOf x0 1) (keyBlock x1 1 (i 2).val h32)) (kernelRun0_A.sl.v89 (F := Ideal) c i arg3 harg3 arg4 harg4 arg5 harg5 arg6 harg6 arg7 harg7 arg8 harg8 arg9 harg9 x0 x1 x2), ?_⟩
  have e121 : kernelRun0_A.sl.v121 (F := Ideal) c i arg3 harg3 arg4 harg4 arg5 harg5 arg6 harg6 arg7 harg7 arg8 harg8 arg9 harg9 x0 x1 x2 = k0_pay26 (k0_pay22 (headOf x0 1) (keyBlock x1 1 (i 2).val h32)) (kernelRun0_A.sl.v89 (F := Ideal) c i arg3 harg3 arg4 harg4 arg5 harg5 arg6 harg6 arg7 harg7 arg8 harg8 arg9 harg9 x0 x1 x2) (kernelRun0_A.sl.v98 (F := Ideal) c i arg3 harg3 arg4 harg4 arg5 harg5 arg6 harg6 arg7 harg7 arg8 harg8 arg9 harg9 x0 x1 x2) := by
    unfold kernelRun0_A.sl.v121 kernelRun0_A.sl.HS1_1_2
    refine (View.readCov_full (s := S256x1) arg8.view _ _ _ _).trans ?_
    unfold kernelRun0_A.sl.r_4 kernelRun0_A.sl.r_5
    rw [eq, eK]
    rfl
  have e120 : kernelRun0_A.sl.v120 (F := Ideal) c i arg3 harg3 arg4 harg4 arg5 harg5 arg6 harg6 arg7 harg7 arg8 harg8 arg9 harg9 x0 x1 x2 = k0_pay27 (k0_pay22 (headOf x0 1) (keyBlock x1 1 (i 2).val h32)) (kernelRun0_A.sl.v89 (F := Ideal) c i arg3 harg3 arg4 harg4 arg5 harg5 arg6 harg6 arg7 harg7 arg8 harg8 arg9 harg9 x0 x1 x2) (kernelRun0_A.sl.v106 (F := Ideal) c i arg3 harg3 arg4 harg4 arg5 harg5 arg6 harg6 arg7 harg7 arg8 harg8 arg9 harg9 x0 x1 x2) (valBlock x2 (i 2).val h32) := by
    unfold kernelRun0_A.sl.v120 kernelRun0_A.sl.HS2_1_2
    refine (View.readCov_full (s := S256x128) arg9.view _ _ _ _).trans ?_
    unfold kernelRun0_A.sl.r_4 kernelRun0_A.sl.r_5
    rw [eq, eK, ← eV]
    rfl
  rw [e121, e120]
  exact holds_block hs (early1 c i arg3 harg3 arg4 harg4 arg5 harg5 arg6 harg6 arg7 harg7 arg8 harg8 arg9 harg9 x0 x1 x2 hs) _ (fun r t => score_diag _ _ _ h32 r t) _ (fun t d => value_block x2 h32 t d)

/-- The output block: the first head's quotient in the low lanes, the second's in the high ones. -/
theorem block_at (hs : ∀ h r j, score (headOf x0 h) x1 h (i 2).val r j ≠ ⊤) (r : Fin 256) (d : Fin 128) :
    out0_A_3 (F := Ideal) c i arg3 harg3 arg4 harg4 arg5 harg5 arg6 harg6 arg7 harg7 arg8 harg8 arg9 harg9 x0 x1 x2 (ix2 r d)
      = Ideal.div (pull (score (headOf x0 ⟨d.val / 64, by omega⟩) x1 ⟨d.val / 64, by omega⟩ (i 2).val r) (value x2 d) (256 * (i 2).val + 256))
          (mass (score (headOf x0 ⟨d.val / 64, by omega⟩) x1 ⟨d.val / 64, by omega⟩ (i 2).val r) (256 * (i 2).val + 256)) := by
  obtain ⟨_, h0⟩ := late0 c i arg3 harg3 arg4 harg4 arg5 harg5 arg6 harg6 arg7 harg7 arg8 harg8 arg9 harg9 x0 x1 x2 (hs 0)
  obtain ⟨_, h1⟩ := late1 c i arg3 harg3 arg4 harg4 arg5 harg5 arg6 harg6 arg7 harg7 arg8 harg8 arg9 harg9 x0 x1 x2 (hs 1)
  obtain ⟨-, l0, a0⟩ := h0 r
  obtain ⟨-, l1, a1⟩ := h1 r
  have e : out0_A_3 (F := Ideal) c i arg3 harg3 arg4 harg4 arg5 harg5 arg6 harg6 arg7 harg7 arg8 harg8 arg9 harg9 x0 x1 x2
      = k0_pay4 (kernelRun0_A.sl.r_1 (F := Ideal) c i arg3 harg3 arg4 harg4 arg5 harg5 arg6 harg6 arg7 harg7 arg8 harg8 arg9 harg9 x0 x1 x2) (kernelRun0_A.sl.v120 (F := Ideal) c i arg3 harg3 arg4 harg4 arg5 harg5 arg6 harg6 arg7 harg7 arg8 harg8 arg9 harg9 x0 x1 x2) (kernelRun0_A.sl.v121 (F := Ideal) c i arg3 harg3 arg4 harg4 arg5 harg5 arg6 harg6 arg7 harg7 arg8 harg8 arg9 harg9 x0 x1 x2) := by
    unfold out0_A_3 kernelRun0_A
    dsimp only
    exact View.read_writes_full (s := S256x128) VO0_3 _ _ _ []
  rw [e, out_at]
  by_cases hd : d.val < 64
  · rw [if_pos hd]
    unfold kernelRun0_A.sl.r_1
    rw [half_at, a0, l0]
    rw [show (⟨d.val / 64, by omega⟩ : Fin 2) = 0 from Fin.ext (by show d.val / 64 = 0; omega)]
  · rw [if_neg hd, a1, l1]
    rw [show (⟨d.val / 64, by omega⟩ : Fin 2) = 1 from Fin.ext (by show d.val / 64 = 1; omega)]
end Body
end Cert.Mla

end
-- ==== Proof.RefAt.lean ====
/- The reference read at an index: one softmax-weighted sum of values per query row and head. -/
module

public import proofs.«01_k».proof.Proof.Gen.ReferenceIdeal.Run
public import proofs.«01_k».proof.Proof.Payload

@[expose] public section

set_option maxRecDepth 16384

noncomputable section

namespace Cert.MlaRef
open Idealize.ShloMosaic Idealize.ShloMosaic.TcCoe Idealize.SL.Sem
open Cert.ReferenceIdeal Cert.ReferenceIdeal.Gen Cert.Mla

/-- The scores, later keys cut off. -/
def scores (q k : FVec Ideal S16384x1024 .bf16) : FVec Ideal S2x8x8192x8192 .f32 :=
  select (broadcastInDim S2x8x8192x8192 ![2, 3] bcast_S8192x8192_S2x8x8192x8192_2_3 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))) (Host.dotGeneral dot_S2x8192x8x128_S2x8192x8x128_S2x8x8192x8192_3_3_1_1_02_02 none (shapeCast _ (extf .f32 q bitsLt_bf16_f32) shapeCasts_S16384x1024_S2x8192x8x128) (shapeCast _ (extf .f32 k bitsLt_bf16_f32) shapeCasts_S16384x1024_S2x8192x8x128)) (broadcastInDim S2x8x8192x8192 ![] bcast_S_S2x8x8192x8192 (id (constant S_ .f32 0xFF800000#32)))

/-- Each row's largest score. -/
def rowMax (S : FVec Ideal S2x8x8192x8192 .f32) : FVec Ideal S2x8x8192 .f32 :=
  Host.reduce FloatOps.maximumf S (constant S_ .f32 0xFF800000#32) reducesTo_S2x8x8192x8192_S2x8x8192_d3 h_S_

/-- … as the shift the softmax takes. -/
def rowTop (S : FVec Ideal S2x8x8192x8192 .f32) : FVec Ideal S2x8x8192 .f32 :=
  maximumf (broadcastInDim S2x8x8192 ![] bcast_S_S2x8x8192 (constant S_ .f32 0xFF800000#32)) (rowMax S)

/-- The exponentials of the shifted scores. -/
def exps (S : FVec Ideal S2x8x8192x8192 .f32) : FVec Ideal S2x8x8192x8192 .f32 :=
  Host.exp (subf S (broadcastInDim S2x8x8192x8192 ![0, 1, 2, 3] bcast_S2x8x8192x1_S2x8x8192x8192_0_1_2_3 (broadcastInDim S2x8x8192x1 ![0, 1, 2] bcast_S2x8x8192_S2x8x8192x1_0_1_2 (rowTop S))))

/-- The softmax weights. -/
def weights (S : FVec Ideal S2x8x8192x8192 .f32) : FVec Ideal S2x8x8192x8192 .f32 :=
  Host.divf (exps S) (broadcastInDim S2x8x8192x8192 ![0, 1, 2, 3] bcast_S2x8x8192x1_S2x8x8192x8192_0_1_2_3 (broadcastInDim S2x8x8192x1 ![0, 1, 2] bcast_S2x8x8192_S2x8x8192x1_0_1_2 (Host.reduceAdd (exps S) (constant S_ .f32 0x00000000#32) reducesTo_S2x8x8192x8192_S2x8x8192_d3 h_S_)))

/-- The whole reference. -/
def result (q k : FVec Ideal S16384x1024 .bf16) (v : FVec Ideal S16384x512 .bf16) : FVec Ideal S16384x512 .bf16 :=
  truncf .bf16 (shapeCast _ (transpose S2x8192x8x64 [0, 3, 1, 2] (Host.dotGeneral dot_S2x8192x8x64_S2x8x8192x8192_S2x8x64x8192_1_3_3_2_02_01 none (shapeCast _ (extf .f32 v bitsLt_bf16_f32) shapeCasts_S16384x512_S2x8192x8x64) (extf .f32 (truncf .bf16 (weights (scores q k)) bitsLt_bf16_f32) bitsLt_bf16_f32)) transposes_S2x8x64x8192_S2x8192x8x64_0_3_1_2) shapeCasts_S2x8192x8x64_S16384x512) bitsLt_bf16_f32

/-- It is what the run leaves. -/
theorem result_eq (m : (ℓ : Loc nD τ sig) → Buf (Elt Ideal) ℓ) (c : Dev nD) :
    Cert.ReferenceIdeal.Value.res_main_v30 m c = result (m ((c.tc : Thread nD τ).loc main_arg0)) (m ((c.tc : Thread nD τ).loc main_arg1)) (m ((c.tc : Thread nD τ).loc main_arg2)) := rfl

/-- A score. -/
theorem scores_at (q k : FVec Ideal S16384x1024 .bf16) (b : Fin 2) (h : Fin 8) (r j : Fin 8192) :
    scores q k (ix4 b h r j) = if j.val ≤ r.val then
      ∑ d : Fin 128, q (ix2 ⟨b.val * 8192 + r.val, by omega⟩ ⟨h.val * 128 + d.val, by omega⟩) * k (ix2 ⟨b.val * 8192 + j.val, by omega⟩ ⟨h.val * 128 + d.val, by omega⟩)
      else ⊥ := by
  pointwise [scores, id]
  refine (select_le (by omega) (by omega) _ _).trans ?_
  rw [ofBits_neg_inf]

/-- A row's largest score. -/
theorem rowMax_at (S : FVec Ideal S2x8x8192x8192 .f32) (b : Fin 2) (h : Fin 8) (r : Fin 8192) :
    rowMax S (ix3 b h r) = Finset.univ.sup fun j : Fin 8192 => S (ix4 b h r j) := by
  unfold rowMax
  rw [Host.reduce_eq_fold, Shape.ReducesTo.fold_fiber_r4_a3]
  exact (congrArg (fun z => Finset.fold max z _ _) ofBits_neg_inf).trans (fold_max_bot _ _)

/-- Taking the larger of the bottom and a number changes nothing. -/
theorem max_bottom (X : FVec Ideal S2x8x8192 .f32) (i : S2x8x8192.Idx) :
    maximumf (broadcastInDim S2x8x8192 ![] bcast_S_S2x8x8192 (constant S_ .f32 0xFF800000#32)) X i = X i := by
  have e : maximumf (broadcastInDim S2x8x8192 ![] bcast_S_S2x8x8192 (constant S_ .f32 0xFF800000#32)) X i = max (Ideal.ofBits .f32 0xFF800000#32) (X i) := rfl
  rw [e, ofBits_neg_inf]
  exact max_eq_right bot_le

/-- The shift is that. -/
theorem rowTop_eq (S : FVec Ideal S2x8x8192x8192 .f32) : rowTop S = rowMax S := funext fun i => max_bottom (rowMax S) i

/-- The shift at an index. -/
theorem rowTop_at (S : FVec Ideal S2x8x8192x8192 .f32) (b : Fin 2) (h : Fin 8) (r : Fin 8192) :
    rowTop S (ix3 b h r) = Finset.univ.sup fun j : Fin 8192 => S (ix4 b h r j) := by
  rw [rowTop_eq, rowMax_at]

/-- A shifted exponential. -/
theorem exps_at (S : FVec Ideal S2x8x8192x8192 .f32) (b : Fin 2) (h : Fin 8) (r j : Fin 8192) :
    exps S (ix4 b h r j) = Ideal.exp (S (ix4 b h r j) - rowTop S (ix3 b h r)) := by
  pointwise [exps]

/-- A weight. -/
theorem weights_at (S : FVec Ideal S2x8x8192x8192 .f32) (b : Fin 2) (h : Fin 8) (r j : Fin 8192) :
    weights S (ix4 b h r j) = Ideal.div (exps S (ix4 b h r j)) (∑ l : Fin 8192, exps S (ix4 b h r l)) := by
  pointwise [weights]

/-- One number of the result. -/
theorem result_at (q k : FVec Ideal S16384x1024 .bf16) (v : FVec Ideal S16384x512 .bf16) (R : Fin 16384) (C : Fin 512) :
    result q k v (ix2 R C) = ∑ j : Fin 8192, v (ix2 ⟨R.val / 8192 * 8192 + j.val, by omega⟩ C)
      * weights (scores q k) (ix4 ⟨R.val / 8192, by omega⟩ ⟨C.val / 64, by omega⟩ ⟨R.val % 8192, by omega⟩ j) := by
  pointwise [result]

end Cert.MlaRef

end
-- ==== Proof.Meet.lean ====
/- The kernel's quotient is the reference's weighted sum; finite inputs make finite scores. -/
module

public import proofs.«01_k».proof.Proof.OnlineSoftmax
public import proofs.«01_k».proof.Pre_finite
public import Idealize.ShloMosaic.Lib.Pointwise

@[expose] public section

set_option maxRecDepth 16384

noncomputable section

namespace Cert.Mla
open Idealize.ShloMosaic Idealize.ShloMosaic.TcCoe Idealize.SL.Sem
open Cert.OnlineSoftmax

/-- The running maximum, as a supremum over the keys' numbers. -/
theorem top_univ (s : ℕ → EReal) (n : ℕ) : top s n = Finset.univ.sup fun j : Fin n => s j.val := by
  refine le_antisymm (Finset.sup_le fun j hj => ?_) (Finset.sup_le fun j _ => ?_)
  · exact Finset.le_sup (f := fun j : Fin n => s j.val) (Finset.mem_univ ⟨j, Finset.mem_range.mp hj⟩)
  · exact Finset.le_sup (f := s) (Finset.mem_range.mpr j.isLt)

/-- One row: dividing at the end, over the keys up to the row, is weighing every key first. -/
theorem row_meet (s v : ℕ → EReal) (hs : ∀ j, s j ≠ ⊤) (h0 : s 0 ≠ ⊥) {n N : ℕ} (hn : 0 < n) (hN : n ≤ N) (hb : ∀ j, n ≤ j → s j = ⊥) :
    Ideal.div (pull s v n) (mass s n)
      = ∑ j : Fin N, v j.val * Ideal.div (Ideal.exp (s j.val - Finset.univ.sup fun l : Fin N => s l.val))
          (∑ l : Fin N, Ideal.exp (s l.val - Finset.univ.sup fun l : Fin N => s l.val)) := by
  rw [← pull_bot (h := hN) (hb := hb), ← mass_bot (h := hN) (hb := hb), pull_div_mass s v hs (lt_of_lt_of_le hn hN) h0, ← top_univ]
  have e : mass s N = ∑ l : Fin N, Ideal.exp (s l.val - top s N) := Finset.sum_range _
  rw [e, Finset.sum_range]
  exact Finset.sum_congr rfl fun j _ => mul_comm _ _

/-- A sum of reals, taken among the extended reals. -/
theorem real_sum {ι : Type} (S : Finset ι) (f : ι → ℝ) : ((∑ d ∈ S, f d : ℝ) : EReal) = ∑ d ∈ S, (f d : EReal) := by
  classical
  induction S using Finset.induction_on with
  | empty => rfl
  | insert a S ha ih => rw [Finset.sum_insert ha, Finset.sum_insert ha, EReal.coe_add, ih]

/-- A number whose absolute value is under the top is real. -/
theorem real_of_abs {x : EReal} (h : max x (-x) < ⊤) : ∃ y : ℝ, x = y := by
  induction x using EReal.rec with
  | bot => simp at h
  | top => simp at h
  | coe y => exact ⟨y, rfl⟩

/-- A sum of products of real numbers is a real number. -/
theorem dot_real {n : ℕ} (a b : Fin n → EReal) (ha : ∀ d, ∃ x : ℝ, a d = x) (hb : ∀ d, ∃ x : ℝ, b d = x) : ∃ x : ℝ, ∑ d, a d * b d = x := by
  choose x hx using ha
  choose y hy using hb
  refine ⟨∑ d, x d * y d, ?_⟩
  rw [real_sum]
  exact Finset.sum_congr rfl fun d _ => by rw [hx, hy, EReal.coe_mul]

/-- Plus infinity's word. -/
theorem ofBits_inf : Ideal.ofBits .f32 0x7F800000#32 = ⊤ := by
  simp [Ideal.ofBits, Ideal.ieee]

/-- What the precondition says of the queries and the keys. -/
theorem finite_real [Cert.Pre_finite.Facts] (q k : FVec Ideal Cert.Pre_finite.S16384x1024 .bf16) (v : FVec Ideal Cert.Pre_finite.S16384x512 .bf16)
    (h : Cert.Pre_finite.fn (F := Ideal) q k v = fun _ => 1#1) (i : Fin 16384) (j : Fin 1024) :
    (∃ x : ℝ, q (ix2 i j) = x) ∧ ∃ x : ℝ, k (ix2 i j) = x := by
  have e := congrFun h (ix2 i j)
  pointwise [Cert.Pre_finite.fn] at e
  rw [ofBits_inf] at e
  have key : ∀ a b : Bool, IntOp.andi (BitVec.ofBool a) (BitVec.ofBool b) = 1#1 → a = true ∧ b = true := by decide
  obtain ⟨eq, ek⟩ := key _ _ e
  exact ⟨real_of_abs (of_decide_eq_true eq), real_of_abs (of_decide_eq_true ek)⟩

end Cert.Mla

end
-- ==== Proof.Value.lean ====
/- The kernel's result array is the reference's, for finite queries and keys. -/
module

public import proofs.«01_k».proof.Proof.Body
public import proofs.«01_k».proof.Proof.RefAt
public import proofs.«01_k».proof.Proof.Meet

@[expose] public section

set_option maxRecDepth 16384

noncomputable section

namespace Cert.Mla
open Idealize.ShloMosaic Idealize.ShloMosaic.TcCoe Idealize.SL.Sem
open Idealize.ShloMosaic.Pipeline (Dat)
open Cert.KernelIdeal Cert.KernelIdeal.Gen Cert.OnlineSoftmax

/-- The windows' blocks at every grid point. -/
theorem idx : ∀ t : Fin cfg0.N, win0_0.index t = ![(grid0.coords t 0).val * 32 + (grid0.coords t 2).val, (grid0.coords t 1).val]
    ∧ win0_1.index t = ![(grid0.coords t 0).val, (grid0.coords t 1).val]
    ∧ win0_2.index t = ![(grid0.coords t 0).val, (grid0.coords t 1).val]
    ∧ win0_3.index t = ![(grid0.coords t 0).val * 32 + (grid0.coords t 2).val, (grid0.coords t 1).val] :=
  (by decide +kernel : ∀ t : Fin grid0.N, _)

variable (m : (ℓ : Loc nD τ sig) → Buf (Elt Ideal) ℓ) (c : Dev nD)

/-- The arguments, at their own types. -/
abbrev argQ : FVec Ideal S16384x1024 .bf16 := m ((c : Thread nD τ).loc main_arg0)
/-- The keys. -/
abbrev argK : FVec Ideal S16384x1024 .bf16 := m ((c : Thread nD τ).loc main_arg1)
/-- The values. -/
abbrev argV : FVec Ideal S16384x512 .bf16 := m ((c : Thread nD τ).loc main_arg2)

/-- A point's block of queries. -/
theorem queries_at (t : Fin cfg0.N) (b : Fin 2) (p : Fin 4) (i : Fin 32) (hb : (grid0.coords t 0).val = b.val) (hp : (grid0.coords t 1).val = p.val)
    (hi : (grid0.coords t 2).val = i.val) (r e : Fin 256) :
    iblk m c 0 t (ix2 r e) = argQ m c (ix2 ⟨(b.val * 32 + i.val) * 256 + r.val, by omega⟩ ⟨p.val * 256 + e.val, by omega⟩) := by
  blk_ext [iblk, V, idx t, hb, hp, hi]

/-- A point's keys. -/
theorem keys_at (t : Fin cfg0.N) (b : Fin 2) (p : Fin 4) (hb : (grid0.coords t 0).val = b.val) (hp : (grid0.coords t 1).val = p.val)
    (j : Fin 8192) (e : Fin 256) :
    iblk m c 1 t (ix2 j e) = argK m c (ix2 ⟨b.val * 8192 + j.val, by omega⟩ ⟨p.val * 256 + e.val, by omega⟩) := by
  blk_ext [iblk, V, idx t, hb, hp]

/-- A point's values. -/
theorem values_at (t : Fin cfg0.N) (b : Fin 2) (p : Fin 4) (hb : (grid0.coords t 0).val = b.val) (hp : (grid0.coords t 1).val = p.val)
    (j : Fin 8192) (e : Fin 128) :
    iblk m c 2 t (ix2 j e) = argV m c (ix2 ⟨b.val * 8192 + j.val, by omega⟩ ⟨p.val * 128 + e.val, by omega⟩) := by
  blk_ext [iblk, V, idx t, hb, hp]

/-- The kernel's scores are the reference's, at the row's place. -/
theorem score_eq (t : Fin cfg0.N) (b : Fin 2) (p : Fin 4) (i : Fin 32) (hb : (grid0.coords t 0).val = b.val) (hp : (grid0.coords t 1).val = p.val)
    (hi : (grid0.coords t 2).val = i.val) (h : Fin 2) (r : Fin 256) (j : Fin 8192) :
    score (headOf (iblk m c 0 t) h) (iblk m c 1 t) h i.val r j.val
      = Cert.MlaRef.scores (argQ m c) (argK m c) (ix4 b ⟨2 * p.val + h.val, by omega⟩ ⟨256 * i.val + r.val, by omega⟩ j) := by
  rw [Cert.MlaRef.scores_at, score, dif_pos j.isLt]
  refine if_congr Iff.rfl (Finset.sum_congr rfl fun d _ => ?_) rfl
  have e0 := queries_at m c t b p i hb hp hi r ⟨128 * h.val + d.val, by omega⟩
  have e1 := keys_at m c t b p hb hp j ⟨128 * h.val + d.val, by omega⟩
  refine (Ideal.mul_congr e0 e1).trans (Ideal.mul_congr (congrArg (argQ m c) ((ix2_inj ..).2 ⟨Fin.ext ?_, Fin.ext ?_⟩)) (congrArg (argK m c) ((ix2_inj ..).2 ⟨rfl, Fin.ext ?_⟩)))
  · show (b.val * 32 + i.val) * 256 + r.val = b.val * 8192 + (256 * i.val + r.val); omega
  · show p.val * 256 + (128 * h.val + d.val) = (2 * p.val + h.val) * 128 + d.val; omega
  · show p.val * 256 + (128 * h.val + d.val) = (2 * p.val + h.val) * 128 + d.val; omega

/-- With finite queries and keys a score is never the top … -/
theorem score_ne_top (q : FVec Ideal S256x128 .bf16) (X : FVec Ideal S8192x256 .bf16) (hq : ∀ r d, ∃ x : ℝ, q (ix2 r d) = x)
    (hX : ∀ j e, ∃ x : ℝ, X (ix2 j e) = x) (h : Fin 2) (qi : ℕ) (r : Fin 256) (j : ℕ) : score q X h qi r j ≠ ⊤ := by
  unfold score
  split_ifs with h1 h2
  · obtain ⟨x, hx⟩ := dot_real (fun d : Fin 128 => q (ix2 r d)) (fun d : Fin 128 => X (ix2 ⟨j, h1⟩ ⟨128 * h.val + d.val, by omega⟩)) (fun d => hq _ _) (fun d => hX _ _)
    rw [hx]
    exact EReal.coe_ne_top x
  · exact bot_ne_top
  · exact bot_ne_top

/-- … and the first key's is never the bottom. -/
theorem score_zero_ne_bot (q : FVec Ideal S256x128 .bf16) (X : FVec Ideal S8192x256 .bf16) (hq : ∀ r d, ∃ x : ℝ, q (ix2 r d) = x)
    (hX : ∀ j e, ∃ x : ℝ, X (ix2 j e) = x) (h : Fin 2) (qi : ℕ) (r : Fin 256) : score q X h qi r 0 ≠ ⊥ := by
  unfold score
  rw [dif_pos (by omega), if_pos (by omega)]
  obtain ⟨x, hx⟩ := dot_real (fun d : Fin 128 => q (ix2 r d)) (fun d : Fin 128 => X (ix2 ⟨0, by omega⟩ ⟨128 * h.val + d.val, by omega⟩)) (fun d => hq _ _) (fun d => hX _ _)
  rw [hx]
  exact EReal.coe_ne_bot x

/-- One number of a point's output block. -/
theorem point (hq : ∀ i j, ∃ x : ℝ, argQ m c (ix2 i j) = x) (hk : ∀ i j, ∃ x : ℝ, argK m c (ix2 i j) = x) (t : Fin cfg0.N)
    (b : Fin 2) (p : Fin 4) (i : Fin 32) (hb : (grid0.coords t 0).val = b.val) (hp : (grid0.coords t 1).val = p.val)
    (hi : (grid0.coords t 2).val = i.val) (r : Fin 256) (d : Fin 128) :
    outsAt0 m c t (ix2 r d)
      = Cert.MlaRef.result (argQ m c) (argK m c) (argV m c) (ix2 ⟨(b.val * 32 + i.val) * 256 + r.val, by omega⟩ ⟨p.val * 128 + d.val, by omega⟩) := by
  have hQ : ∀ h : Fin 2, ∀ r e, ∃ x : ℝ, headOf (iblk m c 0 t) h (ix2 r e) = x := fun h r e =>
    (hq _ _).imp fun x hx => (queries_at m c t b p i hb hp hi r ⟨128 * h.val + e.val, by omega⟩).trans hx
  have hK : ∀ j e, ∃ x : ℝ, (show FVec Ideal S8192x256 .bf16 from iblk m c 1 t) (ix2 j e) = x := fun j e =>
    (hk _ _).imp fun x hx => (keys_at m c t b p hb hp j e).trans hx
  unfold outsAt0
  rw [block_at (hs := fun h r j => score_ne_top _ _ (hQ h) hK h _ r j), hi]
  have h64 : d.val / 64 < 2 := by omega
  rw [row_meet (N := 8192) _ _ (fun j => score_ne_top _ _ (hQ ⟨d.val / 64, h64⟩) hK _ _ r j) (score_zero_ne_bot _ _ (hQ ⟨d.val / 64, h64⟩) hK _ _ r) (by omega) (by omega)
    (fun j hj => by unfold score; split_ifs with h1 h2 <;> first | rfl | (exfalso; omega))]
  rw [Cert.MlaRef.result_at]
  have eb : (⟨((b.val * 32 + i.val) * 256 + r.val) / 8192, by omega⟩ : Fin 2) = b := Fin.ext (by show ((b.val * 32 + i.val) * 256 + r.val) / 8192 = b.val; omega)
  have er : (⟨((b.val * 32 + i.val) * 256 + r.val) % 8192, by omega⟩ : Fin 8192) = ⟨256 * i.val + r.val, by omega⟩ := Fin.ext (by show ((b.val * 32 + i.val) * 256 + r.val) % 8192 = 256 * i.val + r.val; omega)
  have eh : (⟨(p.val * 128 + d.val) / 64, by omega⟩ : Fin 8) = ⟨2 * p.val + d.val / 64, by omega⟩ := Fin.ext (by show (p.val * 128 + d.val) / 64 = 2 * p.val + d.val / 64; omega)
  rw [eb, er, eh]
  refine Finset.sum_congr rfl fun j _ => ?_
  rw [Cert.MlaRef.weights_at]
  simp only [Cert.MlaRef.exps_at, Cert.MlaRef.rowTop_at]
  simp only [score_eq m c t b p i hb hp hi ⟨d.val / 64, h64⟩ r]
  refine congrArg (· * _) ?_
  rw [value, dif_pos j.isLt]
  refine (values_at m c t b p hb hp j d).trans (congrArg (argV m c) ((ix2_inj ..).2 ⟨Fin.ext ?_, rfl⟩))
  show b.val * 8192 + j.val = ((b.val * 32 + i.val) * 256 + r.val) / 8192 * 8192 + j.val
  omega

/-- The kernel's result array. -/
theorem final (hq : ∀ i j, ∃ x : ℝ, argQ m c (ix2 i j) = x) (hk : ∀ i j, ∃ x : ℝ, argK m c (ix2 i j) = x) :
    (dats m 0 c).arrAt 3 (cfgs 0).N = Cert.MlaRef.result (argQ m c) (argK m c) (argV m c) := by
  refine (dats m 0 c).arrAt_eq_of_covers 3 _ (by decide +kernel) fun t _ y => ?_
  blk_simp
  rw [after0_3]
  idx_vars y
  refine (point m c hq hk t ⟨(grid0.coords t 0).val, (grid0.coords t 0).isLt⟩ ⟨(grid0.coords t 1).val, (grid0.coords t 1).isLt⟩ ⟨(grid0.coords t 2).val, (grid0.coords t 2).isLt⟩ rfl rfl rfl _ _).trans ?_
  blk_ext [idx t]

end Cert.Mla

end
-- ==== Proof.Mla.lean ====
/- The claims about the attention over the prompt. -/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Value
public import Idealize.ShloMosaic.Lib.Claim

@[expose] public section

set_option maxRecDepth 16384

noncomputable section

namespace Cert.Mla
open Idealize.ShloMosaic Idealize.ShloMosaic.TcCoe Idealize.SL.Sem

/-- The precondition's program states two facts of shapes and widths. -/
theorem finite_facts : Cert.Pre_finite.Facts where
  bitsLt_bf16_f32 := Cert.ReferenceIdeal.Gen.facts.bitsLt_bf16_f32
  bcast_S_S16384x1024 := by decide

attribute [local instance] Cert.Kernel.Gen.facts Cert.KernelIdeal.Gen.facts Cert.ReferenceIdeal.Gen.facts finite_facts

/-- The reference changes nothing and ends quiet. -/
theorem quiet_reference : Cert.quiescent_ReferenceIdeal := by
  intro m g _
  refine (θ_run _ _ _).mono (fun r h => ⟨fun c => (h c).2, ?_⟩) (Cert.ReferenceIdeal.Value.run m g)
  exact Idealize.ShloMosaic.sem_eq_zero_of_no_sems (by decide) r.2

/-- Kernel and reference leave the same array. -/
theorem algebraic : Cert.algebraic_KernelIdeal_ReferenceIdeal_pre_finite := by
  intro m g m' g' hpre hagree
  refine ⟨fun c => Cert.MlaRef.result (argQ m c) (argK m c) (argV m c), ?_, ?_⟩
  · refine (θ_run _ _ _).mono (fun r h c => ?_) (Cert.KernelIdeal.Value.run_blocks m g)
    obtain ⟨h0, h1, h2, h3⟩ := h c
    exact ⟨h0.trans (final m c (fun i j => (finite_real _ _ _ (hpre c) i j).1) (fun i j => (finite_real _ _ _ (hpre c) i j).2)), h1, h2, h3⟩
  · refine (θ_run _ _ _).mono (fun r h c => ?_) (Cert.ReferenceIdeal.Value.run m' g')
    obtain ⟨h0, h1, h2, h3⟩ := h c
    refine ⟨h0.trans ?_, h1, h2, h3⟩
    rw [Cert.MlaRef.result_eq]
    obtain ⟨a0, a1, a2⟩ := hagree c
    rw [a0, a1, a2]

end Cert.Mla

end
-- ==== Proof.Swiglu.lean ====
/- The gated feed-forward block as a function of one row. -/
module

public import Idealize.ShloMosaic.Lib.Pointwise

@[expose] public section

noncomputable section

namespace Cert.Swiglu
open Idealize.ShloMosaic

/-- One number of the hidden layer: the gate's number through silu, times the other's. -/
def hidden (g u : EReal) : EReal := g * Ideal.logistic g * u

/-- One output number of the block: the row through the two inner products and the outer one. -/
def rowOut {K L : ℕ} (h : Fin K → EReal) (wg wu : Fin L → Fin K → EReal) (wd : Fin L → EReal) : EReal :=
  ∑ l : Fin L, hidden (∑ k : Fin K, h k * wg l k) (∑ k : Fin K, h k * wu l k) * wd l

/-- The kernel's spelling of the sigmoid. -/
theorem sigmoid_sub (x : EReal) : Ideal.div 1 (1 + Ideal.exp (0 - x)) = Ideal.logistic x := by
  rw [zero_sub]; rfl

/-- A sum with one lane kept is that lane. -/
theorem sum_lane {n : ℕ} (e : Fin n) (f : Fin n → EReal) : (∑ l : Fin n, if l.val = e.val then f l else 0) = f e := by
  rw [Finset.sum_eq_single e (fun l _ h => if_neg fun q => h (Fin.ext q)) (fun h => absurd (Finset.mem_univ _) h)]
  exact if_pos rfl

/-- Choosing on the equality of two small words is choosing on the numbers. -/
theorem select_eq {α : Type} {a b : ℕ} (ha : a < 2 ^ 32) (hb : b < 2 ^ 32) (x y : α) :
    Scalar.select (IntOp.cmpi .eq (BitVec.ofNat 32 a) (BitVec.ofNat 32 b)) x y = if a = b then x else y := by
  show Scalar.select (BitVec.ofBool (decide (BitVec.ofNat 32 a = BitVec.ofNat 32 b))) x y = _
  by_cases h : a = b
  · rw [if_pos h, decide_eq_true (by rw [h])]; rfl
  · rw [if_neg h, decide_eq_false (fun q => h (by
      have := congrArg BitVec.toNat q
      rwa [BitVec.toNat_ofNat, BitVec.toNat_ofNat, Nat.mod_eq_of_lt ha, Nat.mod_eq_of_lt hb] at this))]; rfl

end Cert.Swiglu

end
-- ==== Proof.MoePay.lean ====
/- What one expert adds to the accumulator, read at one place. -/
module

public import proofs.«01_k».proof.Proof.Gen.Kernel2Ideal.Skeleton
public import proofs.«01_k».proof.Proof.Swiglu

@[expose] public section

set_option maxRecDepth 16384

noncomputable section

namespace Cert.Moe
open Idealize.ShloMosaic Idealize.ShloMosaic.TcCoe Idealize.SL.Sem
open Cert.Kernel2Ideal Cert.Kernel2Ideal.Gen Cert.Swiglu

/-- The expert of a grid point. -/
def expertOf (i : grid0.Coords) : Fin 8 := ⟨(i 1).val, (i 1).isLt⟩

/-- The gate of the point's expert, for each row. -/
theorem gate_at (i : grid0.Coords) (G : FVec Ideal S512x128 .f32) (r : Fin 512) :
    k0_pay4 (F := Ideal) i G (ix2 r 0) = G (ix2 r ⟨(expertOf i).val, by omega⟩) := by
  pointwise [k0_pay4]
  refine Eq.trans (Finset.sum_congr rfl fun l _ => ?_) (sum_lane (n := 128) ⟨(expertOf i).val, by omega⟩ fun l => G (ix2 r l))
  exact (select_eq (by omega) (by have := (expertOf i).isLt; show (expertOf i).val < _; omega) _ _)

/-- The third weight, without its unit axis. -/
theorem down_at (W : FVec Ideal S1x1792x1024 .bf16) (l : Fin 1792) (d : Fin 1024) :
    k0_pay5 (F := Ideal) W (ix2 l d) = W (ix3 0 l d) := by
  pointwise [k0_pay5]

/-- The second inner product. -/
theorem up_at (h : FVec Ideal S512x1024 .bf16) (W : FVec Ideal S1x1024x1792 .bf16) (r : Fin 512) (l : Fin 1792) :
    k0_pay6 (F := Ideal) h W (ix2 r l) = ∑ k : Fin 1024, h (ix2 r k) * W (ix3 0 k l) := by
  pointwise [k0_pay6]

/-- The first inner product, through silu. -/
theorem gateProduct_at (h : FVec Ideal S512x1024 .bf16) (W : FVec Ideal S1x1024x1792 .bf16) (r : Fin 512) (l : Fin 1792) :
    k0_pay7 (F := Ideal) h W (ix2 r l) = (∑ k : Fin 1024, h (ix2 r k) * W (ix3 0 k l)) * Ideal.logistic (∑ k : Fin 1024, h (ix2 r k) * W (ix3 0 k l)) := by
  pointwise [k0_pay7]
  rw [sigmoid_sub]

/-- The accumulator after one expert. -/
theorem add_at (g : FVec Ideal S512x1 .f32) (a : FVec Ideal S512x1024 .f32) (W : FVec Ideal S1792x1024 .bf16) (u s : FVec Ideal S512x1792 .f32)
    (r : Fin 512) (d : Fin 1024) :
    k0_pay1 (F := Ideal) g a W u s (ix2 r d) = a (ix2 r d) + g (ix2 r 0) * ∑ l : Fin 1792, s (ix2 r l) * u (ix2 r l) * W (ix2 l d) := by
  pointwise [k0_pay1]

/-- One expert's share of an output block. -/
def part (i : grid0.Coords) (h : FVec Ideal S512x1024 .bf16) (G : FVec Ideal S512x128 .f32) (wg wu : FVec Ideal S1x1024x1792 .bf16)
    (wd : FVec Ideal S1x1792x1024 .bf16) : S512x1024.Idx → EReal := fun j =>
  G (ix2 (j 0) ⟨(expertOf i).val, by omega⟩) * rowOut (fun k : Fin 1024 => h (ix2 (j 0) k)) (fun (l : Fin 1792) (k : Fin 1024) => wg (ix3 0 k l))
    (fun (l : Fin 1792) (k : Fin 1024) => wu (ix3 0 k l)) (fun l : Fin 1792 => wd (ix3 0 l (j 1)))

/-- The step of the accumulation. -/
theorem step_at (i : grid0.Coords) (h : FVec Ideal S512x1024 .bf16) (G : FVec Ideal S512x128 .f32) (wg wu : FVec Ideal S1x1024x1792 .bf16)
    (wd : FVec Ideal S1x1792x1024 .bf16) (a : FVec Ideal S512x1024 .f32) (j : S512x1024.Idx) :
    k0_pay1 (F := Ideal) (k0_pay4 i G) a (k0_pay5 wd) (k0_pay6 h wu) (k0_pay7 h wg) j = a j + part i h G wg wu wd j := by
  idx_vars j
  rw [add_at, gate_at]
  simp only [down_at, up_at, gateProduct_at]
  rfl

/-- The accumulator starts at nothing. -/
theorem start_at (j : S512x1024.Idx) : k0_pay3 (F := Ideal) j = 0 := by
  pointwise [k0_pay3]

/-- The residual is added at the end. -/
theorem residual_at (x a : FVec Ideal S512x1024 .f32) (j : S512x1024.Idx) : k0_pay2 (F := Ideal) x a j = x j + a j := by
  pointwise [k0_pay2]

end Cert.Moe

end
-- ==== Proof.MoeRef.lean ====
/- The experts' reference, read at one place: the residual and the eight gated blocks. -/
module

public import proofs.«01_k».proof.Proof.Gen.Reference2Ideal.Run
public import proofs.«01_k».proof.Proof.Swiglu

@[expose] public section

set_option maxRecDepth 16384

noncomputable section

namespace Cert.MoeRef
open Idealize.ShloMosaic Idealize.ShloMosaic.TcCoe Idealize.SL.Sem
open Cert.Reference2Ideal Cert.Reference2Ideal.Gen Cert.Swiglu

/-- The first inner product of one expert. -/
def inner (H : FVec Ideal S16384x1024 .f32) (W : FVec Ideal S1024x1792 .f32) : FVec Ideal S16384x1792 .f32 :=
  Host.dotGeneral dot_S16384x1024_S1024x1792_S16384x1792_1_0_0_1_n_n none H W

/-- One expert's gated output. -/
def share (H : FVec Ideal S16384x1024 .f32) (G : FVec Ideal S16384x1 .f32) (W1 W2 : FVec Ideal S1024x1792 .f32) (W3 : FVec Ideal S1792x1024 .f32) :
    FVec Ideal S16384x1024 .f32 :=
  mulf (broadcastInDim S16384x1024 ![0, 1] bcast_S16384x1_S16384x1024_0_1 G) (Host.dotGeneral dot_S16384x1792_S1792x1024_S16384x1024_1_0_0_1_n_n none (mulf (mulf (inner H W1) (Host.divf (broadcastInDim S16384x1792 ![] bcast_S_S16384x1792 (constant S_ .f32 0x3F800000#32)) (addf (broadcastInDim S16384x1792 ![] bcast_S_S16384x1792 (constant S_ .f32 0x3F800000#32)) (Host.exp (Host.negf (inner H W1)))))) (inner H W2)) W3)

/-- An inner product at a place. -/
theorem inner_at (H : FVec Ideal S16384x1024 .f32) (W : FVec Ideal S1024x1792 .f32) (R : Fin 16384) (l : Fin 1792) :
    inner H W (ix2 R l) = ∑ k : Fin 1024, H (ix2 R k) * W (ix2 k l) := by
  pointwise [inner]

/-- A gated output at a place. -/
theorem share_at (H : FVec Ideal S16384x1024 .f32) (G : FVec Ideal S16384x1 .f32) (W1 W2 : FVec Ideal S1024x1792 .f32) (W3 : FVec Ideal S1792x1024 .f32)
    (R : Fin 16384) (C : Fin 1024) :
    share H G W1 W2 W3 (ix2 R C) = G (ix2 R 0) * rowOut (fun k : Fin 1024 => H (ix2 R k)) (fun (l : Fin 1792) (k : Fin 1024) => W1 (ix2 k l))
      (fun (l : Fin 1792) (k : Fin 1024) => W2 (ix2 k l)) (fun l : Fin 1792 => W3 (ix2 l C)) := by
  pointwise [share]
  simp only [inner_at]
  rfl

/-- Expert `e`'s matrix out of the eight. -/
theorem wide_at (e : Fin 8) (hs : S8x1024x1792.Slices ![e.val, 0, 0] S1x1024x1792) (W : FVec Ideal S8x1024x1792 .bf16) (k : Fin 1024) (l : Fin 1792) :
    shapeCast S1024x1792 (extractStridedSlice S1x1024x1792 ![e.val, 0, 0] (extf .f32 W bitsLt_bf16_f32) hs) shapeCasts_S1x1024x1792_S1024x1792 (ix2 k l) = W (ix3 e k l) := by
  pointwise

/-- The same for the outer matrix. -/
theorem tall_at (e : Fin 8) (hs : S8x1792x1024.Slices ![e.val, 0, 0] S1x1792x1024) (W : FVec Ideal S8x1792x1024 .bf16) (l : Fin 1792) (d : Fin 1024) :
    shapeCast S1792x1024 (extractStridedSlice S1x1792x1024 ![e.val, 0, 0] (extf .f32 W bitsLt_bf16_f32) hs) shapeCasts_S1x1792x1024_S1792x1024 (ix2 l d) = W (ix3 e l d) := by
  pointwise

/-- Expert `e`'s gates. -/
theorem lane_at (e : Fin 8) (hs : S16384x128.Slices ![0, e.val] S16384x1) (G : FVec Ideal S16384x128 .f32) (R : Fin 16384) :
    extractStridedSlice S16384x1 ![0, e.val] G hs (ix2 R 0) = G (ix2 R ⟨e.val, by omega⟩) := by
  pointwise

/-- Expert `e`'s gated output, from the arguments. -/
def expert (h : FVec Ideal S16384x1024 .bf16) (G : FVec Ideal S16384x128 .f32) (wg wu : FVec Ideal S8x1024x1792 .bf16) (wd : FVec Ideal S8x1792x1024 .bf16)
    (e : ℕ) (hG : S16384x128.Slices ![0, e] S16384x1) (hW : S8x1024x1792.Slices ![e, 0, 0] S1x1024x1792) (hD : S8x1792x1024.Slices ![e, 0, 0] S1x1792x1024) :
    FVec Ideal S16384x1024 .f32 :=
  share (extf .f32 h bitsLt_bf16_f32) (extractStridedSlice S16384x1 ![0, e] G hG)
    (shapeCast S1024x1792 (extractStridedSlice S1x1024x1792 ![e, 0, 0] (extf .f32 wg bitsLt_bf16_f32) hW) shapeCasts_S1x1024x1792_S1024x1792)
    (shapeCast S1024x1792 (extractStridedSlice S1x1024x1792 ![e, 0, 0] (extf .f32 wu bitsLt_bf16_f32) hW) shapeCasts_S1x1024x1792_S1024x1792)
    (shapeCast S1792x1024 (extractStridedSlice S1x1792x1024 ![e, 0, 0] (extf .f32 wd bitsLt_bf16_f32) hD) shapeCasts_S1x1792x1024_S1792x1024)

/-- What expert `e` adds at row `R`, column `C`. -/
def shareOf (h : FVec Ideal S16384x1024 .bf16) (G : FVec Ideal S16384x128 .f32) (wg wu : FVec Ideal S8x1024x1792 .bf16) (wd : FVec Ideal S8x1792x1024 .bf16)
    (R : Fin 16384) (C : Fin 1024) (e : Fin 8) : EReal :=
  G (ix2 R ⟨e.val, by omega⟩) * rowOut (fun k : Fin 1024 => h (ix2 R k)) (fun (l : Fin 1792) (k : Fin 1024) => wg (ix3 e k l))
      (fun (l : Fin 1792) (k : Fin 1024) => wu (ix3 e k l)) (fun l : Fin 1792 => wd (ix3 e l C))

/-- One expert's output at a place. -/
theorem expert_at (h : FVec Ideal S16384x1024 .bf16) (G : FVec Ideal S16384x128 .f32) (wg wu : FVec Ideal S8x1024x1792 .bf16) (wd : FVec Ideal S8x1792x1024 .bf16)
    (e : Fin 8) (hG : S16384x128.Slices ![0, e.val] S16384x1) (hW : S8x1024x1792.Slices ![e.val, 0, 0] S1x1024x1792) (hD : S8x1792x1024.Slices ![e.val, 0, 0] S1x1792x1024)
    (R : Fin 16384) (C : Fin 1024) : expert h G wg wu wd e.val hG hW hD (ix2 R C) = shareOf h G wg wu wd R C e := by
  unfold expert
  rw [share_at]
  simp only [lane_at, wide_at, tall_at]
  rfl

/-- The same at a numeral. -/
theorem nth_at (h : FVec Ideal S16384x1024 .bf16) (G : FVec Ideal S16384x128 .f32) (wg wu : FVec Ideal S8x1024x1792 .bf16) (wd : FVec Ideal S8x1792x1024 .bf16)
    (n : ℕ) (hn : n < 8) (hG : S16384x128.Slices ![0, n] S16384x1) (hW : S8x1024x1792.Slices ![n, 0, 0] S1x1024x1792) (hD : S8x1792x1024.Slices ![n, 0, 0] S1x1792x1024)
    (R : Fin 16384) (C : Fin 1024) : expert h G wg wu wd n hG hW hD (ix2 R C) = shareOf h G wg wu wd R C ⟨n, hn⟩ :=
  expert_at h G wg wu wd ⟨n, hn⟩ hG hW hD R C

/-- The whole reference. -/
def result (h : FVec Ideal S16384x1024 .bf16) (x : FVec Ideal S16384x1024 .f32) (G : FVec Ideal S16384x128 .f32) (wg wu : FVec Ideal S8x1024x1792 .bf16)
    (wd : FVec Ideal S8x1792x1024 .bf16) : FVec Ideal S16384x1024 .f32 :=
  addf x (addf (addf (addf (addf (addf (addf (addf (addf (broadcastInDim S16384x1024 ![] bcast_S_S16384x1024 (constant S_ .f32 0x00000000#32)) (expert h G wg wu wd 0 slices_S16384x128_S16384x1_0_0 slices_S8x1024x1792_S1x1024x1792_0_0_0 slices_S8x1792x1024_S1x1792x1024_0_0_0)) (expert h G wg wu wd 1 slices_S16384x128_S16384x1_0_1 slices_S8x1024x1792_S1x1024x1792_1_0_0 slices_S8x1792x1024_S1x1792x1024_1_0_0)) (expert h G wg wu wd 2 slices_S16384x128_S16384x1_0_2 slices_S8x1024x1792_S1x1024x1792_2_0_0 slices_S8x1792x1024_S1x1792x1024_2_0_0)) (expert h G wg wu wd 3 slices_S16384x128_S16384x1_0_3 slices_S8x1024x1792_S1x1024x1792_3_0_0 slices_S8x1792x1024_S1x1792x1024_3_0_0)) (expert h G wg wu wd 4 slices_S16384x128_S16384x1_0_4 slices_S8x1024x1792_S1x1024x1792_4_0_0 slices_S8x1792x1024_S1x1792x1024_4_0_0)) (expert h G wg wu wd 5 slices_S16384x128_S16384x1_0_5 slices_S8x1024x1792_S1x1024x1792_5_0_0 slices_S8x1792x1024_S1x1792x1024_5_0_0)) (expert h G wg wu wd 6 slices_S16384x128_S16384x1_0_6 slices_S8x1024x1792_S1x1024x1792_6_0_0 slices_S8x1792x1024_S1x1792x1024_6_0_0)) (expert h G wg wu wd 7 slices_S16384x128_S16384x1_0_7 slices_S8x1024x1792_S1x1024x1792_7_0_0 slices_S8x1792x1024_S1x1792x1024_7_0_0))

/-- One number of the result. -/
theorem result_at (h : FVec Ideal S16384x1024 .bf16) (x : FVec Ideal S16384x1024 .f32) (G : FVec Ideal S16384x128 .f32) (wg wu : FVec Ideal S8x1024x1792 .bf16)
    (wd : FVec Ideal S8x1792x1024 .bf16) (R : Fin 16384) (C : Fin 1024) :
    result h x G wg wu wd (ix2 R C) = x (ix2 R C) + ∑ e : Fin 8, shareOf h G wg wu wd R C e := by
  pointwise [result]
  rw [Fin.sum_univ_eight]
  rw [nth_at (n := 0) (hn := by omega), nth_at (n := 1) (hn := by omega), nth_at (n := 2) (hn := by omega), nth_at (n := 3) (hn := by omega), nth_at (n := 4) (hn := by omega), nth_at (n := 5) (hn := by omega), nth_at (n := 6) (hn := by omega), nth_at (n := 7) (hn := by omega)]
  rfl

variable (m : (ℓ : Loc nD τ sig) → Buf (Elt Ideal) ℓ) (ρ : Dev nD → PrngReg)

/-- What the run leaves. -/
theorem run_result : θ_run defs (onTc (τ := τ) (main (F := Ideal))) ⟨m, fun _ => 0, ρ⟩ fun r => ∀ c : Dev nD,
      r.2.mem ((c.tc : Thread nD τ).loc main_v125) = result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Cert.Reference2Ideal.Value.run m ρ

end Cert.MoeRef

end
-- ==== Proof.MoeValue.lean ====
/- The experts' array after the run is the reference's. -/
module

public import proofs.«01_k».proof.Proof.Gen.Kernel2Ideal.Value
public import proofs.«01_k».proof.Proof.MoePay
public import proofs.«01_k».proof.Proof.MoeRef
public import Idealize.ShloMosaic.Lib.Pipeline.ValueKit

@[expose] public section

set_option maxRecDepth 16384

noncomputable section

namespace Cert.Moe
open Idealize.ShloMosaic Idealize.ShloMosaic.TcCoe Idealize.SL.Sem
open Idealize.ShloMosaic.Pipeline (Dat)
open Cert.Kernel2Ideal Cert.Kernel2Ideal.Gen Cert.Swiglu

/-- The windows' blocks at every grid point, and the point's expert. -/
theorem idx : ∀ t : Fin cfg0.N, win0_0.index t = ![t.val / 8, 0] ∧ win0_1.index t = ![t.val / 8, 0] ∧ win0_2.index t = ![t.val / 8, 0]
    ∧ win0_3.index t = ![t.val % 8, 0, 0] ∧ win0_4.index t = ![t.val % 8, 0, 0] ∧ win0_5.index t = ![t.val % 8, 0, 0]
    ∧ win0_6.index t = ![t.val / 8, 0] ∧ (grid0.coords t 1).val = t.val % 8 :=
  (by decide +kernel : ∀ t : Fin grid0.N, _)

variable (m : (ℓ : Loc nD τ sig) → Buf (Elt Ideal) ℓ) (c : Dev nD)

/-- The hidden rows, at their own type. -/
abbrev argH : FVec Ideal S16384x1024 .bf16 := m ((c : Thread nD τ).loc main_arg0)
/-- The residual rows. -/
abbrev argX : FVec Ideal S16384x1024 .f32 := m ((c : Thread nD τ).loc main_arg1)
/-- The gates. -/
abbrev argG : FVec Ideal S16384x128 .f32 := m ((c : Thread nD τ).loc main_arg2)
/-- The experts' first matrices. -/
abbrev argWg : FVec Ideal S8x1024x1792 .bf16 := m ((c : Thread nD τ).loc main_arg3)
/-- The experts' second matrices. -/
abbrev argWu : FVec Ideal S8x1024x1792 .bf16 := m ((c : Thread nD τ).loc main_arg4)
/-- The experts' outer matrices. -/
abbrev argWd : FVec Ideal S8x1792x1024 .bf16 := m ((c : Thread nD τ).loc main_arg5)

/-- A point's block of hidden rows. -/
theorem hidden_at (t : Fin cfg0.N) (r : Fin 512) (k : Fin 1024) (b : ℕ) (hb : t.val / 8 = b) (hB : b < 32) :
    iblk m c 0 t (ix2 r k) = argH m c (ix2 ⟨b * 512 + r.val, by omega⟩ k) := by
  subst hb; blk_ext [iblk, V, idx t]

/-- A point's block of residual rows. -/
theorem rest_at (t : Fin cfg0.N) (r : Fin 512) (k : Fin 1024) (b : ℕ) (hb : t.val / 8 = b) (hB : b < 32) :
    iblk m c 1 t (ix2 r k) = argX m c (ix2 ⟨b * 512 + r.val, by omega⟩ k) := by
  subst hb; blk_ext [iblk, V, idx t]

/-- A point's gates. -/
theorem gates_at (t : Fin cfg0.N) (r : Fin 512) (k : Fin 128) (b : ℕ) (hb : t.val / 8 = b) (hB : b < 32) :
    iblk m c 2 t (ix2 r k) = argG m c (ix2 ⟨b * 512 + r.val, by omega⟩ k) := by
  subst hb; blk_ext [iblk, V, idx t]

/-- A point's first matrix. -/
theorem first_at (t : Fin cfg0.N) (e : Fin 8) (he : t.val % 8 = e.val) (k : Fin 1024) (l : Fin 1792) :
    iblk m c 3 t (ix3 0 k l) = argWg m c (ix3 e k l) := by
  blk_ext [iblk, V, idx t, he]

/-- A point's second matrix. -/
theorem second_at (t : Fin cfg0.N) (e : Fin 8) (he : t.val % 8 = e.val) (k : Fin 1024) (l : Fin 1792) :
    iblk m c 4 t (ix3 0 k l) = argWu m c (ix3 e k l) := by
  blk_ext [iblk, V, idx t, he]

/-- A point's outer matrix. -/
theorem outer_at (t : Fin cfg0.N) (e : Fin 8) (he : t.val % 8 = e.val) (l : Fin 1792) (d : Fin 1024) :
    iblk m c 5 t (ix3 0 l d) = argWd m c (ix3 e l d) := by
  blk_ext [iblk, V, idx t, he]

/-- What a point adds to the accumulator. -/
def added (t : Fin cfg0.N) : S512x1024.Idx → EReal :=
  part (grid0.coords t) (iblk m c 0 t) (iblk m c 2 t) (iblk m c 3 t) (iblk m c 4 t) (iblk m c 5 t)

/-- It is the expert's share of the reference. -/
theorem added_at (t : Fin cfg0.N) (b : ℕ) (hb : t.val / 8 = b) (hB : b < 32) (e : Fin 8) (he : t.val % 8 = e.val) (r : Fin 512) (d : Fin 1024) :
    added m c t (ix2 r d) = Cert.MoeRef.shareOf (argH m c) (argG m c) (argWg m c) (argWu m c) (argWd m c) ⟨b * 512 + r.val, by omega⟩ d e := by
  have hx : expertOf (grid0.coords t) = e := Fin.ext ((idx t).2.2.2.2.2.2.2.trans he)
  unfold added part Cert.MoeRef.shareOf
  refine congrArg₂ (· * ·) ((congrArg (fun q : Fin 8 => (iblk m c 2 t (ix2 r ⟨q.val, by omega⟩) : EReal)) hx).trans (gates_at m c t r _ b hb hB)) ?_
  have e1 : (fun k : Fin 1024 => (iblk m c 0 t (ix2 r k) : EReal)) = fun k => argH m c (ix2 ⟨b * 512 + r.val, by omega⟩ k) :=
    funext fun k => hidden_at m c t r k b hb hB
  have e2 : (fun (l : Fin 1792) (k : Fin 1024) => (iblk m c 3 t (ix3 0 k l) : EReal)) = fun l k => argWg m c (ix3 e k l) :=
    funext fun l => funext fun k => first_at m c t e he k l
  have e3 : (fun (l : Fin 1792) (k : Fin 1024) => (iblk m c 4 t (ix3 0 k l) : EReal)) = fun l k => argWu m c (ix3 e k l) :=
    funext fun l => funext fun k => second_at m c t e he k l
  have e4 : (fun l : Fin 1792 => (iblk m c 5 t (ix3 0 l d) : EReal)) = fun l => argWd m c (ix3 e l d) :=
    funext fun l => outer_at m c t e he l d
  exact (congrArg₂ (fun a b => rowOut a b _ _) e1 e2).trans (congrArg₂ (fun a b => rowOut _ _ a b) e3 e4)

/-- The accumulator after a point that writes back: the sum over the eight experts. -/
theorem scratch_at (t : Fin cfg0.N) (hr : t.val % 8 = 8 - 1) (j : S512x1024.Idx) :
    (outsAt0 m c t.val t.isLt).2 j = 0 + ∑ s : Fin 8, added m c ⟨8 * (t.val / 8) + s.val, Pipeline.run_point_lt_of_flush t hr s⟩ j := by
  refine Pipeline.eq_sum_fin_of_reset_step_apply_of_flush (M := EReal) (fun n h => (outsAt0 m c n h).2) 8 (fun _ => 0) (added m c) ?_ ?_ t hr j
  · intro t h j
    rw [outsAt0_A m c t h (by omega)]
    frame_out
    rw [step_at, start_at]
    rfl
  · intro t h j
    by_cases h1 : t.val % 8 = 7
    · rw [outsAt0_C m c t h h1]
      frame_out
      rw [step_at]
      exact congrArg (· + added m c t j) (congrFun (Memref.IsWhole.read_unread _ _) j)
    · rw [outsAt0_B m c t h h1]
      frame_out
      rw [step_at]
      exact congrArg (· + added m c t j) (congrFun (Memref.IsWhole.read_unread _ _) j)

/-- What a point that writes back leaves in the output: the residual and the accumulator. -/
theorem out_at (t : Fin cfg0.N) (h : ¬t.val % 8 = 0) (h1 : t.val % 8 = 7) (j : S512x1024.Idx) :
    (outsAt0 m c t.val t.isLt).1 j = (show FVec Ideal S512x1024 .f32 from iblk m c 1 t) j + (outsAt0 m c t.val t.isLt).2 j := by
  rw [outsAt0_C m c t h h1]
  frame_out
  rw [residual_at]

/-- One number that a writing point leaves in the output. -/
theorem point (t : Fin cfg0.N) (h7 : t.val % 8 = 7) (b : ℕ) (hb : t.val / 8 = b) (hB : b < 32) (r : Fin 512) (d : Fin 1024) :
    (outsAt0 m c t.val t.isLt).1 (ix2 r d)
      = Cert.MoeRef.result (argH m c) (argX m c) (argG m c) (argWg m c) (argWu m c) (argWd m c) (ix2 ⟨b * 512 + r.val, by omega⟩ d) := by
  rw [out_at m c t (by omega) h7, scratch_at m c t h7, zero_add, Cert.MoeRef.result_at]
  refine congrArg₂ (· + ·) (rest_at m c t r d b hb hB) (Finset.sum_congr rfl fun s _ => ?_)
  exact added_at m c _ b (by show (8 * (t.val / 8) + s.val) / 8 = b; omega) hB s (by show (8 * (t.val / 8) + s.val) % 8 = s.val; omega) r d

/-- The result array. -/
theorem final : (dats m 0 c).arrAt 6 (cfgs 0).N = Cert.MoeRef.result (argH m c) (argX m c) (argG m c) (argWg m c) (argWu m c) (argWd m c) := by
  refine (dats m 0 c).arrAt_eq_of_covers 6 _ (by decide +kernel) fun t hf y => ?_
  have h7 := (flush0_6 t).mp hf
  have hN : t.val < 256 := lt_of_lt_of_eq t.isLt N_0
  blk_simp
  rw [after0_6]
  idx_vars y
  refine (point m c t h7 (t.val / 8) rfl (by omega) y0 y1).trans ?_
  blk_ext [idx t]

end Cert.Moe

end
-- ==== Proof.Moe.lean ====
/- The claims about the experts. -/
module

public import proofs.«01_k».proof.Defs
public import proofs.«01_k».proof.Proof.Gen.Kernel2.Frame
public import proofs.«01_k».proof.Proof.MoeValue
public import Idealize.ShloMosaic.Lib.Claim

@[expose] public section

set_option maxRecDepth 16384

noncomputable section

namespace Cert.Moe
open Idealize.ShloMosaic Idealize.ShloMosaic.TcCoe Idealize.SL.Sem

attribute [local instance] Cert.Kernel2.Gen.facts Cert.Kernel2Ideal.Gen.facts Cert.Reference2Ideal.Gen.facts

/-- The reference changes nothing and ends quiet. -/
theorem quiet_reference : Cert.quiescent_Reference2Ideal := by
  intro m g _
  refine (θ_run _ _ _).mono (fun r h => ⟨fun c => (h c).2, ?_⟩) (Cert.Reference2Ideal.Value.run m g)
  exact Idealize.ShloMosaic.sem_eq_zero_of_no_sems (by decide) r.2

/-- Kernel and reference leave the same array. -/
theorem algebraic : Cert.algebraic_Kernel2Ideal_Reference2Ideal := by
  intro m g m' g' hpre hagree
  refine ⟨fun c => Cert.MoeRef.result (argH m c) (argX m c) (argG m c) (argWg m c) (argWu m c) (argWd m c), ?_, ?_⟩
  · refine (θ_run _ _ _).mono (fun r h c => ?_) (Cert.Kernel2Ideal.Value.run_blocks m g)
    exact ⟨(h c).1.trans (final m c), (h c).2⟩
  · refine (θ_run _ _ _).mono (fun r h c => ?_) (Cert.MoeRef.run_result m' g')
    refine ⟨(h c).1.trans ?_, (h c).2⟩
    obtain ⟨a0, a1, a2, a3, a4, a5⟩ := hagree c
    rw [a0, a1, a2, a3, a4, a5]

end Cert.Moe

end
-- ==== Proof.FfnPay.lean ====
/- What one block of hidden units adds to the accumulator, read at one place. -/
module

public import proofs.«01_k».proof.Proof.Gen.Kernel3Ideal.Skeleton
public import proofs.«01_k».proof.Proof.Swiglu

@[expose] public section

set_option maxRecDepth 16384

noncomputable section

namespace Cert.Ffn
open Idealize.ShloMosaic Idealize.ShloMosaic.TcCoe Idealize.SL.Sem
open Cert.Kernel3Ideal Cert.Kernel3Ideal.Gen Cert.Swiglu

/-- One block of hidden units' share of an output block. -/
def part (h : FVec Ideal S512x1024 .bf16) (wg wu : FVec Ideal S1024x1408 .bf16) (wd : FVec Ideal S1408x1024 .bf16) : S512x1024.Idx → EReal := fun j =>
  rowOut (fun k : Fin 1024 => h (ix2 (j 0) k)) (fun (l : Fin 1408) (k : Fin 1024) => wg (ix2 k l))
    (fun (l : Fin 1408) (k : Fin 1024) => wu (ix2 k l)) (fun l : Fin 1408 => wd (ix2 l (j 1)))

/-- The step of the accumulation. -/
theorem step_at (a : FVec Ideal S512x1024 .f32) (h : FVec Ideal S512x1024 .bf16) (wg wu : FVec Ideal S1024x1408 .bf16)
    (wd : FVec Ideal S1408x1024 .bf16) (j : S512x1024.Idx) : k0_pay2 (F := Ideal) a h wg wu wd j = a j + part h wg wu wd j := by
  idx_vars j
  pointwise [k0_pay2]
  simp only [sigmoid_sub]
  rfl

/-- The accumulator starts at nothing. -/
theorem start_at (j : S512x1024.Idx) : k0_pay1 (F := Ideal) j = 0 := by
  pointwise [k0_pay1]

/-- The residual is added at the end. -/
theorem residual_at (x a : FVec Ideal S512x1024 .f32) (j : S512x1024.Idx) : k0_pay3 (F := Ideal) x a j = x j + a j := by
  pointwise [k0_pay3]

end Cert.Ffn

end
-- ==== Proof.FfnRef.lean ====
/- The dense block's reference, read at one place: the residual and one gated block. -/
module

public import proofs.«01_k».proof.Proof.Gen.Reference3Ideal.Run
public import proofs.«01_k».proof.Proof.Swiglu

@[expose] public section

set_option maxRecDepth 16384

noncomputable section

namespace Cert.FfnRef
open Idealize.ShloMosaic Idealize.ShloMosaic.TcCoe Idealize.SL.Sem
open Cert.Reference3Ideal Cert.Reference3Ideal.Gen Cert.Swiglu

/-- One of the two inner products. -/
def inner (h : FVec Ideal S16384x1024 .bf16) (w : FVec Ideal S1024x2816 .bf16) : FVec Ideal S16384x2816 .f32 :=
  Host.dotGeneral dot_S16384x1024_S1024x2816_S16384x2816_1_0_0_1_n_n none (extf .f32 h bitsLt_bf16_f32) (extf .f32 w bitsLt_bf16_f32)

/-- An inner product at a place. -/
theorem inner_at (h : FVec Ideal S16384x1024 .bf16) (w : FVec Ideal S1024x2816 .bf16) (R : Fin 16384) (l : Fin 2816) :
    inner h w (ix2 R l) = ∑ k : Fin 1024, h (ix2 R k) * w (ix2 k l) := by
  pointwise [inner]

/-- The whole reference. -/
def result (h : FVec Ideal S16384x1024 .bf16) (x : FVec Ideal S16384x1024 .f32) (wg wu : FVec Ideal S1024x2816 .bf16) (wd : FVec Ideal S2816x1024 .bf16) : FVec Ideal S16384x1024 .f32 :=
  addf x (Host.dotGeneral dot_S16384x2816_S2816x1024_S16384x1024_1_0_0_1_n_n none (mulf (mulf (inner h wg) (Host.divf (broadcastInDim S16384x2816 ![] bcast_S_S16384x2816 (constant S_ .f32 0x3F800000#32)) (addf (broadcastInDim S16384x2816 ![] bcast_S_S16384x2816 (constant S_ .f32 0x3F800000#32)) (Host.exp (Host.negf (inner h wg)))))) (inner h wu)) (extf .f32 wd bitsLt_bf16_f32))

/-- One number of the result. -/
theorem result_at (h : FVec Ideal S16384x1024 .bf16) (x : FVec Ideal S16384x1024 .f32) (wg wu : FVec Ideal S1024x2816 .bf16) (wd : FVec Ideal S2816x1024 .bf16) (R : Fin 16384) (C : Fin 1024) :
    result h x wg wu wd (ix2 R C) = x (ix2 R C) + rowOut (fun k : Fin 1024 => h (ix2 R k)) (fun (l : Fin 2816) (k : Fin 1024) => wg (ix2 k l))
      (fun (l : Fin 2816) (k : Fin 1024) => wu (ix2 k l)) (fun l : Fin 2816 => wd (ix2 l C)) := by
  pointwise [result]
  simp only [inner_at]
  rfl

variable (m : (ℓ : Loc nD τ sig) → Buf (Elt Ideal) ℓ) (ρ : Dev nD → PrngReg)

/-- What the run leaves. -/
theorem run_result : θ_run defs (onTc (τ := τ) (main (F := Ideal))) ⟨m, fun _ => 0, ρ⟩ fun r => ∀ c : Dev nD,
      r.2.mem ((c.tc : Thread nD τ).loc main_v9) = result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.Reference3Ideal.Value.run m ρ

end Cert.FfnRef

end
-- ==== Proof.FfnValue.lean ====
/- The dense block's array after the run is the reference's. -/
module

public import proofs.«01_k».proof.Proof.Gen.Kernel3Ideal.Value
public import proofs.«01_k».proof.Proof.FfnPay
public import proofs.«01_k».proof.Proof.FfnRef
public import Idealize.ShloMosaic.Lib.Pipeline.ValueKit

@[expose] public section

set_option maxRecDepth 16384

noncomputable section

namespace Cert.Ffn
open Idealize.ShloMosaic Idealize.ShloMosaic.TcCoe Idealize.SL.Sem
open Idealize.ShloMosaic.Pipeline (Dat)
open Cert.Kernel3Ideal Cert.Kernel3Ideal.Gen Cert.Swiglu

/-- The windows' blocks at every grid point. -/
theorem idx : ∀ t : Fin cfg0.N, win0_0.index t = ![t.val / 2, 0] ∧ win0_1.index t = ![t.val / 2, 0] ∧ win0_2.index t = ![0, t.val % 2]
    ∧ win0_3.index t = ![0, t.val % 2] ∧ win0_4.index t = ![t.val % 2, 0] ∧ win0_5.index t = ![t.val / 2, 0] :=
  (by decide +kernel : ∀ t : Fin grid0.N, _)

variable (m : (ℓ : Loc nD τ sig) → Buf (Elt Ideal) ℓ) (c : Dev nD)

/-- The hidden rows, at their own type. -/
abbrev argH : FVec Ideal S16384x1024 .bf16 := m ((c : Thread nD τ).loc main_arg0)
/-- The residual rows. -/
abbrev argX : FVec Ideal S16384x1024 .f32 := m ((c : Thread nD τ).loc main_arg1)
/-- The first matrix. -/
abbrev argWg : FVec Ideal S1024x2816 .bf16 := m ((c : Thread nD τ).loc main_arg2)
/-- The second matrix. -/
abbrev argWu : FVec Ideal S1024x2816 .bf16 := m ((c : Thread nD τ).loc main_arg3)
/-- The outer matrix. -/
abbrev argWd : FVec Ideal S2816x1024 .bf16 := m ((c : Thread nD τ).loc main_arg4)

/-- A point's block of hidden rows. -/
theorem hidden_at (t : Fin cfg0.N) (r : Fin 512) (k : Fin 1024) (b : ℕ) (hb : t.val / 2 = b) (hB : b < 32) :
    iblk m c 0 t (ix2 r k) = argH m c (ix2 ⟨b * 512 + r.val, by omega⟩ k) := by
  subst hb; blk_ext [iblk, V, idx t]

/-- A point's block of residual rows. -/
theorem rest_at (t : Fin cfg0.N) (r : Fin 512) (k : Fin 1024) (b : ℕ) (hb : t.val / 2 = b) (hB : b < 32) :
    iblk m c 1 t (ix2 r k) = argX m c (ix2 ⟨b * 512 + r.val, by omega⟩ k) := by
  subst hb; blk_ext [iblk, V, idx t]

/-- A point's columns of the first matrix. -/
theorem first_at (t : Fin cfg0.N) (e : ℕ) (he : t.val % 2 = e) (hE : e < 2) (k : Fin 1024) (l : Fin 1408) :
    iblk m c 2 t (ix2 k l) = argWg m c (ix2 k ⟨e * 1408 + l.val, by omega⟩) := by
  subst he; blk_ext [iblk, V, idx t]

/-- A point's columns of the second matrix. -/
theorem second_at (t : Fin cfg0.N) (e : ℕ) (he : t.val % 2 = e) (hE : e < 2) (k : Fin 1024) (l : Fin 1408) :
    iblk m c 3 t (ix2 k l) = argWu m c (ix2 k ⟨e * 1408 + l.val, by omega⟩) := by
  subst he; blk_ext [iblk, V, idx t]

/-- A point's rows of the outer matrix. -/
theorem outer_at (t : Fin cfg0.N) (e : ℕ) (he : t.val % 2 = e) (hE : e < 2) (l : Fin 1408) (d : Fin 1024) :
    iblk m c 4 t (ix2 l d) = argWd m c (ix2 ⟨e * 1408 + l.val, by omega⟩ d) := by
  subst he; blk_ext [iblk, V, idx t]

/-- What a point adds to the accumulator. -/
def added (t : Fin cfg0.N) : S512x1024.Idx → EReal :=
  part (iblk m c 0 t) (iblk m c 2 t) (iblk m c 3 t) (iblk m c 4 t)

/-- What one hidden unit gives a row and a column. -/
def unit (R : Fin 16384) (C : Fin 1024) (l : Fin 2816) : EReal :=
  Cert.Swiglu.hidden (∑ k : Fin 1024, argH m c (ix2 R k) * argWg m c (ix2 k l)) (∑ k : Fin 1024, argH m c (ix2 R k) * argWu m c (ix2 k l)) * argWd m c (ix2 l C)

/-- A point adds the units of its block. -/
theorem added_at (t : Fin cfg0.N) (b : ℕ) (hb : t.val / 2 = b) (hB : b < 32) (e : ℕ) (he : t.val % 2 = e) (hE : e < 2) (r : Fin 512) (d : Fin 1024) :
    added m c t (ix2 r d) = ∑ l : Fin 1408, unit m c ⟨b * 512 + r.val, by omega⟩ d ⟨e * 1408 + l.val, by omega⟩ := by
  unfold added part rowOut
  refine Finset.sum_congr rfl fun l _ => ?_
  refine congrArg₂ (· * ·) (congrArg₂ Cert.Swiglu.hidden (Finset.sum_congr rfl fun k _ => ?_) (Finset.sum_congr rfl fun k _ => ?_)) (outer_at m c t e he hE l d)
  · exact congrArg₂ (· * ·) (hidden_at m c t r k b hb hB) (first_at m c t e he hE k l)
  · exact congrArg₂ (· * ·) (hidden_at m c t r k b hb hB) (second_at m c t e he hE k l)

/-- The accumulator after a point that writes back: the sum over the two blocks. -/
theorem scratch_at (t : Fin cfg0.N) (hr : t.val % 2 = 2 - 1) (j : S512x1024.Idx) :
    (outsAt0 m c t.val t.isLt).2 j = 0 + ∑ s : Fin 2, added m c ⟨2 * (t.val / 2) + s.val, Pipeline.run_point_lt_of_flush t hr s⟩ j := by
  refine Pipeline.eq_sum_fin_of_reset_step_apply_of_flush (M := EReal) (fun n h => (outsAt0 m c n h).2) 2 (fun _ => 0) (added m c) ?_ ?_ t hr j
  · intro t h j
    rw [outsAt0_A m c t h (by omega)]
    frame_out
    rw [step_at, start_at]
    rfl
  · intro t h j
    rw [outsAt0_B m c t h (by omega)]
    frame_out
    rw [step_at]
    exact congrArg (· + added m c t j) (congrFun (Memref.IsWhole.read_unread _ _) j)

/-- What a point that writes back leaves in the output: the residual and the accumulator. -/
theorem out_at (t : Fin cfg0.N) (h : ¬t.val % 2 = 0) (h1 : t.val % 2 = 1) (j : S512x1024.Idx) :
    (outsAt0 m c t.val t.isLt).1 j = (show FVec Ideal S512x1024 .f32 from iblk m c 1 t) j + (outsAt0 m c t.val t.isLt).2 j := by
  rw [outsAt0_B m c t h h1]
  frame_out
  rw [residual_at]

/-- One number that a writing point leaves in the output. -/
theorem point (t : Fin cfg0.N) (h1 : t.val % 2 = 1) (b : ℕ) (hb : t.val / 2 = b) (hB : b < 32) (r : Fin 512) (d : Fin 1024) :
    (outsAt0 m c t.val t.isLt).1 (ix2 r d)
      = Cert.FfnRef.result (argH m c) (argX m c) (argWg m c) (argWu m c) (argWd m c) (ix2 ⟨b * 512 + r.val, by omega⟩ d) := by
  rw [out_at m c t (by omega) h1, scratch_at m c t h1, zero_add, Cert.FfnRef.result_at]
  refine congrArg₂ (· + ·) (rest_at m c t r d b hb hB) ?_
  refine (Finset.sum_congr rfl fun s _ => added_at m c ⟨2 * (t.val / 2) + s.val, Pipeline.run_point_lt_of_flush t h1 s⟩ b
    (by have := s.isLt; show (2 * (t.val / 2) + s.val) / 2 = b; omega) hB s.val (by have := s.isLt; show (2 * (t.val / 2) + s.val) % 2 = s.val; omega) s.isLt r d).trans ?_
  refine Fin.sum_mul_add_congr fun s l hl => ?_
  rfl

/-- The result array. -/
theorem final : (dats m 0 c).arrAt 5 (cfgs 0).N = Cert.FfnRef.result (argH m c) (argX m c) (argWg m c) (argWu m c) (argWd m c) := by
  refine (dats m 0 c).arrAt_eq_of_covers 5 _ (by decide +kernel) fun t hf y => ?_
  have h1 := (flush0_5 t).mp hf
  have hN : t.val < 64 := lt_of_lt_of_eq t.isLt N_0
  blk_simp
  rw [after0_5]
  idx_vars y
  refine (point m c t h1 (t.val / 2) rfl (by omega) y0 y1).trans ?_
  blk_ext [idx t]

end Cert.Ffn

end
-- ==== Proof.Ffn.lean ====
/- The claims about the dense block. -/
module

public import proofs.«01_k».proof.Defs
public import proofs.«01_k».proof.Proof.Gen.Kernel3.Frame
public import proofs.«01_k».proof.Proof.FfnValue
public import Idealize.ShloMosaic.Lib.Claim

@[expose] public section

set_option maxRecDepth 16384

noncomputable section

namespace Cert.Ffn
open Idealize.ShloMosaic Idealize.ShloMosaic.TcCoe Idealize.SL.Sem

attribute [local instance] Cert.Kernel3.Gen.facts Cert.Kernel3Ideal.Gen.facts Cert.Reference3Ideal.Gen.facts

/-- The reference changes nothing and ends quiet. -/
theorem quiet_reference : Cert.quiescent_Reference3Ideal := by
  intro m g _
  refine (θ_run _ _ _).mono (fun r h => ⟨fun c => (h c).2, ?_⟩) (Cert.Reference3Ideal.Value.run m g)
  exact Idealize.ShloMosaic.sem_eq_zero_of_no_sems (by decide) r.2

/-- Kernel and reference leave the same array. -/
theorem algebraic : Cert.algebraic_Kernel3Ideal_Reference3Ideal := by
  intro m g m' g' hpre hagree
  refine ⟨fun c => Cert.FfnRef.result (argH m c) (argX m c) (argWg m c) (argWu m c) (argWd m c), ?_, ?_⟩
  · refine (θ_run _ _ _).mono (fun r h c => ?_) (Cert.Kernel3Ideal.Value.run_blocks m g)
    exact ⟨(h c).1.trans (final m c), (h c).2⟩
  · refine (θ_run _ _ _).mono (fun r h c => ?_) (Cert.FfnRef.run_result m' g')
    refine ⟨(h c).1.trans ?_, (h c).2⟩
    obtain ⟨a0, a1, a2, a3, a4⟩ := hagree c
    rw [a0, a1, a2, a3, a4]

end Cert.Ffn

end
-- ==== Proof.RowFns.lean ====
/- The row functions the small calls share: the root-mean-square norm and the gated merge. -/
module

public import Idealize.ShloMosaic.Lib.Pointwise

@[expose] public section

noncomputable section

namespace Cert.RowFns
open Idealize.ShloMosaic

/-- One over the root of the mean square of 1024 numbers. -/
def scale (x : Fin 1024 → EReal) : EReal :=
  Ideal.rsqrt (Ideal.div (∑ k : Fin 1024, x k * x k) (Ideal.ofBits FTy.f32 0x44800000#32) + Ideal.ofBits FTy.f32 0x358637BD#32)

/-- One number of a normed row. -/
def normed (x : Fin 1024 → EReal) (g : EReal) (j : Fin 1024) : EReal := x j * scale x * g

/-- One number of the gated merge of three projected rows. -/
def mixed {K : ℕ} (gt : Fin 3 → EReal) (c w s : Fin K → EReal) (wc ww ws : Fin K → EReal) : EReal :=
  gt 0 * (∑ k : Fin K, c k * wc k) + gt 1 * (∑ k : Fin K, w k * ww k) + gt 2 * (∑ k : Fin K, s k * ws k)

/-- One number of the residual row with the merge added: the gated row through the output matrix. -/
def mergedRow (x : Fin 1024 → EReal) (gt : Fin 3072 → EReal) (c w s : Fin 512 → EReal) (wc ww ws : Fin 512 → Fin 1024 → EReal) (wo : Fin 1024 → Fin 1024 → EReal) (j : Fin 1024) : EReal :=
  x j + ∑ k : Fin 1024, mixed (fun b => gt ⟨b.val * 1024 + k.val, by omega⟩) c w s (fun l => wc l k) (fun l => ww l k) (fun l => ws l k) * wo k j

end Cert.RowFns

end
-- ==== Proof.MergeRef.lean ====
/- The dense layers' merge in the reference, read at one place: the gated sum through the output matrix, and its norm. -/
module

public import proofs.«01_k».proof.Proof.Gen.Reference4Ideal.Run
public import proofs.«01_k».proof.Proof.RowFns

@[expose] public section

set_option maxRecDepth 16384

noncomputable section

namespace Cert.MergeRef
open Idealize.ShloMosaic Idealize.ShloMosaic.TcCoe Idealize.SL.Sem
open Cert.Reference4Ideal Cert.Reference4Ideal.Gen Cert.RowFns

/-- The gates, one row of 1024 for each of the three branches. -/
def gates (gt : FVec Ideal S16384x3072 .bf16) : FVec Ideal S16384x3x1024 .f32 :=
  shapeCast _ (extf .f32 gt bitsLt_bf16_f32) shapeCasts_S16384x3072_S16384x3x1024

/-- A gate at a place. -/
theorem gates_at (gt : FVec Ideal S16384x3072 .bf16) (R : Fin 16384) (b : Fin 3) (C : Fin 1024) :
    gates gt (ix3 R b C) = gt (ix2 R ⟨b.val * 1024 + C.val, by omega⟩) := by
  pointwise [gates]

/-- One branch through its matrix. -/
def branch (y : FVec Ideal S16384x512 .bf16) (w : FVec Ideal S512x1024 .bf16) : FVec Ideal S16384x1024 .f32 :=
  Host.dotGeneral dot_S16384x512_S512x1024_S16384x1024_1_0_0_1_n_n none (extf .f32 y bitsLt_bf16_f32) (extf .f32 w bitsLt_bf16_f32)

/-- A branch at a place. -/
theorem branch_at (y : FVec Ideal S16384x512 .bf16) (w : FVec Ideal S512x1024 .bf16) (R : Fin 16384) (C : Fin 1024) :
    branch y w (ix2 R C) = ∑ k : Fin 512, y (ix2 R k) * w (ix2 k C) := by
  pointwise [branch]

/-- The gated sum of the three branches. -/
def merged (co mo so : FVec Ideal S16384x512 .bf16) (gt : FVec Ideal S16384x3072 .bf16) (wc wm ws : FVec Ideal S512x1024 .bf16) : FVec Ideal S16384x1024 .f32 :=
  addf (addf (mulf (shapeCast _ (extractStridedSlice S16384x1x1024 ![0, 0, 0] (gates gt) slices_S16384x3x1024_S16384x1x1024_0_0_0) shapeCasts_S16384x1x1024_S16384x1024) (branch co wc))
    (mulf (shapeCast _ (extractStridedSlice S16384x1x1024 ![0, 1, 0] (gates gt) slices_S16384x3x1024_S16384x1x1024_0_1_0) shapeCasts_S16384x1x1024_S16384x1024) (branch mo wm)))
    (mulf (shapeCast _ (extractStridedSlice S16384x1x1024 ![0, 2, 0] (gates gt) slices_S16384x3x1024_S16384x1x1024_0_2_0) shapeCasts_S16384x1x1024_S16384x1024) (branch so ws))

/-- The gated sum at a place. -/
theorem merged_at (co mo so : FVec Ideal S16384x512 .bf16) (gt : FVec Ideal S16384x3072 .bf16) (wc wm ws : FVec Ideal S512x1024 .bf16) (R : Fin 16384) (C : Fin 1024) :
    merged co mo so gt wc wm ws (ix2 R C) = mixed (fun b => gt (ix2 R ⟨b.val * 1024 + C.val, by omega⟩)) (fun k : Fin 512 => co (ix2 R k)) (fun k => mo (ix2 R k)) (fun k => so (ix2 R k))
      (fun k => wc (ix2 k C)) (fun k => wm (ix2 k C)) (fun k => ws (ix2 k C)) := by
  pointwise [merged]
  simp only [branch_at]
  refine congrArg₂ (· + ·) (congrArg₂ (· + ·) ?_ ?_) ?_
  · exact congrArg (· * _) (gates_at gt R 0 C)
  · exact congrArg (· * _) (gates_at gt R 1 C)
  · exact congrArg (· * _) (gates_at gt R 2 C)

/-- The first result: the residual rows with the merge added. -/
def sum (x : FVec Ideal S16384x1024 .f32) (co mo so : FVec Ideal S16384x512 .bf16) (gt : FVec Ideal S16384x3072 .bf16) (wc wm ws : FVec Ideal S512x1024 .bf16)
    (wo : FVec Ideal S1024x1024 .bf16) : FVec Ideal S16384x1024 .f32 :=
  addf x (Host.dotGeneral dot_S16384x1024_S1024x1024_S16384x1024_1_0_0_1_n_n none (merged co mo so gt wc wm ws) (extf .f32 wo bitsLt_bf16_f32))

/-- The first result at a place. -/
theorem sum_at (x : FVec Ideal S16384x1024 .f32) (co mo so : FVec Ideal S16384x512 .bf16) (gt : FVec Ideal S16384x3072 .bf16) (wc wm ws : FVec Ideal S512x1024 .bf16)
    (wo : FVec Ideal S1024x1024 .bf16) (R : Fin 16384) (C : Fin 1024) :
    sum x co mo so gt wc wm ws wo (ix2 R C) = mergedRow (fun k => x (ix2 R k)) (fun k => gt (ix2 R k)) (fun k => co (ix2 R k)) (fun k => mo (ix2 R k)) (fun k => so (ix2 R k))
      (fun l k => wc (ix2 l k)) (fun l k => wm (ix2 l k)) (fun l k => ws (ix2 l k)) (fun l k => wo (ix2 l k)) C := by
  pointwise [sum]
  simp only [merged_at]
  rfl

/-- The second result: the first one normed. -/
def norm (s : FVec Ideal S16384x1024 .f32) (g : FVec Ideal S1x1024 .f32) : FVec Ideal S16384x1024 .bf16 :=
  truncf .bf16 (mulf (mulf s (broadcastInDim S16384x1024 ![0, 1] bcast_S16384x1_S16384x1024_0_1 (Host.rsqrt (addf (Host.divf (broadcastInDim S16384x1 ![0] bcast_S16384_S16384x1_0 (Host.reduceAdd (mulf s s) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast _ g shapeCasts_S1x1024_S1024)))) bitsLt_bf16_f32

/-- The second result at a place. -/
theorem norm_at (s : FVec Ideal S16384x1024 .f32) (g : FVec Ideal S1x1024 .f32) (R : Fin 16384) (C : Fin 1024) :
    norm s g (ix2 R C) = normed (fun k => s (ix2 R k)) (g (ix2 0 C)) C := by
  pointwise [norm]
  rfl

variable (m : (ℓ : Loc nD τ sig) → Buf (Elt Ideal) ℓ) (ρ : Dev nD → PrngReg)

/-- What the run leaves. -/
theorem run_result : θ_run defs (onTc (τ := τ) (main (F := Ideal))) ⟨m, fun _ => 0, ρ⟩ fun r => ∀ c : Dev nD,
      r.2.mem ((c.tc : Thread nD τ).loc main_v24) = sum (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v39) = norm (sum (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  Cert.Reference4Ideal.Value.run m ρ

end Cert.MergeRef

end
-- ==== Proof.MergeValue.lean ====
/- The dense layers' merge: the arrays after the run are the reference's. -/
module

public import proofs.«01_k».proof.Proof.Gen.Kernel4Ideal.Value
public import proofs.«01_k».proof.Proof.MergeRef
public import Idealize.ShloMosaic.Lib.Pipeline.ValueKit

@[expose] public section

set_option maxRecDepth 16384

noncomputable section

namespace Cert.Merge
open Idealize.ShloMosaic Idealize.ShloMosaic.TcCoe Idealize.SL.Sem
open Idealize.ShloMosaic.Pipeline (Dat)
open Cert.Kernel4Ideal Cert.Kernel4Ideal.Gen Cert.RowFns

/-- The windows' blocks at every grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![0, 0] ∧ win0_6.index t = ![0, 0] ∧ win0_7.index t = ![0, 0] ∧ win0_8.index t = ![0, 0] ∧ win0_9.index t = ![0, 0] ∧ win0_10.index t = ![t.val, 0] ∧ win0_11.index t = ![t.val, 0] :=
  (by decide +kernel : ∀ t : Fin grid0.N, _)

variable (m : (ℓ : Loc nD τ sig) → Buf (Elt Ideal) ℓ) (c : Dev nD)

/-- The residual rows, at their own type. -/
abbrev argX : FVec Ideal S16384x1024 .f32 := m ((c : Thread nD τ).loc main_arg0)
/-- The convolution branch, at their own type. -/
abbrev argCo : FVec Ideal S16384x512 .bf16 := m ((c : Thread nD τ).loc main_arg1)
/-- The latent branch, at their own type. -/
abbrev argMo : FVec Ideal S16384x512 .bf16 := m ((c : Thread nD τ).loc main_arg2)
/-- The state branch, at their own type. -/
abbrev argSo : FVec Ideal S16384x512 .bf16 := m ((c : Thread nD τ).loc main_arg3)
/-- The gates, at their own type. -/
abbrev argGt : FVec Ideal S16384x3072 .bf16 := m ((c : Thread nD τ).loc main_arg4)
/-- The first branch matrix, at their own type. -/
abbrev argWc : FVec Ideal S512x1024 .bf16 := m ((c : Thread nD τ).loc main_arg5)
/-- The second branch matrix, at their own type. -/
abbrev argWm : FVec Ideal S512x1024 .bf16 := m ((c : Thread nD τ).loc main_arg6)
/-- The third branch matrix, at their own type. -/
abbrev argWs : FVec Ideal S512x1024 .bf16 := m ((c : Thread nD τ).loc main_arg7)
/-- The output matrix, at their own type. -/
abbrev argWo : FVec Ideal S1024x1024 .bf16 := m ((c : Thread nD τ).loc main_arg8)
/-- The gain, at their own type. -/
abbrev argG : FVec Ideal S1x1024 .f32 := m ((c : Thread nD τ).loc main_arg9)

/-- The residual rows in a point's block. -/
theorem atX (t : Fin cfg0.N) (hB : t.val < 64) (r : Fin 256) (k : Fin 1024) :
    iblk m c 0 t (ix2 r k) = argX m c (ix2 ⟨t.val * 256 + r.val, by omega⟩ k) := by
  blk_ext [iblk, V, idx t]

/-- The convolution branch in a point's block. -/
theorem atCo (t : Fin cfg0.N) (hB : t.val < 64) (r : Fin 256) (k : Fin 512) :
    iblk m c 1 t (ix2 r k) = argCo m c (ix2 ⟨t.val * 256 + r.val, by omega⟩ k) := by
  blk_ext [iblk, V, idx t]

/-- The latent branch in a point's block. -/
theorem atMo (t : Fin cfg0.N) (hB : t.val < 64) (r : Fin 256) (k : Fin 512) :
    iblk m c 2 t (ix2 r k) = argMo m c (ix2 ⟨t.val * 256 + r.val, by omega⟩ k) := by
  blk_ext [iblk, V, idx t]

/-- The state branch in a point's block. -/
theorem atSo (t : Fin cfg0.N) (hB : t.val < 64) (r : Fin 256) (k : Fin 512) :
    iblk m c 3 t (ix2 r k) = argSo m c (ix2 ⟨t.val * 256 + r.val, by omega⟩ k) := by
  blk_ext [iblk, V, idx t]

/-- The gates in a point's block. -/
theorem atGt (t : Fin cfg0.N) (hB : t.val < 64) (r : Fin 256) (k : Fin 3072) :
    iblk m c 4 t (ix2 r k) = argGt m c (ix2 ⟨t.val * 256 + r.val, by omega⟩ k) := by
  blk_ext [iblk, V, idx t]

/-- The first branch matrix at a point. -/
theorem atWc (t : Fin cfg0.N) (l : Fin 512) (k : Fin 1024) :
    iblk m c 5 t (ix2 l k) = argWc m c (ix2 l k) := by
  blk_ext [iblk, V, idx t]

/-- The second branch matrix at a point. -/
theorem atWm (t : Fin cfg0.N) (l : Fin 512) (k : Fin 1024) :
    iblk m c 6 t (ix2 l k) = argWm m c (ix2 l k) := by
  blk_ext [iblk, V, idx t]

/-- The third branch matrix at a point. -/
theorem atWs (t : Fin cfg0.N) (l : Fin 512) (k : Fin 1024) :
    iblk m c 7 t (ix2 l k) = argWs m c (ix2 l k) := by
  blk_ext [iblk, V, idx t]

/-- The output matrix at a point. -/
theorem atWo (t : Fin cfg0.N) (l : Fin 1024) (k : Fin 1024) :
    iblk m c 8 t (ix2 l k) = argWo m c (ix2 l k) := by
  blk_ext [iblk, V, idx t]

/-- The gain at a point. -/
theorem atG (t : Fin cfg0.N) (l : Fin 1) (k : Fin 1024) :
    iblk m c 9 t (ix2 l k) = argG m c (ix2 l k) := by
  blk_ext [iblk, V, idx t]

/-- A block's rows with the merge added. -/
def total (x0 : FVec Ideal S256x1024 .f32) (x1 : FVec Ideal S256x512 .bf16) (x2 : FVec Ideal S256x512 .bf16) (x3 : FVec Ideal S256x512 .bf16) (x4 : FVec Ideal S256x3072 .bf16) (x5 : FVec Ideal S512x1024 .bf16) (x6 : FVec Ideal S512x1024 .bf16) (x7 : FVec Ideal S512x1024 .bf16) (x8 : FVec Ideal S1024x1024 .bf16) (x9 : FVec Ideal S1x1024 .f32) : FVec Ideal S256x1024 .f32 :=
  k0_pay2 (View.ld x4 r0_0) x1 x5 (View.ld x4 r0_3) x2 x6 (View.ld x4 r0_4) x3 x7 x0 x8

/-- The total at a place. -/
theorem total_at (x0 : FVec Ideal S256x1024 .f32) (x1 : FVec Ideal S256x512 .bf16) (x2 : FVec Ideal S256x512 .bf16) (x3 : FVec Ideal S256x512 .bf16) (x4 : FVec Ideal S256x3072 .bf16) (x5 : FVec Ideal S512x1024 .bf16) (x6 : FVec Ideal S512x1024 .bf16) (x7 : FVec Ideal S512x1024 .bf16) (x8 : FVec Ideal S1024x1024 .bf16) (x9 : FVec Ideal S1x1024 .f32) (r : Fin 256) (d : Fin 1024) :
    total x0 x1 x2 x3 x4 x5 x6 x7 x8 x9 (ix2 r d) = mergedRow (fun k => x0 (ix2 r k)) (fun k => x4 (ix2 r k)) (fun k => x1 (ix2 r k)) (fun k => x2 (ix2 r k)) (fun k => x3 (ix2 r k))
      (fun l k => x5 (ix2 l k)) (fun l k => x6 (ix2 l k)) (fun l k => x7 (ix2 l k)) (fun l k => x8 (ix2 l k)) d := by
  unfold total
  pointwise [k0_pay2]
  unfold mergedRow mixed
  refine congrArg (_ + ·) (Finset.sum_congr rfl fun k _ => congrArg (· * _) (congrArg₂ (· + ·) (congrArg₂ (· + ·) ?_ ?_) ?_))
  · exact congrArg (fun e => x4 (ix2 r e) * _) (Fin.ext (by show k.val = 0 * 1024 + k.val; omega))
  · exact congrArg (fun e => x4 (ix2 r e) * _) (Fin.ext (by show 1024 + k.val = 1 * 1024 + k.val; omega))
  · exact congrArg (fun e => x4 (ix2 r e) * _) (Fin.ext (by show 2048 + k.val = 2 * 1024 + k.val; omega))

/-- What the body leaves in the first output. -/
theorem first_at (x0 : FVec Ideal S256x1024 .f32) (x1 : FVec Ideal S256x512 .bf16) (x2 : FVec Ideal S256x512 .bf16) (x3 : FVec Ideal S256x512 .bf16) (x4 : FVec Ideal S256x3072 .bf16) (x5 : FVec Ideal S512x1024 .bf16) (x6 : FVec Ideal S512x1024 .bf16) (x7 : FVec Ideal S512x1024 .bf16) (x8 : FVec Ideal S1024x1024 .bf16) (x9 : FVec Ideal S1x1024 .f32) (r : Fin 256) (d : Fin 1024) :
    out0_10 (F := Ideal) x0 x1 x2 x3 x4 x5 x6 x7 x8 x9 (ix2 r d) = total x0 x1 x2 x3 x4 x5 x6 x7 x8 x9 (ix2 r d) := by
  frame_out
  rfl

/-- The norm of a block. -/
theorem pay1_at (s q : FVec Ideal S256x1024 .f32) (g : FVec Ideal S1x1024 .f32) (hq : q = mulf s s) (r : Fin 256) (d : Fin 1024) :
    k0_pay1 (F := Ideal) s g q (ix2 r d) = normed (fun k => s (ix2 r k)) (g (ix2 0 d)) d := by
  subst hq
  pointwise [k0_pay1]
  rfl

/-- What the body leaves in the second output: the first one normed. -/
theorem second_at (x0 : FVec Ideal S256x1024 .f32) (x1 : FVec Ideal S256x512 .bf16) (x2 : FVec Ideal S256x512 .bf16) (x3 : FVec Ideal S256x512 .bf16) (x4 : FVec Ideal S256x3072 .bf16) (x5 : FVec Ideal S512x1024 .bf16) (x6 : FVec Ideal S512x1024 .bf16) (x7 : FVec Ideal S512x1024 .bf16) (x8 : FVec Ideal S1024x1024 .bf16) (x9 : FVec Ideal S1x1024 .f32) (r : Fin 256) (d : Fin 1024) :
    out0_11 (F := Ideal) x0 x1 x2 x3 x4 x5 x6 x7 x8 x9 (ix2 r d) = normed (fun k => total x0 x1 x2 x3 x4 x5 x6 x7 x8 x9 (ix2 r k)) (x9 (ix2 0 d)) d := by
  frame_out
  exact pay1_at _ _ _ rfl r d

/-- One number of a point's total. -/
theorem total_point (t : Fin cfg0.N) (hB : t.val < 64) (r : Fin 256) (d : Fin 1024) :
    total (iblk m c 0 t) (iblk m c 1 t) (iblk m c 2 t) (iblk m c 3 t) (iblk m c 4 t) (iblk m c 5 t) (iblk m c 6 t) (iblk m c 7 t) (iblk m c 8 t) (iblk m c 9 t) (ix2 r d) = Cert.MergeRef.sum (argX m c) (argCo m c) (argMo m c) (argSo m c) (argGt m c) (argWc m c) (argWm m c) (argWs m c) (argWo m c) (ix2 ⟨t.val * 256 + r.val, by omega⟩ d) := by
  refine (total_at _ _ _ _ _ _ _ _ _ (iblk m c 9 t) r d).trans ?_
  rw [Cert.MergeRef.sum_at]
  have e0 := funext fun k => atX m c t hB r k
  have e1 := funext fun k => atCo m c t hB r k
  have e2 := funext fun k => atMo m c t hB r k
  have e3 := funext fun k => atSo m c t hB r k
  have e4 := funext fun k => atGt m c t hB r k
  have e5 := funext fun l => funext fun k => atWc m c t l k
  have e6 := funext fun l => funext fun k => atWm m c t l k
  have e7 := funext fun l => funext fun k => atWs m c t l k
  have e8 := funext fun l => funext fun k => atWo m c t l k
  refine (congrArg₂ (fun x gt => mergedRow x gt _ _ _ _ _ _ _ d) e0 e4).trans ?_
  refine (congrArg₂ (fun a b => mergedRow _ _ a b _ _ _ _ _ d) e1 e2).trans ?_
  refine (congrArg₂ (fun a b => mergedRow _ _ _ _ a b _ _ _ d) e3 e5).trans ?_
  refine (congrArg₂ (fun a b => mergedRow _ _ _ _ _ _ a b _ d) e6 e7).trans ?_
  exact congrArg (fun a => mergedRow _ _ _ _ _ _ _ _ a d) e8

/-- The first result array. -/
theorem final_sum : (dats m 0 c).arrAt 10 (cfgs 0).N = Cert.MergeRef.sum (argX m c) (argCo m c) (argMo m c) (argSo m c) (argGt m c) (argWc m c) (argWm m c) (argWs m c) (argWo m c) := by
  refine (dats m 0 c).arrAt_eq_of_covers 10 _ (by decide +kernel) fun t hf y => ?_
  have hN : t.val < 64 := lt_of_lt_of_eq t.isLt N_0
  blk_simp
  rw [after0_10]
  idx_vars y
  refine (first_at _ _ _ _ _ _ _ _ _ _ y0 y1).trans ?_
  refine (total_point m c t hN y0 y1).trans ?_
  blk_ext [idx t]

/-- The second result array. -/
theorem final_norm : (dats m 0 c).arrAt 11 (cfgs 0).N = Cert.MergeRef.norm (Cert.MergeRef.sum (argX m c) (argCo m c) (argMo m c) (argSo m c) (argGt m c) (argWc m c) (argWm m c) (argWs m c) (argWo m c)) (argG m c) := by
  refine (dats m 0 c).arrAt_eq_of_covers 11 _ (by decide +kernel) fun t hf y => ?_
  have hN : t.val < 64 := lt_of_lt_of_eq t.isLt N_0
  blk_simp
  rw [after0_11]
  idx_vars y
  refine (second_at _ _ _ _ _ _ _ _ _ _ y0 y1).trans ?_
  refine (congrArg₂ (fun x g => normed x g y1) (funext fun k => total_point m c t hN y0 k) (atG m c t 0 y1)).trans ?_
  refine (Cert.MergeRef.norm_at _ _ _ _).symm.trans ?_
  blk_ext [idx t]

end Cert.Merge

end
-- ==== Proof.Merge.lean ====
/- The claims about the dense layers' merge. -/
module

public import proofs.«01_k».proof.Defs
public import proofs.«01_k».proof.Proof.Gen.Kernel4.Frame
public import proofs.«01_k».proof.Proof.MergeValue
public import Idealize.ShloMosaic.Lib.Claim

@[expose] public section

set_option maxRecDepth 16384

noncomputable section

namespace Cert.Merge
open Idealize.ShloMosaic Idealize.ShloMosaic.TcCoe Idealize.SL.Sem

attribute [local instance] Cert.Kernel4.Gen.facts Cert.Kernel4Ideal.Gen.facts Cert.Reference4Ideal.Gen.facts

/-- The reference changes nothing and ends quiet. -/
theorem quiet_reference : Cert.quiescent_Reference4Ideal := by
  intro m g _
  refine (θ_run _ _ _).mono (fun r h => ⟨fun c => (h c).2.2, ?_⟩) (Cert.Reference4Ideal.Value.run m g)
  exact Idealize.ShloMosaic.sem_eq_zero_of_no_sems (by decide) r.2

/-- Kernel and reference leave the same two arrays. -/
theorem algebraic : Cert.algebraic_Kernel4Ideal_Reference4Ideal := by
  intro m g m' g' hpre hagree
  refine ⟨fun c => Cert.MergeRef.sum (argX m c) (argCo m c) (argMo m c) (argSo m c) (argGt m c) (argWc m c) (argWm m c) (argWs m c) (argWo m c), fun c => Cert.MergeRef.norm (Cert.MergeRef.sum (argX m c) (argCo m c) (argMo m c) (argSo m c) (argGt m c) (argWc m c) (argWm m c) (argWs m c) (argWo m c)) (argG m c), ?_, ?_⟩
  · refine (θ_run _ _ _).mono (fun r h c => ?_) (Cert.Kernel4Ideal.Value.run_blocks m g)
    exact ⟨(h c).1.trans (final_sum m c), (h c).2.1.trans (final_norm m c), (h c).2.2⟩
  · refine (θ_run _ _ _).mono (fun r h c => ?_) (Cert.MergeRef.run_result m' g')
    obtain ⟨a0, a1, a2, a3, a4, a5, a6, a7, a8, a9⟩ := hagree c
    refine ⟨(h c).1.trans ?_, (h c).2.1.trans ?_, (h c).2.2⟩
    · rw [a0, a1, a2, a3, a4, a5, a6, a7, a8]
    · rw [a0, a1, a2, a3, a4, a5, a6, a7, a8, a9]

end Cert.Merge

end
-- ==== Proof.NormRef.lean ====
/- The final norm's reference, read at one place. -/
module

public import proofs.«01_k».proof.Proof.Gen.Reference5Ideal.Run
public import proofs.«01_k».proof.Proof.RowFns

@[expose] public section

set_option maxRecDepth 16384

noncomputable section

namespace Cert.NormRef
open Idealize.ShloMosaic Idealize.ShloMosaic.TcCoe Idealize.SL.Sem
open Cert.Reference5Ideal Cert.Reference5Ideal.Gen Cert.RowFns

/-- The whole reference. -/
def result (x : FVec Ideal S16384x1024 .f32) (g : FVec Ideal S1024 .f32) : FVec Ideal S16384x1024 .f32 :=
  mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))

/-- One number of the result. -/
theorem result_at (x : FVec Ideal S16384x1024 .f32) (g : FVec Ideal S1024 .f32) (R : Fin 16384) (C : Fin 1024) :
    result x g (ix2 R C) = normed (fun k => x (ix2 R k)) (g (ix1 C)) C := by
  pointwise [result]
  rfl

variable (m : (ℓ : Loc nD τ sig) → Buf (Elt Ideal) ℓ) (ρ : Dev nD → PrngReg)

/-- What the run leaves. -/
theorem run_result : θ_run defs (onTc (τ := τ) (main (F := Ideal))) ⟨m, fun _ => 0, ρ⟩ fun r => ∀ c : Dev nD,
      r.2.mem ((c.tc : Thread nD τ).loc main_v12) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.Reference5Ideal.Value.run m ρ

end Cert.NormRef

end
-- ==== Proof.NormValue.lean ====
/- The final norm's array after the run is the reference's. -/
module

public import proofs.«01_k».proof.Proof.Gen.Kernel5Ideal.Value
public import proofs.«01_k».proof.Proof.NormRef
public import Idealize.ShloMosaic.Lib.Pipeline.ValueKit

@[expose] public section

set_option maxRecDepth 16384

noncomputable section

namespace Cert.Norm
open Idealize.ShloMosaic Idealize.ShloMosaic.TcCoe Idealize.SL.Sem
open Idealize.ShloMosaic.Pipeline (Dat)
open Cert.Kernel5Ideal Cert.Kernel5Ideal.Gen Cert.RowFns

/-- The windows' blocks at every grid point. -/
theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD)

/-- The residual rows, at their own type. -/
abbrev argX : FVec Ideal S16384x1024 .f32 := m ((c : Thread nD τ).loc main_arg0)
/-- The gain. -/
abbrev argG : FVec Ideal S1024 .f32 := m ((c : Thread nD τ).loc main_arg1)

/-- The gain as the host hands it to the call: one row. -/
theorem gain_row : V m c main_v0 = broadcastInDim S1x1024 ![1] bcast_S1024_S1x1024_1 (argG m c) := by
  unfold V
  simp only [hostOps0, List.flatten_cons, List.flatten_nil, List.append_nil, List.cons_append]
  after_results_simp <;> rfl

/-- A point's block of rows. -/
theorem rows_at (t : Fin cfg0.N) (r : Fin 512) (k : Fin 1024) (hB : t.val < 32) :
    iblk m c 0 t (ix2 r k) = argX m c (ix2 ⟨t.val * 512 + r.val, by omega⟩ k) := by
  blk_ext [iblk, V, idx t]

/-- A point's gain. -/
theorem gain_at (t : Fin cfg0.N) (k : Fin 1024) : iblk m c 1 t (ix2 0 k) = argG m c (ix1 k) := by
  refine Eq.trans (b := (V m c main_v0 : FVec Ideal S1x1024 .f32) (ix2 0 k)) ?_ ?_
  · blk_ext [iblk, idx t]
  · rw [gain_row]
    pointwise

/-- What the body leaves at one place of a block. -/
theorem body_at (x : FVec Ideal S512x1024 .f32) (g : FVec Ideal S1x1024 .f32) (r : Fin 512) (d : Fin 1024) :
    out0_2 (F := Ideal) x g (ix2 r d) = normed (fun k => x (ix2 r k)) (g (ix2 0 d)) d := by
  frame_out
  pointwise [k0_pay1]
  rfl

/-- One number that a point leaves in the output. -/
theorem point (t : Fin cfg0.N) (hB : t.val < 32) (r : Fin 512) (d : Fin 1024) :
    out0_2 (iblk m c 0 t) (iblk m c 1 t) (ix2 r d) = Cert.NormRef.result (argX m c) (argG m c) (ix2 ⟨t.val * 512 + r.val, by omega⟩ d) := by
  refine (body_at _ _ r d).trans ?_
  rw [Cert.NormRef.result_at]
  exact congrArg₂ (fun x g => normed x g d) (funext fun k => rows_at m c t r k hB) (gain_at m c t d)

/-- The result array. -/
theorem final : (dats m 0 c).arrAt 2 (cfgs 0).N = Cert.NormRef.result (argX m c) (argG m c) := by
  refine (dats m 0 c).arrAt_eq_of_covers 2 _ (by decide +kernel) fun t hf y => ?_
  have hN : t.val < 32 := lt_of_lt_of_eq t.isLt N_0
  blk_simp
  rw [after0_2]
  idx_vars y
  refine (point m c t hN y0 y1).trans ?_
  blk_ext [idx t]

end Cert.Norm

end
-- ==== Proof.Norm.lean ====
/- The claims about the final norm. -/
module

public import proofs.«01_k».proof.Defs
public import proofs.«01_k».proof.Proof.Gen.Kernel5.Frame
public import proofs.«01_k».proof.Proof.NormValue
public import Idealize.ShloMosaic.Lib.Claim

@[expose] public section

set_option maxRecDepth 16384

noncomputable section

namespace Cert.Norm
open Idealize.ShloMosaic Idealize.ShloMosaic.TcCoe Idealize.SL.Sem

attribute [local instance] Cert.Kernel5.Gen.facts Cert.Kernel5Ideal.Gen.facts Cert.Reference5Ideal.Gen.facts

/-- The reference changes nothing and ends quiet. -/
theorem quiet_reference : Cert.quiescent_Reference5Ideal := by
  intro m g _
  refine (θ_run _ _ _).mono (fun r h => ⟨fun c => (h c).2, ?_⟩) (Cert.Reference5Ideal.Value.run m g)
  exact Idealize.ShloMosaic.sem_eq_zero_of_no_sems (by decide) r.2

/-- Kernel and reference leave the same array. -/
theorem algebraic : Cert.algebraic_Kernel5Ideal_Reference5Ideal := by
  intro m g m' g' hpre hagree
  refine ⟨fun c => Cert.NormRef.result (argX m c) (argG m c), ?_, ?_⟩
  · refine (θ_run _ _ _).mono (fun r h c => ?_) (Cert.Kernel5Ideal.Value.run_blocks m g)
    exact ⟨(h c).1.trans (final m c), (h c).2⟩
  · refine (θ_run _ _ _).mono (fun r h c => ?_) (Cert.NormRef.run_result m' g')
    refine ⟨(h c).1.trans ?_, (h c).2⟩
    obtain ⟨a0, a1⟩ := hagree c
    rw [a0, a1]

end Cert.Norm

end
-- ==== Proof.InSpec.lean ====
/- The input projections as functions of one row of the residual and one position. -/
module

public import Idealize.ShloMosaic.Lib.Pointwise

@[expose] public section

noncomputable section

namespace Cert.InSpec
open Idealize.ShloMosaic

/-- One number of a row normed by its root mean square; `c` spells the row's length. -/
def rms {n : ℕ} (c : BitVec 32) (x g : Fin n → EReal) (j : Fin n) : EReal :=
  x j * Ideal.rsqrt (Ideal.div (∑ k : Fin n, x k * x k) (Ideal.ofBits FTy.f32 c) + Ideal.ofBits FTy.f32 0x358637BD#32) * g j

/-- One number of a row through a matrix. -/
def inner {K N : ℕ} (h : Fin K → EReal) (w : Fin K → Fin N → EReal) (n : Fin N) : EReal := ∑ k : Fin K, h k * w k n

/-- The angle of a position and a frequency. -/
def angle (t i : ℕ) : EReal :=
  FloatOps.sitofp (F := Ideal) FTy.f32 (BitVec.ofNat 32 t) * Ideal.pow (Ideal.ofBits FTy.f32 0x461C4000#32)
    (Ideal.div (-FloatOps.sitofp (F := Ideal) FTy.f32 (BitVec.ofNat 32 i)) (Ideal.ofBits FTy.f32 0x41800000#32))

/-- The cosine of a position's angle. -/
def cs (t i : ℕ) : EReal := Ideal.cos (angle t i)

/-- The sine of a position's angle. -/
def sn (t i : ℕ) : EReal := Ideal.sin (angle t i)

/-- The convolution's gated input. -/
def glu (z : Fin 5536 → EReal) (d : Fin 512) : EReal := z ⟨d.val, by omega⟩ * Ideal.logistic (z ⟨512 + d.val, by omega⟩)

/-- The queries before the rotation. -/
def query (z : Fin 5536 → EReal) (qg : Fin 384 → EReal) (wuq : Fin 384 → Fin 768 → EReal) (n : Fin 768) : EReal :=
  inner (rms 0x43C00000#32 (fun l : Fin 384 => z ⟨1024 + l.val, by omega⟩) qg) wuq n

/-- The queries: 64 numbers as they are, 32 rotated, 32 zeros, for each of the eight heads. -/
def headQ (q : Fin 768 → EReal) (t : ℕ) (D : Fin 1024) : EReal :=
  if h : D.val % 128 < 96 then
    (if h1 : D.val % 128 < 64 then q ⟨D.val / 128 * 96 + D.val % 128, by omega⟩
    else if h2 : D.val % 128 - 64 < 16 then
      q ⟨D.val / 128 * 96 + (64 + (D.val % 128 - 64)), by omega⟩ * cs t (D.val % 128 - 64) - q ⟨D.val / 128 * 96 + (64 + (16 + (D.val % 128 - 64))), by omega⟩ * sn t (D.val % 128 - 64)
    else
      q ⟨D.val / 128 * 96 + (64 + (D.val % 128 - 64 - 16)), by omega⟩ * sn t (D.val % 128 - 64 - 16) + q ⟨D.val / 128 * 96 + (64 + (16 + (D.val % 128 - 64 - 16))), by omega⟩ * cs t (D.val % 128 - 64 - 16)) *
      Ideal.ofBits FTy.f32 0x3DD105EC#32
  else 0

/-- The latent row. -/
def latent (z : Fin 5536 → EReal) (kvg : Fin 256 → EReal) : Fin 256 → EReal :=
  rms 0x43800000#32 (fun l : Fin 256 => z ⟨1408 + l.val, by omega⟩) kvg

/-- The rotated part of the keys. -/
def keyR (z : Fin 5536 → EReal) (t : ℕ) (p : Fin 32) : EReal :=
  if h : p.val < 16 then
    z ⟨1664 + p.val, by omega⟩ * cs t p.val - z ⟨1664 + (16 + p.val), by omega⟩ * sn t p.val
  else
    z ⟨1664 + (p.val - 16), by omega⟩ * sn t (p.val - 16) + z ⟨1664 + (16 + (p.val - 16)), by omega⟩ * cs t (p.val - 16)

/-- The keys: 64 numbers from the latent row, the rotated part, 32 zeros, for each of the eight heads. -/
def headK (z : Fin 5536 → EReal) (kvg : Fin 256 → EReal) (wuk : Fin 256 → Fin 8 → Fin 64 → EReal) (t : ℕ) (D : Fin 1024) : EReal :=
  if h : D.val % 128 < 96 then
    (if h1 : D.val % 128 < 64 then ∑ l : Fin 256, latent z kvg l * wuk l ⟨D.val / 128, by omega⟩ ⟨D.val % 128, h1⟩
    else keyR z t ⟨D.val % 128 - 64, by omega⟩)
  else 0

/-- The values. -/
def headV (z : Fin 5536 → EReal) (kvg : Fin 256 → EReal) (wuv : Fin 256 → Fin 8 → Fin 64 → EReal) (d : Fin 512) : EReal :=
  ∑ l : Fin 256, latent z kvg l * wuv l ⟨d.val / 64, by omega⟩ ⟨d.val % 64, by omega⟩

/-- The other attention's queries, at the lanes of their group's key. -/
def sbQ (z : Fin 5536 → EReal) (D : Fin 1024) : EReal :=
  if h : D.val / 512 < 1 then
    if h1 : D.val % 128 < 64 then z ⟨1696 + (D.val / 128 % 4 * 64 + D.val % 128), by omega⟩ * Ideal.ofBits FTy.f32 0x3E000000#32 else 0
  else
    if h1 : D.val % 128 < 64 then 0
    else z ⟨1696 + (256 + D.val / 128 % 4 * 64 + (D.val % 128 - 64)), by omega⟩ * Ideal.ofBits FTy.f32 0x3E000000#32

end Cert.InSpec

end
-- ==== Proof.InHost.lean ====
/- What the host prepares for the input projections, read at one place. -/
module

public import proofs.«01_k».proof.Proof.Gen.Kernel6Ideal.Value
public import proofs.«01_k».proof.Proof.InSpec
public import Idealize.ShloMosaic.Lib.Pipeline.ValueKit

@[expose] public section

set_option maxRecDepth 16384
set_option maxHeartbeats 2000000

noncomputable section

namespace Cert.InHost
open Idealize.ShloMosaic Idealize.ShloMosaic.TcCoe Idealize.SL.Sem
open Cert.Kernel6Ideal Cert.Kernel6Ideal.Gen Cert.InSpec

variable (m : (ℓ : Loc nD τ sig) → Buf (Elt Ideal) ℓ) (c : Dev nD)

/-- The residual rows, at their own type. -/
abbrev argX : FVec Ideal S16384x1024 .f32 := m ((c : Thread nD τ).loc main_arg0)
/-- The input norm's gain. -/
abbrev argG : FVec Ideal S1024 .f32 := m ((c : Thread nD τ).loc main_arg1)
/-- The input matrix. -/
abbrev argW : FVec Ideal S1024x5536 .f32 := m ((c : Thread nD τ).loc main_arg2)
/-- The query norm's gain. -/
abbrev argQg : FVec Ideal S384 .f32 := m ((c : Thread nD τ).loc main_arg3)
/-- The query matrix. -/
abbrev argUq : FVec Ideal S384x768 .f32 := m ((c : Thread nD τ).loc main_arg4)
/-- The latent norm's gain. -/
abbrev argKg : FVec Ideal S256 .f32 := m ((c : Thread nD τ).loc main_arg5)
/-- The key matrix. -/
abbrev argUk : FVec Ideal S256x8x64 .f32 := m ((c : Thread nD τ).loc main_arg6)
/-- The value matrix. -/
abbrev argUv : FVec Ideal S256x8x64 .f32 := m ((c : Thread nD τ).loc main_arg7)

/-- The input matrix under a new leading axis. -/
def lead (w : FVec Ideal S1024x5536 .f32) : FVec Ideal S1x1024x5536 .f32 := broadcastInDim S1x1024x5536 ![1, 2] bcast_S1024x5536_S1x1024x5536_1_2 w

/-- The rotated key columns among zeros. -/
def packK (w : FVec Ideal S1024x5536 .f32) : FVec Ideal S1x1024x128 .f32 :=
  concatenate S1x1024x128 2 [⟨S1x1024x64, broadcastInDim S1x1024x64 ![] bcast_S_S1x1024x64 (constant S_ .f32 0x00000000#32)⟩, ⟨S1x1024x32, extractStridedSlice S1x1024x32 ![0, 0, 1664] (lead w) slices_S1x1024x5536_S1x1024x32_0_0_1664⟩,
    ⟨S1x1024x32, broadcastInDim S1x1024x32 ![] bcast_S_S1x1024x32 (constant S_ .f32 0x00000000#32)⟩] concatenates_S1x1024x64_S1x1024x32_S1x1024x32_S1x1024x128_d2

/-- The packed matrix. -/
def packW (w : FVec Ideal S1024x5536 .f32) : FVec Ideal S1024x5632 .bf16 :=
  truncf .bf16 (shapeCast S1024x5632 (concatenate S1x1024x5632 2 [⟨S1x1024x1024, extractStridedSlice S1x1024x1024 ![0, 0, 0] (lead w) slices_S1x1024x5536_S1x1024x1024_0_0_0⟩,
    ⟨S1x1024x384, extractStridedSlice S1x1024x384 ![0, 0, 1024] (lead w) slices_S1x1024x5536_S1x1024x384_0_0_1024⟩,
    ⟨S1x1024x256, extractStridedSlice S1x1024x256 ![0, 0, 1408] (lead w) slices_S1x1024x5536_S1x1024x256_0_0_1408⟩,
    ⟨S1x1024x512, extractStridedSlice S1x1024x512 ![0, 0, 1696] (lead w) slices_S1x1024x5536_S1x1024x512_0_0_1696⟩,
    ⟨S1x1024x128, extractStridedSlice S1x1024x128 ![0, 0, 2208] (lead w) slices_S1x1024x5536_S1x1024x128_0_0_2208⟩,
    ⟨S1x1024x128, extractStridedSlice S1x1024x128 ![0, 0, 2336] (lead w) slices_S1x1024x5536_S1x1024x128_0_0_2336⟩,
    ⟨S1x1024x3072, extractStridedSlice S1x1024x3072 ![0, 0, 2464] (lead w) slices_S1x1024x5536_S1x1024x3072_0_0_2464⟩,
    ⟨S1x1024x128, packK w⟩] concatenates_S1x1024x1024_S1x1024x384_S1x1024x256_S1x1024x512_S1x1024x128_S1x1024x128_S1x1024x3072_S1x1024x128_S1x1024x5632_d2) shapeCasts_S1x1024x5632_S1024x5632) bitsLt_bf16_f32

/-- The padded query matrix. -/
def packUq (w : FVec Ideal S384x768 .f32) : FVec Ideal S384x1024 .bf16 :=
  truncf .bf16 (shapeCast S384x1024 (pad S384x8x128 ![0, 0, 0] ![0, 0, 32] ![0, 0, 0] (shapeCast S384x8x96 w shapeCasts_S384x768_S384x8x96)
    (sitofp (F := Ideal) .f32 (constantI S_ 32 0#32)) pads_S384x8x96_S384x8x128_000_000_0320 h_S_) shapeCasts_S384x8x128_S384x1024) bitsLt_bf16_f32

/-- The padded key matrix and the value matrix. -/
def packUkv (uk uv : FVec Ideal S256x8x64 .f32) : FVec Ideal S256x1536 .bf16 :=
  truncf .bf16 (concatenate S256x1536 1 [⟨S256x1024, shapeCast S256x1024 (pad S256x8x128 ![0, 0, 0] ![0, 0, 64] ![0, 0, 0] uk
    (sitofp (F := Ideal) .f32 (constantI S_ 32 0#32)) pads_S256x8x64_S256x8x128_000_000_0640 h_S_) shapeCasts_S256x8x128_S256x1024⟩,
    ⟨S256x512, shapeCast S256x512 uv shapeCasts_S256x8x64_S256x512⟩] concatenates_S256x1024_S256x512_S256x1536_d1) bitsLt_bf16_f32

/-- The angles. -/
def angles : FVec Ideal S8192x16 .f32 :=
  mulf (broadcastInDim S8192x16 ![0, 1] bcast_S8192x1_S8192x16_0_1 (broadcastInDim S8192x1 ![0] bcast_S8192_S8192x1_0 (sitofp (F := Ideal) .f32 (iotaInDim S8192 32 0))))
    (broadcastInDim S8192x16 ![0, 1] bcast_S1x16_S8192x16_0_1 (broadcastInDim S1x16 ![1] bcast_S16_S1x16_1
      (Host.powf (broadcastInDim S16 ![] bcast_S_S16 (constant S_ .f32 0x461C4000#32))
        (Host.divf (Host.negf (sitofp (F := Ideal) .f32 (iotaInDim S16 32 0))) (broadcastInDim S16 ![] bcast_S_S16 (constant S_ .f32 0x41800000#32))))))

/-- So many equal columns. -/
def fill64 (b : BitVec 32) : FVec Ideal S8192x64 .f32 := broadcastInDim S8192x64 ![] bcast_S_S8192x64 (constant S_ .f32 b)
/-- Sixteen columns of zeros. -/
def zero16 : FVec Ideal S8192x16 .f32 := broadcastInDim S8192x16 ![] bcast_S_S8192x16 (constant S_ .f32 0x00000000#32)
/-- Thirty-two columns of zeros. -/
def zero32 : FVec Ideal S8192x32 .f32 := broadcastInDim S8192x32 ![] bcast_S_S8192x32 (constant S_ .f32 0x00000000#32)

/-- One table under a new leading axis. -/
def table (a : FVec Ideal S8192x64 .f32) (b d : FVec Ideal S8192x16 .f32) (z : FVec Ideal S8192x32 .f32) : FVec Ideal S1x8192x128 .f32 :=
  broadcastInDim S1x8192x128 ![1, 2] bcast_S8192x128_S1x8192x128_1_2 (concatenate S8192x128 1 [⟨S8192x64, a⟩, ⟨S8192x16, b⟩, ⟨S8192x16, d⟩, ⟨S8192x32, z⟩]
    concatenates_S8192x64_S8192x16_S8192x16_S8192x32_S8192x128_d1)

/-- The three tables. -/
def tables : FVec Ideal S3x8192x128 .f32 :=
  concatenate S3x8192x128 0 [⟨S1x8192x128, table (fill64 0x3F800000#32) (Host.cos angles) (Host.cos angles) zero32⟩,
    ⟨S1x8192x128, table (fill64 0x00000000#32) zero16 (Host.sin angles) zero32⟩,
    ⟨S1x8192x128, table (fill64 0x00000000#32) (Host.negf (Host.sin angles)) zero16 zero32⟩] concatenates_S1x8192x128_S1x8192x128_S1x8192x128_S3x8192x128_d0

/-- The input norm's gain as one row. -/
theorem gain : V m c main_v24 = broadcastInDim S1x1024 ![1] bcast_S1024_S1x1024_1 (argG m c) := by
  unfold V
  simp only [hostOps0, hostOps0_1, hostOps0_2, hostOps0_3, hostOps0_4, List.flatten_cons, List.flatten_nil, List.append_nil, List.cons_append, List.nil_append]
  after_results_simp <;> rfl

/-- The query norm's gain as one row. -/
theorem qgain : V m c main_v25 = broadcastInDim S1x384 ![1] bcast_S384_S1x384_1 (argQg m c) := by
  unfold V
  simp only [hostOps0, hostOps0_1, hostOps0_2, hostOps0_3, hostOps0_4, List.flatten_cons, List.flatten_nil, List.append_nil, List.cons_append, List.nil_append]
  after_results_simp <;> rfl

/-- The latent norm's gain as one row. -/
theorem kgain : V m c main_v26 = broadcastInDim S1x256 ![1] bcast_S256_S1x256_1 (argKg m c) := by
  unfold V
  simp only [hostOps0, hostOps0_1, hostOps0_2, hostOps0_3, hostOps0_4, List.flatten_cons, List.flatten_nil, List.append_nil, List.cons_append, List.nil_append]
  after_results_simp <;> rfl

/-- The packed matrix as the call finds it. -/
theorem packed : V m c main_v14 = packW (argW m c) := by
  unfold V
  simp only [hostOps0, hostOps0_1, hostOps0_2, hostOps0_3, hostOps0_4, List.flatten_cons, List.flatten_nil, List.append_nil, List.cons_append, List.nil_append]
  after_results_simp <;> rfl

/-- The padded query matrix as the call finds it. -/
theorem packedUq : V m c main_v18 = packUq (argUq m c) := by
  unfold V
  simp only [hostOps0, hostOps0_1, hostOps0_2, hostOps0_3, hostOps0_4, List.flatten_cons, List.flatten_nil, List.append_nil, List.cons_append, List.nil_append]
  after_results_simp <;> rfl

/-- The key and value matrix as the call finds it. -/
theorem packedUkv : V m c main_v23 = packUkv (argUk m c) (argUv m c) := by
  unfold V
  simp only [hostOps0, hostOps0_1, hostOps0_2, hostOps0_3, hostOps0_4, List.flatten_cons, List.flatten_nil, List.append_nil, List.cons_append, List.nil_append]
  after_results_simp <;> rfl

/-- The tables as the call finds them. -/
theorem rope : V m c main_v57 = tables := by
  unfold V
  simp only [hostOps0, hostOps0_1, hostOps0_2, hostOps0_3, hostOps0_4, List.flatten_cons, List.flatten_nil, List.append_nil, List.cons_append, List.nil_append]
  after_results_simp <;> rfl

/-- The word zero is the number zero. -/
theorem zero_word : (FloatOps.sitofp (F := Ideal) FTy.f32 (0#32) : EReal) = 0 := by
  show (((0#32 : BitVec 32).toInt : ℝ) : EReal) = 0
  simp

/-- The packed matrix left of the rotated key columns. -/
theorem packW_low (w : FVec Ideal S1024x5536 .f32) (k : Fin 1024) (p : Fin 5632) (hp : p.val < 1664) :
    packW w (ix2 k p) = w (ix2 k ⟨p.val, by omega⟩) := by
  pointwise [packW, packK, lead]
  split_ifs <;> first | (exfalso; omega) | exact congrArg (fun q => w (ix2 k q)) (Fin.ext (by first | (dsimp only; done) | (dsimp only; omega)))

/-- The packed matrix between. -/
theorem packW_mid (w : FVec Ideal S1024x5536 .f32) (k : Fin 1024) (p : Fin 5632) (hp : 1664 ≤ p.val) (hq : p.val < 5504) :
    packW w (ix2 k p) = w (ix2 k ⟨p.val + 32, by omega⟩) := by
  pointwise [packW, packK, lead]
  split_ifs <;> first | (exfalso; omega) | exact congrArg (fun q => w (ix2 k q)) (Fin.ext (by first | (dsimp only; done) | (dsimp only; omega)))

/-- The packed matrix's rotated key columns, among zeros. -/
theorem packW_key (w : FVec Ideal S1024x5536 .f32) (k : Fin 1024) (e : Fin 128) :
    packW w (ix2 k ⟨5504 + e.val, by omega⟩) = if h : 64 ≤ e.val ∧ e.val < 96 then w (ix2 k ⟨1664 + (e.val - 64), by omega⟩) else 0 := by
  pointwise [packW, packK, lead]
  by_cases h : 64 ≤ e.val ∧ e.val < 96
  · rw [dif_pos h]
    split_ifs <;> first | (exfalso; omega) | exact congrArg (fun q => w (ix2 k q)) (Fin.ext (by first | (dsimp only; done) | (dsimp only; omega)))
  · rw [dif_neg h]
    split_ifs <;> first | (exfalso; omega) | rfl

/-- The padded query matrix at a place. -/
theorem packUq_at (w : FVec Ideal S384x768 .f32) (k : Fin 384) (p : Fin 1024) :
    packUq w (ix2 k p) = if h : p.val % 128 < 96 then w (ix2 k ⟨p.val / 128 * 96 + p.val % 128, by omega⟩) else 0 := by
  pointwise [packUq]
  rw [zero_word]
  split_ifs <;> first | (exfalso; omega) | rfl

/-- The padded key matrix at a place. -/
theorem packUk_at (uk uv : FVec Ideal S256x8x64 .f32) (k : Fin 256) (p : Fin 1024) :
    packUkv uk uv (ix2 k ⟨p.val, by omega⟩) = if h : p.val % 128 < 64 then uk (ix3 k ⟨p.val / 128, by omega⟩ ⟨p.val % 128, h⟩) else 0 := by
  pointwise [packUkv]
  rw [zero_word]
  split_ifs <;> first | (exfalso; omega) | rfl

/-- The value matrix at a place. -/
theorem packUv_at (uk uv : FVec Ideal S256x8x64 .f32) (k : Fin 256) (d : Fin 512) :
    packUkv uk uv (ix2 k ⟨1024 + d.val, by omega⟩) = uv (ix3 k ⟨d.val / 64, by omega⟩ ⟨d.val % 64, by omega⟩) := by
  pointwise [packUkv]

/-- The first table: what a lane keeps of itself. -/
def tab0 (t : ℕ) (e : Fin 128) : EReal :=
  if e.val < 64 then 1 else if e.val - 64 < 16 then cs t (e.val - 64) else if e.val - 64 - 16 < 16 then cs t (e.val - 64 - 16) else 0
/-- The second table: what a lane takes from sixteen below. -/
def tab1 (t : ℕ) (e : Fin 128) : EReal :=
  if e.val < 64 then 0 else if e.val - 64 < 16 then 0 else if e.val - 64 - 16 < 16 then sn t (e.val - 64 - 16) else 0
/-- The third table: what a lane takes from sixteen above. -/
def tab2 (t : ℕ) (e : Fin 128) : EReal :=
  if e.val < 64 then 0 else if e.val - 64 < 16 then -sn t (e.val - 64) else if e.val - 64 - 16 < 16 then 0 else 0

/-- The tables at a place. -/
theorem tables_at (t : Fin 8192) (e : Fin 128) :
    tables (ix3 0 t e) = tab0 t.val e ∧ tables (ix3 1 t e) = tab1 t.val e ∧ tables (ix3 2 t e) = tab2 t.val e := by
  refine ⟨?_, ?_, ?_⟩ <;> (pointwise [tables, table, fill64, zero16, zero32, angles]; rfl)

end Cert.InHost

end
-- ==== Proof.InPay.lean ====
/- What the input projections' body leaves in a block, read at one place. -/
module

public import proofs.«01_k».proof.Proof.Gen.Kernel6Ideal.Frame
public import proofs.«01_k».proof.Proof.InSpec
public import proofs.«01_k».proof.Proof.Swiglu
public import Idealize.ShloMosaic.Lib.Pipeline.ValueKit

@[expose] public section

set_option maxRecDepth 16384

noncomputable section

namespace Cert.InPay
open Idealize.ShloMosaic Idealize.ShloMosaic.TcCoe Idealize.SL.Sem
open Cert.Kernel6Ideal Cert.Kernel6Ideal.Gen Cert.InSpec

/-- Eight copies of a row of 128 side by side. -/
theorem eight (f : Fin 128 → EReal) (D : Fin 1024) :
    (if h : D.val < 128 then f ⟨D.val, h⟩
      else if h : D.val - 128 < 128 then f ⟨D.val - 128, h⟩
      else if h : D.val - 128 - 128 < 128 then f ⟨D.val - 128 - 128, h⟩
      else if h : D.val - 128 - 128 - 128 < 128 then f ⟨D.val - 128 - 128 - 128, h⟩
      else if h : D.val - 128 - 128 - 128 - 128 < 128 then f ⟨D.val - 128 - 128 - 128 - 128, h⟩
      else if h : D.val - 128 - 128 - 128 - 128 - 128 < 128 then f ⟨D.val - 128 - 128 - 128 - 128 - 128, h⟩
      else if h : D.val - 128 - 128 - 128 - 128 - 128 - 128 < 128 then f ⟨D.val - 128 - 128 - 128 - 128 - 128 - 128, h⟩
      else f ⟨D.val - 128 - 128 - 128 - 128 - 128 - 128 - 128, by omega⟩) = f ⟨D.val % 128, by omega⟩ := by
  split_ifs <;> exact congrArg f (Fin.ext (by dsimp only; omega))

/-- A row's 5632 packed numbers. -/
def kz (x0 : FVec Ideal S256x1024 .f32) (x1 : FVec Ideal S1x1024 .f32) (x2 : FVec Ideal S1024x5632 .bf16) (r : Fin 256) : Fin 5632 → EReal :=
  inner (rms 0x44800000#32 (fun k : Fin 1024 => x0 (ix2 r k)) (fun k => x1 (ix2 0 k))) (fun k p => x2 (ix2 k p))

/-- The normed row. -/
theorem hidden_at (x0 : FVec Ideal S256x1024 .f32) (x1 : FVec Ideal S1x1024 .f32) (r : Fin 256) (k : Fin 1024) :
    k0_pay5 (F := Ideal) x0 x1 (ix2 r k) = rms 0x44800000#32 (fun k : Fin 1024 => x0 (ix2 r k)) (fun k => x1 (ix2 0 k)) k := by
  pointwise [k0_pay5]
  rfl

/-- The normed row, as the body keeps it. -/
theorem normed_at (x0 : FVec Ideal S256x1024 .f32) (x1 : FVec Ideal S1x1024 .f32) (x2 : FVec Ideal S1024x5632 .bf16) (x3 : FVec Ideal S1x384 .f32) (x4 : FVec Ideal S384x1024 .bf16) (x5 : FVec Ideal S1x256 .f32) (x6 : FVec Ideal S256x1536 .bf16) (x7 : FVec Ideal S3x256x128 .f32) (r : Fin 256) (k : Fin 1024) :
    k0_pay29 (F := Ideal) x0 x1 x2 x3 x4 x5 x6 x7 (ix2 r k) = rms 0x44800000#32 (fun k : Fin 1024 => x0 (ix2 r k)) (fun k => x1 (ix2 0 k)) k := by
  unfold k0_pay29
  frame_out
  exact hidden_at x0 x1 r k

/-- The padded queries before the rotation. -/
def kq (z : Fin 5632 → EReal) (x3 : FVec Ideal S1x384 .f32) (x4 : FVec Ideal S384x1024 .bf16) (D : Fin 1024) : EReal :=
  inner (rms 0x43C00000#32 (fun l : Fin 384 => z ⟨1024 + l.val, by omega⟩) (fun l => x3 (ix2 0 l))) (fun l D => x4 (ix2 l D)) D

/-- The latent row. -/
def kl (z : Fin 5632 → EReal) (x5 : FVec Ideal S1x256 .f32) : Fin 256 → EReal :=
  rms 0x43800000#32 (fun l : Fin 256 => z ⟨1408 + l.val, by omega⟩) (fun l => x5 (ix2 0 l))

/-- The rotation by the three tables, over 128 lanes. -/
def kr (z : Fin 5632 → EReal) (x7 : FVec Ideal S3x256x128 .f32) (r : Fin 256) (e : Fin 128) : EReal :=
  z ⟨5504 + e.val, by omega⟩ * x7 (ix3 0 r e) + z ⟨5504 + (e.val + 128 - 16) % 128, by omega⟩ * x7 (ix3 1 r e)
    + z ⟨5504 + (e.val + 128 - 112) % 128, by omega⟩ * x7 (ix3 2 r e)

/-- The gated input. -/
theorem glu_at (x0 : FVec Ideal S256x1024 .f32) (x1 : FVec Ideal S1x1024 .f32) (x2 : FVec Ideal S1024x5632 .bf16) (x3 : FVec Ideal S1x384 .f32) (x4 : FVec Ideal S384x1024 .bf16) (x5 : FVec Ideal S1x256 .f32) (x6 : FVec Ideal S256x1536 .bf16) (x7 : FVec Ideal S3x256x128 .f32) (r : Fin 256) (D : Fin 512) :
    out0_8 (F := Ideal) x0 x1 x2 x3 x4 x5 x6 x7 (ix2 r D) = (kz x0 x1 x2 r) ⟨D.val, by omega⟩ * Ideal.logistic ((kz x0 x1 x2 r) ⟨512 + D.val, by omega⟩) := by
  frame_out
  pointwise [k0_pay6]
  simp only [hidden_at, Cert.Swiglu.sigmoid_sub]
  rfl

/-- The queries. -/
theorem query_at (x0 : FVec Ideal S256x1024 .f32) (x1 : FVec Ideal S1x1024 .f32) (x2 : FVec Ideal S1024x5632 .bf16) (x3 : FVec Ideal S1x384 .f32) (x4 : FVec Ideal S384x1024 .bf16) (x5 : FVec Ideal S1x256 .f32) (x6 : FVec Ideal S256x1536 .bf16) (x7 : FVec Ideal S3x256x128 .f32) (r : Fin 256) (D : Fin 1024) :
    out0_9 (F := Ideal) x0 x1 x2 x3 x4 x5 x6 x7 (ix2 r D) = (kq (kz x0 x1 x2 r) x3 x4 D * x7 (ix3 0 r ⟨D.val % 128, by omega⟩) + kq (kz x0 x1 x2 r) x3 x4 ⟨(D.val + 1024 - 16) % 1024, by omega⟩ * x7 (ix3 1 r ⟨D.val % 128, by omega⟩)
      + kq (kz x0 x1 x2 r) x3 x4 ⟨(D.val + 1024 - 1008) % 1024, by omega⟩ * x7 (ix3 2 r ⟨D.val % 128, by omega⟩)) * Ideal.ofBits FTy.f32 0x3DD105EC#32 := by
  frame_out
  pointwise [k0_pay10, k0_pay9, k0_pay8, k0_pay7]
  simp only [hidden_at]
  rw [eight (fun e => x7 (ix3 0 r e)) D, eight (fun e => x7 (ix3 1 r e)) D, eight (fun e => x7 (ix3 2 r e)) D]
  rfl

/-- The latent rows. -/
theorem latent_at (x0 : FVec Ideal S256x1024 .f32) (x1 : FVec Ideal S1x1024 .f32) (x2 : FVec Ideal S1024x5632 .bf16) (x3 : FVec Ideal S1x384 .f32) (x4 : FVec Ideal S384x1024 .bf16) (x5 : FVec Ideal S1x256 .f32) (x6 : FVec Ideal S256x1536 .bf16) (x7 : FVec Ideal S3x256x128 .f32) (r : Fin 256) (D : Fin 256) :
    out0_10 (F := Ideal) x0 x1 x2 x3 x4 x5 x6 x7 (ix2 r D) = kl (kz x0 x1 x2 r) x5 D := by
  frame_out
  pointwise [k0_pay12, k0_pay11, k0_pay30]
  simp only [normed_at]
  rfl

/-- The rotated part of the keys. -/
theorem keyR_at (x0 : FVec Ideal S256x1024 .f32) (x1 : FVec Ideal S1x1024 .f32) (x2 : FVec Ideal S1024x5632 .bf16) (x3 : FVec Ideal S1x384 .f32) (x4 : FVec Ideal S384x1024 .bf16) (x5 : FVec Ideal S1x256 .f32) (x6 : FVec Ideal S256x1536 .bf16) (x7 : FVec Ideal S3x256x128 .f32) (r : Fin 256) (D : Fin 32) :
    out0_11 (F := Ideal) x0 x1 x2 x3 x4 x5 x6 x7 (ix2 r D) = kr (kz x0 x1 x2 r) x7 r ⟨64 + D.val, by omega⟩ := by
  frame_out
  pointwise [k0_pay15, k0_pay32, k0_pay14]
  simp only [normed_at]
  rfl

/-- The keys. -/
theorem key_at (x0 : FVec Ideal S256x1024 .f32) (x1 : FVec Ideal S1x1024 .f32) (x2 : FVec Ideal S1024x5632 .bf16) (x3 : FVec Ideal S1x384 .f32) (x4 : FVec Ideal S384x1024 .bf16) (x5 : FVec Ideal S1x256 .f32) (x6 : FVec Ideal S256x1536 .bf16) (x7 : FVec Ideal S3x256x128 .f32) (r : Fin 256) (D : Fin 1024) :
    out0_12 (F := Ideal) x0 x1 x2 x3 x4 x5 x6 x7 (ix2 r D) = (∑ l : Fin 256, kl (kz x0 x1 x2 r) x5 l * x6 (ix2 l ⟨D.val, by omega⟩)) + kr (kz x0 x1 x2 r) x7 r ⟨D.val % 128, by omega⟩ := by
  frame_out
  pointwise [k0_pay16, k0_pay31, k0_pay32, k0_pay14, k0_pay13, k0_pay12, k0_pay11, k0_pay30]
  simp only [normed_at]
  refine congrArg₂ (· + ·) rfl ?_
  exact eight (fun e => kr (kz x0 x1 x2 r) x7 r e) D

/-- The values. -/
theorem value_at (x0 : FVec Ideal S256x1024 .f32) (x1 : FVec Ideal S1x1024 .f32) (x2 : FVec Ideal S1024x5632 .bf16) (x3 : FVec Ideal S1x384 .f32) (x4 : FVec Ideal S384x1024 .bf16) (x5 : FVec Ideal S1x256 .f32) (x6 : FVec Ideal S256x1536 .bf16) (x7 : FVec Ideal S3x256x128 .f32) (r : Fin 256) (D : Fin 512) :
    out0_13 (F := Ideal) x0 x1 x2 x3 x4 x5 x6 x7 (ix2 r D) = ∑ l : Fin 256, kl (kz x0 x1 x2 r) x5 l * x6 (ix2 l ⟨1024 + D.val, by omega⟩) := by
  frame_out
  pointwise [k0_pay17, k0_pay31, k0_pay13, k0_pay12, k0_pay11, k0_pay30]
  simp only [normed_at]
  rfl

/-- The other attention's keys. -/
theorem sbK_at (x0 : FVec Ideal S256x1024 .f32) (x1 : FVec Ideal S1x1024 .f32) (x2 : FVec Ideal S1024x5632 .bf16) (x3 : FVec Ideal S1x384 .f32) (x4 : FVec Ideal S384x1024 .bf16) (x5 : FVec Ideal S1x256 .f32) (x6 : FVec Ideal S256x1536 .bf16) (x7 : FVec Ideal S3x256x128 .f32) (r : Fin 256) (D : Fin 128) :
    out0_15 (F := Ideal) x0 x1 x2 x3 x4 x5 x6 x7 (ix2 r D) = (kz x0 x1 x2 r) ⟨2176 + D.val, by omega⟩ := by
  frame_out
  pointwise [k0_pay35, k0_pay28]
  simp only [normed_at]
  rfl

/-- The other attention's values. -/
theorem sbV_at (x0 : FVec Ideal S256x1024 .f32) (x1 : FVec Ideal S1x1024 .f32) (x2 : FVec Ideal S1024x5632 .bf16) (x3 : FVec Ideal S1x384 .f32) (x4 : FVec Ideal S384x1024 .bf16) (x5 : FVec Ideal S1x256 .f32) (x6 : FVec Ideal S256x1536 .bf16) (x7 : FVec Ideal S3x256x128 .f32) (r : Fin 256) (D : Fin 128) :
    out0_16 (F := Ideal) x0 x1 x2 x3 x4 x5 x6 x7 (ix2 r D) = (kz x0 x1 x2 r) ⟨2304 + D.val, by omega⟩ := by
  frame_out
  pointwise [k0_pay2]
  simp only [normed_at]
  rfl

/-- The keys once more. -/
theorem sbKb_at (x0 : FVec Ideal S256x1024 .f32) (x1 : FVec Ideal S1x1024 .f32) (x2 : FVec Ideal S1024x5632 .bf16) (x3 : FVec Ideal S1x384 .f32) (x4 : FVec Ideal S384x1024 .bf16) (x5 : FVec Ideal S1x256 .f32) (x6 : FVec Ideal S256x1536 .bf16) (x7 : FVec Ideal S3x256x128 .f32) (r : Fin 256) (D : Fin 128) :
    out0_17 (F := Ideal) x0 x1 x2 x3 x4 x5 x6 x7 (ix2 r D) = (kz x0 x1 x2 r) ⟨2176 + D.val, by omega⟩ := by
  frame_out
  pointwise [k0_pay1, k0_pay35, k0_pay28]
  simp only [normed_at]
  rfl

/-- The values once more. -/
theorem sbVb_at (x0 : FVec Ideal S256x1024 .f32) (x1 : FVec Ideal S1x1024 .f32) (x2 : FVec Ideal S1024x5632 .bf16) (x3 : FVec Ideal S1x384 .f32) (x4 : FVec Ideal S384x1024 .bf16) (x5 : FVec Ideal S1x256 .f32) (x6 : FVec Ideal S256x1536 .bf16) (x7 : FVec Ideal S3x256x128 .f32) (r : Fin 256) (D : Fin 128) :
    out0_18 (F := Ideal) x0 x1 x2 x3 x4 x5 x6 x7 (ix2 r D) = (kz x0 x1 x2 r) ⟨2304 + D.val, by omega⟩ := by
  frame_out
  pointwise [k0_pay3, k0_pay2]
  simp only [normed_at]
  rfl

/-- The gates. -/
theorem gate_at (x0 : FVec Ideal S256x1024 .f32) (x1 : FVec Ideal S1x1024 .f32) (x2 : FVec Ideal S1024x5632 .bf16) (x3 : FVec Ideal S1x384 .f32) (x4 : FVec Ideal S384x1024 .bf16) (x5 : FVec Ideal S1x256 .f32) (x6 : FVec Ideal S256x1536 .bf16) (x7 : FVec Ideal S3x256x128 .f32) (r : Fin 256) (D : Fin 3072) :
    out0_19 (F := Ideal) x0 x1 x2 x3 x4 x5 x6 x7 (ix2 r D) = Ideal.logistic ((kz x0 x1 x2 r) ⟨2432 + D.val, by omega⟩) := by
  frame_out
  pointwise [k0_pay4]
  simp only [normed_at, Cert.Swiglu.sigmoid_sub]
  rfl

end Cert.InPay

end
-- ==== Proof.InSb.lean ====
/- The other attention's queries as the input projections' body leaves them in a block. -/
module

public import proofs.«01_k».proof.Proof.InPay
public import proofs.«01_k».proof.Proof.Payload

@[expose] public section

set_option maxRecDepth 16384

noncomputable section

namespace Cert.InPay
open Idealize.ShloMosaic Idealize.ShloMosaic.TcCoe Idealize.SL.Sem
open Cert.Kernel6Ideal Cert.Kernel6Ideal.Gen Cert.InSpec

/-- The mask of the lower half of the lanes. -/
theorem low (d : Fin 128) (a b : EReal) :
    Scalar.select (IntOp.cmpi CmpIPredicate.slt (BitVec.ofNat 32 d.val) 64#32) a b = if d.val < 64 then a else b :=
  Cert.Mla.select_lt (by omega) (by omega) a b

/-- The scaled product at a place. -/
theorem scaled_at (v : FVec Ideal S256x1024 .bf16) (w : FVec Ideal S1024x512 .bf16) (r : Fin 256) (j : Fin 512) :
    k0_pay18 (F := Ideal) v w (ix2 r j) = (∑ k : Fin 1024, v (ix2 r k) * w (ix2 k j)) * Ideal.ofBits FTy.f32 0x3E000000#32 := by
  pointwise [k0_pay18]

/-- Head 0's block. -/
theorem piece0 (v : FVec Ideal S256x1024 .bf16) (w : FVec Ideal S1024x512 .bf16) (r : Fin 256) (d : Fin 128) :
    k0_pay20 (F := Ideal) v w (ix2 r d) = if d.val < 64 then k0_pay18 (F := Ideal) v w (ix2 r ⟨d.val, by omega⟩) else 0 := by
  pointwise [k0_pay20, k0_pay19]
  exact low _ _ _

/-- Head 1's block. -/
theorem piece1 (v : FVec Ideal S256x1024 .bf16) (w : FVec Ideal S1024x512 .bf16) (r : Fin 256) (d : Fin 128) :
    k0_pay21 (F := Ideal) v w (ix2 r d) = if d.val < 64 then k0_pay18 (F := Ideal) v w (ix2 r ⟨(d.val + 128 - 64) % 128, by omega⟩) else 0 := by
  pointwise [k0_pay21, k0_pay19]
  exact low _ _ _

/-- Head 2's block. -/
theorem piece2 (v : FVec Ideal S256x1024 .bf16) (w : FVec Ideal S1024x512 .bf16) (r : Fin 256) (d : Fin 128) :
    k0_pay22 (F := Ideal) v w (ix2 r d) = if d.val < 64 then k0_pay18 (F := Ideal) v w (ix2 r ⟨128 + d.val, by omega⟩) else 0 := by
  pointwise [k0_pay22, k0_pay19]
  exact low _ _ _

/-- Head 3's block. -/
theorem piece3 (v : FVec Ideal S256x512 .f32) (r : Fin 256) (d : Fin 128) :
    k0_pay23 (F := Ideal) v k0_pay19 (ix2 r d) = if d.val < 64 then v (ix2 r ⟨128 + (d.val + 128 - 64) % 128, by omega⟩) else 0 := by
  pointwise [k0_pay23, k0_pay19]
  exact low _ _ _

/-- Head 4's block. -/
theorem piece4 (v : FVec Ideal S256x512 .f32) (r : Fin 256) (d : Fin 128) :
    k0_pay24 (F := Ideal) v k0_pay19 (ix2 r d) = if d.val < 64 then 0 else v (ix2 r ⟨256 + (d.val + 128 - 64) % 128, by omega⟩) := by
  pointwise [k0_pay24, k0_pay19]
  exact low _ _ _

/-- Head 5's block. -/
theorem piece5 (v : FVec Ideal S256x512 .f32) (r : Fin 256) (d : Fin 128) :
    k0_pay25 (F := Ideal) v k0_pay19 (ix2 r d) = if d.val < 64 then 0 else v (ix2 r ⟨256 + d.val, by omega⟩) := by
  pointwise [k0_pay25, k0_pay19]
  exact low _ _ _

/-- Head 6's block. -/
theorem piece6 (v : FVec Ideal S256x512 .f32) (r : Fin 256) (d : Fin 128) :
    k0_pay26 (F := Ideal) v k0_pay19 (ix2 r d) = if d.val < 64 then 0 else v (ix2 r ⟨384 + (d.val + 128 - 64) % 128, by omega⟩) := by
  pointwise [k0_pay26, k0_pay19]
  exact low _ _ _

/-- Head 7's block. -/
theorem piece7 (v : FVec Ideal S256x512 .f32) (r : Fin 256) (d : Fin 128) :
    k0_pay27 (F := Ideal) v k0_pay19 (ix2 r d) = if d.val < 64 then 0 else v (ix2 r ⟨384 + d.val, by omega⟩) := by
  pointwise [k0_pay27, k0_pay19]
  exact low _ _ _

/-- The eight heads' 64 numbers at the lanes of their group's key. -/
def spread (s : Fin 512 → EReal) (D : Fin 1024) : EReal :=
  if h : D.val / 512 < 1 then
    if h1 : D.val % 128 < 64 then s ⟨D.val / 128 % 4 * 64 + D.val % 128, by omega⟩ else 0
  else
    if h1 : D.val % 128 < 64 then 0 else s ⟨256 + D.val / 128 % 4 * 64 + (D.val % 128 - 64), by omega⟩

/-- A place in one of the first four heads. -/
theorem spread_low (s : Fin 512 → EReal) (D : Fin 1024) (d : Fin 128) (i : ℕ) (hi : i < 4) (hD : D.val = 128 * i + d.val) (j : Fin 512)
    (hj : d.val < 64 → j.val = 64 * i + d.val) : (if d.val < 64 then s j else 0) = spread s D := by
  unfold spread
  rw [dif_pos (by omega)]
  by_cases h : d.val < 64
  · rw [if_pos h, dif_pos (by omega)]
    exact congrArg s (Fin.ext (by dsimp only; have := hj h; omega))
  · rw [if_neg h, dif_neg (by omega)]

/-- A place in one of the last four heads. -/
theorem spread_high (s : Fin 512 → EReal) (D : Fin 1024) (d : Fin 128) (i : ℕ) (hi : i < 4) (hD : D.val = 512 + 128 * i + d.val) (j : Fin 512)
    (hj : ¬ d.val < 64 → j.val = 256 + 64 * i + (d.val - 64)) : (if d.val < 64 then 0 else s j) = spread s D := by
  unfold spread
  rw [dif_neg (by omega)]
  by_cases h : d.val < 64
  · rw [if_pos h, dif_pos (by omega)]
  · rw [if_neg h, dif_neg (by omega)]
    exact congrArg s (Fin.ext (by dsimp only; have := hj h; omega))

/-- The scaled numbers from which the heads are spread. -/
def ks (z : Fin 5632 → EReal) (j : Fin 512) : EReal := z ⟨1664 + j.val, by omega⟩ * Ideal.ofBits FTy.f32 0x3E000000#32

/-- The scaled product from the packed row. -/
theorem ks_at (x0 : FVec Ideal S256x1024 .f32) (x1 : FVec Ideal S1x1024 .f32) (x2 : FVec Ideal S1024x5632 .bf16) (x3 : FVec Ideal S1x384 .f32) (x4 : FVec Ideal S384x1024 .bf16) (x5 : FVec Ideal S1x256 .f32) (x6 : FVec Ideal S256x1536 .bf16) (x7 : FVec Ideal S3x256x128 .f32) (r : Fin 256) (j : Fin 512) :
    k0_pay18 (F := Ideal) (k0_pay29 x0 x1 x2 x3 x4 x5 x6 x7) (View.ld x2 r0_16) (ix2 r j) = ks (kz x0 x1 x2 r) j := by
  rw [scaled_at]
  simp only [normed_at]
  pointwise
  rfl

/-- The other attention's queries. -/
theorem sbQ_at (x0 : FVec Ideal S256x1024 .f32) (x1 : FVec Ideal S1x1024 .f32) (x2 : FVec Ideal S1024x5632 .bf16) (x3 : FVec Ideal S1x384 .f32) (x4 : FVec Ideal S384x1024 .bf16) (x5 : FVec Ideal S1x256 .f32) (x6 : FVec Ideal S256x1536 .bf16) (x7 : FVec Ideal S3x256x128 .f32) (r : Fin 256) (D : Fin 1024) :
    out0_14 (F := Ideal) x0 x1 x2 x3 x4 x5 x6 x7 (ix2 r D) = spread (ks (kz x0 x1 x2 r)) D := by
  unfold out0_14 k0_pay33 k0_pay34
  canon_tiles e h
  · idx_vars e
    obtain rfl : r = e0 := Fin.ext h0
    refine (piece7 _ r e1).trans ?_
    rw [ks_at]
    exact spread_high _ D e1 3 (by omega) (by omega) _ (by intro _; first | (dsimp only; done) | (dsimp only; omega))
  · idx_vars e
    obtain rfl : r = e0 := Fin.ext h0
    refine (piece6 _ r e1).trans ?_
    rw [ks_at]
    exact spread_high _ D e1 2 (by omega) (by omega) _ (by intro _; first | (dsimp only; done) | (dsimp only; omega))
  · idx_vars e
    obtain rfl : r = e0 := Fin.ext h0
    refine (piece5 _ r e1).trans ?_
    rw [ks_at]
    exact spread_high _ D e1 1 (by omega) (by omega) _ (by intro _; first | (dsimp only; done) | (dsimp only; omega))
  · idx_vars e
    obtain rfl : r = e0 := Fin.ext h0
    refine (piece4 _ r e1).trans ?_
    rw [ks_at]
    exact spread_high _ D e1 0 (by omega) (by omega) _ (by intro _; first | (dsimp only; done) | (dsimp only; omega))
  · idx_vars e
    obtain rfl : r = e0 := Fin.ext h0
    refine (piece3 _ r e1).trans ?_
    rw [ks_at]
    exact spread_low _ D e1 3 (by omega) (by omega) _ (by intro _; first | (dsimp only; done) | (dsimp only; omega))
  · idx_vars e
    obtain rfl : r = e0 := Fin.ext h0
    refine (piece2 _ _ r e1).trans ?_
    rw [ks_at]
    exact spread_low _ D e1 2 (by omega) (by omega) _ (by intro _; first | (dsimp only; done) | (dsimp only; omega))
  · idx_vars e
    obtain rfl : r = e0 := Fin.ext h0
    refine (piece1 _ _ r e1).trans ?_
    rw [ks_at]
    exact spread_low _ D e1 1 (by omega) (by omega) _ (by intro _; first | (dsimp only; done) | (dsimp only; omega))
  · idx_vars e
    obtain rfl : r = e0 := Fin.ext h0
    refine (piece0 _ _ r e1).trans ?_
    rw [ks_at]
    exact spread_low _ D e1 0 (by omega) (by omega) _ (by intro _; first | (dsimp only; done) | (dsimp only; omega))

end Cert.InPay

end
-- ==== Proof.InMeet.lean ====
/- The input projections' row, from the packed matrix to the plain one. -/
module

public import proofs.«01_k».proof.Proof.InHost
public import proofs.«01_k».proof.Proof.InSb

@[expose] public section

set_option maxRecDepth 16384

noncomputable section

namespace Cert.InMeet
open Idealize.ShloMosaic Idealize.ShloMosaic.TcCoe Idealize.SL.Sem
open Cert.Kernel6Ideal Cert.Kernel6Ideal.Gen Cert.InSpec Cert.InHost Cert.InPay

/-- A row's packed numbers from its plain ones. -/
structure Packs (z : Fin 5536 → EReal) (y : Fin 5632 → EReal) : Prop where
  /-- Left of the rotated key columns. -/
  low : ∀ p : Fin 5632, (hp : p.val < 1664) → y p = z ⟨p.val, by omega⟩
  /-- Between. -/
  mid : ∀ p : Fin 5632, (hp : 1664 ≤ p.val) → (hq : p.val < 5504) → y p = z ⟨p.val + 32, by omega⟩
  /-- The rotated key columns. -/
  key : ∀ e : Fin 128, y ⟨5504 + e.val, by omega⟩ = if h : 64 ≤ e.val ∧ e.val < 96 then z ⟨1664 + (e.val - 64), by omega⟩ else 0

/-- The products with the packed matrix are packed. -/
theorem packs (h : Fin 1024 → EReal) (w : FVec Ideal S1024x5536 .f32) :
    Packs (inner h fun k p => w (ix2 k p)) (inner h fun k p => packW w (ix2 k p)) where
  low p hp := Finset.sum_congr rfl fun k _ => congrArg (h k * ·) (packW_low w k p hp)
  mid p hp hq := Finset.sum_congr rfl fun k _ => congrArg (h k * ·) (packW_mid w k p hp hq)
  key e := by
    refine (Finset.sum_congr rfl fun k _ => congrArg (h k * ·) (packW_key w k e)).trans ?_
    by_cases he : 64 ≤ e.val ∧ e.val < 96
    · simp only [dif_pos he]
      rfl
    · simp only [dif_neg he, mul_zero, Finset.sum_const_zero]

variable {z : Fin 5536 → EReal} {y : Fin 5632 → EReal}

/-- The gated input. -/
theorem glu_meet (H : Packs z y) (D : Fin 512) : y ⟨D.val, by omega⟩ * Ideal.logistic (y ⟨512 + D.val, by omega⟩) = glu z D := by
  rw [H.low _ (by dsimp only; omega), H.low _ (by dsimp only; omega)]
  rfl

/-- The latent row. -/
theorem latent_meet (H : Packs z y) (x5 : FVec Ideal S1x256 .f32) (kvg : Fin 256 → EReal) (h5 : ∀ l, x5 (ix2 0 l) = kvg l) (j : Fin 256) :
    kl y x5 j = latent z kvg j := by
  unfold kl latent
  exact congrArg₂ (fun a b => rms 0x43800000#32 a b j) (funext fun l => H.low _ (by dsimp only; omega)) (funext h5)

/-- The padded queries before the rotation. -/
theorem query_meet (H : Packs z y) (x3 : FVec Ideal S1x384 .f32) (x4 : FVec Ideal S384x1024 .bf16) (qg : Fin 384 → EReal) (wuq : FVec Ideal S384x768 .f32)
    (h3 : ∀ l, x3 (ix2 0 l) = qg l) (h4 : ∀ l D, x4 (ix2 l D) = packUq wuq (ix2 l D)) (D : Fin 1024) :
    kq y x3 x4 D = if h : D.val % 128 < 96 then query z qg (fun l n => wuq (ix2 l n)) ⟨D.val / 128 * 96 + D.val % 128, by omega⟩ else 0 := by
  have e : rms 0x43C00000#32 (fun l : Fin 384 => y ⟨1024 + l.val, by omega⟩) (fun l => x3 (ix2 0 l)) = rms 0x43C00000#32 (fun l : Fin 384 => z ⟨1024 + l.val, by omega⟩) qg :=
    congrArg₂ (rms 0x43C00000#32) (funext fun l => H.low _ (by dsimp only; omega)) (funext h3)
  unfold kq
  rw [e]
  unfold InSpec.inner
  simp only [h4, packUq_at]
  by_cases h : D.val % 128 < 96
  · simp only [dif_pos h]
    rfl
  · simp only [dif_neg h, mul_zero, Finset.sum_const_zero]

/-- The queries: the three terms with the tables are the rotation. -/
theorem headQ_meet (f : Fin 1024 → EReal) (q : Fin 768 → EReal) (hf : ∀ D, f D = if h : D.val % 128 < 96 then q ⟨D.val / 128 * 96 + D.val % 128, by omega⟩ else 0)
    (t : ℕ) (D : Fin 1024) :
    (f D * tab0 t ⟨D.val % 128, by omega⟩ + f ⟨(D.val + 1024 - 16) % 1024, by omega⟩ * tab1 t ⟨D.val % 128, by omega⟩
      + f ⟨(D.val + 1024 - 1008) % 1024, by omega⟩ * tab2 t ⟨D.val % 128, by omega⟩) * Ideal.ofBits FTy.f32 0x3DD105EC#32 = headQ q t D := by
  unfold headQ tab0 tab1 tab2
  dsimp only
  by_cases h : D.val % 128 < 96
  · rw [dif_pos h]
    refine congrArg (· * _) ?_
    by_cases h1 : D.val % 128 < 64
    · rw [if_pos h1, if_pos h1, if_pos h1, dif_pos h1, hf D, dif_pos h, mul_zero, mul_zero, mul_one, add_zero, add_zero]
    · rw [if_neg h1, if_neg h1, if_neg h1, dif_neg h1]
      by_cases h2 : D.val % 128 - 64 < 16
      · rw [if_pos h2, if_pos h2, if_pos h2, dif_pos h2, mul_zero, add_zero, mul_neg, ← sub_eq_add_neg, hf D, dif_pos h, hf _, dif_pos (by dsimp only; omega)]
        refine congrArg₂ (· - ·) (congrArg (· * _) ?_) (congrArg (· * _) ?_) <;> exact congrArg q (Fin.ext (by first | (dsimp only; done) | (dsimp only; omega)))
      · have h3 : D.val % 128 - 64 - 16 < 16 := by omega
        rw [if_neg h2, if_neg h2, if_neg h2, dif_neg h2, if_pos h3, if_pos h3, if_pos h3, mul_zero, add_zero, add_comm, hf D, dif_pos h, hf _, dif_pos (by dsimp only; omega)]
        refine congrArg₂ (· + ·) (congrArg (· * _) ?_) (congrArg (· * _) ?_) <;> exact congrArg q (Fin.ext (by first | (dsimp only; done) | (dsimp only; omega)))
  · rw [dif_neg h, hf D, dif_neg h, if_neg (by omega), if_neg (by omega), if_neg (by omega), if_neg (by omega), if_neg (by omega), if_neg (by omega),
      if_neg (by omega), if_neg (by omega), if_neg (by omega), mul_zero, mul_zero, mul_zero, add_zero, add_zero, zero_mul]

/-- The rotated key columns. -/
theorem key_meet (H : Packs z y) (x7 : FVec Ideal S3x256x128 .f32) (r : Fin 256) (t : ℕ)
    (h7 : ∀ e, x7 (ix3 0 r e) = tab0 t e ∧ x7 (ix3 1 r e) = tab1 t e ∧ x7 (ix3 2 r e) = tab2 t e) (e : Fin 128) :
    kr y x7 r e = if h : 64 ≤ e.val ∧ e.val < 96 then keyR z t ⟨e.val - 64, by omega⟩ else 0 := by
  unfold kr
  rw [(h7 e).1, (h7 e).2.1, (h7 e).2.2, H.key e]
  have k1 := H.key ⟨(e.val + 128 - 16) % 128, by omega⟩
  have k2 := H.key ⟨(e.val + 128 - 112) % 128, by omega⟩
  dsimp only at k1 k2
  rw [k1, k2]
  unfold tab0 tab1 tab2 keyR
  dsimp only
  by_cases h1 : e.val < 64
  · rw [if_pos h1, if_pos h1, if_pos h1, dif_neg (by omega), dif_neg (by omega : ¬ (64 ≤ e.val ∧ e.val < 96)), mul_zero, mul_zero, zero_mul, add_zero, add_zero]
  · rw [if_neg h1, if_neg h1, if_neg h1]
    by_cases h2 : e.val - 64 < 16
    · rw [if_pos h2, if_pos h2, if_pos h2, dif_pos (by omega), dif_pos (by omega : 64 ≤ (e.val + 128 - 112) % 128 ∧ _), dif_pos (by omega : 64 ≤ e.val ∧ e.val < 96), dif_pos h2,
        mul_zero, add_zero, mul_neg, ← sub_eq_add_neg]
      refine congrArg₂ (· - ·) rfl (congrArg (· * _) ?_)
      exact congrArg z (Fin.ext (by first | (dsimp only; done) | (dsimp only; omega)))
    · by_cases h3 : e.val - 64 - 16 < 16
      · rw [if_neg h2, if_neg h2, if_neg h2, if_pos h3, if_pos h3, if_pos h3, dif_pos (by omega), dif_pos (by omega : 64 ≤ (e.val + 128 - 16) % 128 ∧ _), dif_pos (by omega : 64 ≤ e.val ∧ e.val < 96), dif_neg h2,
          mul_zero, add_zero, add_comm]
        refine congrArg₂ (· + ·) (congrArg (· * _) ?_) (congrArg (· * _) ?_) <;> exact congrArg z (Fin.ext (by first | (dsimp only; done) | (dsimp only; omega)))
      · rw [if_neg h2, if_neg h2, if_neg h2, if_neg h3, if_neg h3, if_neg h3, mul_zero, mul_zero, mul_zero, add_zero, add_zero]
        rw [dif_neg (by omega : ¬ (64 ≤ e.val ∧ e.val < 96))]

/-- The keys. -/
theorem headK_meet (H : Packs z y) (x5 : FVec Ideal S1x256 .f32) (x6 : FVec Ideal S256x1536 .bf16) (x7 : FVec Ideal S3x256x128 .f32) (r : Fin 256) (t : ℕ)
    (kvg : Fin 256 → EReal) (uk uv : FVec Ideal S256x8x64 .f32) (h5 : ∀ l, x5 (ix2 0 l) = kvg l) (h6 : ∀ l D, x6 (ix2 l D) = packUkv uk uv (ix2 l D))
    (h7 : ∀ e, x7 (ix3 0 r e) = tab0 t e ∧ x7 (ix3 1 r e) = tab1 t e ∧ x7 (ix3 2 r e) = tab2 t e) (D : Fin 1024) :
    (∑ l : Fin 256, kl y x5 l * x6 (ix2 l ⟨D.val, by omega⟩)) + kr y x7 r ⟨D.val % 128, by omega⟩ = headK z kvg (fun l h e => uk (ix3 l h e)) t D := by
  rw [key_meet H x7 r t h7]
  simp only [latent_meet H x5 kvg h5, h6, packUk_at]
  unfold headK
  dsimp only
  by_cases h1 : D.val % 128 < 64
  · simp only [dif_pos h1]
    rw [dif_neg (by omega), dif_pos (by omega), add_zero]
  · simp only [dif_neg h1, mul_zero, Finset.sum_const_zero]
    by_cases h : D.val % 128 < 96
    · rw [dif_pos (by omega), dif_pos h, zero_add]
    · rw [dif_neg (by omega), dif_neg h, zero_add]

/-- The values. -/
theorem headV_meet (H : Packs z y) (x5 : FVec Ideal S1x256 .f32) (x6 : FVec Ideal S256x1536 .bf16)
    (kvg : Fin 256 → EReal) (uk uv : FVec Ideal S256x8x64 .f32) (h5 : ∀ l, x5 (ix2 0 l) = kvg l) (h6 : ∀ l D, x6 (ix2 l D) = packUkv uk uv (ix2 l D)) (d : Fin 512) :
    (∑ l : Fin 256, kl y x5 l * x6 (ix2 l ⟨1024 + d.val, by omega⟩)) = headV z kvg (fun l h e => uv (ix3 l h e)) d := by
  simp only [latent_meet H x5 kvg h5, h6, packUv_at]
  rfl

/-- The other attention's queries. -/
theorem sbQ_meet (H : Packs z y) (D : Fin 1024) : spread (ks y) D = sbQ z D := by
  unfold spread ks sbQ
  dsimp only
  have low : ∀ p : Fin 5632, (hp : 1664 ≤ p.val) → (hq : p.val < 5504) → y p = z ⟨p.val + 32, by omega⟩ := H.mid
  by_cases h : D.val / 512 < 1
  · rw [dif_pos h, dif_pos h]
    by_cases h1 : D.val % 128 < 64
    · rw [dif_pos h1, dif_pos h1, H.mid _ (by dsimp only; omega) (by dsimp only; omega)]
      exact congrArg (· * _) (congrArg z (Fin.ext (by first | (dsimp only; done) | (dsimp only; omega))))
    · rw [dif_neg h1, dif_neg h1]
  · rw [dif_neg h, dif_neg h]
    by_cases h1 : D.val % 128 < 64
    · rw [dif_pos h1, dif_pos h1]
    · rw [dif_neg h1, dif_neg h1, H.mid _ (by dsimp only; omega) (by dsimp only; omega)]
      exact congrArg (· * _) (congrArg z (Fin.ext (by first | (dsimp only; done) | (dsimp only; omega))))

end Cert.InMeet

end
-- ==== Proof.InValue.lean ====
/- The input projections' twelve arrays after the run. -/
module

public import proofs.«01_k».proof.Proof.Gen.Kernel6Ideal.Value
public import proofs.«01_k».proof.Proof.InMeet
public import Idealize.ShloMosaic.Lib.Pipeline.ValueKit

@[expose] public section

set_option maxRecDepth 16384

noncomputable section

namespace Cert.InValue
open Idealize.ShloMosaic Idealize.ShloMosaic.TcCoe Idealize.SL.Sem
open Idealize.ShloMosaic.Pipeline (Dat)
open Cert.Kernel6Ideal Cert.Kernel6Ideal.Gen Cert.InSpec Cert.InHost Cert.InMeet

/-- The windows' blocks at every grid point. -/
theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, t.val % 32, 0] ∧ win0_8.index t = ![t.val, 0] ∧ win0_9.index t = ![t.val, 0] ∧ win0_10.index t = ![t.val, 0] ∧ win0_11.index t = ![t.val, 0] ∧ win0_12.index t = ![t.val, 0] ∧ win0_13.index t = ![t.val, 0] ∧ win0_14.index t = ![t.val, 0] ∧ win0_15.index t = ![t.val, 0] ∧ win0_16.index t = ![t.val, 0] ∧ win0_17.index t = ![t.val, 0] ∧ win0_18.index t = ![t.val, 0] ∧ win0_19.index t = ![t.val, 0] :=
  (by decide +kernel : ∀ t : Fin grid0.N, _)

variable (m : (ℓ : Loc nD τ sig) → Buf (Elt Ideal) ℓ) (c : Dev nD)

/-- A row's 5536 numbers. -/
def zOf (R : Fin 16384) : Fin 5536 → EReal :=
  inner (rms 0x44800000#32 (fun k : Fin 1024 => argX m c (ix2 R k)) (fun k => argG m c (ix1 k))) (fun k p => argW m c (ix2 k p))

/-- A point's block of rows. -/
theorem rows_at (t : Fin cfg0.N) (r : Fin 256) (k : Fin 1024) (hB : t.val < 64) :
    iblk m c 0 t (ix2 r k) = argX m c (ix2 ⟨t.val * 256 + r.val, by omega⟩ k) := by
  refine Eq.trans (b := (V m c main_arg0 : FVec Ideal S16384x1024 .f32) (ix2 ⟨t.val * 256 + r.val, by omega⟩ k)) ?_ (congrFun (V_main_arg0 m c) _)
  blk_ext [iblk, idx t]

/-- A point's block of the input norm's gain. -/
theorem gain_at (t : Fin cfg0.N) (k : Fin 1024) : iblk m c 1 t (ix2 0 k) = argG m c (ix1 k) := by
  refine Eq.trans (b := (V m c main_v24 : FVec Ideal S1x1024 .f32) (ix2 0 k)) ?_ ?_
  · blk_ext [iblk, idx t]
  · rw [gain]
    pointwise

/-- A point's block of the query norm's gain. -/
theorem qgain_at (t : Fin cfg0.N) (k : Fin 384) : iblk m c 3 t (ix2 0 k) = argQg m c (ix1 k) := by
  refine Eq.trans (b := (V m c main_v25 : FVec Ideal S1x384 .f32) (ix2 0 k)) ?_ ?_
  · blk_ext [iblk, idx t]
  · rw [qgain]
    pointwise

/-- A point's block of the latent norm's gain. -/
theorem kgain_at (t : Fin cfg0.N) (k : Fin 256) : iblk m c 5 t (ix2 0 k) = argKg m c (ix1 k) := by
  refine Eq.trans (b := (V m c main_v26 : FVec Ideal S1x256 .f32) (ix2 0 k)) ?_ ?_
  · blk_ext [iblk, idx t]
  · rw [kgain]
    pointwise

/-- A point's block of the packed matrix. -/
theorem packed_at (t : Fin cfg0.N) (k : Fin 1024) (p : Fin 5632) : iblk m c 2 t (ix2 k p) = packW (argW m c) (ix2 k p) := by
  refine Eq.trans (b := (V m c main_v14 : FVec Ideal S1024x5632 .bf16) (ix2 k p)) ?_ ?_
  · blk_ext [iblk, idx t]
  · rw [packed]

/-- A point's block of the query matrix. -/
theorem packedUq_at (t : Fin cfg0.N) (k : Fin 384) (p : Fin 1024) : iblk m c 4 t (ix2 k p) = packUq (argUq m c) (ix2 k p) := by
  refine Eq.trans (b := (V m c main_v18 : FVec Ideal S384x1024 .bf16) (ix2 k p)) ?_ ?_
  · blk_ext [iblk, idx t]
  · rw [packedUq]

/-- A point's block of the key and value matrix. -/
theorem packedUkv_at (t : Fin cfg0.N) (k : Fin 256) (p : Fin 1536) : iblk m c 6 t (ix2 k p) = packUkv (argUk m c) (argUv m c) (ix2 k p) := by
  refine Eq.trans (b := (V m c main_v23 : FVec Ideal S256x1536 .bf16) (ix2 k p)) ?_ ?_
  · blk_ext [iblk, idx t]
  · rw [packedUkv]

/-- A point's block of the tables. -/
theorem rope_at (t : Fin cfg0.N) (a : Fin 3) (r : Fin 256) (e : Fin 128) (hB : t.val < 64) :
    iblk m c 7 t (ix3 a r e) = tables (ix3 a ⟨(t.val * 256 + r.val) % 8192, by omega⟩ e) := by
  refine Eq.trans (b := (V m c main_v57 : FVec Ideal S3x8192x128 .f32) (ix3 a ⟨(t.val * 256 + r.val) % 8192, by omega⟩ e)) ?_ ?_
  · blk_ext [iblk, idx t]
  · rw [rope]

/-- The tables at a point's row. -/
theorem tabs (t : Fin cfg0.N) (r : Fin 256) (hB : t.val < 64) (e : Fin 128) :
    iblk m c 7 t (ix3 0 r e) = tab0 ((t.val * 256 + r.val) % 8192) e ∧ iblk m c 7 t (ix3 1 r e) = tab1 ((t.val * 256 + r.val) % 8192) e
      ∧ iblk m c 7 t (ix3 2 r e) = tab2 ((t.val * 256 + r.val) % 8192) e :=
  ⟨(rope_at m c t 0 r e hB).trans (tables_at _ e).1, (rope_at m c t 1 r e hB).trans (tables_at _ e).2.1, (rope_at m c t 2 r e hB).trans (tables_at _ e).2.2⟩

/-- A point's packed row. -/
theorem row (t : Fin cfg0.N) (r : Fin 256) (hB : t.val < 64) :
    Packs (zOf m c ⟨t.val * 256 + r.val, by omega⟩) (InPay.kz (iblk m c 0 t) (iblk m c 1 t) (iblk m c 2 t) r) := by
  have e : InPay.kz (iblk m c 0 t) (iblk m c 1 t) (iblk m c 2 t) r
      = inner (rms 0x44800000#32 (fun k : Fin 1024 => argX m c (ix2 ⟨t.val * 256 + r.val, by omega⟩ k)) (fun k => argG m c (ix1 k))) (fun k p => packW (argW m c) (ix2 k p)) := by
    refine congrArg₂ InSpec.inner (congrArg₂ (rms 0x44800000#32) (funext fun k => rows_at m c t r k hB) (funext fun k => gain_at m c t k)) ?_
    exact funext fun k => funext fun p => packed_at m c t k p
  rw [e]
  exact packs _ _

/-- The gated input. At one place of a point's block. -/
theorem glu_point (t : Fin cfg0.N) (hB : t.val < 64) (r : Fin 256) (D : Fin 512) :
    out0_8 (iblk m c 0 t) (iblk m c 1 t) (iblk m c 2 t) (iblk m c 3 t) (iblk m c 4 t) (iblk m c 5 t) (iblk m c 6 t) (iblk m c 7 t) (ix2 r D) = glu (zOf m c ⟨t.val * 256 + r.val, by omega⟩) D := by
  have H := row m c t r hB
  exact (InPay.glu_at _ _ _ _ _ _ _ _ r D).trans (glu_meet H D)

/-- The gated input. -/
theorem glu_final (G : FVec Ideal S16384x512 .f32) (hG : ∀ (R : Fin 16384) (D : Fin 512), G (ix2 R D) = glu (zOf m c R) D) : (dats m 0 c).arrAt 8 (cfgs 0).N = G := by
  refine (dats m 0 c).arrAt_eq_of_covers 8 _ (by decide +kernel) fun t hf y => ?_
  have hN : t.val < 64 := lt_of_lt_of_eq t.isLt N_0
  blk_simp
  rw [after0_8]
  idx_vars y
  refine (glu_point m c t hN y0 y1).trans ?_
  refine (hG ⟨t.val * 256 + y0.val, by omega⟩ y1).symm.trans ?_
  blk_ext [idx t]

/-- The queries. At one place of a point's block. -/
theorem query_point (t : Fin cfg0.N) (hB : t.val < 64) (r : Fin 256) (D : Fin 1024) :
    out0_9 (iblk m c 0 t) (iblk m c 1 t) (iblk m c 2 t) (iblk m c 3 t) (iblk m c 4 t) (iblk m c 5 t) (iblk m c 6 t) (iblk m c 7 t) (ix2 r D) = headQ (query (zOf m c ⟨t.val * 256 + r.val, by omega⟩) (fun l => argQg m c (ix1 l)) (fun l n => argUq m c (ix2 l n))) ((t.val * 256 + r.val) % 8192) D := by
  have H := row m c t r hB
  refine (InPay.query_at _ _ _ _ _ _ _ _ r D).trans ?_
  rw [(tabs m c t r hB _).1, (tabs m c t r hB _).2.1, (tabs m c t r hB _).2.2]
  exact headQ_meet _ _ (query_meet H _ _ _ (argUq m c) (qgain_at m c t) (packedUq_at m c t)) _ D

/-- The queries. -/
theorem query_final (G : FVec Ideal S16384x1024 .bf16) (hG : ∀ (R : Fin 16384) (D : Fin 1024), G (ix2 R D) = headQ (query (zOf m c R) (fun l => argQg m c (ix1 l)) (fun l n => argUq m c (ix2 l n))) (R.val % 8192) D) : (dats m 0 c).arrAt 9 (cfgs 0).N = G := by
  refine (dats m 0 c).arrAt_eq_of_covers 9 _ (by decide +kernel) fun t hf y => ?_
  have hN : t.val < 64 := lt_of_lt_of_eq t.isLt N_0
  blk_simp
  rw [after0_9]
  idx_vars y
  refine (query_point m c t hN y0 y1).trans ?_
  refine (hG ⟨t.val * 256 + y0.val, by omega⟩ y1).symm.trans ?_
  blk_ext [idx t]

/-- The latent rows. At one place of a point's block. -/
theorem latent_point (t : Fin cfg0.N) (hB : t.val < 64) (r : Fin 256) (D : Fin 256) :
    out0_10 (iblk m c 0 t) (iblk m c 1 t) (iblk m c 2 t) (iblk m c 3 t) (iblk m c 4 t) (iblk m c 5 t) (iblk m c 6 t) (iblk m c 7 t) (ix2 r D) = latent (zOf m c ⟨t.val * 256 + r.val, by omega⟩) (fun l => argKg m c (ix1 l)) D := by
  have H := row m c t r hB
  exact (InPay.latent_at _ _ _ _ _ _ _ _ r D).trans (latent_meet H _ _ (kgain_at m c t) D)

/-- The latent rows. -/
theorem latent_final (G : FVec Ideal S16384x256 .f32) (hG : ∀ (R : Fin 16384) (D : Fin 256), G (ix2 R D) = latent (zOf m c R) (fun l => argKg m c (ix1 l)) D) : (dats m 0 c).arrAt 10 (cfgs 0).N = G := by
  refine (dats m 0 c).arrAt_eq_of_covers 10 _ (by decide +kernel) fun t hf y => ?_
  have hN : t.val < 64 := lt_of_lt_of_eq t.isLt N_0
  blk_simp
  rw [after0_10]
  idx_vars y
  refine (latent_point m c t hN y0 y1).trans ?_
  refine (hG ⟨t.val * 256 + y0.val, by omega⟩ y1).symm.trans ?_
  blk_ext [idx t]

/-- The rotated part of the keys. At one place of a point's block. -/
theorem keyR_point (t : Fin cfg0.N) (hB : t.val < 64) (r : Fin 256) (D : Fin 32) :
    out0_11 (iblk m c 0 t) (iblk m c 1 t) (iblk m c 2 t) (iblk m c 3 t) (iblk m c 4 t) (iblk m c 5 t) (iblk m c 6 t) (iblk m c 7 t) (ix2 r D) = keyR (zOf m c ⟨t.val * 256 + r.val, by omega⟩) ((t.val * 256 + r.val) % 8192) D := by
  have H := row m c t r hB
  refine (InPay.keyR_at _ _ _ _ _ _ _ _ r D).trans ?_
  rw [key_meet H _ r _ (tabs m c t r hB)]
  rw [dif_pos (by dsimp only; omega)]
  exact congrArg (keyR _ _) (Fin.ext (by dsimp only; omega))

/-- The rotated part of the keys. -/
theorem keyR_final (G : FVec Ideal S16384x32 .f32) (hG : ∀ (R : Fin 16384) (D : Fin 32), G (ix2 R D) = keyR (zOf m c R) (R.val % 8192) D) : (dats m 0 c).arrAt 11 (cfgs 0).N = G := by
  refine (dats m 0 c).arrAt_eq_of_covers 11 _ (by decide +kernel) fun t hf y => ?_
  have hN : t.val < 64 := lt_of_lt_of_eq t.isLt N_0
  blk_simp
  rw [after0_11]
  idx_vars y
  refine (keyR_point m c t hN y0 y1).trans ?_
  refine (hG ⟨t.val * 256 + y0.val, by omega⟩ y1).symm.trans ?_
  blk_ext [idx t]

/-- The keys. At one place of a point's block. -/
theorem key_point (t : Fin cfg0.N) (hB : t.val < 64) (r : Fin 256) (D : Fin 1024) :
    out0_12 (iblk m c 0 t) (iblk m c 1 t) (iblk m c 2 t) (iblk m c 3 t) (iblk m c 4 t) (iblk m c 5 t) (iblk m c 6 t) (iblk m c 7 t) (ix2 r D) = headK (zOf m c ⟨t.val * 256 + r.val, by omega⟩) (fun l => argKg m c (ix1 l)) (fun l h e => argUk m c (ix3 l h e)) ((t.val * 256 + r.val) % 8192) D := by
  have H := row m c t r hB
  exact (InPay.key_at _ _ _ _ _ _ _ _ r D).trans (headK_meet H _ _ _ r _ _ (argUk m c) (argUv m c) (kgain_at m c t) (packedUkv_at m c t) (tabs m c t r hB) D)

/-- The keys. -/
theorem key_final (G : FVec Ideal S16384x1024 .bf16) (hG : ∀ (R : Fin 16384) (D : Fin 1024), G (ix2 R D) = headK (zOf m c R) (fun l => argKg m c (ix1 l)) (fun l h e => argUk m c (ix3 l h e)) (R.val % 8192) D) : (dats m 0 c).arrAt 12 (cfgs 0).N = G := by
  refine (dats m 0 c).arrAt_eq_of_covers 12 _ (by decide +kernel) fun t hf y => ?_
  have hN : t.val < 64 := lt_of_lt_of_eq t.isLt N_0
  blk_simp
  rw [after0_12]
  idx_vars y
  refine (key_point m c t hN y0 y1).trans ?_
  refine (hG ⟨t.val * 256 + y0.val, by omega⟩ y1).symm.trans ?_
  blk_ext [idx t]

/-- The values. At one place of a point's block. -/
theorem value_point (t : Fin cfg0.N) (hB : t.val < 64) (r : Fin 256) (D : Fin 512) :
    out0_13 (iblk m c 0 t) (iblk m c 1 t) (iblk m c 2 t) (iblk m c 3 t) (iblk m c 4 t) (iblk m c 5 t) (iblk m c 6 t) (iblk m c 7 t) (ix2 r D) = headV (zOf m c ⟨t.val * 256 + r.val, by omega⟩) (fun l => argKg m c (ix1 l)) (fun l h e => argUv m c (ix3 l h e)) D := by
  have H := row m c t r hB
  exact (InPay.value_at _ _ _ _ _ _ _ _ r D).trans (headV_meet H _ _ _ (argUk m c) (argUv m c) (kgain_at m c t) (packedUkv_at m c t) D)

/-- The values. -/
theorem value_final (G : FVec Ideal S16384x512 .bf16) (hG : ∀ (R : Fin 16384) (D : Fin 512), G (ix2 R D) = headV (zOf m c R) (fun l => argKg m c (ix1 l)) (fun l h e => argUv m c (ix3 l h e)) D) : (dats m 0 c).arrAt 13 (cfgs 0).N = G := by
  refine (dats m 0 c).arrAt_eq_of_covers 13 _ (by decide +kernel) fun t hf y => ?_
  have hN : t.val < 64 := lt_of_lt_of_eq t.isLt N_0
  blk_simp
  rw [after0_13]
  idx_vars y
  refine (value_point m c t hN y0 y1).trans ?_
  refine (hG ⟨t.val * 256 + y0.val, by omega⟩ y1).symm.trans ?_
  blk_ext [idx t]

/-- The other attention's queries. At one place of a point's block. -/
theorem sbQ_point (t : Fin cfg0.N) (hB : t.val < 64) (r : Fin 256) (D : Fin 1024) :
    out0_14 (iblk m c 0 t) (iblk m c 1 t) (iblk m c 2 t) (iblk m c 3 t) (iblk m c 4 t) (iblk m c 5 t) (iblk m c 6 t) (iblk m c 7 t) (ix2 r D) = sbQ (zOf m c ⟨t.val * 256 + r.val, by omega⟩) D := by
  have H := row m c t r hB
  exact (InPay.sbQ_at _ _ _ _ _ _ _ _ r D).trans (sbQ_meet H D)

/-- The other attention's queries. -/
theorem sbQ_final (G : FVec Ideal S16384x1024 .bf16) (hG : ∀ (R : Fin 16384) (D : Fin 1024), G (ix2 R D) = sbQ (zOf m c R) D) : (dats m 0 c).arrAt 14 (cfgs 0).N = G := by
  refine (dats m 0 c).arrAt_eq_of_covers 14 _ (by decide +kernel) fun t hf y => ?_
  have hN : t.val < 64 := lt_of_lt_of_eq t.isLt N_0
  blk_simp
  rw [after0_14]
  idx_vars y
  refine (sbQ_point m c t hN y0 y1).trans ?_
  refine (hG ⟨t.val * 256 + y0.val, by omega⟩ y1).symm.trans ?_
  blk_ext [idx t]

/-- The other attention's keys. At one place of a point's block. -/
theorem sbK_point (t : Fin cfg0.N) (hB : t.val < 64) (r : Fin 256) (D : Fin 128) :
    out0_15 (iblk m c 0 t) (iblk m c 1 t) (iblk m c 2 t) (iblk m c 3 t) (iblk m c 4 t) (iblk m c 5 t) (iblk m c 6 t) (iblk m c 7 t) (ix2 r D) = zOf m c ⟨t.val * 256 + r.val, by omega⟩ ⟨2208 + D.val, by omega⟩ := by
  have H := row m c t r hB
  refine (InPay.sbK_at _ _ _ _ _ _ _ _ r D).trans ?_
  rw [H.mid _ (by dsimp only; omega) (by dsimp only; omega)]
  exact congrArg (zOf m c ⟨t.val * 256 + r.val, by omega⟩) (Fin.ext (by dsimp only; omega))

/-- The other attention's keys. -/
theorem sbK_final (G : FVec Ideal S16384x128 .f32) (hG : ∀ (R : Fin 16384) (D : Fin 128), G (ix2 R D) = zOf m c R ⟨2208 + D.val, by omega⟩) : (dats m 0 c).arrAt 15 (cfgs 0).N = G := by
  refine (dats m 0 c).arrAt_eq_of_covers 15 _ (by decide +kernel) fun t hf y => ?_
  have hN : t.val < 64 := lt_of_lt_of_eq t.isLt N_0
  blk_simp
  rw [after0_15]
  idx_vars y
  refine (sbK_point m c t hN y0 y1).trans ?_
  refine (hG ⟨t.val * 256 + y0.val, by omega⟩ y1).symm.trans ?_
  blk_ext [idx t]

/-- The other attention's values. At one place of a point's block. -/
theorem sbV_point (t : Fin cfg0.N) (hB : t.val < 64) (r : Fin 256) (D : Fin 128) :
    out0_16 (iblk m c 0 t) (iblk m c 1 t) (iblk m c 2 t) (iblk m c 3 t) (iblk m c 4 t) (iblk m c 5 t) (iblk m c 6 t) (iblk m c 7 t) (ix2 r D) = zOf m c ⟨t.val * 256 + r.val, by omega⟩ ⟨2336 + D.val, by omega⟩ := by
  have H := row m c t r hB
  refine (InPay.sbV_at _ _ _ _ _ _ _ _ r D).trans ?_
  rw [H.mid _ (by dsimp only; omega) (by dsimp only; omega)]
  exact congrArg (zOf m c ⟨t.val * 256 + r.val, by omega⟩) (Fin.ext (by dsimp only; omega))

/-- The other attention's values. -/
theorem sbV_final (G : FVec Ideal S16384x128 .f32) (hG : ∀ (R : Fin 16384) (D : Fin 128), G (ix2 R D) = zOf m c R ⟨2336 + D.val, by omega⟩) : (dats m 0 c).arrAt 16 (cfgs 0).N = G := by
  refine (dats m 0 c).arrAt_eq_of_covers 16 _ (by decide +kernel) fun t hf y => ?_
  have hN : t.val < 64 := lt_of_lt_of_eq t.isLt N_0
  blk_simp
  rw [after0_16]
  idx_vars y
  refine (sbV_point m c t hN y0 y1).trans ?_
  refine (hG ⟨t.val * 256 + y0.val, by omega⟩ y1).symm.trans ?_
  blk_ext [idx t]

/-- The other attention's keys once more. At one place of a point's block. -/
theorem sbKb_point (t : Fin cfg0.N) (hB : t.val < 64) (r : Fin 256) (D : Fin 128) :
    out0_17 (iblk m c 0 t) (iblk m c 1 t) (iblk m c 2 t) (iblk m c 3 t) (iblk m c 4 t) (iblk m c 5 t) (iblk m c 6 t) (iblk m c 7 t) (ix2 r D) = zOf m c ⟨t.val * 256 + r.val, by omega⟩ ⟨2208 + D.val, by omega⟩ := by
  have H := row m c t r hB
  refine (InPay.sbKb_at _ _ _ _ _ _ _ _ r D).trans ?_
  rw [H.mid _ (by dsimp only; omega) (by dsimp only; omega)]
  exact congrArg (zOf m c ⟨t.val * 256 + r.val, by omega⟩) (Fin.ext (by dsimp only; omega))

/-- The other attention's keys once more. -/
theorem sbKb_final (G : FVec Ideal S16384x128 .bf16) (hG : ∀ (R : Fin 16384) (D : Fin 128), G (ix2 R D) = zOf m c R ⟨2208 + D.val, by omega⟩) : (dats m 0 c).arrAt 17 (cfgs 0).N = G := by
  refine (dats m 0 c).arrAt_eq_of_covers 17 _ (by decide +kernel) fun t hf y => ?_
  have hN : t.val < 64 := lt_of_lt_of_eq t.isLt N_0
  blk_simp
  rw [after0_17]
  idx_vars y
  refine (sbKb_point m c t hN y0 y1).trans ?_
  refine (hG ⟨t.val * 256 + y0.val, by omega⟩ y1).symm.trans ?_
  blk_ext [idx t]

/-- The other attention's values once more. At one place of a point's block. -/
theorem sbVb_point (t : Fin cfg0.N) (hB : t.val < 64) (r : Fin 256) (D : Fin 128) :
    out0_18 (iblk m c 0 t) (iblk m c 1 t) (iblk m c 2 t) (iblk m c 3 t) (iblk m c 4 t) (iblk m c 5 t) (iblk m c 6 t) (iblk m c 7 t) (ix2 r D) = zOf m c ⟨t.val * 256 + r.val, by omega⟩ ⟨2336 + D.val, by omega⟩ := by
  have H := row m c t r hB
  refine (InPay.sbVb_at _ _ _ _ _ _ _ _ r D).trans ?_
  rw [H.mid _ (by dsimp only; omega) (by dsimp only; omega)]
  exact congrArg (zOf m c ⟨t.val * 256 + r.val, by omega⟩) (Fin.ext (by dsimp only; omega))

/-- The other attention's values once more. -/
theorem sbVb_final (G : FVec Ideal S16384x128 .bf16) (hG : ∀ (R : Fin 16384) (D : Fin 128), G (ix2 R D) = zOf m c R ⟨2336 + D.val, by omega⟩) : (dats m 0 c).arrAt 18 (cfgs 0).N = G := by
  refine (dats m 0 c).arrAt_eq_of_covers 18 _ (by decide +kernel) fun t hf y => ?_
  have hN : t.val < 64 := lt_of_lt_of_eq t.isLt N_0
  blk_simp
  rw [after0_18]
  idx_vars y
  refine (sbVb_point m c t hN y0 y1).trans ?_
  refine (hG ⟨t.val * 256 + y0.val, by omega⟩ y1).symm.trans ?_
  blk_ext [idx t]

/-- The gates. At one place of a point's block. -/
theorem gate_point (t : Fin cfg0.N) (hB : t.val < 64) (r : Fin 256) (D : Fin 3072) :
    out0_19 (iblk m c 0 t) (iblk m c 1 t) (iblk m c 2 t) (iblk m c 3 t) (iblk m c 4 t) (iblk m c 5 t) (iblk m c 6 t) (iblk m c 7 t) (ix2 r D) = Ideal.logistic (zOf m c ⟨t.val * 256 + r.val, by omega⟩ ⟨2464 + D.val, by omega⟩) := by
  have H := row m c t r hB
  refine (InPay.gate_at _ _ _ _ _ _ _ _ r D).trans ?_
  rw [H.mid _ (by dsimp only; omega) (by dsimp only; omega)]
  exact congrArg (fun p => Ideal.logistic (zOf m c ⟨t.val * 256 + r.val, by omega⟩ p)) (Fin.ext (by dsimp only; omega))

/-- The gates. -/
theorem gate_final (G : FVec Ideal S16384x3072 .bf16) (hG : ∀ (R : Fin 16384) (D : Fin 3072), G (ix2 R D) = Ideal.logistic (zOf m c R ⟨2464 + D.val, by omega⟩)) : (dats m 0 c).arrAt 19 (cfgs 0).N = G := by
  refine (dats m 0 c).arrAt_eq_of_covers 19 _ (by decide +kernel) fun t hf y => ?_
  have hN : t.val < 64 := lt_of_lt_of_eq t.isLt N_0
  blk_simp
  rw [after0_19]
  idx_vars y
  refine (gate_point m c t hN y0 y1).trans ?_
  refine (hG ⟨t.val * 256 + y0.val, by omega⟩ y1).symm.trans ?_
  blk_ext [idx t]

end Cert.InValue

end
-- ==== Proof.InRef.lean ====
/- The input projections' reference, read at one place. -/
module

public import proofs.«01_k».proof.Proof.Gen.Reference6Ideal.Run
public import proofs.«01_k».proof.Proof.InSpec

@[expose] public section

set_option maxRecDepth 16384

noncomputable section

namespace Cert.InRef
open Idealize.ShloMosaic Idealize.ShloMosaic.TcCoe Idealize.SL.Sem Idealize.ShloMosaic.StableHlo
open Cert.Reference6Ideal Cert.Reference6Ideal.Gen Cert.InSpec Cert.Reference6Ideal.Value

variable (V0 : Valuation τ sig (Elt Ideal))

/-- The residual rows, at their own type. -/
abbrev argX : FVec Ideal S16384x1024 .f32 := V0 (Proc.devRef .tc main_arg0)
/-- The input norm's gain. -/
abbrev argG : FVec Ideal S1024 .f32 := V0 (Proc.devRef .tc main_arg1)
/-- The input matrix. -/
abbrev argW : FVec Ideal S1024x5536 .f32 := V0 (Proc.devRef .tc main_arg2)
/-- The query norm's gain. -/
abbrev argQg : FVec Ideal S384 .f32 := V0 (Proc.devRef .tc main_arg3)
/-- The query matrix. -/
abbrev argUq : FVec Ideal S384x768 .f32 := V0 (Proc.devRef .tc main_arg4)
/-- The latent norm's gain. -/
abbrev argKg : FVec Ideal S256 .f32 := V0 (Proc.devRef .tc main_arg5)
/-- The key matrix. -/
abbrev argUk : FVec Ideal S256x8x64 .f32 := V0 (Proc.devRef .tc main_arg6)
/-- The value matrix. -/
abbrev argUv : FVec Ideal S256x8x64 .f32 := V0 (Proc.devRef .tc main_arg7)

/-- A row's 5536 numbers. -/
def zOf (R : Fin 16384) : Fin 5536 → EReal :=
  inner (rms 0x44800000#32 (fun k : Fin 1024 => argX V0 (ix2 R k)) (fun k => argG V0 (ix1 k))) (fun k p => argW V0 (ix2 k p))

/-- A row's 5536 numbers in the reference. -/
theorem z_at (R : Fin 16384) (p : Fin 5536) : (res_main_v13 V0 : FVec Ideal S16384x5536 .f32) (ix2 R p) = zOf V0 R p := by
  pointwise [res_main_v13]
  rfl

/-- The positions. -/
theorem pos_at (t : Fin 8192) : (res_main_v23 V0 : IVec S8192 32) (ix1 t) = BitVec.ofNat 32 t.val := by
  pointwise [res_main_v23]

/-- The queries before the rotation. -/
theorem query_at (b : Fin 2) (t : Fin 8192) (h : Fin 8) (e : Fin 96) : (res_main_v45 V0 : FVec Ideal S2x8192x8x96 .f32) (ix4 b t h e)
    = query (zOf V0 ⟨b.val * 8192 + t.val, by omega⟩) (fun l => argQg V0 (ix1 l)) (fun l n => argUq V0 (ix2 l n)) ⟨h.val * 96 + e.val, by omega⟩ := by
  pointwise [res_main_v45, res_main_v16]
  simp only [z_at]
  rfl

/-- The latent rows. -/
theorem latent_at (R : Fin 16384) (j : Fin 256) : (res_main_v95 V0 : FVec Ideal S16384x256 .f32) (ix2 R j) = latent (zOf V0 R) (fun l => argKg V0 (ix1 l)) j := by
  pointwise [res_main_v95, res_main_v17]
  simp only [z_at]
  rfl

/-- The gated input. -/
theorem glu_at (R : Fin 16384) (D : Fin 512) : (show FVec Ideal S16384x512 .f32 from mulf (extractStridedSlice S16384x512 ![0, 0] (res_main_v13 V0) slices_S16384x5536_S16384x512_0_0) (Host.divf (broadcastInDim S16384x512 ![] bcast_S_S16384x512 (constant S_ .f32 0x3F800000#32)) (addf (broadcastInDim S16384x512 ![] bcast_S_S16384x512 (constant S_ .f32 0x3F800000#32)) (Host.exp (Host.negf (extractStridedSlice S16384x512 ![0, 512] (res_main_v13 V0) slices_S16384x5536_S16384x512_0_512)))))) (ix2 R D)
    = glu (zOf V0 R) D := by
  pointwise
  simp only [z_at]
  rfl

/-- The queries. -/
theorem headQ_at (R : Fin 16384) (D : Fin 1024) : (show FVec Ideal S16384x1024 .bf16 from truncf .bf16 (shapeCast _ (concatenate S2x8192x8x128 3 [⟨S2x8192x8x96, (mulf (concatenate S2x8192x8x96 3 [⟨S2x8192x8x64, (extractStridedSlice S2x8192x8x64 ![0, 0, 0, 0] (res_main_v45 V0) slices_S2x8192x8x96_S2x8192x8x64_0_0_0_0)⟩, ⟨S2x8192x8x32, (concatenate S2x8192x8x32 3 [⟨S2x8192x8x16, (subf (mulf (res_main_v63 V0) (broadcastInDim S2x8192x8x16 ![0, 1, 2, 3] bcast_S1x8192x1x16_S2x8192x8x16_0_1_2_3 (broadcastInDim S1x8192x1x16 ![1, 2, 3] bcast_S8192x1x16_S1x8192x1x16_1_2_3 (res_main_v61 V0)))) (mulf (res_main_v64 V0) (broadcastInDim S2x8192x8x16 ![0, 1, 2, 3] bcast_S1x8192x1x16_S2x8192x8x16_0_1_2_3 (broadcastInDim S1x8192x1x16 ![1, 2, 3] bcast_S8192x1x16_S1x8192x1x16_1_2_3 (res_main_v62 V0)))))⟩, ⟨S2x8192x8x16, (addf (mulf (res_main_v63 V0) (broadcastInDim S2x8192x8x16 ![0, 1, 2, 3] bcast_S1x8192x1x16_S2x8192x8x16_0_1_2_3 (broadcastInDim S1x8192x1x16 ![1, 2, 3] bcast_S8192x1x16_S1x8192x1x16_1_2_3 (res_main_v62 V0)))) (mulf (res_main_v64 V0) (broadcastInDim S2x8192x8x16 ![0, 1, 2, 3] bcast_S1x8192x1x16_S2x8192x8x16_0_1_2_3 (broadcastInDim S1x8192x1x16 ![1, 2, 3] bcast_S8192x1x16_S1x8192x1x16_1_2_3 (res_main_v61 V0)))))⟩] concatenates_S2x8192x8x16_S2x8192x8x16_S2x8192x8x32_d3)⟩] concatenates_S2x8192x8x64_S2x8192x8x32_S2x8192x8x96_d3) (broadcastInDim S2x8192x8x96 ![] bcast_S_S2x8192x8x96 (constant S_ .f32 0x3DD105EC#32)))⟩, ⟨S2x8192x8x32, (res_main_v134 V0)⟩] concatenates_S2x8192x8x96_S2x8192x8x32_S2x8192x8x128_d3) shapeCasts_S2x8192x8x128_S16384x1024) bitsLt_bf16_f32) (ix2 R D)
    = headQ (query (zOf V0 R) (fun l => argQg V0 (ix1 l)) (fun l n => argUq V0 (ix2 l n))) (R.val % 8192) D := by
  pointwise [res_main_v63, res_main_v64, res_main_v47, res_main_v61, res_main_v62, res_main_v60, res_main_v134]
  have hR : (⟨R.val / 8192 * 8192 + R.val % 8192, by omega⟩ : Fin 16384) = R := Fin.ext (by show R.val / 8192 * 8192 + R.val % 8192 = R.val; omega)
  simp only [query_at, pos_at, hR]
  rfl

/-- The rotated part of the keys. -/
theorem keyR_at (R : Fin 16384) (D : Fin 32) : (show FVec Ideal S16384x32 .f32 from shapeCast _ (res_main_v127 V0) shapeCasts_S2x8192x32_S16384x32) (ix2 R D)
    = keyR (zOf V0 R) (R.val % 8192) D := by
  pointwise [res_main_v127, res_main_v111, res_main_v112, res_main_v109, res_main_v110, res_main_v108, res_main_v96]
  simp only [z_at, pos_at]
  rfl

/-- The keys. -/
theorem headK_at (R : Fin 16384) (D : Fin 1024) : (show FVec Ideal S16384x1024 .bf16 from truncf .bf16 (shapeCast _ (concatenate S2x8192x8x128 3 [⟨S2x8192x8x96, (concatenate S2x8192x8x96 3 [⟨S2x8192x8x64, (Host.dotGeneral dot_S2x8192x256_S256x8x64_S2x8192x8x64_2_0_01_12_n_n none (shapeCast _ (show FVec Ideal S16384x256 .f32 from res_main_v95 V0) shapeCasts_S16384x256_S2x8192x256) (argUk V0))⟩, ⟨S2x8192x8x32, (broadcastInDim S2x8192x8x32 ![0, 1, 2, 3] bcast_S2x8192x1x32_S2x8192x8x32_0_1_2_3 (broadcastInDim S2x8192x1x32 ![0, 1, 3] bcast_S2x8192x32_S2x8192x1x32_0_1_3 (res_main_v127 V0)))⟩] concatenates_S2x8192x8x64_S2x8192x8x32_S2x8192x8x96_d3)⟩, ⟨S2x8192x8x32, (res_main_v134 V0)⟩] concatenates_S2x8192x8x96_S2x8192x8x32_S2x8192x8x128_d3) shapeCasts_S2x8192x8x128_S16384x1024) bitsLt_bf16_f32) (ix2 R D)
    = headK (zOf V0 R) (fun l => argKg V0 (ix1 l)) (fun l h e => argUk V0 (ix3 l h e)) (R.val % 8192) D := by
  pointwise [res_main_v127, res_main_v111, res_main_v112, res_main_v109, res_main_v110, res_main_v108, res_main_v96, res_main_v134]
  have hR : (⟨R.val / 8192 * 8192 + R.val % 8192, by omega⟩ : Fin 16384) = R := Fin.ext (by show R.val / 8192 * 8192 + R.val % 8192 = R.val; omega)
  simp only [z_at, pos_at, latent_at, hR]
  rfl

/-- The values. -/
theorem headV_at (R : Fin 16384) (D : Fin 512) : (show FVec Ideal S16384x512 .bf16 from truncf .bf16 (shapeCast _ (Host.dotGeneral dot_S16384x256_S256x8x64_S16384x8x64_1_0_0_12_n_n none (show FVec Ideal S16384x256 .f32 from res_main_v95 V0) (argUv V0)) shapeCasts_S16384x8x64_S16384x512) bitsLt_bf16_f32) (ix2 R D)
    = headV (zOf V0 R) (fun l => argKg V0 (ix1 l)) (fun l h e => argUv V0 (ix3 l h e)) D := by
  pointwise
  simp only [latent_at]
  rfl

/-- The other attention's queries. -/
theorem sbQ_at (R : Fin 16384) (D : Fin 1024) : (show FVec Ideal S16384x1024 .bf16 from truncf .bf16 (shapeCast _ (concatenate S16384x2x4x128 1 [⟨S16384x1x4x128, (broadcastInDim S16384x1x4x128 ![0, 2, 3] bcast_S16384x4x128_S16384x1x4x128_0_2_3 (concatenate S16384x4x128 2 [⟨S16384x4x64, (shapeCast _ (extractStridedSlice S16384x1x4x64 ![0, 0, 0, 0] (res_main_v139 V0) slices_S16384x2x4x64_S16384x1x4x64_0_0_0_0) shapeCasts_S16384x1x4x64_S16384x4x64)⟩, ⟨S16384x4x64, (res_main_v140 V0)⟩] concatenates_S16384x4x64_S16384x4x64_S16384x4x128_d2))⟩, ⟨S16384x1x4x128, (broadcastInDim S16384x1x4x128 ![0, 2, 3] bcast_S16384x4x128_S16384x1x4x128_0_2_3 (concatenate S16384x4x128 2 [⟨S16384x4x64, (res_main_v140 V0)⟩, ⟨S16384x4x64, (shapeCast _ (extractStridedSlice S16384x1x4x64 ![0, 1, 0, 0] (res_main_v139 V0) slices_S16384x2x4x64_S16384x1x4x64_0_1_0_0) shapeCasts_S16384x1x4x64_S16384x4x64)⟩] concatenates_S16384x4x64_S16384x4x64_S16384x4x128_d2))⟩] concatenates_S16384x1x4x128_S16384x1x4x128_S16384x2x4x128_d1) shapeCasts_S16384x2x4x128_S16384x1024) bitsLt_bf16_f32) (ix2 R D)
    = sbQ (zOf V0 R) D := by
  pointwise [res_main_v139, res_main_v140]
  simp only [z_at]
  rfl

/-- The other attention's keys. -/
theorem sbK_at (R : Fin 16384) (D : Fin 128) : (show FVec Ideal S16384x128 .f32 from extractStridedSlice S16384x128 ![0, 2208] (res_main_v13 V0) slices_S16384x5536_S16384x128_0_2208) (ix2 R D)
    = zOf V0 R ⟨2208 + D.val, by omega⟩ := by
  pointwise
  simp only [z_at]

/-- The other attention's values. -/
theorem sbV_at (R : Fin 16384) (D : Fin 128) : (show FVec Ideal S16384x128 .f32 from extractStridedSlice S16384x128 ![0, 2336] (res_main_v13 V0) slices_S16384x5536_S16384x128_0_2336) (ix2 R D)
    = zOf V0 R ⟨2336 + D.val, by omega⟩ := by
  pointwise
  simp only [z_at]

/-- The keys once more, in the short type. -/
theorem sbKb_at (R : Fin 16384) (D : Fin 128) : (show FVec Ideal S16384x128 .bf16 from truncf .bf16 (extractStridedSlice S16384x128 ![0, 2208] (res_main_v13 V0) slices_S16384x5536_S16384x128_0_2208) bitsLt_bf16_f32) (ix2 R D)
    = zOf V0 R ⟨2208 + D.val, by omega⟩ := by
  pointwise
  simp only [z_at]

/-- The values once more, in the short type. -/
theorem sbVb_at (R : Fin 16384) (D : Fin 128) : (show FVec Ideal S16384x128 .bf16 from truncf .bf16 (extractStridedSlice S16384x128 ![0, 2336] (res_main_v13 V0) slices_S16384x5536_S16384x128_0_2336) bitsLt_bf16_f32) (ix2 R D)
    = zOf V0 R ⟨2336 + D.val, by omega⟩ := by
  pointwise
  simp only [z_at]

/-- The gates. -/
theorem gate_at (R : Fin 16384) (D : Fin 3072) : (show FVec Ideal S16384x3072 .bf16 from truncf .bf16 (Host.divf (broadcastInDim S16384x3072 ![] bcast_S_S16384x3072 (constant S_ .f32 0x3F800000#32)) (addf (broadcastInDim S16384x3072 ![] bcast_S_S16384x3072 (constant S_ .f32 0x3F800000#32)) (Host.exp (Host.negf (extractStridedSlice S16384x3072 ![0, 2464] (res_main_v13 V0) slices_S16384x5536_S16384x3072_0_2464))))) bitsLt_bf16_f32) (ix2 R D)
    = Ideal.logistic (zOf V0 R ⟨2464 + D.val, by omega⟩) := by
  pointwise
  simp only [z_at]
  rfl

end Cert.InRef

end
-- ==== Proof.InProj.lean ====
/- The claims about the input projections. -/
module

public import proofs.«01_k».proof.Defs
public import proofs.«01_k».proof.Proof.Gen.Kernel6.Frame
public import proofs.«01_k».proof.Proof.InValue
public import proofs.«01_k».proof.Proof.InRef
public import Idealize.ShloMosaic.Lib.Claim

@[expose] public section

set_option maxRecDepth 16384

noncomputable section

namespace Cert.InProj
open Idealize.ShloMosaic Idealize.ShloMosaic.TcCoe Idealize.SL.Sem
open Idealize.ShloMosaic.StableHlo (launchContents)

attribute [local instance] Cert.Kernel6.Gen.facts Cert.Kernel6Ideal.Gen.facts Cert.Reference6Ideal.Gen.facts

/-- The reference changes nothing and ends quiet. -/
theorem quiet_reference : Cert.quiescent_Reference6Ideal := by
  intro m g _
  refine (θ_run _ _ _).mono (fun r h => ⟨fun c => (h c).2.2.2.2.2.2.2.2.2.2.2.2, ?_⟩) (Cert.Reference6Ideal.Value.run m g)
  exact Idealize.ShloMosaic.sem_eq_zero_of_no_sems (by decide) r.2

/-- Kernel and reference leave the same twelve arrays. -/
theorem algebraic : Cert.algebraic_Kernel6Ideal_Reference6Ideal := by
  intro m g m' g' hpre hagree
  refine ⟨?_, ?_, ?_, ?_, ?_, ?_, ?_, ?_, ?_, ?_, ?_, ?_, ?k, ?r⟩
  case r => exact Cert.Reference6Ideal.Value.run m' g'
  case k =>
    refine (θ_run _ _ _).mono (fun r h c => ?_) (Cert.Kernel6Ideal.Value.run_blocks m g)
    obtain ⟨a0, a1, a2, a3, a4, a5, a6, a7⟩ := hagree c
    have hz : ∀ R, InRef.zOf (launchContents m' c) R = InValue.zOf m c R := fun R => by
      show InSpec.inner (InSpec.rms 0x44800000#32 (fun k : Fin 1024 => InRef.argX (launchContents m' c) (ix2 R k)) (fun k => InRef.argG (launchContents m' c) (ix1 k))) (fun k p => InRef.argW (launchContents m' c) (ix2 k p)) = _
      have e0 : InRef.argX (launchContents m' c) = InHost.argX m c := a0
      have e1 : InRef.argG (launchContents m' c) = InHost.argG m c := a1
      have e2 : InRef.argW (launchContents m' c) = InHost.argW m c := a2
      rw [e0, e1, e2]
      rfl
    have e3 : InRef.argQg (launchContents m' c) = InHost.argQg m c := a3
    have e4 : InRef.argUq (launchContents m' c) = InHost.argUq m c := a4
    have e5 : InRef.argKg (launchContents m' c) = InHost.argKg m c := a5
    have e6 : InRef.argUk (launchContents m' c) = InHost.argUk m c := a6
    have e7 : InRef.argUv (launchContents m' c) = InHost.argUv m c := a7
    replace h := h c
    have f_glu := InValue.glu_final m c _ fun R D => (InRef.glu_at (launchContents m' c) R D).trans (by simp only [hz, e3, e4, e5, e6, e7])
    have f_query := InValue.query_final m c _ fun R D => (InRef.headQ_at (launchContents m' c) R D).trans (by simp only [hz, e3, e4, e5, e6, e7])
    have f_latent := InValue.latent_final m c _ fun R D => (InRef.latent_at (launchContents m' c) R D).trans (by simp only [hz, e3, e4, e5, e6, e7])
    have f_keyR := InValue.keyR_final m c _ fun R D => (InRef.keyR_at (launchContents m' c) R D).trans (by simp only [hz, e3, e4, e5, e6, e7])
    have f_key := InValue.key_final m c _ fun R D => (InRef.headK_at (launchContents m' c) R D).trans (by simp only [hz, e3, e4, e5, e6, e7])
    have f_value := InValue.value_final m c _ fun R D => (InRef.headV_at (launchContents m' c) R D).trans (by simp only [hz, e3, e4, e5, e6, e7])
    have f_sbQ := InValue.sbQ_final m c _ fun R D => (InRef.sbQ_at (launchContents m' c) R D).trans (by simp only [hz, e3, e4, e5, e6, e7])
    have f_sbK := InValue.sbK_final m c _ fun R D => (InRef.sbK_at (launchContents m' c) R D).trans (by simp only [hz, e3, e4, e5, e6, e7])
    have f_sbV := InValue.sbV_final m c _ fun R D => (InRef.sbV_at (launchContents m' c) R D).trans (by simp only [hz, e3, e4, e5, e6, e7])
    have f_sbKb := InValue.sbKb_final m c _ fun R D => (InRef.sbKb_at (launchContents m' c) R D).trans (by simp only [hz, e3, e4, e5, e6, e7])
    have f_sbVb := InValue.sbVb_final m c _ fun R D => (InRef.sbVb_at (launchContents m' c) R D).trans (by simp only [hz, e3, e4, e5, e6, e7])
    have f_gate := InValue.gate_final m c _ fun R D => (InRef.gate_at (launchContents m' c) R D).trans (by simp only [hz, e3, e4, e5, e6, e7])
    exact ⟨(h.1).trans f_glu, (h.2.1).trans f_query, (h.2.2.1).trans f_latent, (h.2.2.2.1).trans f_keyR, (h.2.2.2.2.1).trans f_key, (h.2.2.2.2.2.1).trans f_value, (h.2.2.2.2.2.2.1).trans f_sbQ, (h.2.2.2.2.2.2.2.1).trans f_sbK, (h.2.2.2.2.2.2.2.2.1).trans f_sbV, (h.2.2.2.2.2.2.2.2.2.1).trans f_sbKb, (h.2.2.2.2.2.2.2.2.2.2.1).trans f_sbVb, (h.2.2.2.2.2.2.2.2.2.2.2.1).trans f_gate, h.2.2.2.2.2.2.2.2.2.2.2.2⟩

end Cert.InProj

end
-- ==== Proof.SmMeet.lean ====
/- The sample's queries: the rotation without a scale. -/
module

public import proofs.«01_k».proof.Proof.InMeet

@[expose] public section

set_option maxRecDepth 16384

noncomputable section

namespace Cert.InMeet
open Idealize.ShloMosaic Idealize.ShloMosaic.TcCoe Idealize.SL.Sem
open Cert.InSpec Cert.InHost Cert.InPay

/-- The queries without a scale: 64 numbers as they are, 32 rotated, 32 zeros, for each of the eight heads. -/
def headQ1 (q : Fin 768 → EReal) (t : ℕ) (D : Fin 1024) : EReal :=
  if h : D.val % 128 < 96 then
    (if h1 : D.val % 128 < 64 then q ⟨D.val / 128 * 96 + D.val % 128, by omega⟩
    else if h2 : D.val % 128 - 64 < 16 then
      q ⟨D.val / 128 * 96 + (64 + (D.val % 128 - 64)), by omega⟩ * cs t (D.val % 128 - 64) - q ⟨D.val / 128 * 96 + (64 + (16 + (D.val % 128 - 64))), by omega⟩ * sn t (D.val % 128 - 64)
    else
      q ⟨D.val / 128 * 96 + (64 + (D.val % 128 - 64 - 16)), by omega⟩ * sn t (D.val % 128 - 64 - 16) + q ⟨D.val / 128 * 96 + (64 + (16 + (D.val % 128 - 64 - 16))), by omega⟩ * cs t (D.val % 128 - 64 - 16))
  else 0

/-- The queries: the three terms with the tables are the rotation, with no scale. -/
theorem headQ1_meet (f : Fin 1024 → EReal) (q : Fin 768 → EReal) (hf : ∀ D, f D = if h : D.val % 128 < 96 then q ⟨D.val / 128 * 96 + D.val % 128, by omega⟩ else 0)
    (t : ℕ) (D : Fin 1024) :
    f D * tab0 t ⟨D.val % 128, by omega⟩ + f ⟨(D.val + 1024 - 16) % 1024, by omega⟩ * tab1 t ⟨D.val % 128, by omega⟩
      + f ⟨(D.val + 1024 - 1008) % 1024, by omega⟩ * tab2 t ⟨D.val % 128, by omega⟩ = headQ1 q t D := by
  unfold headQ1 tab0 tab1 tab2
  dsimp only
  by_cases h : D.val % 128 < 96
  · rw [dif_pos h]
    by_cases h1 : D.val % 128 < 64
    · rw [if_pos h1, if_pos h1, if_pos h1, dif_pos h1, hf D, dif_pos h, mul_zero, mul_zero, mul_one, add_zero, add_zero]
    · rw [if_neg h1, if_neg h1, if_neg h1, dif_neg h1]
      by_cases h2 : D.val % 128 - 64 < 16
      · rw [if_pos h2, if_pos h2, if_pos h2, dif_pos h2, mul_zero, add_zero, mul_neg, ← sub_eq_add_neg, hf D, dif_pos h, hf _, dif_pos (by dsimp only; omega)]
        refine congrArg₂ (· - ·) (congrArg (· * _) ?_) (congrArg (· * _) ?_) <;> exact congrArg q (Fin.ext (by first | (dsimp only; done) | (dsimp only; omega)))
      · have h3 : D.val % 128 - 64 - 16 < 16 := by omega
        rw [if_neg h2, if_neg h2, if_neg h2, dif_neg h2, if_pos h3, if_pos h3, if_pos h3, mul_zero, add_zero, add_comm, hf D, dif_pos h, hf _, dif_pos (by dsimp only; omega)]
        refine congrArg₂ (· + ·) (congrArg (· * _) ?_) (congrArg (· * _) ?_) <;> exact congrArg q (Fin.ext (by first | (dsimp only; done) | (dsimp only; omega)))
  · rw [dif_neg h, hf D, dif_neg h, if_neg (by omega), if_neg (by omega), if_neg (by omega), if_neg (by omega), if_neg (by omega), if_neg (by omega),
      if_neg (by omega), if_neg (by omega), if_neg (by omega), mul_zero, mul_zero, mul_zero, add_zero, add_zero]

end Cert.InMeet

end
-- ==== Proof.SmHost.lean ====
/- What the host prepares for the sample's input projections, read at one place. -/
module

public import proofs.«01_k».proof.Proof.Gen.Kernel7Ideal.Value
public import proofs.«01_k».proof.Proof.InHost
public import Idealize.ShloMosaic.Lib.Pipeline.ValueKit

@[expose] public section

set_option maxRecDepth 16384
set_option maxHeartbeats 2000000

noncomputable section

namespace Cert.SmHost
open Idealize.ShloMosaic Idealize.ShloMosaic.TcCoe Idealize.SL.Sem
open Cert.Kernel7Ideal Cert.Kernel7Ideal.Gen Cert.InSpec
open Cert.InHost (packW packUq packUkv tab0 tab1 tab2)

variable (m : (ℓ : Loc nD τ sig) → Buf (Elt Ideal) ℓ) (c : Dev nD)

/-- The residual rows, at their own type. -/
abbrev argX : FVec Ideal S128x1024 .f32 := m ((c : Thread nD τ).loc main_arg0)
/-- The input norm's gain. -/
abbrev argG : FVec Ideal S1024 .f32 := m ((c : Thread nD τ).loc main_arg1)
/-- The input matrix. -/
abbrev argW : FVec Ideal S1024x5536 .f32 := m ((c : Thread nD τ).loc main_arg2)
/-- The query norm's gain. -/
abbrev argQg : FVec Ideal S384 .f32 := m ((c : Thread nD τ).loc main_arg3)
/-- The query matrix. -/
abbrev argUq : FVec Ideal S384x768 .f32 := m ((c : Thread nD τ).loc main_arg4)
/-- The latent norm's gain. -/
abbrev argKg : FVec Ideal S256 .f32 := m ((c : Thread nD τ).loc main_arg5)
/-- The key matrix. -/
abbrev argUk : FVec Ideal S256x8x64 .f32 := m ((c : Thread nD τ).loc main_arg6)
/-- The value matrix. -/
abbrev argUv : FVec Ideal S256x8x64 .f32 := m ((c : Thread nD τ).loc main_arg7)

/-- The angles. -/
def angles : FVec Ideal S128x16 .f32 :=
  mulf (broadcastInDim S128x16 ![0, 1] bcast_S128x1_S128x16_0_1 (broadcastInDim S128x1 ![0] bcast_S128_S128x1_0 (sitofp (F := Ideal) .f32 (broadcastInDim S128 ![] bcast_S_S128 (constantI S_ 32 8192#32)))))
    (broadcastInDim S128x16 ![0, 1] bcast_S1x16_S128x16_0_1 (broadcastInDim S1x16 ![1] bcast_S16_S1x16_1
      (Host.powf (broadcastInDim S16 ![] bcast_S_S16 (constant S_ .f32 0x461C4000#32))
        (Host.divf (Host.negf (sitofp (F := Ideal) .f32 (iotaInDim S16 32 0))) (broadcastInDim S16 ![] bcast_S_S16 (constant S_ .f32 0x41800000#32))))))

/-- So many equal columns. -/
def fill64 (b : BitVec 32) : FVec Ideal S128x64 .f32 := broadcastInDim S128x64 ![] bcast_S_S128x64 (constant S_ .f32 b)
/-- Sixteen columns of zeros. -/
def zero16 : FVec Ideal S128x16 .f32 := broadcastInDim S128x16 ![] bcast_S_S128x16 (constant S_ .f32 0x00000000#32)
/-- Thirty-two columns of zeros. -/
def zero32 : FVec Ideal S128x32 .f32 := broadcastInDim S128x32 ![] bcast_S_S128x32 (constant S_ .f32 0x00000000#32)

/-- One table under a new leading axis. -/
def table (a : FVec Ideal S128x64 .f32) (b d : FVec Ideal S128x16 .f32) (z : FVec Ideal S128x32 .f32) : FVec Ideal S1x128x128 .f32 :=
  broadcastInDim S1x128x128 ![1, 2] bcast_S128x128_S1x128x128_1_2 (concatenate S128x128 1 [⟨S128x64, a⟩, ⟨S128x16, b⟩, ⟨S128x16, d⟩, ⟨S128x32, z⟩]
    concatenates_S128x64_S128x16_S128x16_S128x32_S128x128_d1)

/-- The three tables. -/
def tables : FVec Ideal S3x128x128 .f32 :=
  concatenate S3x128x128 0 [⟨S1x128x128, table (fill64 0x3F800000#32) (Host.cos angles) (Host.cos angles) zero32⟩,
    ⟨S1x128x128, table (fill64 0x00000000#32) zero16 (Host.sin angles) zero32⟩,
    ⟨S1x128x128, table (fill64 0x00000000#32) (Host.negf (Host.sin angles)) zero16 zero32⟩] concatenates_S1x128x128_S1x128x128_S1x128x128_S3x128x128_d0

/-- The input norm's gain as one row. -/
theorem gain : V m c main_v24 = broadcastInDim S1x1024 ![1] bcast_S1024_S1x1024_1 (argG m c) := by
  unfold V
  simp only [hostOps0, hostOps0_1, hostOps0_2, hostOps0_3, hostOps0_4, List.flatten_cons, List.flatten_nil, List.append_nil, List.cons_append, List.nil_append]
  after_results_simp <;> rfl

/-- The query norm's gain as one row. -/
theorem qgain : V m c main_v25 = broadcastInDim S1x384 ![1] bcast_S384_S1x384_1 (argQg m c) := by
  unfold V
  simp only [hostOps0, hostOps0_1, hostOps0_2, hostOps0_3, hostOps0_4, List.flatten_cons, List.flatten_nil, List.append_nil, List.cons_append, List.nil_append]
  after_results_simp <;> rfl

/-- The latent norm's gain as one row. -/
theorem kgain : V m c main_v26 = broadcastInDim S1x256 ![1] bcast_S256_S1x256_1 (argKg m c) := by
  unfold V
  simp only [hostOps0, hostOps0_1, hostOps0_2, hostOps0_3, hostOps0_4, List.flatten_cons, List.flatten_nil, List.append_nil, List.cons_append, List.nil_append]
  after_results_simp <;> rfl

/-- The packed matrix as the call finds it. -/
theorem packed : V m c main_v14 = packW (argW m c) := by
  unfold V
  simp only [hostOps0, hostOps0_1, hostOps0_2, hostOps0_3, hostOps0_4, List.flatten_cons, List.flatten_nil, List.append_nil, List.cons_append, List.nil_append]
  after_results_simp <;> rfl

/-- The padded query matrix as the call finds it. -/
theorem packedUq : V m c main_v18 = packUq (argUq m c) := by
  unfold V
  simp only [hostOps0, hostOps0_1, hostOps0_2, hostOps0_3, hostOps0_4, List.flatten_cons, List.flatten_nil, List.append_nil, List.cons_append, List.nil_append]
  after_results_simp <;> rfl

/-- The key and value matrix as the call finds it. -/
theorem packedUkv : V m c main_v23 = packUkv (argUk m c) (argUv m c) := by
  unfold V
  simp only [hostOps0, hostOps0_1, hostOps0_2, hostOps0_3, hostOps0_4, List.flatten_cons, List.flatten_nil, List.append_nil, List.cons_append, List.nil_append]
  after_results_simp <;> rfl

/-- The tables as the call finds them. -/
theorem rope : V m c main_v57 = tables := by
  unfold V
  simp only [hostOps0, hostOps0_1, hostOps0_2, hostOps0_3, hostOps0_4, List.flatten_cons, List.flatten_nil, List.append_nil, List.cons_append, List.nil_append]
  after_results_simp <;> rfl

/-- The tables at a place. -/
theorem tables_at (r : Fin 128) (e : Fin 128) :
    tables (ix3 0 r e) = tab0 8192 e ∧ tables (ix3 1 r e) = tab1 8192 e ∧ tables (ix3 2 r e) = tab2 8192 e := by
  refine ⟨?_, ?_, ?_⟩ <;> (pointwise [tables, table, fill64, zero16, zero32, angles]; rfl)

end Cert.SmHost

end
-- ==== Proof.SmPay.lean ====
/- What the sample's input projections' body leaves in a block, read at one place. -/
module

public import proofs.«01_k».proof.Proof.Gen.Kernel7Ideal.Frame
public import proofs.«01_k».proof.Proof.InPay
public import proofs.«01_k».proof.Proof.InSb
public import proofs.«01_k».proof.Proof.Swiglu
public import Idealize.ShloMosaic.Lib.Pipeline.ValueKit

@[expose] public section

set_option maxRecDepth 16384

noncomputable section

namespace Cert.SmPay
open Idealize.ShloMosaic Idealize.ShloMosaic.TcCoe Idealize.SL.Sem
open Cert.Kernel7Ideal Cert.Kernel7Ideal.Gen Cert.InSpec
open Cert.InPay (eight kq kl kr)

/-- The three tables, each row spread over 256 rows. -/
def wide (x7 : FVec Ideal S3x128x128 .f32) (r : Fin 128) : FVec Ideal Cert.Kernel6Ideal.S3x256x128 .f32 := fun i => x7 (ix3 (i 0) r (i 2))

/-- A row's 5632 packed numbers. -/
def kz (x0 : FVec Ideal S128x1024 .f32) (x1 : FVec Ideal S1x1024 .f32) (x2 : FVec Ideal S1024x5632 .bf16) (r : Fin 128) : Fin 5632 → EReal :=
  inner (rms 0x44800000#32 (fun k : Fin 1024 => x0 (ix2 r k)) (fun k => x1 (ix2 0 k))) (fun k p => x2 (ix2 k p))

/-- The normed row. -/
theorem hidden_at (x0 : FVec Ideal S128x1024 .f32) (x1 : FVec Ideal S1x1024 .f32) (r : Fin 128) (k : Fin 1024) :
    k0_pay5 (F := Ideal) x0 x1 (ix2 r k) = rms 0x44800000#32 (fun k : Fin 1024 => x0 (ix2 r k)) (fun k => x1 (ix2 0 k)) k := by
  pointwise [k0_pay5]
  rfl

/-- The normed row, as the body keeps it. -/
theorem normed_at (x0 : FVec Ideal S128x1024 .f32) (x1 : FVec Ideal S1x1024 .f32) (x2 : FVec Ideal S1024x5632 .bf16) (x3 : FVec Ideal S1x384 .f32) (x4 : FVec Ideal S384x1024 .bf16) (x5 : FVec Ideal S1x256 .f32) (x6 : FVec Ideal S256x1536 .bf16) (x7 : FVec Ideal S3x128x128 .f32) (r : Fin 128) (k : Fin 1024) :
    k0_pay29 (F := Ideal) x0 x1 x2 x3 x4 x5 x6 x7 (ix2 r k) = rms 0x44800000#32 (fun k : Fin 1024 => x0 (ix2 r k)) (fun k => x1 (ix2 0 k)) k := by
  unfold k0_pay29
  frame_out
  exact hidden_at x0 x1 r k

/-- The gated input. -/
theorem glu_at (x0 : FVec Ideal S128x1024 .f32) (x1 : FVec Ideal S1x1024 .f32) (x2 : FVec Ideal S1024x5632 .bf16) (x3 : FVec Ideal S1x384 .f32) (x4 : FVec Ideal S384x1024 .bf16) (x5 : FVec Ideal S1x256 .f32) (x6 : FVec Ideal S256x1536 .bf16) (x7 : FVec Ideal S3x128x128 .f32) (r : Fin 128) (D : Fin 512) :
    out0_8 (F := Ideal) x0 x1 x2 x3 x4 x5 x6 x7 (ix2 r D) = (kz x0 x1 x2 r) ⟨D.val, by omega⟩ * Ideal.logistic ((kz x0 x1 x2 r) ⟨512 + D.val, by omega⟩) := by
  frame_out
  pointwise [k0_pay6]
  simp only [hidden_at, Cert.Swiglu.sigmoid_sub]
  rfl

/-- The queries. -/
theorem query_at (x0 : FVec Ideal S128x1024 .f32) (x1 : FVec Ideal S1x1024 .f32) (x2 : FVec Ideal S1024x5632 .bf16) (x3 : FVec Ideal S1x384 .f32) (x4 : FVec Ideal S384x1024 .bf16) (x5 : FVec Ideal S1x256 .f32) (x6 : FVec Ideal S256x1536 .bf16) (x7 : FVec Ideal S3x128x128 .f32) (r : Fin 128) (D : Fin 1024) :
    out0_9 (F := Ideal) x0 x1 x2 x3 x4 x5 x6 x7 (ix2 r D) = kq (kz x0 x1 x2 r) x3 x4 D * x7 (ix3 0 r ⟨D.val % 128, by omega⟩) + kq (kz x0 x1 x2 r) x3 x4 ⟨(D.val + 1024 - 16) % 1024, by omega⟩ * x7 (ix3 1 r ⟨D.val % 128, by omega⟩)
      + kq (kz x0 x1 x2 r) x3 x4 ⟨(D.val + 1024 - 1008) % 1024, by omega⟩ * x7 (ix3 2 r ⟨D.val % 128, by omega⟩) := by
  frame_out
  pointwise [k0_pay10, k0_pay9, k0_pay8, k0_pay7]
  simp only [hidden_at]
  rw [eight (fun e => x7 (ix3 0 r e)) D, eight (fun e => x7 (ix3 1 r e)) D, eight (fun e => x7 (ix3 2 r e)) D]
  first
    | rfl
    | (rw [mul_one]; rfl)

/-- The latent rows. -/
theorem latent_at (x0 : FVec Ideal S128x1024 .f32) (x1 : FVec Ideal S1x1024 .f32) (x2 : FVec Ideal S1024x5632 .bf16) (x3 : FVec Ideal S1x384 .f32) (x4 : FVec Ideal S384x1024 .bf16) (x5 : FVec Ideal S1x256 .f32) (x6 : FVec Ideal S256x1536 .bf16) (x7 : FVec Ideal S3x128x128 .f32) (r : Fin 128) (D : Fin 256) :
    out0_10 (F := Ideal) x0 x1 x2 x3 x4 x5 x6 x7 (ix2 r D) = kl (kz x0 x1 x2 r) x5 D := by
  frame_out
  pointwise [k0_pay12, k0_pay11, k0_pay30]
  simp only [normed_at]
  rfl

/-- The rotated part of the keys. -/
theorem keyR_at (x0 : FVec Ideal S128x1024 .f32) (x1 : FVec Ideal S1x1024 .f32) (x2 : FVec Ideal S1024x5632 .bf16) (x3 : FVec Ideal S1x384 .f32) (x4 : FVec Ideal S384x1024 .bf16) (x5 : FVec Ideal S1x256 .f32) (x6 : FVec Ideal S256x1536 .bf16) (x7 : FVec Ideal S3x128x128 .f32) (r : Fin 128) (D : Fin 32) :
    out0_11 (F := Ideal) x0 x1 x2 x3 x4 x5 x6 x7 (ix2 r D) = kr (kz x0 x1 x2 r) (wide x7 r) 0 ⟨64 + D.val, by omega⟩ := by
  frame_out
  pointwise [k0_pay15, k0_pay32, k0_pay14]
  simp only [normed_at]
  rfl

/-- The keys. -/
theorem key_at (x0 : FVec Ideal S128x1024 .f32) (x1 : FVec Ideal S1x1024 .f32) (x2 : FVec Ideal S1024x5632 .bf16) (x3 : FVec Ideal S1x384 .f32) (x4 : FVec Ideal S384x1024 .bf16) (x5 : FVec Ideal S1x256 .f32) (x6 : FVec Ideal S256x1536 .bf16) (x7 : FVec Ideal S3x128x128 .f32) (r : Fin 128) (D : Fin 1024) :
    out0_12 (F := Ideal) x0 x1 x2 x3 x4 x5 x6 x7 (ix2 r D) = (∑ l : Fin 256, kl (kz x0 x1 x2 r) x5 l * x6 (ix2 l ⟨D.val, by omega⟩)) + kr (kz x0 x1 x2 r) (wide x7 r) 0 ⟨D.val % 128, by omega⟩ := by
  frame_out
  pointwise [k0_pay16, k0_pay31, k0_pay32, k0_pay14, k0_pay13, k0_pay12, k0_pay11, k0_pay30]
  simp only [normed_at]
  refine congrArg₂ (· + ·) rfl ?_
  exact eight (fun e => kr (kz x0 x1 x2 r) (wide x7 r) 0 e) D

/-- The values. -/
theorem value_at (x0 : FVec Ideal S128x1024 .f32) (x1 : FVec Ideal S1x1024 .f32) (x2 : FVec Ideal S1024x5632 .bf16) (x3 : FVec Ideal S1x384 .f32) (x4 : FVec Ideal S384x1024 .bf16) (x5 : FVec Ideal S1x256 .f32) (x6 : FVec Ideal S256x1536 .bf16) (x7 : FVec Ideal S3x128x128 .f32) (r : Fin 128) (D : Fin 512) :
    out0_13 (F := Ideal) x0 x1 x2 x3 x4 x5 x6 x7 (ix2 r D) = ∑ l : Fin 256, kl (kz x0 x1 x2 r) x5 l * x6 (ix2 l ⟨1024 + D.val, by omega⟩) := by
  frame_out
  pointwise [k0_pay17, k0_pay31, k0_pay13, k0_pay12, k0_pay11, k0_pay30]
  simp only [normed_at]
  rfl

/-- The other attention's keys. -/
theorem sbK_at (x0 : FVec Ideal S128x1024 .f32) (x1 : FVec Ideal S1x1024 .f32) (x2 : FVec Ideal S1024x5632 .bf16) (x3 : FVec Ideal S1x384 .f32) (x4 : FVec Ideal S384x1024 .bf16) (x5 : FVec Ideal S1x256 .f32) (x6 : FVec Ideal S256x1536 .bf16) (x7 : FVec Ideal S3x128x128 .f32) (r : Fin 128) (D : Fin 128) :
    out0_15 (F := Ideal) x0 x1 x2 x3 x4 x5 x6 x7 (ix2 r D) = (kz x0 x1 x2 r) ⟨2176 + D.val, by omega⟩ := by
  frame_out
  pointwise [k0_pay35, k0_pay28]
  simp only [normed_at]
  rfl

/-- The other attention's values. -/
theorem sbV_at (x0 : FVec Ideal S128x1024 .f32) (x1 : FVec Ideal S1x1024 .f32) (x2 : FVec Ideal S1024x5632 .bf16) (x3 : FVec Ideal S1x384 .f32) (x4 : FVec Ideal S384x1024 .bf16) (x5 : FVec Ideal S1x256 .f32) (x6 : FVec Ideal S256x1536 .bf16) (x7 : FVec Ideal S3x128x128 .f32) (r : Fin 128) (D : Fin 128) :
    out0_16 (F := Ideal) x0 x1 x2 x3 x4 x5 x6 x7 (ix2 r D) = (kz x0 x1 x2 r) ⟨2304 + D.val, by omega⟩ := by
  frame_out
  pointwise [k0_pay2]
  simp only [normed_at]
  rfl

/-- The keys once more. -/
theorem sbKb_at (x0 : FVec Ideal S128x1024 .f32) (x1 : FVec Ideal S1x1024 .f32) (x2 : FVec Ideal S1024x5632 .bf16) (x3 : FVec Ideal S1x384 .f32) (x4 : FVec Ideal S384x1024 .bf16) (x5 : FVec Ideal S1x256 .f32) (x6 : FVec Ideal S256x1536 .bf16) (x7 : FVec Ideal S3x128x128 .f32) (r : Fin 128) (D : Fin 128) :
    out0_17 (F := Ideal) x0 x1 x2 x3 x4 x5 x6 x7 (ix2 r D) = (kz x0 x1 x2 r) ⟨2176 + D.val, by omega⟩ := by
  frame_out
  pointwise [k0_pay1, k0_pay35, k0_pay28]
  simp only [normed_at]
  rfl

/-- The values once more. -/
theorem sbVb_at (x0 : FVec Ideal S128x1024 .f32) (x1 : FVec Ideal S1x1024 .f32) (x2 : FVec Ideal S1024x5632 .bf16) (x3 : FVec Ideal S1x384 .f32) (x4 : FVec Ideal S384x1024 .bf16) (x5 : FVec Ideal S1x256 .f32) (x6 : FVec Ideal S256x1536 .bf16) (x7 : FVec Ideal S3x128x128 .f32) (r : Fin 128) (D : Fin 128) :
    out0_18 (F := Ideal) x0 x1 x2 x3 x4 x5 x6 x7 (ix2 r D) = (kz x0 x1 x2 r) ⟨2304 + D.val, by omega⟩ := by
  frame_out
  pointwise [k0_pay3, k0_pay2]
  simp only [normed_at]
  rfl

/-- The gates. -/
theorem gate_at (x0 : FVec Ideal S128x1024 .f32) (x1 : FVec Ideal S1x1024 .f32) (x2 : FVec Ideal S1024x5632 .bf16) (x3 : FVec Ideal S1x384 .f32) (x4 : FVec Ideal S384x1024 .bf16) (x5 : FVec Ideal S1x256 .f32) (x6 : FVec Ideal S256x1536 .bf16) (x7 : FVec Ideal S3x128x128 .f32) (r : Fin 128) (D : Fin 3072) :
    out0_19 (F := Ideal) x0 x1 x2 x3 x4 x5 x6 x7 (ix2 r D) = Ideal.logistic ((kz x0 x1 x2 r) ⟨2432 + D.val, by omega⟩) := by
  frame_out
  pointwise [k0_pay4]
  simp only [normed_at, Cert.Swiglu.sigmoid_sub]
  rfl

end Cert.SmPay

end
-- ==== Proof.SmSb.lean ====
/- The other attention's queries as the sample's input projections' body leaves them in a block. -/
module

public import proofs.«01_k».proof.Proof.SmPay
public import proofs.«01_k».proof.Proof.Payload

@[expose] public section

set_option maxRecDepth 16384

noncomputable section

namespace Cert.SmPay
open Idealize.ShloMosaic Idealize.ShloMosaic.TcCoe Idealize.SL.Sem
open Cert.Kernel7Ideal Cert.Kernel7Ideal.Gen Cert.InSpec
open Cert.InPay (low spread spread_low spread_high ks)

/-- The scaled product at a place. -/
theorem scaled_at (v : FVec Ideal S128x1024 .bf16) (w : FVec Ideal S1024x512 .bf16) (r : Fin 128) (j : Fin 512) :
    k0_pay18 (F := Ideal) v w (ix2 r j) = (∑ k : Fin 1024, v (ix2 r k) * w (ix2 k j)) * Ideal.ofBits FTy.f32 0x3E000000#32 := by
  pointwise [k0_pay18]

/-- Head 0's block. -/
theorem piece0 (v : FVec Ideal S128x1024 .bf16) (w : FVec Ideal S1024x512 .bf16) (r : Fin 128) (d : Fin 128) :
    k0_pay20 (F := Ideal) v w (ix2 r d) = if d.val < 64 then k0_pay18 (F := Ideal) v w (ix2 r ⟨d.val, by omega⟩) else 0 := by
  pointwise [k0_pay20, k0_pay19]
  exact low _ _ _

/-- Head 1's block. -/
theorem piece1 (v : FVec Ideal S128x1024 .bf16) (w : FVec Ideal S1024x512 .bf16) (r : Fin 128) (d : Fin 128) :
    k0_pay21 (F := Ideal) v w (ix2 r d) = if d.val < 64 then k0_pay18 (F := Ideal) v w (ix2 r ⟨(d.val + 128 - 64) % 128, by omega⟩) else 0 := by
  pointwise [k0_pay21, k0_pay19]
  exact low _ _ _

/-- Head 2's block. -/
theorem piece2 (v : FVec Ideal S128x1024 .bf16) (w : FVec Ideal S1024x512 .bf16) (r : Fin 128) (d : Fin 128) :
    k0_pay22 (F := Ideal) v w (ix2 r d) = if d.val < 64 then k0_pay18 (F := Ideal) v w (ix2 r ⟨128 + d.val, by omega⟩) else 0 := by
  pointwise [k0_pay22, k0_pay19]
  exact low _ _ _

/-- Head 3's block. -/
theorem piece3 (v : FVec Ideal S128x512 .f32) (r : Fin 128) (d : Fin 128) :
    k0_pay23 (F := Ideal) v k0_pay19 (ix2 r d) = if d.val < 64 then v (ix2 r ⟨128 + (d.val + 128 - 64) % 128, by omega⟩) else 0 := by
  pointwise [k0_pay23, k0_pay19]
  exact low _ _ _

/-- Head 4's block. -/
theorem piece4 (v : FVec Ideal S128x512 .f32) (r : Fin 128) (d : Fin 128) :
    k0_pay24 (F := Ideal) v k0_pay19 (ix2 r d) = if d.val < 64 then 0 else v (ix2 r ⟨256 + (d.val + 128 - 64) % 128, by omega⟩) := by
  pointwise [k0_pay24, k0_pay19]
  exact low _ _ _

/-- Head 5's block. -/
theorem piece5 (v : FVec Ideal S128x512 .f32) (r : Fin 128) (d : Fin 128) :
    k0_pay25 (F := Ideal) v k0_pay19 (ix2 r d) = if d.val < 64 then 0 else v (ix2 r ⟨256 + d.val, by omega⟩) := by
  pointwise [k0_pay25, k0_pay19]
  exact low _ _ _

/-- Head 6's block. -/
theorem piece6 (v : FVec Ideal S128x512 .f32) (r : Fin 128) (d : Fin 128) :
    k0_pay26 (F := Ideal) v k0_pay19 (ix2 r d) = if d.val < 64 then 0 else v (ix2 r ⟨384 + (d.val + 128 - 64) % 128, by omega⟩) := by
  pointwise [k0_pay26, k0_pay19]
  exact low _ _ _

/-- Head 7's block. -/
theorem piece7 (v : FVec Ideal S128x512 .f32) (r : Fin 128) (d : Fin 128) :
    k0_pay27 (F := Ideal) v k0_pay19 (ix2 r d) = if d.val < 64 then 0 else v (ix2 r ⟨384 + d.val, by omega⟩) := by
  pointwise [k0_pay27, k0_pay19]
  exact low _ _ _

/-- The scaled product from the packed row. -/
theorem ks_at (x0 : FVec Ideal S128x1024 .f32) (x1 : FVec Ideal S1x1024 .f32) (x2 : FVec Ideal S1024x5632 .bf16) (x3 : FVec Ideal S1x384 .f32) (x4 : FVec Ideal S384x1024 .bf16) (x5 : FVec Ideal S1x256 .f32) (x6 : FVec Ideal S256x1536 .bf16) (x7 : FVec Ideal S3x128x128 .f32) (r : Fin 128) (j : Fin 512) :
    k0_pay18 (F := Ideal) (k0_pay29 x0 x1 x2 x3 x4 x5 x6 x7) (View.ld x2 r0_16) (ix2 r j) = ks (kz x0 x1 x2 r) j := by
  rw [scaled_at]
  simp only [normed_at]
  pointwise
  rfl

/-- The other attention's queries. -/
theorem sbQ_at (x0 : FVec Ideal S128x1024 .f32) (x1 : FVec Ideal S1x1024 .f32) (x2 : FVec Ideal S1024x5632 .bf16) (x3 : FVec Ideal S1x384 .f32) (x4 : FVec Ideal S384x1024 .bf16) (x5 : FVec Ideal S1x256 .f32) (x6 : FVec Ideal S256x1536 .bf16) (x7 : FVec Ideal S3x128x128 .f32) (r : Fin 128) (D : Fin 1024) :
    out0_14 (F := Ideal) x0 x1 x2 x3 x4 x5 x6 x7 (ix2 r D) = spread (ks (kz x0 x1 x2 r)) D := by
  unfold out0_14 k0_pay33 k0_pay34
  canon_tiles e h
  · idx_vars e
    obtain rfl : r = e0 := Fin.ext h0
    refine (piece7 _ r e1).trans ?_
    rw [ks_at]
    exact spread_high _ D e1 3 (by omega) (by omega) _ (by intro _; first | (dsimp only; done) | (dsimp only; omega))
  · idx_vars e
    obtain rfl : r = e0 := Fin.ext h0
    refine (piece6 _ r e1).trans ?_
    rw [ks_at]
    exact spread_high _ D e1 2 (by omega) (by omega) _ (by intro _; first | (dsimp only; done) | (dsimp only; omega))
  · idx_vars e
    obtain rfl : r = e0 := Fin.ext h0
    refine (piece5 _ r e1).trans ?_
    rw [ks_at]
    exact spread_high _ D e1 1 (by omega) (by omega) _ (by intro _; first | (dsimp only; done) | (dsimp only; omega))
  · idx_vars e
    obtain rfl : r = e0 := Fin.ext h0
    refine (piece4 _ r e1).trans ?_
    rw [ks_at]
    exact spread_high _ D e1 0 (by omega) (by omega) _ (by intro _; first | (dsimp only; done) | (dsimp only; omega))
  · idx_vars e
    obtain rfl : r = e0 := Fin.ext h0
    refine (piece3 _ r e1).trans ?_
    rw [ks_at]
    exact spread_low _ D e1 3 (by omega) (by omega) _ (by intro _; first | (dsimp only; done) | (dsimp only; omega))
  · idx_vars e
    obtain rfl : r = e0 := Fin.ext h0
    refine (piece2 _ _ r e1).trans ?_
    rw [ks_at]
    exact spread_low _ D e1 2 (by omega) (by omega) _ (by intro _; first | (dsimp only; done) | (dsimp only; omega))
  · idx_vars e
    obtain rfl : r = e0 := Fin.ext h0
    refine (piece1 _ _ r e1).trans ?_
    rw [ks_at]
    exact spread_low _ D e1 1 (by omega) (by omega) _ (by intro _; first | (dsimp only; done) | (dsimp only; omega))
  · idx_vars e
    obtain rfl : r = e0 := Fin.ext h0
    refine (piece0 _ _ r e1).trans ?_
    rw [ks_at]
    exact spread_low _ D e1 0 (by omega) (by omega) _ (by intro _; first | (dsimp only; done) | (dsimp only; omega))

end Cert.SmPay

end
-- ==== Proof.SmValue.lean ====
/- The sample's input projections' twelve arrays after the run. -/
module

public import proofs.«01_k».proof.Proof.Gen.Kernel7Ideal.Value
public import proofs.«01_k».proof.Proof.SmMeet
public import proofs.«01_k».proof.Proof.SmHost
public import proofs.«01_k».proof.Proof.SmSb
public import Idealize.ShloMosaic.Lib.Pipeline.ValueKit

@[expose] public section

set_option maxRecDepth 16384

noncomputable section

namespace Cert.SmValue
open Idealize.ShloMosaic Idealize.ShloMosaic.TcCoe Idealize.SL.Sem
open Idealize.ShloMosaic.Pipeline (Dat)
open Cert.Kernel7Ideal Cert.Kernel7Ideal.Gen Cert.InSpec Cert.SmHost Cert.InMeet
open Cert.InHost (packW packUq packUkv tab0 tab1 tab2)

/-- The windows' blocks at every grid point. -/
theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0, 0] ∧ win0_8.index t = ![t.val, 0] ∧ win0_9.index t = ![t.val, 0] ∧ win0_10.index t = ![t.val, 0] ∧ win0_11.index t = ![t.val, 0] ∧ win0_12.index t = ![t.val, 0] ∧ win0_13.index t = ![t.val, 0] ∧ win0_14.index t = ![t.val, 0] ∧ win0_15.index t = ![t.val, 0] ∧ win0_16.index t = ![t.val, 0] ∧ win0_17.index t = ![t.val, 0] ∧ win0_18.index t = ![t.val, 0] ∧ win0_19.index t = ![t.val, 0] :=
  (by decide +kernel : ∀ t : Fin grid0.N, _)

variable (m : (ℓ : Loc nD τ sig) → Buf (Elt Ideal) ℓ) (c : Dev nD)

/-- A row's 5536 numbers. -/
def zOf (R : Fin 128) : Fin 5536 → EReal :=
  inner (rms 0x44800000#32 (fun k : Fin 1024 => argX m c (ix2 R k)) (fun k => argG m c (ix1 k))) (fun k p => argW m c (ix2 k p))

/-- A point's block of rows. -/
theorem rows_at (t : Fin cfg0.N) (r : Fin 128) (k : Fin 1024) (hB : t.val < 1) :
    iblk m c 0 t (ix2 r k) = argX m c (ix2 ⟨t.val * 128 + r.val, by omega⟩ k) := by
  refine Eq.trans (b := (V m c main_arg0 : FVec Ideal S128x1024 .f32) (ix2 ⟨t.val * 128 + r.val, by omega⟩ k)) ?_ (congrFun (V_main_arg0 m c) _)
  blk_ext [iblk, idx t]

/-- A point's block of the input norm's gain. -/
theorem gain_at (t : Fin cfg0.N) (k : Fin 1024) : iblk m c 1 t (ix2 0 k) = argG m c (ix1 k) := by
  refine Eq.trans (b := (V m c main_v24 : FVec Ideal S1x1024 .f32) (ix2 0 k)) ?_ ?_
  · blk_ext [iblk, idx t]
  · rw [gain]
    pointwise

/-- A point's block of the query norm's gain. -/
theorem qgain_at (t : Fin cfg0.N) (k : Fin 384) : iblk m c 3 t (ix2 0 k) = argQg m c (ix1 k) := by
  refine Eq.trans (b := (V m c main_v25 : FVec Ideal S1x384 .f32) (ix2 0 k)) ?_ ?_
  · blk_ext [iblk, idx t]
  · rw [qgain]
    pointwise

/-- A point's block of the latent norm's gain. -/
theorem kgain_at (t : Fin cfg0.N) (k : Fin 256) : iblk m c 5 t (ix2 0 k) = argKg m c (ix1 k) := by
  refine Eq.trans (b := (V m c main_v26 : FVec Ideal S1x256 .f32) (ix2 0 k)) ?_ ?_
  · blk_ext [iblk, idx t]
  · rw [kgain]
    pointwise

/-- A point's block of the packed matrix. -/
theorem packed_at (t : Fin cfg0.N) (k : Fin 1024) (p : Fin 5632) : iblk m c 2 t (ix2 k p) = packW (argW m c) (ix2 k p) := by
  refine Eq.trans (b := (V m c main_v14 : FVec Ideal S1024x5632 .bf16) (ix2 k p)) ?_ ?_
  · blk_ext [iblk, idx t]
  · rw [packed]

/-- A point's block of the query matrix. -/
theorem packedUq_at (t : Fin cfg0.N) (k : Fin 384) (p : Fin 1024) : iblk m c 4 t (ix2 k p) = packUq (argUq m c) (ix2 k p) := by
  refine Eq.trans (b := (V m c main_v18 : FVec Ideal S384x1024 .bf16) (ix2 k p)) ?_ ?_
  · blk_ext [iblk, idx t]
  · rw [packedUq]

/-- A point's block of the key and value matrix. -/
theorem packedUkv_at (t : Fin cfg0.N) (k : Fin 256) (p : Fin 1536) : iblk m c 6 t (ix2 k p) = packUkv (argUk m c) (argUv m c) (ix2 k p) := by
  refine Eq.trans (b := (V m c main_v23 : FVec Ideal S256x1536 .bf16) (ix2 k p)) ?_ ?_
  · blk_ext [iblk, idx t]
  · rw [packedUkv]

/-- A point's block of the tables. -/
theorem rope_at (t : Fin cfg0.N) (a : Fin 3) (r : Fin 128) (e : Fin 128) (hB : t.val < 1) :
    iblk m c 7 t (ix3 a r e) = tables (ix3 a r e) := by
  refine Eq.trans (b := (V m c main_v57 : FVec Ideal S3x128x128 .f32) (ix3 a r e)) ?_ ?_
  · blk_ext [iblk, idx t]
  · rw [rope]

/-- The tables at a point's row. -/
theorem tabs (t : Fin cfg0.N) (r : Fin 128) (hB : t.val < 1) (e : Fin 128) :
    iblk m c 7 t (ix3 0 r e) = tab0 8192 e ∧ iblk m c 7 t (ix3 1 r e) = tab1 8192 e
      ∧ iblk m c 7 t (ix3 2 r e) = tab2 8192 e :=
  ⟨(rope_at m c t 0 r e hB).trans (tables_at _ e).1, (rope_at m c t 1 r e hB).trans (tables_at _ e).2.1, (rope_at m c t 2 r e hB).trans (tables_at _ e).2.2⟩

/-- A point's packed row. -/
theorem row (t : Fin cfg0.N) (r : Fin 128) (hB : t.val < 1) :
    Packs (zOf m c ⟨t.val * 128 + r.val, by omega⟩) (SmPay.kz (iblk m c 0 t) (iblk m c 1 t) (iblk m c 2 t) r) := by
  have e : SmPay.kz (iblk m c 0 t) (iblk m c 1 t) (iblk m c 2 t) r
      = inner (rms 0x44800000#32 (fun k : Fin 1024 => argX m c (ix2 ⟨t.val * 128 + r.val, by omega⟩ k)) (fun k => argG m c (ix1 k))) (fun k p => packW (argW m c) (ix2 k p)) := by
    refine congrArg₂ InSpec.inner (congrArg₂ (rms 0x44800000#32) (funext fun k => rows_at m c t r k hB) (funext fun k => gain_at m c t k)) ?_
    exact funext fun k => funext fun p => packed_at m c t k p
  rw [e]
  exact packs _ _

/-- The gated input. At one place of a point's block. -/
theorem glu_point (t : Fin cfg0.N) (hB : t.val < 1) (r : Fin 128) (D : Fin 512) :
    out0_8 (iblk m c 0 t) (iblk m c 1 t) (iblk m c 2 t) (iblk m c 3 t) (iblk m c 4 t) (iblk m c 5 t) (iblk m c 6 t) (iblk m c 7 t) (ix2 r D) = glu (zOf m c ⟨t.val * 128 + r.val, by omega⟩) D := by
  have H := row m c t r hB
  exact (SmPay.glu_at _ _ _ _ _ _ _ _ r D).trans (glu_meet H D)

/-- The gated input. -/
theorem glu_final (G : FVec Ideal S128x512 .f32) (hG : ∀ (R : Fin 128) (D : Fin 512), G (ix2 R D) = glu (zOf m c R) D) : (dats m 0 c).arrAt 8 (cfgs 0).N = G := by
  refine (dats m 0 c).arrAt_eq_of_covers 8 _ (by decide +kernel) fun t hf y => ?_
  have hN : t.val < 1 := lt_of_lt_of_eq t.isLt N_0
  blk_simp
  rw [after0_8]
  idx_vars y
  refine (glu_point m c t hN y0 y1).trans ?_
  refine (hG ⟨t.val * 128 + y0.val, by omega⟩ y1).symm.trans ?_
  blk_ext [idx t]

/-- The queries. At one place of a point's block. -/
theorem query_point (t : Fin cfg0.N) (hB : t.val < 1) (r : Fin 128) (D : Fin 1024) :
    out0_9 (iblk m c 0 t) (iblk m c 1 t) (iblk m c 2 t) (iblk m c 3 t) (iblk m c 4 t) (iblk m c 5 t) (iblk m c 6 t) (iblk m c 7 t) (ix2 r D) = headQ1 (query (zOf m c ⟨t.val * 128 + r.val, by omega⟩) (fun l => argQg m c (ix1 l)) (fun l n => argUq m c (ix2 l n))) 8192 D := by
  have H := row m c t r hB
  refine (SmPay.query_at _ _ _ _ _ _ _ _ r D).trans ?_
  rw [(tabs m c t r hB _).1, (tabs m c t r hB _).2.1, (tabs m c t r hB _).2.2]
  exact headQ1_meet _ _ (query_meet H _ _ _ (argUq m c) (qgain_at m c t) (packedUq_at m c t)) _ D

/-- The queries. -/
theorem query_final (G : FVec Ideal S128x1024 .bf16) (hG : ∀ (R : Fin 128) (D : Fin 1024), G (ix2 R D) = headQ1 (query (zOf m c R) (fun l => argQg m c (ix1 l)) (fun l n => argUq m c (ix2 l n))) 8192 D) : (dats m 0 c).arrAt 9 (cfgs 0).N = G := by
  refine (dats m 0 c).arrAt_eq_of_covers 9 _ (by decide +kernel) fun t hf y => ?_
  have hN : t.val < 1 := lt_of_lt_of_eq t.isLt N_0
  blk_simp
  rw [after0_9]
  idx_vars y
  refine (query_point m c t hN y0 y1).trans ?_
  refine (hG ⟨t.val * 128 + y0.val, by omega⟩ y1).symm.trans ?_
  blk_ext [idx t]

/-- The latent rows. At one place of a point's block. -/
theorem latent_point (t : Fin cfg0.N) (hB : t.val < 1) (r : Fin 128) (D : Fin 256) :
    out0_10 (iblk m c 0 t) (iblk m c 1 t) (iblk m c 2 t) (iblk m c 3 t) (iblk m c 4 t) (iblk m c 5 t) (iblk m c 6 t) (iblk m c 7 t) (ix2 r D) = latent (zOf m c ⟨t.val * 128 + r.val, by omega⟩) (fun l => argKg m c (ix1 l)) D := by
  have H := row m c t r hB
  exact (SmPay.latent_at _ _ _ _ _ _ _ _ r D).trans (latent_meet H _ _ (kgain_at m c t) D)

/-- The latent rows. -/
theorem latent_final (G : FVec Ideal S128x256 .f32) (hG : ∀ (R : Fin 128) (D : Fin 256), G (ix2 R D) = latent (zOf m c R) (fun l => argKg m c (ix1 l)) D) : (dats m 0 c).arrAt 10 (cfgs 0).N = G := by
  refine (dats m 0 c).arrAt_eq_of_covers 10 _ (by decide +kernel) fun t hf y => ?_
  have hN : t.val < 1 := lt_of_lt_of_eq t.isLt N_0
  blk_simp
  rw [after0_10]
  idx_vars y
  refine (latent_point m c t hN y0 y1).trans ?_
  refine (hG ⟨t.val * 128 + y0.val, by omega⟩ y1).symm.trans ?_
  blk_ext [idx t]

/-- The rotated part of the keys. At one place of a point's block. -/
theorem keyR_point (t : Fin cfg0.N) (hB : t.val < 1) (r : Fin 128) (D : Fin 32) :
    out0_11 (iblk m c 0 t) (iblk m c 1 t) (iblk m c 2 t) (iblk m c 3 t) (iblk m c 4 t) (iblk m c 5 t) (iblk m c 6 t) (iblk m c 7 t) (ix2 r D) = keyR (zOf m c ⟨t.val * 128 + r.val, by omega⟩) 8192 D := by
  have H := row m c t r hB
  refine (SmPay.keyR_at _ _ _ _ _ _ _ _ r D).trans ?_
  rw [key_meet H (SmPay.wide (iblk m c 7 t) r) 0 _ (tabs m c t r hB)]
  rw [dif_pos (by dsimp only; omega)]
  exact congrArg (keyR _ _) (Fin.ext (by dsimp only; omega))

/-- The rotated part of the keys. -/
theorem keyR_final (G : FVec Ideal S128x32 .f32) (hG : ∀ (R : Fin 128) (D : Fin 32), G (ix2 R D) = keyR (zOf m c R) 8192 D) : (dats m 0 c).arrAt 11 (cfgs 0).N = G := by
  refine (dats m 0 c).arrAt_eq_of_covers 11 _ (by decide +kernel) fun t hf y => ?_
  have hN : t.val < 1 := lt_of_lt_of_eq t.isLt N_0
  blk_simp
  rw [after0_11]
  idx_vars y
  refine (keyR_point m c t hN y0 y1).trans ?_
  refine (hG ⟨t.val * 128 + y0.val, by omega⟩ y1).symm.trans ?_
  blk_ext [idx t]

/-- The keys. At one place of a point's block. -/
theorem key_point (t : Fin cfg0.N) (hB : t.val < 1) (r : Fin 128) (D : Fin 1024) :
    out0_12 (iblk m c 0 t) (iblk m c 1 t) (iblk m c 2 t) (iblk m c 3 t) (iblk m c 4 t) (iblk m c 5 t) (iblk m c 6 t) (iblk m c 7 t) (ix2 r D) = headK (zOf m c ⟨t.val * 128 + r.val, by omega⟩) (fun l => argKg m c (ix1 l)) (fun l h e => argUk m c (ix3 l h e)) 8192 D := by
  have H := row m c t r hB
  exact (SmPay.key_at _ _ _ _ _ _ _ _ r D).trans (headK_meet H _ _ (SmPay.wide (iblk m c 7 t) r) 0 _ _ (argUk m c) (argUv m c) (kgain_at m c t) (packedUkv_at m c t) (tabs m c t r hB) D)

/-- The keys. -/
theorem key_final (G : FVec Ideal S128x1024 .bf16) (hG : ∀ (R : Fin 128) (D : Fin 1024), G (ix2 R D) = headK (zOf m c R) (fun l => argKg m c (ix1 l)) (fun l h e => argUk m c (ix3 l h e)) 8192 D) : (dats m 0 c).arrAt 12 (cfgs 0).N = G := by
  refine (dats m 0 c).arrAt_eq_of_covers 12 _ (by decide +kernel) fun t hf y => ?_
  have hN : t.val < 1 := lt_of_lt_of_eq t.isLt N_0
  blk_simp
  rw [after0_12]
  idx_vars y
  refine (key_point m c t hN y0 y1).trans ?_
  refine (hG ⟨t.val * 128 + y0.val, by omega⟩ y1).symm.trans ?_
  blk_ext [idx t]

/-- The values. At one place of a point's block. -/
theorem value_point (t : Fin cfg0.N) (hB : t.val < 1) (r : Fin 128) (D : Fin 512) :
    out0_13 (iblk m c 0 t) (iblk m c 1 t) (iblk m c 2 t) (iblk m c 3 t) (iblk m c 4 t) (iblk m c 5 t) (iblk m c 6 t) (iblk m c 7 t) (ix2 r D) = headV (zOf m c ⟨t.val * 128 + r.val, by omega⟩) (fun l => argKg m c (ix1 l)) (fun l h e => argUv m c (ix3 l h e)) D := by
  have H := row m c t r hB
  exact (SmPay.value_at _ _ _ _ _ _ _ _ r D).trans (headV_meet H _ _ _ (argUk m c) (argUv m c) (kgain_at m c t) (packedUkv_at m c t) D)

/-- The values. -/
theorem value_final (G : FVec Ideal S128x512 .bf16) (hG : ∀ (R : Fin 128) (D : Fin 512), G (ix2 R D) = headV (zOf m c R) (fun l => argKg m c (ix1 l)) (fun l h e => argUv m c (ix3 l h e)) D) : (dats m 0 c).arrAt 13 (cfgs 0).N = G := by
  refine (dats m 0 c).arrAt_eq_of_covers 13 _ (by decide +kernel) fun t hf y => ?_
  have hN : t.val < 1 := lt_of_lt_of_eq t.isLt N_0
  blk_simp
  rw [after0_13]
  idx_vars y
  refine (value_point m c t hN y0 y1).trans ?_
  refine (hG ⟨t.val * 128 + y0.val, by omega⟩ y1).symm.trans ?_
  blk_ext [idx t]

/-- The other attention's queries. At one place of a point's block. -/
theorem sbQ_point (t : Fin cfg0.N) (hB : t.val < 1) (r : Fin 128) (D : Fin 1024) :
    out0_14 (iblk m c 0 t) (iblk m c 1 t) (iblk m c 2 t) (iblk m c 3 t) (iblk m c 4 t) (iblk m c 5 t) (iblk m c 6 t) (iblk m c 7 t) (ix2 r D) = sbQ (zOf m c ⟨t.val * 128 + r.val, by omega⟩) D := by
  have H := row m c t r hB
  exact (SmPay.sbQ_at _ _ _ _ _ _ _ _ r D).trans (sbQ_meet H D)

/-- The other attention's queries. -/
theorem sbQ_final (G : FVec Ideal S128x1024 .bf16) (hG : ∀ (R : Fin 128) (D : Fin 1024), G (ix2 R D) = sbQ (zOf m c R) D) : (dats m 0 c).arrAt 14 (cfgs 0).N = G := by
  refine (dats m 0 c).arrAt_eq_of_covers 14 _ (by decide +kernel) fun t hf y => ?_
  have hN : t.val < 1 := lt_of_lt_of_eq t.isLt N_0
  blk_simp
  rw [after0_14]
  idx_vars y
  refine (sbQ_point m c t hN y0 y1).trans ?_
  refine (hG ⟨t.val * 128 + y0.val, by omega⟩ y1).symm.trans ?_
  blk_ext [idx t]

/-- The other attention's keys. At one place of a point's block. -/
theorem sbK_point (t : Fin cfg0.N) (hB : t.val < 1) (r : Fin 128) (D : Fin 128) :
    out0_15 (iblk m c 0 t) (iblk m c 1 t) (iblk m c 2 t) (iblk m c 3 t) (iblk m c 4 t) (iblk m c 5 t) (iblk m c 6 t) (iblk m c 7 t) (ix2 r D) = zOf m c ⟨t.val * 128 + r.val, by omega⟩ ⟨2208 + D.val, by omega⟩ := by
  have H := row m c t r hB
  refine (SmPay.sbK_at _ _ _ _ _ _ _ _ r D).trans ?_
  rw [H.mid _ (by dsimp only; omega) (by dsimp only; omega)]
  exact congrArg (zOf m c ⟨t.val * 128 + r.val, by omega⟩) (Fin.ext (by dsimp only; omega))

/-- The other attention's keys. -/
theorem sbK_final (G : FVec Ideal S128x128 .f32) (hG : ∀ (R : Fin 128) (D : Fin 128), G (ix2 R D) = zOf m c R ⟨2208 + D.val, by omega⟩) : (dats m 0 c).arrAt 15 (cfgs 0).N = G := by
  refine (dats m 0 c).arrAt_eq_of_covers 15 _ (by decide +kernel) fun t hf y => ?_
  have hN : t.val < 1 := lt_of_lt_of_eq t.isLt N_0
  blk_simp
  rw [after0_15]
  idx_vars y
  refine (sbK_point m c t hN y0 y1).trans ?_
  refine (hG ⟨t.val * 128 + y0.val, by omega⟩ y1).symm.trans ?_
  blk_ext [idx t]

/-- The other attention's values. At one place of a point's block. -/
theorem sbV_point (t : Fin cfg0.N) (hB : t.val < 1) (r : Fin 128) (D : Fin 128) :
    out0_16 (iblk m c 0 t) (iblk m c 1 t) (iblk m c 2 t) (iblk m c 3 t) (iblk m c 4 t) (iblk m c 5 t) (iblk m c 6 t) (iblk m c 7 t) (ix2 r D) = zOf m c ⟨t.val * 128 + r.val, by omega⟩ ⟨2336 + D.val, by omega⟩ := by
  have H := row m c t r hB
  refine (SmPay.sbV_at _ _ _ _ _ _ _ _ r D).trans ?_
  rw [H.mid _ (by dsimp only; omega) (by dsimp only; omega)]
  exact congrArg (zOf m c ⟨t.val * 128 + r.val, by omega⟩) (Fin.ext (by dsimp only; omega))

/-- The other attention's values. -/
theorem sbV_final (G : FVec Ideal S128x128 .f32) (hG : ∀ (R : Fin 128) (D : Fin 128), G (ix2 R D) = zOf m c R ⟨2336 + D.val, by omega⟩) : (dats m 0 c).arrAt 16 (cfgs 0).N = G := by
  refine (dats m 0 c).arrAt_eq_of_covers 16 _ (by decide +kernel) fun t hf y => ?_
  have hN : t.val < 1 := lt_of_lt_of_eq t.isLt N_0
  blk_simp
  rw [after0_16]
  idx_vars y
  refine (sbV_point m c t hN y0 y1).trans ?_
  refine (hG ⟨t.val * 128 + y0.val, by omega⟩ y1).symm.trans ?_
  blk_ext [idx t]

/-- The other attention's keys once more. At one place of a point's block. -/
theorem sbKb_point (t : Fin cfg0.N) (hB : t.val < 1) (r : Fin 128) (D : Fin 128) :
    out0_17 (iblk m c 0 t) (iblk m c 1 t) (iblk m c 2 t) (iblk m c 3 t) (iblk m c 4 t) (iblk m c 5 t) (iblk m c 6 t) (iblk m c 7 t) (ix2 r D) = zOf m c ⟨t.val * 128 + r.val, by omega⟩ ⟨2208 + D.val, by omega⟩ := by
  have H := row m c t r hB
  refine (SmPay.sbKb_at _ _ _ _ _ _ _ _ r D).trans ?_
  rw [H.mid _ (by dsimp only; omega) (by dsimp only; omega)]
  exact congrArg (zOf m c ⟨t.val * 128 + r.val, by omega⟩) (Fin.ext (by dsimp only; omega))

/-- The other attention's keys once more. -/
theorem sbKb_final (G : FVec Ideal S128x128 .bf16) (hG : ∀ (R : Fin 128) (D : Fin 128), G (ix2 R D) = zOf m c R ⟨2208 + D.val, by omega⟩) : (dats m 0 c).arrAt 17 (cfgs 0).N = G := by
  refine (dats m 0 c).arrAt_eq_of_covers 17 _ (by decide +kernel) fun t hf y => ?_
  have hN : t.val < 1 := lt_of_lt_of_eq t.isLt N_0
  blk_simp
  rw [after0_17]
  idx_vars y
  refine (sbKb_point m c t hN y0 y1).trans ?_
  refine (hG ⟨t.val * 128 + y0.val, by omega⟩ y1).symm.trans ?_
  blk_ext [idx t]

/-- The other attention's values once more. At one place of a point's block. -/
theorem sbVb_point (t : Fin cfg0.N) (hB : t.val < 1) (r : Fin 128) (D : Fin 128) :
    out0_18 (iblk m c 0 t) (iblk m c 1 t) (iblk m c 2 t) (iblk m c 3 t) (iblk m c 4 t) (iblk m c 5 t) (iblk m c 6 t) (iblk m c 7 t) (ix2 r D) = zOf m c ⟨t.val * 128 + r.val, by omega⟩ ⟨2336 + D.val, by omega⟩ := by
  have H := row m c t r hB
  refine (SmPay.sbVb_at _ _ _ _ _ _ _ _ r D).trans ?_
  rw [H.mid _ (by dsimp only; omega) (by dsimp only; omega)]
  exact congrArg (zOf m c ⟨t.val * 128 + r.val, by omega⟩) (Fin.ext (by dsimp only; omega))

/-- The other attention's values once more. -/
theorem sbVb_final (G : FVec Ideal S128x128 .bf16) (hG : ∀ (R : Fin 128) (D : Fin 128), G (ix2 R D) = zOf m c R ⟨2336 + D.val, by omega⟩) : (dats m 0 c).arrAt 18 (cfgs 0).N = G := by
  refine (dats m 0 c).arrAt_eq_of_covers 18 _ (by decide +kernel) fun t hf y => ?_
  have hN : t.val < 1 := lt_of_lt_of_eq t.isLt N_0
  blk_simp
  rw [after0_18]
  idx_vars y
  refine (sbVb_point m c t hN y0 y1).trans ?_
  refine (hG ⟨t.val * 128 + y0.val, by omega⟩ y1).symm.trans ?_
  blk_ext [idx t]

/-- The gates. At one place of a point's block. -/
theorem gate_point (t : Fin cfg0.N) (hB : t.val < 1) (r : Fin 128) (D : Fin 3072) :
    out0_19 (iblk m c 0 t) (iblk m c 1 t) (iblk m c 2 t) (iblk m c 3 t) (iblk m c 4 t) (iblk m c 5 t) (iblk m c 6 t) (iblk m c 7 t) (ix2 r D) = Ideal.logistic (zOf m c ⟨t.val * 128 + r.val, by omega⟩ ⟨2464 + D.val, by omega⟩) := by
  have H := row m c t r hB
  refine (SmPay.gate_at _ _ _ _ _ _ _ _ r D).trans ?_
  rw [H.mid _ (by dsimp only; omega) (by dsimp only; omega)]
  exact congrArg (fun p => Ideal.logistic (zOf m c ⟨t.val * 128 + r.val, by omega⟩ p)) (Fin.ext (by dsimp only; omega))

/-- The gates. -/
theorem gate_final (G : FVec Ideal S128x3072 .f32) (hG : ∀ (R : Fin 128) (D : Fin 3072), G (ix2 R D) = Ideal.logistic (zOf m c R ⟨2464 + D.val, by omega⟩)) : (dats m 0 c).arrAt 19 (cfgs 0).N = G := by
  refine (dats m 0 c).arrAt_eq_of_covers 19 _ (by decide +kernel) fun t hf y => ?_
  have hN : t.val < 1 := lt_of_lt_of_eq t.isLt N_0
  blk_simp
  rw [after0_19]
  idx_vars y
  refine (gate_point m c t hN y0 y1).trans ?_
  refine (hG ⟨t.val * 128 + y0.val, by omega⟩ y1).symm.trans ?_
  blk_ext [idx t]

end Cert.SmValue

end
-- ==== Proof.SmRef.lean ====
/- The sample's input projections' reference, read at one place. -/
module

public import proofs.«01_k».proof.Proof.Gen.Reference7Ideal.Run
public import proofs.«01_k».proof.Proof.SmMeet

@[expose] public section

set_option maxRecDepth 16384

noncomputable section

namespace Cert.SmRef
open Idealize.ShloMosaic Idealize.ShloMosaic.TcCoe Idealize.SL.Sem Idealize.ShloMosaic.StableHlo
open Cert.Reference7Ideal Cert.Reference7Ideal.Gen Cert.InSpec Cert.Reference7Ideal.Value
open Cert.InMeet (headQ1)

variable (V0 : Valuation τ sig (Elt Ideal))

/-- The residual rows, at their own type. -/
abbrev argX : FVec Ideal S128x1024 .f32 := V0 (Proc.devRef .tc main_arg0)
/-- The input norm's gain. -/
abbrev argG : FVec Ideal S1024 .f32 := V0 (Proc.devRef .tc main_arg1)
/-- The input matrix. -/
abbrev argW : FVec Ideal S1024x5536 .f32 := V0 (Proc.devRef .tc main_arg2)
/-- The query norm's gain. -/
abbrev argQg : FVec Ideal S384 .f32 := V0 (Proc.devRef .tc main_arg3)
/-- The query matrix. -/
abbrev argUq : FVec Ideal S384x768 .f32 := V0 (Proc.devRef .tc main_arg4)
/-- The latent norm's gain. -/
abbrev argKg : FVec Ideal S256 .f32 := V0 (Proc.devRef .tc main_arg5)
/-- The key matrix. -/
abbrev argUk : FVec Ideal S256x8x64 .f32 := V0 (Proc.devRef .tc main_arg6)
/-- The value matrix. -/
abbrev argUv : FVec Ideal S256x8x64 .f32 := V0 (Proc.devRef .tc main_arg7)

/-- A row's 5536 numbers. -/
def zOf (R : Fin 128) : Fin 5536 → EReal :=
  inner (rms 0x44800000#32 (fun k : Fin 1024 => argX V0 (ix2 R k)) (fun k => argG V0 (ix1 k))) (fun k p => argW V0 (ix2 k p))

/-- A row's 5536 numbers in the reference. -/
theorem z_at (R : Fin 128) (p : Fin 5536) : (res_main_v13 V0 : FVec Ideal S128x5536 .f32) (ix2 R p) = zOf V0 R p := by
  pointwise [res_main_v13]
  rfl

/-- The position. -/
theorem pos_at : (res_main_v25 V0 : IVec S1 32) (ix1 0) = BitVec.ofNat 32 8192 := by
  pointwise [res_main_v25]
  exact (BitVec.add_zero _)

/-- The queries before the rotation. -/
theorem query_at (b : Fin 128) (h : Fin 8) (e : Fin 96) : (res_main_v47 V0 : FVec Ideal S128x1x8x96 .f32) (ix4 b 0 h e)
    = query (zOf V0 b) (fun l => argQg V0 (ix1 l)) (fun l n => argUq V0 (ix2 l n)) ⟨h.val * 96 + e.val, by omega⟩ := by
  pointwise [res_main_v47, res_main_v16]
  simp only [z_at]
  rfl

/-- The latent rows. -/
theorem latent_at (R : Fin 128) (j : Fin 256) : (res_main_v94 V0 : FVec Ideal S128x256 .f32) (ix2 R j) = latent (zOf V0 R) (fun l => argKg V0 (ix1 l)) j := by
  pointwise [res_main_v94, res_main_v17]
  simp only [z_at]
  rfl

/-- The gated input. -/
theorem glu_at (R : Fin 128) (D : Fin 512) : (show FVec Ideal S128x512 .f32 from mulf (extractStridedSlice S128x512 ![0, 0] (res_main_v13 V0) slices_S128x5536_S128x512_0_0) (Host.divf (broadcastInDim S128x512 ![] bcast_S_S128x512 (constant S_ .f32 0x3F800000#32)) (addf (broadcastInDim S128x512 ![] bcast_S_S128x512 (constant S_ .f32 0x3F800000#32)) (Host.exp (Host.negf (extractStridedSlice S128x512 ![0, 512] (res_main_v13 V0) slices_S128x5536_S128x512_0_512)))))) (ix2 R D)
    = glu (zOf V0 R) D := by
  pointwise
  simp only [z_at]
  rfl

/-- The queries. -/
theorem headQ_at (R : Fin 128) (D : Fin 1024) : (show FVec Ideal S128x1024 .bf16 from truncf .bf16 (shapeCast _ (concatenate S128x1x8x128 3 [⟨S128x1x8x96, (concatenate S128x1x8x96 3 [⟨S128x1x8x64, (extractStridedSlice S128x1x8x64 ![0, 0, 0, 0] (res_main_v47 V0) slices_S128x1x8x96_S128x1x8x64_0_0_0_0)⟩, ⟨S128x1x8x32, (concatenate S128x1x8x32 3 [⟨S128x1x8x16, (subf (mulf (res_main_v64 V0) (broadcastInDim S128x1x8x16 ![0, 1, 2, 3] bcast_S1x1x1x16_S128x1x8x16_0_1_2_3 (broadcastInDim S1x1x1x16 ![1, 2, 3] bcast_S1x1x16_S1x1x1x16_1_2_3 (res_main_v62 V0)))) (mulf (res_main_v65 V0) (broadcastInDim S128x1x8x16 ![0, 1, 2, 3] bcast_S1x1x1x16_S128x1x8x16_0_1_2_3 (broadcastInDim S1x1x1x16 ![1, 2, 3] bcast_S1x1x16_S1x1x1x16_1_2_3 (res_main_v63 V0)))))⟩, ⟨S128x1x8x16, (addf (mulf (res_main_v64 V0) (broadcastInDim S128x1x8x16 ![0, 1, 2, 3] bcast_S1x1x1x16_S128x1x8x16_0_1_2_3 (broadcastInDim S1x1x1x16 ![1, 2, 3] bcast_S1x1x16_S1x1x1x16_1_2_3 (res_main_v63 V0)))) (mulf (res_main_v65 V0) (broadcastInDim S128x1x8x16 ![0, 1, 2, 3] bcast_S1x1x1x16_S128x1x8x16_0_1_2_3 (broadcastInDim S1x1x1x16 ![1, 2, 3] bcast_S1x1x16_S1x1x1x16_1_2_3 (res_main_v62 V0)))))⟩] concatenates_S128x1x8x16_S128x1x8x16_S128x1x8x32_d3)⟩] concatenates_S128x1x8x64_S128x1x8x32_S128x1x8x96_d3)⟩, ⟨S128x1x8x32, (res_main_v132 V0)⟩] concatenates_S128x1x8x96_S128x1x8x32_S128x1x8x128_d3) shapeCasts_S128x1x8x128_S128x1024) bitsLt_bf16_f32) (ix2 R D)
    = headQ1 (query (zOf V0 R) (fun l => argQg V0 (ix1 l)) (fun l n => argUq V0 (ix2 l n))) 8192 D := by
  pointwise [res_main_v64, res_main_v65, res_main_v49, res_main_v62, res_main_v63, res_main_v61, res_main_v132]
  simp only [query_at, pos_at]
  rfl

/-- The rotated part of the keys. -/
theorem keyR_at (R : Fin 128) (D : Fin 32) : (show FVec Ideal S128x32 .f32 from shapeCast _ (res_main_v125 V0) shapeCasts_S128x1x32_S128x32) (ix2 R D)
    = keyR (zOf V0 R) 8192 D := by
  pointwise [res_main_v125, res_main_v109, res_main_v110, res_main_v107, res_main_v108, res_main_v106, res_main_v95]
  simp only [z_at, pos_at]
  rfl

/-- The keys. -/
theorem headK_at (R : Fin 128) (D : Fin 1024) : (show FVec Ideal S128x1024 .bf16 from truncf .bf16 (shapeCast _ (concatenate S128x1x8x128 3 [⟨S128x1x8x96, (concatenate S128x1x8x96 3 [⟨S128x1x8x64, (Host.dotGeneral dot_S128x1x256_S256x8x64_S128x1x8x64_2_0_01_12_n_n none (shapeCast _ (show FVec Ideal S128x256 .f32 from res_main_v94 V0) shapeCasts_S128x256_S128x1x256) (argUk V0))⟩, ⟨S128x1x8x32, (broadcastInDim S128x1x8x32 ![0, 1, 2, 3] bcast_S128x1x1x32_S128x1x8x32_0_1_2_3 (broadcastInDim S128x1x1x32 ![0, 1, 3] bcast_S128x1x32_S128x1x1x32_0_1_3 (res_main_v125 V0)))⟩] concatenates_S128x1x8x64_S128x1x8x32_S128x1x8x96_d3)⟩, ⟨S128x1x8x32, (res_main_v132 V0)⟩] concatenates_S128x1x8x96_S128x1x8x32_S128x1x8x128_d3) shapeCasts_S128x1x8x128_S128x1024) bitsLt_bf16_f32) (ix2 R D)
    = headK (zOf V0 R) (fun l => argKg V0 (ix1 l)) (fun l h e => argUk V0 (ix3 l h e)) 8192 D := by
  pointwise [res_main_v125, res_main_v109, res_main_v110, res_main_v107, res_main_v108, res_main_v106, res_main_v95, res_main_v132]
  simp only [z_at, pos_at, latent_at]
  rfl

/-- The values. -/
theorem headV_at (R : Fin 128) (D : Fin 512) : (show FVec Ideal S128x512 .bf16 from truncf .bf16 (shapeCast _ (Host.dotGeneral dot_S128x256_S256x8x64_S128x8x64_1_0_0_12_n_n none (show FVec Ideal S128x256 .f32 from res_main_v94 V0) (argUv V0)) shapeCasts_S128x8x64_S128x512) bitsLt_bf16_f32) (ix2 R D)
    = headV (zOf V0 R) (fun l => argKg V0 (ix1 l)) (fun l h e => argUv V0 (ix3 l h e)) D := by
  pointwise
  simp only [latent_at]
  rfl

/-- The other attention's queries. -/
theorem sbQ_at (R : Fin 128) (D : Fin 1024) : (show FVec Ideal S128x1024 .bf16 from truncf .bf16 (shapeCast _ (concatenate S128x2x4x128 1 [⟨S128x1x4x128, (broadcastInDim S128x1x4x128 ![0, 2, 3] bcast_S128x4x128_S128x1x4x128_0_2_3 (concatenate S128x4x128 2 [⟨S128x4x64, (shapeCast _ (extractStridedSlice S128x1x4x64 ![0, 0, 0, 0] (res_main_v137 V0) slices_S128x2x4x64_S128x1x4x64_0_0_0_0) shapeCasts_S128x1x4x64_S128x4x64)⟩, ⟨S128x4x64, (res_main_v138 V0)⟩] concatenates_S128x4x64_S128x4x64_S128x4x128_d2))⟩, ⟨S128x1x4x128, (broadcastInDim S128x1x4x128 ![0, 2, 3] bcast_S128x4x128_S128x1x4x128_0_2_3 (concatenate S128x4x128 2 [⟨S128x4x64, (res_main_v138 V0)⟩, ⟨S128x4x64, (shapeCast _ (extractStridedSlice S128x1x4x64 ![0, 1, 0, 0] (res_main_v137 V0) slices_S128x2x4x64_S128x1x4x64_0_1_0_0) shapeCasts_S128x1x4x64_S128x4x64)⟩] concatenates_S128x4x64_S128x4x64_S128x4x128_d2))⟩] concatenates_S128x1x4x128_S128x1x4x128_S128x2x4x128_d1) shapeCasts_S128x2x4x128_S128x1024) bitsLt_bf16_f32) (ix2 R D)
    = sbQ (zOf V0 R) D := by
  pointwise [res_main_v137, res_main_v138]
  simp only [z_at]
  rfl

/-- The other attention's keys. -/
theorem sbK_at (R : Fin 128) (D : Fin 128) : (show FVec Ideal S128x128 .f32 from extractStridedSlice S128x128 ![0, 2208] (res_main_v13 V0) slices_S128x5536_S128x128_0_2208) (ix2 R D)
    = zOf V0 R ⟨2208 + D.val, by omega⟩ := by
  pointwise
  simp only [z_at]

/-- The other attention's values. -/
theorem sbV_at (R : Fin 128) (D : Fin 128) : (show FVec Ideal S128x128 .f32 from extractStridedSlice S128x128 ![0, 2336] (res_main_v13 V0) slices_S128x5536_S128x128_0_2336) (ix2 R D)
    = zOf V0 R ⟨2336 + D.val, by omega⟩ := by
  pointwise
  simp only [z_at]

/-- The keys once more, in the short type. -/
theorem sbKb_at (R : Fin 128) (D : Fin 128) : (show FVec Ideal S128x128 .bf16 from truncf .bf16 (extractStridedSlice S128x128 ![0, 2208] (res_main_v13 V0) slices_S128x5536_S128x128_0_2208) bitsLt_bf16_f32) (ix2 R D)
    = zOf V0 R ⟨2208 + D.val, by omega⟩ := by
  pointwise
  simp only [z_at]

/-- The values once more, in the short type. -/
theorem sbVb_at (R : Fin 128) (D : Fin 128) : (show FVec Ideal S128x128 .bf16 from truncf .bf16 (extractStridedSlice S128x128 ![0, 2336] (res_main_v13 V0) slices_S128x5536_S128x128_0_2336) bitsLt_bf16_f32) (ix2 R D)
    = zOf V0 R ⟨2336 + D.val, by omega⟩ := by
  pointwise
  simp only [z_at]

/-- The gates. -/
theorem gate_at (R : Fin 128) (D : Fin 3072) : (show FVec Ideal S128x3072 .f32 from Host.divf (broadcastInDim S128x3072 ![] bcast_S_S128x3072 (constant S_ .f32 0x3F800000#32)) (addf (broadcastInDim S128x3072 ![] bcast_S_S128x3072 (constant S_ .f32 0x3F800000#32)) (Host.exp (Host.negf (extractStridedSlice S128x3072 ![0, 2464] (res_main_v13 V0) slices_S128x5536_S128x3072_0_2464))))) (ix2 R D)
    = Ideal.logistic (zOf V0 R ⟨2464 + D.val, by omega⟩) := by
  pointwise
  simp only [z_at]
  rfl

end Cert.SmRef

end
-- ==== Proof.SmProj.lean ====
/- The claims about the sample's input projections. -/
module

public import proofs.«01_k».proof.Defs
public import proofs.«01_k».proof.Proof.Gen.Kernel7.Frame
public import proofs.«01_k».proof.Proof.SmValue
public import proofs.«01_k».proof.Proof.SmRef
public import Idealize.ShloMosaic.Lib.Claim

@[expose] public section

set_option maxRecDepth 16384

noncomputable section

namespace Cert.SmProj
open Idealize.ShloMosaic Idealize.ShloMosaic.TcCoe Idealize.SL.Sem
open Idealize.ShloMosaic.StableHlo (launchContents)

attribute [local instance] Cert.Kernel7.Gen.facts Cert.Kernel7Ideal.Gen.facts Cert.Reference7Ideal.Gen.facts

/-- The reference changes nothing and ends quiet. -/
theorem quiet_reference : Cert.quiescent_Reference7Ideal := by
  intro m g _
  refine (θ_run _ _ _).mono (fun r h => ⟨fun c => (h c).2.2.2.2.2.2.2.2.2.2.2.2, ?_⟩) (Cert.Reference7Ideal.Value.run m g)
  exact Idealize.ShloMosaic.sem_eq_zero_of_no_sems (by decide) r.2

/-- Kernel and reference leave the same twelve arrays. -/
theorem algebraic : Cert.algebraic_Kernel7Ideal_Reference7Ideal := by
  intro m g m' g' hpre hagree
  refine ⟨?_, ?_, ?_, ?_, ?_, ?_, ?_, ?_, ?_, ?_, ?_, ?_, ?k, ?r⟩
  case r => exact Cert.Reference7Ideal.Value.run m' g'
  case k =>
    refine (θ_run _ _ _).mono (fun r h c => ?_) (Cert.Kernel7Ideal.Value.run_blocks m g)
    obtain ⟨a0, a1, a2, a3, a4, a5, a6, a7⟩ := hagree c
    have hz : ∀ R, SmRef.zOf (launchContents m' c) R = SmValue.zOf m c R := fun R => by
      show InSpec.inner (InSpec.rms 0x44800000#32 (fun k : Fin 1024 => SmRef.argX (launchContents m' c) (ix2 R k)) (fun k => SmRef.argG (launchContents m' c) (ix1 k))) (fun k p => SmRef.argW (launchContents m' c) (ix2 k p)) = _
      have e0 : SmRef.argX (launchContents m' c) = SmHost.argX m c := a0
      have e1 : SmRef.argG (launchContents m' c) = SmHost.argG m c := a1
      have e2 : SmRef.argW (launchContents m' c) = SmHost.argW m c := a2
      rw [e0, e1, e2]
      rfl
    have e3 : SmRef.argQg (launchContents m' c) = SmHost.argQg m c := a3
    have e4 : SmRef.argUq (launchContents m' c) = SmHost.argUq m c := a4
    have e5 : SmRef.argKg (launchContents m' c) = SmHost.argKg m c := a5
    have e6 : SmRef.argUk (launchContents m' c) = SmHost.argUk m c := a6
    have e7 : SmRef.argUv (launchContents m' c) = SmHost.argUv m c := a7
    replace h := h c
    have f_glu := SmValue.glu_final m c _ fun R D => (SmRef.glu_at (launchContents m' c) R D).trans (by simp only [hz, e3, e4, e5, e6, e7])
    have f_query := SmValue.query_final m c _ fun R D => (SmRef.headQ_at (launchContents m' c) R D).trans (by simp only [hz, e3, e4, e5, e6, e7])
    have f_latent := SmValue.latent_final m c _ fun R D => (SmRef.latent_at (launchContents m' c) R D).trans (by simp only [hz, e3, e4, e5, e6, e7])
    have f_keyR := SmValue.keyR_final m c _ fun R D => (SmRef.keyR_at (launchContents m' c) R D).trans (by simp only [hz, e3, e4, e5, e6, e7])
    have f_key := SmValue.key_final m c _ fun R D => (SmRef.headK_at (launchContents m' c) R D).trans (by simp only [hz, e3, e4, e5, e6, e7])
    have f_value := SmValue.value_final m c _ fun R D => (SmRef.headV_at (launchContents m' c) R D).trans (by simp only [hz, e3, e4, e5, e6, e7])
    have f_sbQ := SmValue.sbQ_final m c _ fun R D => (SmRef.sbQ_at (launchContents m' c) R D).trans (by simp only [hz, e3, e4, e5, e6, e7])
    have f_sbK := SmValue.sbK_final m c _ fun R D => (SmRef.sbK_at (launchContents m' c) R D).trans (by simp only [hz, e3, e4, e5, e6, e7])
    have f_sbV := SmValue.sbV_final m c _ fun R D => (SmRef.sbV_at (launchContents m' c) R D).trans (by simp only [hz, e3, e4, e5, e6, e7])
    have f_sbKb := SmValue.sbKb_final m c _ fun R D => (SmRef.sbKb_at (launchContents m' c) R D).trans (by simp only [hz, e3, e4, e5, e6, e7])
    have f_sbVb := SmValue.sbVb_final m c _ fun R D => (SmRef.sbVb_at (launchContents m' c) R D).trans (by simp only [hz, e3, e4, e5, e6, e7])
    have f_gate := SmValue.gate_final m c _ fun R D => (SmRef.gate_at (launchContents m' c) R D).trans (by simp only [hz, e3, e4, e5, e6, e7])
    exact ⟨(h.1).trans f_glu, (h.2.1).trans f_query, (h.2.2.1).trans f_latent, (h.2.2.2.1).trans f_keyR, (h.2.2.2.2.1).trans f_key, (h.2.2.2.2.2.1).trans f_value, (h.2.2.2.2.2.2.1).trans f_sbQ, (h.2.2.2.2.2.2.2.1).trans f_sbK, (h.2.2.2.2.2.2.2.2.1).trans f_sbV, (h.2.2.2.2.2.2.2.2.2.1).trans f_sbKb, (h.2.2.2.2.2.2.2.2.2.2.1).trans f_sbVb, (h.2.2.2.2.2.2.2.2.2.2.2.1).trans f_gate, h.2.2.2.2.2.2.2.2.2.2.2.2⟩

end Cert.SmProj

end
-- ==== Proof.SmNormRef.lean ====
/- The sample's final norm's reference, read at one place. -/
module

public import proofs.«01_k».proof.Proof.Gen.Reference8Ideal.Run
public import proofs.«01_k».proof.Proof.RowFns

@[expose] public section

set_option maxRecDepth 16384

noncomputable section

namespace Cert.SmNormRef
open Idealize.ShloMosaic Idealize.ShloMosaic.TcCoe Idealize.SL.Sem
open Cert.Reference8Ideal Cert.Reference8Ideal.Gen Cert.RowFns

/-- The whole reference. -/
def result (x : FVec Ideal S128x1024 .f32) (g : FVec Ideal S1024 .f32) : FVec Ideal S128x1024 .f32 :=
  mulf (mulf x (broadcastInDim S128x1024 ![0, 1] bcast_S128x1_S128x1024_0_1 (Host.rsqrt (addf (Host.divf (broadcastInDim S128x1 ![0] bcast_S128_S128x1_0 (Host.reduceAdd (mulf x x) (constant S_ .f32 0x00000000#32) reducesTo_S128x1024_S128_d1 h_S_)) (broadcastInDim S128x1 ![] bcast_S_S128x1 (constant S_ .f32 0x44800000#32))) (broadcastInDim S128x1 ![] bcast_S_S128x1 (constant S_ .f32 0x358637BD#32)))))) (broadcastInDim S128x1024 ![0, 1] bcast_S1x1024_S128x1024_0_1 (broadcastInDim S1x1024 ![1] bcast_S1024_S1x1024_1 g))

/-- One number of the result. -/
theorem result_at (x : FVec Ideal S128x1024 .f32) (g : FVec Ideal S1024 .f32) (R : Fin 128) (C : Fin 1024) :
    result x g (ix2 R C) = normed (fun k => x (ix2 R k)) (g (ix1 C)) C := by
  pointwise [result]
  rfl

variable (m : (ℓ : Loc nD τ sig) → Buf (Elt Ideal) ℓ) (ρ : Dev nD → PrngReg)

/-- What the run leaves. -/
theorem run_result : θ_run defs (onTc (τ := τ) (main (F := Ideal))) ⟨m, fun _ => 0, ρ⟩ fun r => ∀ c : Dev nD,
      r.2.mem ((c.tc : Thread nD τ).loc main_v12) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.Reference8Ideal.Value.run m ρ

end Cert.SmNormRef

end
-- ==== Proof.SmNormValue.lean ====
/- The sample's final norm's array after the run is the reference's. -/
module

public import proofs.«01_k».proof.Proof.Gen.Kernel8Ideal.Value
public import proofs.«01_k».proof.Proof.SmNormRef
public import Idealize.ShloMosaic.Lib.Pipeline.ValueKit

@[expose] public section

set_option maxRecDepth 16384

noncomputable section

namespace Cert.SmNorm
open Idealize.ShloMosaic Idealize.ShloMosaic.TcCoe Idealize.SL.Sem
open Idealize.ShloMosaic.Pipeline (Dat)
open Cert.Kernel8Ideal Cert.Kernel8Ideal.Gen Cert.RowFns

/-- The windows' blocks at every grid point. -/
theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD)

/-- The residual rows, at their own type. -/
abbrev argX : FVec Ideal S128x1024 .f32 := m ((c : Thread nD τ).loc main_arg0)
/-- The gain. -/
abbrev argG : FVec Ideal S1024 .f32 := m ((c : Thread nD τ).loc main_arg1)

/-- The gain as the host hands it to the call: one row. -/
theorem gain_row : V m c main_v0 = broadcastInDim S1x1024 ![1] bcast_S1024_S1x1024_1 (argG m c) := by
  unfold V
  simp only [hostOps0, List.flatten_cons, List.flatten_nil, List.append_nil, List.cons_append]
  after_results_simp <;> rfl

/-- A point's block of rows. -/
theorem rows_at (t : Fin cfg0.N) (r : Fin 128) (k : Fin 1024) (hB : t.val < 1) :
    iblk m c 0 t (ix2 r k) = argX m c (ix2 ⟨t.val * 128 + r.val, by omega⟩ k) := by
  blk_ext [iblk, V, idx t]

/-- A point's gain. -/
theorem gain_at (t : Fin cfg0.N) (k : Fin 1024) : iblk m c 1 t (ix2 0 k) = argG m c (ix1 k) := by
  refine Eq.trans (b := (V m c main_v0 : FVec Ideal S1x1024 .f32) (ix2 0 k)) ?_ ?_
  · blk_ext [iblk, idx t]
  · rw [gain_row]
    pointwise

/-- What the body leaves at one place of a block. -/
theorem body_at (x : FVec Ideal S128x1024 .f32) (g : FVec Ideal S1x1024 .f32) (r : Fin 128) (d : Fin 1024) :
    out0_2 (F := Ideal) x g (ix2 r d) = normed (fun k => x (ix2 r k)) (g (ix2 0 d)) d := by
  frame_out
  pointwise [k0_pay1]
  rfl

/-- One number that a point leaves in the output. -/
theorem point (t : Fin cfg0.N) (hB : t.val < 1) (r : Fin 128) (d : Fin 1024) :
    out0_2 (iblk m c 0 t) (iblk m c 1 t) (ix2 r d) = Cert.SmNormRef.result (argX m c) (argG m c) (ix2 ⟨t.val * 128 + r.val, by omega⟩ d) := by
  refine (body_at _ _ r d).trans ?_
  rw [Cert.SmNormRef.result_at]
  exact congrArg₂ (fun x g => normed x g d) (funext fun k => rows_at m c t r k hB) (gain_at m c t d)

/-- The result array. -/
theorem final : (dats m 0 c).arrAt 2 (cfgs 0).N = Cert.SmNormRef.result (argX m c) (argG m c) := by
  refine (dats m 0 c).arrAt_eq_of_covers 2 _ (by decide +kernel) fun t hf y => ?_
  have hN : t.val < 1 := lt_of_lt_of_eq t.isLt N_0
  blk_simp
  rw [after0_2]
  idx_vars y
  refine (point m c t hN y0 y1).trans ?_
  blk_ext [idx t]

end Cert.SmNorm

end
-- ==== Proof.SmNorm.lean ====
/- The claims about the sample's final norm. -/
module

public import proofs.«01_k».proof.Defs
public import proofs.«01_k».proof.Proof.Gen.Kernel8.Frame
public import proofs.«01_k».proof.Proof.SmNormValue
public import Idealize.ShloMosaic.Lib.Claim

@[expose] public section

set_option maxRecDepth 16384

noncomputable section

namespace Cert.SmNorm
open Idealize.ShloMosaic Idealize.ShloMosaic.TcCoe Idealize.SL.Sem

attribute [local instance] Cert.Kernel8.Gen.facts Cert.Kernel8Ideal.Gen.facts Cert.Reference8Ideal.Gen.facts

/-- The reference changes nothing and ends quiet. -/
theorem quiet_reference : Cert.quiescent_Reference8Ideal := by
  intro m g _
  refine (θ_run _ _ _).mono (fun r h => ⟨fun c => (h c).2, ?_⟩) (Cert.Reference8Ideal.Value.run m g)
  exact Idealize.ShloMosaic.sem_eq_zero_of_no_sems (by decide) r.2

/-- Kernel and reference leave the same array. -/
theorem algebraic : Cert.algebraic_Kernel8Ideal_Reference8Ideal := by
  intro m g m' g' hpre hagree
  refine ⟨fun c => Cert.SmNormRef.result (argX m c) (argG m c), ?_, ?_⟩
  · refine (θ_run _ _ _).mono (fun r h c => ?_) (Cert.Kernel8Ideal.Value.run_blocks m g)
    exact ⟨(h c).1.trans (final m c), (h c).2⟩
  · refine (θ_run _ _ _).mono (fun r h c => ?_) (Cert.SmNormRef.run_result m' g')
    refine ⟨(h c).1.trans ?_, (h c).2⟩
    obtain ⟨a0, a1⟩ := hagree c
    rw [a0, a1]

end Cert.SmNorm

end
-- ==== Proof.RouteFin.lean ====
/- What finite arguments give the merge with the routing: every number it works with is real. -/
module

public import proofs.«01_k».proof.Pre_finite9
public import proofs.«01_k».proof.Proof.RowFns
public import Idealize.ShloMosaic.Lib.ReduceAll
public import Idealize.ShloMosaic.Lib.Pointwise

@[expose] public section

set_option maxRecDepth 16384

noncomputable section

namespace Cert.RouteFin
open Idealize.ShloMosaic Idealize.ShloMosaic.TcCoe
open Cert.RowFns Cert.Pre_finite9

/-- A real number. -/
def IsReal (x : EReal) : Prop := ∃ y : ℝ, x = y

/-- Plus infinity's word. -/
theorem word_inf : Ideal.ofBits .f32 0x7F800000#32 = ⊤ := by
  simp [Ideal.ofBits, Ideal.ieee]

/-- Minus infinity's word. -/
theorem word_neg_inf : Ideal.ofBits .f32 0xFF800000#32 = ⊥ := by
  simp [Ideal.ofBits, Ideal.ieee]

/-- The row length's word is a positive number. -/
theorem word_len : ∃ c : ℝ, 0 < c ∧ Ideal.ofBits .f32 0x44800000#32 = c := by
  refine ⟨_, ?_, by simp [Ideal.ofBits, Ideal.ieee]; rfl⟩
  positivity

/-- The norm's small word is a positive number. -/
theorem word_eps : ∃ c : ℝ, 0 < c ∧ Ideal.ofBits .f32 0x358637BD#32 = c := by
  refine ⟨_, ?_, by simp [Ideal.ofBits, Ideal.ieee]; rfl⟩
  positivity

/-- A sum of two real numbers is real. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- A product of two real numbers is real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A sum of reals, taken among the extended reals. -/
theorem coe_sum {ι : Type} (S : Finset ι) (f : ι → ℝ) : ((∑ d ∈ S, f d : ℝ) : EReal) = ∑ d ∈ S, (f d : EReal) := by
  classical
  induction S using Finset.induction_on with
  | empty => rfl
  | insert a S ha ih => rw [Finset.sum_insert ha, Finset.sum_insert ha, EReal.coe_add, ih]

/-- A finite sum of real numbers is real. -/
theorem IsReal.sum {n : ℕ} (f : Fin n → EReal) (h : ∀ k, IsReal (f k)) : IsReal (∑ k, f k) := by
  choose g hg using h
  refine ⟨∑ k, g k, ?_⟩
  rw [coe_sum]
  exact Finset.sum_congr rfl fun k _ => hg k

/-- A real number is not minus infinity. -/
theorem IsReal.ne_bot {x : EReal} (h : IsReal x) : x ≠ ⊥ := by
  obtain ⟨a, rfl⟩ := h
  exact EReal.coe_ne_bot a

/-- A real row's scale is real. -/
theorem scale_real (x : Fin 1024 → EReal) (h : ∀ k, IsReal (x k)) : IsReal (scale x) := by
  choose g hg using h
  obtain ⟨c, hc, ec⟩ := word_len
  obtain ⟨d, hd, ed⟩ := word_eps
  have e : (∑ k : Fin 1024, x k * x k) = ((∑ k : Fin 1024, g k * g k : ℝ) : EReal) := by
    rw [coe_sum]
    exact Finset.sum_congr rfl fun k _ => by rw [hg k, EReal.coe_mul]
  have hs : 0 ≤ ∑ k : Fin 1024, g k * g k := Finset.sum_nonneg fun k _ => mul_self_nonneg _
  have hp : 0 < (∑ k : Fin 1024, g k * g k) * (1 / c) + d := by positivity
  unfold scale
  rw [e, ec, ed, Ideal.div_coe hc.ne', ← EReal.coe_mul, ← EReal.coe_add, Ideal.rsqrt_coe, if_neg hp.le.not_gt, if_neg hp.ne']
  exact ⟨_, rfl⟩

/-- A real row, normed, is real. -/
theorem normed_real (x : Fin 1024 → EReal) (g : EReal) (h : ∀ k, IsReal (x k)) (hg : IsReal g) (j : Fin 1024) : IsReal (normed x g j) :=
  ((h j).mul (scale_real x h)).mul hg

/-- The merged row of real numbers is real. -/
theorem mergedRow_real (x : Fin 1024 → EReal) (gt : Fin 3072 → EReal) (c w s : Fin 512 → EReal) (wc ww ws : Fin 512 → Fin 1024 → EReal) (wo : Fin 1024 → Fin 1024 → EReal)
    (hx : ∀ k, IsReal (x k)) (hgt : ∀ k, IsReal (gt k)) (hc : ∀ k, IsReal (c k)) (hw : ∀ k, IsReal (w k)) (hs : ∀ k, IsReal (s k))
    (hwc : ∀ l k, IsReal (wc l k)) (hww : ∀ l k, IsReal (ww l k)) (hws : ∀ l k, IsReal (ws l k)) (hwo : ∀ l k, IsReal (wo l k)) (j : Fin 1024) :
    IsReal (mergedRow x gt c w s wc ww ws wo j) := by
  unfold mergedRow mixed
  refine (hx j).add (IsReal.sum _ fun k => IsReal.mul ?_ (hwo k j))
  refine (((hgt _).mul (IsReal.sum _ fun l => (hc l).mul (hwc l k))).add ((hgt _).mul (IsReal.sum _ fun l => (hw l).mul (hww l k)))).add
    ((hgt _).mul (IsReal.sum _ fun l => (hs l).mul (hws l k)))

/-- One number of a row of gates: the softmax of the two greatest numbers at their places. -/
def gateRow (L : Fin 8 → EReal) (p q : Fin 8) (E : Fin 128) : EReal :=
  (if BitVec.ofNat 32 E.val = BitVec.ofNat 32 p.val then Ideal.div 1 (1 + Ideal.exp (L q - L p)) else 0)
    + (if BitVec.ofNat 32 E.val = BitVec.ofNat 32 q.val then Ideal.exp (L q - L p) * Ideal.div 1 (1 + Ideal.exp (L q - L p)) else 0)

/-- A lane beyond the eighth is no place's. -/
theorem far (E : Fin 128) (p : Fin 8) (h : ¬E.val < 8) : ¬BitVec.ofNat 32 E.val = BitVec.ofNat 32 p.val := by
  intro e
  have e' := congrArg BitVec.toNat e
  rw [BitVec.toNat_ofNat, BitVec.toNat_ofNat, Nat.mod_eq_of_lt (lt_trans E.isLt (by decide)), Nat.mod_eq_of_lt (lt_trans p.isLt (by decide))] at e'
  omega

/-- An array whose absolute values are all under infinity is real everywhere. -/
theorem real_of_all {s t u : Shape} {axes : List (Fin s.rank)} [Subsingleton t.Idx] (x : FVec Ideal s .f32) (hb : S_.BroadcastsInDim s (![] : Fin 0 → Fin s.rank))
    (init : u.Idx → BitVec 1) (h : s.ReducesTo axes t) (hu : 0 < u.numel) (j : t.Idx)
    (e : Host.reduce IntOp.andi (cmpf .olt (Host.absf x) (broadcastInDim s ![] hb (constant (F := Ideal) S_ .f32 0x7F800000#32))) init h hu j = 1#1) (i : s.Idx) :
    IsReal (x i) := by
  have e1 := Host.reduce_andi_all _ _ _ _ _ e i
  have e2 : BitVec.ofBool (decide (max (x i) (-(x i)) < Ideal.ofBits .f32 0x7F800000#32)) = 1#1 := e1
  rw [word_inf] at e2
  have key : ∀ a : Bool, BitVec.ofBool a = 1#1 → a = true := by decide
  have e3 : max (x i) (-(x i)) < ⊤ := of_decide_eq_true (key _ e2)
  generalize x i = z at e3
  induction z using EReal.rec with
  | bot => simp at e3
  | top => simp at e3
  | coe y => exact ⟨y, rfl⟩

/-- What the precondition says: every argument is real everywhere. -/
theorem finite_real [Cert.Pre_finite9.Facts] (a0 : FVec Ideal S16384x1024 .f32) (a1 a2 a3 : FVec Ideal S16384x512 .bf16) (a4 : FVec Ideal S16384x3072 .bf16)
    (a5 a6 a7 : FVec Ideal S512x1024 .bf16) (a8 : FVec Ideal S1024x1024 .bf16) (a9 : FVec Ideal S1x1024 .f32) (a10 : FVec Ideal S1024x8 .f32)
    (h : Cert.Pre_finite9.fn (F := Ideal) a0 a1 a2 a3 a4 a5 a6 a7 a8 a9 a10 = fun _ => 1#1) :
    ((∀ i, IsReal (a0 i)) ∧ (∀ i, IsReal (a1 i)) ∧ (∀ i, IsReal (a2 i)) ∧ (∀ i, IsReal (a3 i)) ∧ (∀ i, IsReal (a4 i)))
    ∧ (∀ i, IsReal (a5 i)) ∧ (∀ i, IsReal (a6 i)) ∧ (∀ i, IsReal (a7 i)) ∧ (∀ i, IsReal (a8 i)) ∧ (∀ i, IsReal (a9 i)) ∧ (∀ i, IsReal (a10 i)) := by
  haveI : Subsingleton Cert.Pre_finite9.S_.Idx := ⟨fun a b => funext fun k => k.elim0⟩
  have e := congrFun h (fun k => k.elim0)
  unfold fn fn_part1 fn_part2 fn_part3 at e
  obtain ⟨e, h10⟩ := IntOp.andi_eq_one.1 e
  obtain ⟨e, h9⟩ := IntOp.andi_eq_one.1 e
  obtain ⟨e, h8⟩ := IntOp.andi_eq_one.1 e
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨e, h1⟩ := IntOp.andi_eq_one.1 e
  obtain ⟨e, h0⟩ := IntOp.andi_eq_one.1 e
  exact ⟨⟨fun i => real_of_all _ _ _ _ _ _ h0 i, fun i => real_of_all _ _ _ _ _ _ h1 i, fun i => real_of_all _ _ _ _ _ _ h2 i, fun i => real_of_all _ _ _ _ _ _ h3 i,
    fun i => real_of_all _ _ _ _ _ _ h4 i⟩, fun i => real_of_all _ _ _ _ _ _ h5 i, fun i => real_of_all _ _ _ _ _ _ h6 i, fun i => real_of_all _ _ _ _ _ _ h7 i,
    fun i => real_of_all _ _ _ _ _ _ h8 i, fun i => real_of_all _ _ _ _ _ _ h9 i, fun i => real_of_all _ _ _ _ _ _ h10 i⟩

end Cert.RouteFin

end
-- ==== Proof.Top2.lean ====
/- The two greatest of eight numbers, the lower place first among equals: what a stable sort puts first and second, and what
   two rounds of "the maximum, then the lowest lane that has it" over 128 lanes find. -/
module

public import Idealize.ShloMosaic.Lib.SortFacts
public import Idealize.ShloMosaic.Lib.SortNet.Extract
public import Idealize.ShloMosaic.PureOps.Ideal.Laws

@[expose] public section

noncomputable section

namespace Cert.Top2
open Idealize.ShloMosaic

/-- `a` comes before `b`: greater, or equal and at the lower place. -/
def Ahead (L : Fin 8 → EReal) (a b : Fin 8) : Prop := L b < L a ∨ (L a = L b ∧ a < b)

/-- Inserting a place below every place of an ordered list leaves it ordered. -/
theorem insert_ahead (L : Fin 8 → EReal) (a : Fin 8) (l : List (Fin 8)) (ha : ∀ b ∈ l, a < b) (hl : l.Pairwise (Ahead L)) :
    (insertBefore (fun x y => decide (L y < L x)) a l).Pairwise (Ahead L) := by
  induction l with
  | nil => simp [insertBefore]
  | cons b l ih =>
    obtain ⟨hb, hl'⟩ := List.pairwise_cons.mp hl
    unfold insertBefore
    split
    · next h =>
      have hba : L a < L b := by simpa using h
      refine List.pairwise_cons.mpr ⟨fun x hx => ?_, ih (fun x hx => ha x (List.mem_cons_of_mem _ hx)) hl'⟩
      rcases List.mem_cons.mp ((perm_insertBefore _ a l).mem_iff.mp hx) with rfl | hx'
      · exact Or.inl hba
      · exact hb x hx'
    · next h =>
      have hab : L b ≤ L a := by simpa using h
      refine List.pairwise_cons.mpr ⟨fun x hx => ?_, hl⟩
      have hPx := ha x hx
      have hle : L x ≤ L a := by
        rcases List.mem_cons.mp hx with rfl | hx'
        · exact hab
        · rcases hb x hx' with h1 | ⟨h1, -⟩
          · exact h1.le.trans hab
          · exact h1.symm.le.trans hab
      rcases lt_or_eq_of_le hle with h1 | h1
      · exact Or.inl h1
      · exact Or.inr ⟨h1.symm, hPx⟩

/-- The stable sort of an increasing list of places leaves it ordered. -/
theorem sort_ahead (L : Fin 8 → EReal) (l : List (Fin 8)) (hl : l.Pairwise (· < ·)) :
    (stableSort (fun x y => decide (L y < L x)) l).Pairwise (Ahead L) := by
  induction l with
  | nil => simp [stableSort]
  | cons a l ih =>
    obtain ⟨ha, hl'⟩ := List.pairwise_cons.mp hl
    unfold stableSort
    exact insert_ahead L a _ (fun b hb => ha b ((perm_stableSort _ l).mem_iff.mp hb)) (ih hl')

/-- Earlier sorted places come before later ones. -/
theorem sorted_ahead (L : Fin 8 → EReal) (B : Fin 8 → Fin 8 → Bool) (hB : ∀ a b, B a b = decide (L b < L a)) (i j : Fin 8) (h : i < j) :
    Ahead L (sortedFrom B i) (sortedFrom B j) := by
  obtain rfl : B = fun x y => decide (L y < L x) := funext fun a => funext fun b => hB a b
  have hp := sort_ahead L (List.finRange 8) (List.pairwise_lt_finRange 8)
  exact List.pairwise_iff_get.mp hp _ _ h

/-- `p` and `q` are the first and the second place. -/
structure Top (L : Fin 8 → EReal) (p q : Fin 8) : Prop where
  ne : p ≠ q
  first : ∀ j, j ≠ p → Ahead L p j
  second : ∀ j, j ≠ p → j ≠ q → Ahead L q j

/-- What a stable sort puts first and second. -/
theorem top_sorted (L : Fin 8 → EReal) (B : Fin 8 → Fin 8 → Bool) (hB : ∀ a b, B a b = decide (L b < L a)) :
    Top L (sortedFrom B 0) (sortedFrom B 1) := by
  refine ⟨fun h => absurd (sortedFrom_injective B h) (by decide), fun j hj => ?_, fun j hj hj' => ?_⟩
  · obtain ⟨k, rfl⟩ := sortedFrom_surjective B j
    exact sorted_ahead L B hB 0 k (Fin.pos_of_ne_zero fun h => hj (by rw [h]))
  · obtain ⟨k, rfl⟩ := sortedFrom_surjective B j
    have h0 : k ≠ 0 := fun h => hj (by rw [h])
    have h1 : k ≠ 1 := fun h => hj' (by rw [h])
    exact sorted_ahead L B hB 1 k (Fin.lt_def.mpr (by
      have a0 : k.val ≠ 0 := fun e => h0 (Fin.ext e)
      have a1 : k.val ≠ 1 := fun e => h1 (Fin.ext e)
      show 1 < k.val
      omega))

/-- A maximum over lanes is the greatest lane's value. -/
theorem fold_max_at {n : Nat} (f : Fin n → EReal) (p : Fin n) (h : ∀ k, f k ≤ f p) : Finset.univ.fold max (⊥ : EReal) f = f p := by
  refine le_antisymm (Finset.fold_max_le _ |>.mpr ⟨bot_le, fun k _ => h k⟩) ?_
  exact (Finset.le_fold_max _).mpr (Or.inr ⟨p, Finset.mem_univ p, le_rfl⟩)

/-- A signed minimum over lanes, read as integers. -/
theorem toInt_fold (n : Nat) (g : Fin n → BitVec 32) (b : BitVec 32) :
    (Finset.univ.fold IKind.minsi.op b g).toInt = Finset.univ.fold min b.toInt (fun k => (g k).toInt) :=
  (Finset.fold_hom (op := IKind.minsi.op) (op' := (min : Int → Int → Int)) (m := BitVec.toInt) (fun x y => SortNet.toInt_minsi x y)).symm

/-- A lane's number as an integer. -/
theorem toInt_lane (k : Nat) (h : k < 129) : (BitVec.ofNat 32 k).toInt = k := by
  rw [BitVec.toInt_eq_toNat_of_lt (by rw [BitVec.toNat_ofNat]; omega), BitVec.toNat_ofNat, Nat.mod_eq_of_lt (by omega)]

/-- The lowest of the marked lanes. -/
theorem fold_min_at (g : Fin 128 → BitVec 32) (p : Fin 128) (hp : g p = BitVec.ofNat 32 p.val)
    (h : ∀ k, (g k = BitVec.ofNat 32 k.val ∧ p ≤ k) ∨ g k = 128#32) :
    Finset.univ.fold IKind.minsi.op 2147483647#32 g = BitVec.ofNat 32 p.val := by
  apply BitVec.eq_of_toInt_eq
  have hpl : (BitVec.ofNat 32 p.val).toInt = (p.val : Int) := toInt_lane _ (lt_trans p.isLt (by decide))
  rw [toInt_fold, hpl]
  have c0 : (2147483647#32 : BitVec 32).toInt = 2147483647 := by decide
  have c1 : (128#32 : BitVec 32).toInt = 128 := by decide
  have hp' := p.isLt
  refine le_antisymm ?_ ?_
  · exact (Finset.fold_min_le _).mpr (Or.inr ⟨p, Finset.mem_univ p, by rw [hp, hpl]⟩)
  · refine (Finset.le_fold_min _).mpr ⟨?_, fun k _ => ?_⟩
    · rw [c0]; omega
    · rcases h k with ⟨hk, hle⟩ | hk
      · have hle' : p.val ≤ k.val := hle
        have hkl : (BitVec.ofNat 32 k.val).toInt = (k.val : Int) := toInt_lane _ (lt_trans k.isLt (by decide))
        rw [hk, hkl]; omega
      · rw [hk, c1]; omega

variable (L : Fin 8 → EReal) (p q : Fin 8)

/-- Eight numbers in the first of 128 lanes, nothing in the others. -/
def lanes (k : Fin 128) : EReal := if h : k.val < 8 then L ⟨k.val, h⟩ else ⊥

/-- A place as a lane. -/
def lane (p : Fin 8) : Fin 128 := ⟨p.val, by omega⟩

/-- A place's lane has its number. -/
theorem lanes_lane : lanes L (lane p) = L p := by
  unfold lanes lane
  exact dif_pos p.isLt

/-- The lanes without the first place's. -/
def others (k : Fin 128) : EReal := if k = lane p then ⊥ else lanes L k

variable {L p q}

/-- Coming before is at least as great. -/
theorem Ahead.le {a b : Fin 8} (h : Ahead L a b) : L b ≤ L a := by
  rcases h with h | ⟨h, -⟩
  · exact h.le
  · exact h.symm.le

/-- The first round's maximum. -/
theorem max_first (h : Top L p q) : Finset.univ.fold max (⊥ : EReal) (lanes L) = L p := by
  rw [fold_max_at _ (lane p) ?_, lanes_lane]
  intro k
  rw [lanes_lane]
  unfold lanes
  split
  · next hk =>
    by_cases e : (⟨k.val, hk⟩ : Fin 8) = p
    · rw [e]
    · exact (h.first _ e).le
  · exact bot_le

/-- The first round's lane. -/
theorem min_first (hL : ∀ j, L j ≠ ⊥) (h : Top L p q) (g : Fin 128 → BitVec 32)
    (hg : ∀ k, g k = if lanes L k = L p then BitVec.ofNat 32 k.val else 128#32) :
    Finset.univ.fold IKind.minsi.op 2147483647#32 g = BitVec.ofNat 32 p.val := by
  refine fold_min_at g (lane p) (by rw [hg, if_pos (lanes_lane L p)]) fun k => ?_
  rw [hg]
  split
  · next hk =>
    refine Or.inl ⟨rfl, ?_⟩
    unfold lanes at hk
    split at hk
    · next h8 =>
      by_cases e : (⟨k.val, h8⟩ : Fin 8) = p
      · exact le_of_eq (Fin.ext (by rw [← e]; rfl))
      · rcases h.first _ e with hlt | ⟨-, hlt⟩
        · exact absurd hk hlt.ne
        · exact le_of_lt hlt
    · exact absurd hk.symm (hL p)
  · exact Or.inr rfl

/-- The other lanes at the second place. -/
theorem others_lane (h : Top L p q) : others L p (lane q) = L q := by
  unfold others
  rw [if_neg (fun e : lane q = lane p => h.ne (Fin.ext (show p.val = q.val from (congrArg Fin.val e).symm))), lanes_lane]

/-- The second round's maximum. -/
theorem max_second (h : Top L p q) : Finset.univ.fold max (⊥ : EReal) (others L p) = L q := by
  rw [fold_max_at _ (lane q) ?_, others_lane h]
  intro k
  rw [others_lane h]
  unfold others
  split
  · exact bot_le
  · next hp =>
    unfold lanes
    split
    · next hk =>
      by_cases e : (⟨k.val, hk⟩ : Fin 8) = q
      · rw [e]
      · exact (h.second _ (fun e' => hp (Fin.ext (by rw [← e']; rfl))) e).le
    · exact bot_le

/-- The second round's lane. -/
theorem min_second (hL : ∀ j, L j ≠ ⊥) (h : Top L p q) (g : Fin 128 → BitVec 32)
    (hg : ∀ k, g k = if others L p k = L q then BitVec.ofNat 32 k.val else 128#32) :
    Finset.univ.fold IKind.minsi.op 2147483647#32 g = BitVec.ofNat 32 q.val := by
  refine fold_min_at g (lane q) (by rw [hg, if_pos (others_lane h)]) fun k => ?_
  rw [hg]
  split
  · next hk =>
    refine Or.inl ⟨rfl, ?_⟩
    unfold others at hk
    split at hk
    · exact absurd hk.symm (hL q)
    · next hp =>
      unfold lanes at hk
      split at hk
      · next h8 =>
        by_cases e : (⟨k.val, h8⟩ : Fin 8) = q
        · exact le_of_eq (Fin.ext (by rw [← e]; rfl))
        · rcases h.second _ (fun e' => hp (Fin.ext (by rw [← e']; rfl))) e with hlt | ⟨-, hlt⟩
          · exact absurd hk hlt.ne
          · exact le_of_lt hlt
      · exact absurd hk.symm (hL q)
  · exact Or.inr rfl

/-- The softmax over two numbers, the first the greater, written two ways. -/
theorem soft (a b : ℝ) :
    Ideal.div 1 (1 + Ideal.exp ((b : EReal) - (a : EReal))) = Ideal.div (Ideal.exp ((a : EReal) - (a : EReal))) (Ideal.exp ((a : EReal) - (a : EReal)) + Ideal.exp ((b : EReal) - (a : EReal)))
    ∧ Ideal.exp ((b : EReal) - (a : EReal)) * Ideal.div 1 (1 + Ideal.exp ((b : EReal) - (a : EReal)))
      = Ideal.div (Ideal.exp ((b : EReal) - (a : EReal))) (Ideal.exp ((a : EReal) - (a : EReal)) + Ideal.exp ((b : EReal) - (a : EReal))) := by
  have h1 : Ideal.exp ((a : EReal) - (a : EReal)) = 1 := by
    rw [← EReal.coe_sub, Ideal.exp_coe, sub_self, Real.exp_zero]; rfl
  have h2 : Ideal.exp ((b : EReal) - (a : EReal)) = ((Real.exp (b - a) : ℝ) : EReal) := by
    rw [← EReal.coe_sub, Ideal.exp_coe]
  have h3 : (1 : EReal) + ((Real.exp (b - a) : ℝ) : EReal) = ((1 + Real.exp (b - a) : ℝ) : EReal) := by
    rw [EReal.coe_add]; rfl
  have h4 : (1 + Real.exp (b - a) : ℝ) ≠ 0 := by positivity
  rw [h1, h2, h3]
  refine ⟨rfl, ?_⟩
  rw [Ideal.div_coe h4, Ideal.div_coe h4, one_mul]

end Cert.Top2

end
-- ==== Proof.RouteRef.lean ====
/- The merge with the routing in the reference, read at one place: the gated sum through the output matrix, and its norm. -/
module

public import proofs.«01_k».proof.Proof.Gen.Reference9Ideal.Run
public import proofs.«01_k».proof.Proof.RowFns
public import proofs.«01_k».proof.Proof.RouteFin
public import proofs.«01_k».proof.Proof.Top2

@[expose] public section

set_option maxRecDepth 16384

noncomputable section

namespace Cert.RouteRef
open Idealize.ShloMosaic Idealize.ShloMosaic.TcCoe Idealize.SL.Sem
open Cert.Reference9Ideal Cert.Reference9Ideal.Gen Cert.RowFns

/-- The gates, one row of 1024 for each of the three branches. -/
def gates (gt : FVec Ideal S16384x3072 .bf16) : FVec Ideal S16384x3x1024 .f32 :=
  shapeCast _ (extf .f32 gt bitsLt_bf16_f32) shapeCasts_S16384x3072_S16384x3x1024

/-- A gate at a place. -/
theorem gates_at (gt : FVec Ideal S16384x3072 .bf16) (R : Fin 16384) (b : Fin 3) (C : Fin 1024) :
    gates gt (ix3 R b C) = gt (ix2 R ⟨b.val * 1024 + C.val, by omega⟩) := by
  pointwise [gates]

/-- One branch through its matrix. -/
def branch (y : FVec Ideal S16384x512 .bf16) (w : FVec Ideal S512x1024 .bf16) : FVec Ideal S16384x1024 .f32 :=
  Host.dotGeneral dot_S16384x512_S512x1024_S16384x1024_1_0_0_1_n_n none (extf .f32 y bitsLt_bf16_f32) (extf .f32 w bitsLt_bf16_f32)

/-- A branch at a place. -/
theorem branch_at (y : FVec Ideal S16384x512 .bf16) (w : FVec Ideal S512x1024 .bf16) (R : Fin 16384) (C : Fin 1024) :
    branch y w (ix2 R C) = ∑ k : Fin 512, y (ix2 R k) * w (ix2 k C) := by
  pointwise [branch]

/-- The gated sum of the three branches. -/
def merged (co mo so : FVec Ideal S16384x512 .bf16) (gt : FVec Ideal S16384x3072 .bf16) (wc wm ws : FVec Ideal S512x1024 .bf16) : FVec Ideal S16384x1024 .f32 :=
  addf (addf (mulf (shapeCast _ (extractStridedSlice S16384x1x1024 ![0, 0, 0] (gates gt) slices_S16384x3x1024_S16384x1x1024_0_0_0) shapeCasts_S16384x1x1024_S16384x1024) (branch co wc))
    (mulf (shapeCast _ (extractStridedSlice S16384x1x1024 ![0, 1, 0] (gates gt) slices_S16384x3x1024_S16384x1x1024_0_1_0) shapeCasts_S16384x1x1024_S16384x1024) (branch mo wm)))
    (mulf (shapeCast _ (extractStridedSlice S16384x1x1024 ![0, 2, 0] (gates gt) slices_S16384x3x1024_S16384x1x1024_0_2_0) shapeCasts_S16384x1x1024_S16384x1024) (branch so ws))

/-- The gated sum at a place. -/
theorem merged_at (co mo so : FVec Ideal S16384x512 .bf16) (gt : FVec Ideal S16384x3072 .bf16) (wc wm ws : FVec Ideal S512x1024 .bf16) (R : Fin 16384) (C : Fin 1024) :
    merged co mo so gt wc wm ws (ix2 R C) = mixed (fun b => gt (ix2 R ⟨b.val * 1024 + C.val, by omega⟩)) (fun k : Fin 512 => co (ix2 R k)) (fun k => mo (ix2 R k)) (fun k => so (ix2 R k))
      (fun k => wc (ix2 k C)) (fun k => wm (ix2 k C)) (fun k => ws (ix2 k C)) := by
  pointwise [merged]
  simp only [branch_at]
  refine congrArg₂ (· + ·) (congrArg₂ (· + ·) ?_ ?_) ?_
  · exact congrArg (· * _) (gates_at gt R 0 C)
  · exact congrArg (· * _) (gates_at gt R 1 C)
  · exact congrArg (· * _) (gates_at gt R 2 C)

/-- The first result: the residual rows with the merge added. -/
def sum (x : FVec Ideal S16384x1024 .f32) (co mo so : FVec Ideal S16384x512 .bf16) (gt : FVec Ideal S16384x3072 .bf16) (wc wm ws : FVec Ideal S512x1024 .bf16)
    (wo : FVec Ideal S1024x1024 .bf16) : FVec Ideal S16384x1024 .f32 :=
  addf x (Host.dotGeneral dot_S16384x1024_S1024x1024_S16384x1024_1_0_0_1_n_n none (merged co mo so gt wc wm ws) (extf .f32 wo bitsLt_bf16_f32))

/-- The first result at a place. -/
theorem sum_at (x : FVec Ideal S16384x1024 .f32) (co mo so : FVec Ideal S16384x512 .bf16) (gt : FVec Ideal S16384x3072 .bf16) (wc wm ws : FVec Ideal S512x1024 .bf16)
    (wo : FVec Ideal S1024x1024 .bf16) (R : Fin 16384) (C : Fin 1024) :
    sum x co mo so gt wc wm ws wo (ix2 R C) = mergedRow (fun k => x (ix2 R k)) (fun k => gt (ix2 R k)) (fun k => co (ix2 R k)) (fun k => mo (ix2 R k)) (fun k => so (ix2 R k))
      (fun l k => wc (ix2 l k)) (fun l k => wm (ix2 l k)) (fun l k => ws (ix2 l k)) (fun l k => wo (ix2 l k)) C := by
  pointwise [sum]
  simp only [merged_at]
  rfl

/-- The first result normed, before it is narrowed. -/
def wide (s : FVec Ideal S16384x1024 .f32) (g : FVec Ideal S1x1024 .f32) : FVec Ideal S16384x1024 .f32 :=
  mulf (mulf s (broadcastInDim S16384x1024 ![0, 1] bcast_S16384x1_S16384x1024_0_1 (Host.rsqrt (addf (Host.divf (broadcastInDim S16384x1 ![0] bcast_S16384_S16384x1_0 (Host.reduceAdd (mulf s s) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast _ g shapeCasts_S1x1024_S1024)))

/-- The normed rows at a place. -/
theorem wide_at (s : FVec Ideal S16384x1024 .f32) (g : FVec Ideal S1x1024 .f32) (R : Fin 16384) (C : Fin 1024) :
    wide s g (ix2 R C) = normed (fun k => s (ix2 R k)) (g (ix2 0 C)) C := by
  pointwise [wide]
  rfl

/-- The second result: the normed rows. -/
def norm (s : FVec Ideal S16384x1024 .f32) (g : FVec Ideal S1x1024 .f32) : FVec Ideal S16384x1024 .bf16 := truncf .bf16 (wide s g) bitsLt_bf16_f32

/-- The second result at a place. -/
theorem norm_at (s : FVec Ideal S16384x1024 .f32) (g : FVec Ideal S1x1024 .f32) (R : Fin 16384) (C : Fin 1024) :
    norm s g (ix2 R C) = normed (fun k => s (ix2 R k)) (g (ix2 0 C)) C := wide_at s g R C

/-- The router's logits. -/
def logits (s : FVec Ideal S16384x1024 .f32) (g : FVec Ideal S1x1024 .f32) (w : FVec Ideal S1024x8 .f32) : FVec Ideal S16384x8 .f32 :=
  Host.dotGeneral dot_S16384x1024_S1024x8_S16384x8_1_0_0_1_n_n none (wide s g) w

/-- A logit. -/
theorem logits_at (s : FVec Ideal S16384x1024 .f32) (g : FVec Ideal S1x1024 .f32) (w : FVec Ideal S1024x8 .f32) (R : Fin 16384) (E : Fin 8) :
    logits s g w (ix2 R E) = ∑ k : Fin 1024, normed (fun l => s (ix2 R l)) (g (ix2 0 k)) k * w (ix2 k E) := by
  pointwise [logits]
  exact Finset.sum_congr rfl fun k _ => congrArg (· * _) (wide_at s g R k)

/-- The two greatest logits of each row, and where they are. -/
def top (l : FVec Ideal S16384x8 .f32) : FVec Ideal S16384x2 .f32 × IVec S16384x2 32 :=
  Host.topK S16384x2 1 (FloatOps.cmpfTotal .gt) l sliceFits_S16384x8_S16384x2

/-- Which of two places of a row a descending sort puts first. -/
def before (l : FVec Ideal S16384x8 .f32) (R : Fin 16384) (a b : Fin 8) : Bool := FloatOps.cmpfTotal (F := Ideal) (φ := .f32) .gt (l (ix2 R a)) (l (ix2 R b)) == 1#1

/-- It compares the logits. -/
theorem before_eq (l : FVec Ideal S16384x8 .f32) (R : Fin 16384) (a b : Fin 8) : before l R a b = decide (l (ix2 R b) < l (ix2 R a)) := by
  have key : ∀ x : Bool, (BitVec.ofBool x == 1#1) = x := by decide
  exact key (decide (l (ix2 R b) < l (ix2 R a)))

/-- A row's other places. -/
theorem along_row (R : Fin 16384) (k k' : Fin 8) : Shape.Idx.along (s := S16384x8) (ix2 R k) 1 k' = ix2 R k' := by
  funext a
  match a with
  | 0 => rfl
  | 1 => rfl

/-- The greatest logits at a place. -/
theorem top_at (l : FVec Ideal S16384x8 .f32) (R : Fin 16384) (k : Fin 2) :
    (top l).1 (ix2 R k) = l (ix2 R (sortedFrom (before l R) ⟨k.val, by omega⟩))
    ∧ (top l).2 (ix2 R k) = BitVec.ofNat 32 (sortedFrom (before l R) ⟨k.val, by omega⟩).val := by
  have hs : ∀ i : S16384x8.Idx, i = ix2 R (⟨k.val, by omega⟩ : Fin 8) →
      (Host.sort2 S16384x8 1 (fun a b : Ideal .f32 × BitVec 32 => FloatOps.cmpfTotal .gt a.1 b.1) l (iotaInDim S16384x8 32 1)).1 i = l (ix2 R (sortedFrom (before l R) ⟨k.val, by omega⟩))
      ∧ (Host.sort2 S16384x8 1 (fun a b : Ideal .f32 × BitVec 32 => FloatOps.cmpfTotal .gt a.1 b.1) l (iotaInDim S16384x8 32 1)).2 i = BitVec.ofNat 32 (sortedFrom (before l R) ⟨k.val, by omega⟩).val := by
    rintro i rfl
    unfold Host.sort2
    rw [dif_pos (by decide)]
    have hb : (fun a b : Fin 8 => FloatOps.cmpfTotal (F := Ideal) (φ := .f32) .gt (l (Shape.Idx.along (s := S16384x8) (ix2 R (⟨k.val, by omega⟩ : Fin 8)) 1 a)) (l (Shape.Idx.along (s := S16384x8) (ix2 R (⟨k.val, by omega⟩ : Fin 8)) 1 b)) == 1#1) = before l R := by
      funext a b
      rw [along_row, along_row]
      rfl
    constructor
    · show l (Shape.Idx.along (s := S16384x8) (ix2 R (⟨k.val, by omega⟩ : Fin 8)) 1 (sortedFrom (fun a b : Fin 8 => FloatOps.cmpfTotal (F := Ideal) (φ := .f32) .gt (l (Shape.Idx.along (s := S16384x8) (ix2 R (⟨k.val, by omega⟩ : Fin 8)) 1 a)) (l (Shape.Idx.along (s := S16384x8) (ix2 R (⟨k.val, by omega⟩ : Fin 8)) 1 b)) == 1#1) (⟨k.val, by omega⟩ : Fin 8))) = _
      rw [hb]
      exact congrArg l (along_row R _ _)
    · show iotaInDim S16384x8 32 1 (Shape.Idx.along (s := S16384x8) (ix2 R (⟨k.val, by omega⟩ : Fin 8)) 1 (sortedFrom (fun a b : Fin 8 => FloatOps.cmpfTotal (F := Ideal) (φ := .f32) .gt (l (Shape.Idx.along (s := S16384x8) (ix2 R (⟨k.val, by omega⟩ : Fin 8)) 1 a)) (l (Shape.Idx.along (s := S16384x8) (ix2 R (⟨k.val, by omega⟩ : Fin 8)) 1 b)) == 1#1) (⟨k.val, by omega⟩ : Fin 8))) = _
      rw [hb]
      exact (congrArg (iotaInDim S16384x8 32 1) (along_row R _ _)).trans rfl
  have hi : (fun i : S16384x8.Idx => if hd : 1 < S16384x8.rank then iotaInDim S16384x8 32 ⟨1, hd⟩ i else 0#32) = iotaInDim S16384x8 32 1 := rfl
  unfold top Host.topK
  rw [hi]
  unfold extractStridedSlice
  have hz : ∀ i : S16384x8.Idx, (∀ a, (i a).val = ((ix2 R k : S16384x2.Idx) (a.cast rfl)).val) → i = ix2 R (⟨k.val, by omega⟩ : Fin 8) := by
    intro i h
    funext a
    match a with
    | 0 => exact Fin.ext (h 0)
    | 1 => exact Fin.ext (h 1)
  exact ⟨(hs _ (hz _ fun a => by dsimp only; exact Nat.zero_add _)).1, (hs _ (hz _ fun a => by dsimp only; exact Nat.zero_add _)).2⟩

/-- The weights: a softmax over the two greatest. -/
def weights (v : FVec Ideal S16384x2 .f32) : FVec Ideal S16384x2 .f32 :=
  Host.divf (Host.exp (subf v (broadcastInDim S16384x2 ![0, 1] bcast_S16384x1_S16384x2_0_1 (broadcastInDim S16384x1 ![0] bcast_S16384_S16384x1_0 (maximumf (broadcastInDim S16384 ![] bcast_S_S16384 (constant S_ .f32 0xFF800000#32)) (Host.reduce FloatOps.maximumf v (constant S_ .f32 0xFF800000#32) reducesTo_S16384x2_S16384_d1 h_S_)))))) (broadcastInDim S16384x2 ![0, 1] bcast_S16384x1_S16384x2_0_1 (broadcastInDim S16384x1 ![0] bcast_S16384_S16384x1_0 (Host.reduceAdd (Host.exp (subf v (broadcastInDim S16384x2 ![0, 1] bcast_S16384x1_S16384x2_0_1 (broadcastInDim S16384x1 ![0] bcast_S16384_S16384x1_0 (maximumf (broadcastInDim S16384 ![] bcast_S_S16384 (constant S_ .f32 0xFF800000#32)) (Host.reduce FloatOps.maximumf v (constant S_ .f32 0xFF800000#32) reducesTo_S16384x2_S16384_d1 h_S_)))))) (constant S_ .f32 0x00000000#32) reducesTo_S16384x2_S16384_d1 h_S_)))

/-- The third result from the weights and their places. -/
def spread (w : FVec Ideal S16384x2 .f32) (x : IVec S16384x2 32) : FVec Ideal S16384x128 .f32 :=
  pad S16384x128 ![0, 0] ![0, 120] ![0, 0] (Host.reduceAdd (mulf (uitofp .f32 (cmpi .eq (broadcastInDim S16384x2x8 ![0, 1, 2] bcast_S16384x2x1_S16384x2x8_0_1_2 (broadcastInDim S16384x2x1 ![0, 1] bcast_S16384x2_S16384x2x1_0_1 x)) (broadcastInDim S16384x2x8 ![0, 1, 2] bcast_S1x1x8_S16384x2x8_0_1_2 (iotaInDim S1x1x8 32 2)))) (broadcastInDim S16384x2x8 ![0, 1, 2] bcast_S16384x2x1_S16384x2x8_0_1_2 (broadcastInDim S16384x2x1 ![0, 1] bcast_S16384x2_S16384x2x1_0_1 w))) (constant S_ .f32 0x00000000#32) reducesTo_S16384x2x8_S16384x8_d1 h_S_) (sitofp .f32 (constantI S_ 32 0#32)) pads_S16384x8_S16384x128_000_01200 h_S_

/-- The third result: the weights of the two greatest logits at their places, nothing elsewhere. -/
def gate (l : FVec Ideal S16384x8 .f32) : FVec Ideal S16384x128 .f32 := spread (weights (top l).1) (top l).2

/-- The weights at a place. -/
theorem weights_at (v : FVec Ideal S16384x2 .f32) (R : Fin 16384) (k : Fin 2) (h : v (ix2 R 1) ≤ v (ix2 R 0)) :
    weights v (ix2 R k) = Ideal.div (Ideal.exp (v (ix2 R k) - v (ix2 R 0))) (Ideal.exp (v (ix2 R 0) - v (ix2 R 0)) + Ideal.exp (v (ix2 R 1) - v (ix2 R 0))) := by
  have hm : Finset.fold max (⊥ : EReal) (fun x : Fin 2 => v (ix2 R x)) Finset.univ = v (ix2 R 0) :=
    Cert.Top2.fold_max_at (fun x : Fin 2 => v (ix2 R x)) 0 fun x => by
      match x with
      | 0 => exact le_rfl
      | 1 => exact h
  pointwise [weights]
  rw [Cert.RouteFin.word_neg_inf, hm, max_eq_right bot_le, Fin.sum_univ_two]

/-- The third result at a place. -/
theorem spread_at (w : FVec Ideal S16384x2 .f32) (x : IVec S16384x2 32) (R : Fin 16384) (E : Fin 128) :
    spread w x (ix2 R E) = if E.val < 8 then (if BitVec.ofNat 32 E.val = x (ix2 R 0) then w (ix2 R 0) else 0) + (if BitVec.ofNat 32 E.val = x (ix2 R 1) then w (ix2 R 1) else 0) else 0 := by
  have one : ∀ (a b : BitVec 32) (y : EReal), FloatOps.uitofp (F := Ideal) FTy.f32 (IntOp.cmpi CmpIPredicate.eq a b) * y = if b = a then y else 0 := by
    intro a b y
    by_cases e : b = a
    · subst e
      rw [if_pos rfl]
      have : IntOp.cmpi CmpIPredicate.eq b b = 1#1 := by simp [IntOp.cmpi]
      rw [this]
      show ((((1#1 : BitVec 1).toNat : ℝ) : EReal)) * y = y
      simp
    · rw [if_neg e]
      have : IntOp.cmpi CmpIPredicate.eq a b = 0#1 := by
        show BitVec.ofBool (a == b) = 0#1
        rw [beq_false_of_ne (Ne.symm e)]
        rfl
      rw [this]
      show ((((0#1 : BitVec 1).toNat : ℝ) : EReal)) * y = 0
      simp
  pointwise [spread]
  by_cases h : E.val < 8
  · rw [dif_pos h, if_pos h, Fin.sum_univ_two, one, one]
  · rw [dif_neg h, if_neg h]
    show (((0#32 : BitVec 32).toInt : ℝ) : EReal) = 0
    simp

/-- The third result at a place, by the first and the second place of the row's logits. -/
theorem gate_at (l : FVec Ideal S16384x8 .f32) (R : Fin 16384) (hL : ∀ j, Cert.RouteFin.IsReal (l (ix2 R j))) (E : Fin 128) :
    gate l (ix2 R E) = Cert.RouteFin.gateRow (fun j => l (ix2 R j)) (sortedFrom (before l R) 0) (sortedFrom (before l R) 1) E := by
  have hT := Cert.Top2.top_sorted (fun j => l (ix2 R j)) (before l R) (before_eq l R)
  have v0 : (top l).1 (ix2 R 0) = l (ix2 R (sortedFrom (before l R) 0)) := (top_at l R 0).1
  have v1 : (top l).1 (ix2 R 1) = l (ix2 R (sortedFrom (before l R) 1)) := (top_at l R 1).1
  have x0 : (top l).2 (ix2 R 0) = BitVec.ofNat 32 (sortedFrom (before l R) 0).val := (top_at l R 0).2
  have x1 : (top l).2 (ix2 R 1) = BitVec.ofNat 32 (sortedFrom (before l R) 1).val := (top_at l R 1).2
  have hle : (top l).1 (ix2 R 1) ≤ (top l).1 (ix2 R 0) := by
    rw [v0, v1]
    exact (hT.first _ hT.ne.symm).le
  obtain ⟨a, ha⟩ := hL (sortedFrom (before l R) 0)
  obtain ⟨b, hb⟩ := hL (sortedFrom (before l R) 1)
  obtain ⟨e0, e1⟩ := Cert.Top2.soft a b
  unfold gate
  rw [spread_at, weights_at _ R 0 hle, weights_at _ R 1 hle, v0, v1, x0, x1]
  unfold Cert.RouteFin.gateRow
  dsimp only
  rw [ha, hb, e1, e0]
  by_cases h : E.val < 8
  · rw [if_pos h]
  · rw [if_neg h, if_neg (Cert.RouteFin.far E _ h), if_neg (Cert.RouteFin.far E _ h), add_zero]

variable (m : (ℓ : Loc nD τ sig) → Buf (Elt Ideal) ℓ) (ρ : Dev nD → PrngReg)

/-- What the run leaves. -/
theorem run_result : θ_run defs (onTc (τ := τ) (main (F := Ideal))) ⟨m, fun _ => 0, ρ⟩ fun r => ∀ c : Dev nD,
      r.2.mem ((c.tc : Thread nD τ).loc main_v24) = sum (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v56) = norm (sum (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (m ((c.tc : Thread nD τ).loc main_arg9))
      ∧ r.2.mem ((c.tc : Thread nD τ).loc main_v57) = gate (logits (sum (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (m ((c.tc : Thread nD τ).loc main_arg9)) (m ((c.tc : Thread nD τ).loc main_arg10)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  Cert.Reference9Ideal.Value.run m ρ

end Cert.RouteRef

end
-- ==== Proof.RoutePay.lean ====
/- What the body of the merge with the routing leaves in its third output, read at one place. -/
module

public import proofs.«01_k».proof.Proof.Gen.Kernel9Ideal.Skeleton
public import proofs.«01_k».proof.Proof.RouteFin
public import proofs.«01_k».proof.Proof.Top2
public import Idealize.ShloMosaic.Lib.Pointwise

@[expose] public section

set_option maxRecDepth 16384

noncomputable section

namespace Cert.RoutePay
open Idealize.ShloMosaic Idealize.ShloMosaic.TcCoe Idealize.SL.Sem
open Cert.Kernel9Ideal Cert.Kernel9Ideal.Gen Cert.RowFns Cert.Top2 Cert.RouteFin

/-- A choice by equality. -/
theorem select_eq (a b : BitVec 32) (x y : EReal) : Scalar.select (IntOp.cmpi CmpIPredicate.eq a b) x y = if a = b then x else y := by
  by_cases e : a = b
  · subst e
    have : IntOp.cmpi CmpIPredicate.eq a a = 1#1 := by simp [IntOp.cmpi]
    rw [this, if_pos rfl]
    rfl
  · have : IntOp.cmpi CmpIPredicate.eq a b = 0#1 := by
      show BitVec.ofBool (a == b) = 0#1
      rw [beq_false_of_ne e]
      rfl
    rw [this, if_neg e]
    rfl

/-- A choice by the first eight lanes. -/
theorem select_low (e : Fin 128) (x y : EReal) : Scalar.select (IntOp.cmpi CmpIPredicate.slt (BitVec.ofNat 32 e.val) 8#32) x y = if e.val < 8 then x else y := by
  have h : ∀ e : Fin 128, IntOp.cmpi CmpIPredicate.slt (BitVec.ofNat 32 e.val) 8#32 = if e.val < 8 then 1#1 else 0#1 := by decide +kernel
  rw [h]
  by_cases he : e.val < 8
  · rw [if_pos he, if_pos he]; rfl
  · rw [if_neg he, if_neg he]; rfl

/-- A lane is a place's exactly where their numbers agree. -/
theorem lane_eq (e : Fin 128) (p : Fin 8) : (BitVec.ofNat 32 e.val = BitVec.ofNat 32 p.val) = (e = lane p) := by
  refine propext ⟨fun h => Fin.ext ?_, fun h => by rw [h]; rfl⟩
  have e' := congrArg BitVec.toNat h
  rwa [BitVec.toNat_ofNat, BitVec.toNat_ofNat, Nat.mod_eq_of_lt (lt_trans e.isLt (by decide)), Nat.mod_eq_of_lt (lt_trans p.isLt (by decide))] at e'

/-- The norm of a block, before it is narrowed. -/
theorem normed_at (s q : FVec Ideal S256x1024 .f32) (g : FVec Ideal S1x1024 .f32) (hq : q = mulf s s) (r : Fin 256) (d : Fin 1024) :
    k0_pay4 (F := Ideal) s g q (ix2 r d) = normed (fun k => s (ix2 r k)) (g (ix2 0 d)) d := by
  subst hq
  pointwise [k0_pay4]
  rfl

/-- The third output at a place, by the first and the second place of the row's logits. -/
theorem gate_at (s q : FVec Ideal S256x1024 .f32) (g : FVec Ideal S1x1024 .f32) (w : FVec Ideal S1024x128 .bf16) (r : Fin 256) (L : Fin 8 → EReal) (a b : Fin 8)
    (hT : Top L a b) (hL : ∀ j, L j ≠ ⊥) (hw : ∀ e : Fin 128, ∀ h : e.val < 8, ∑ x : Fin 1024, k0_pay4 (F := Ideal) s g q (ix2 r x) * w (ix2 x e) = L ⟨e.val, h⟩) (e : Fin 128) :
    k0_pay1 (F := Ideal) (iota .tc S256x128 32 [1] iota_S256x128_d1_w32) (k0_pay7 s g q w) (k0_pay8 s g q w) (k0_pay10 s g q w) (k0_pay11 s g q w) (ix2 r e)
      = gateRow L a b e := by
  have h6 : ∀ x : Fin 128, k0_pay6 (F := Ideal) s g q w (ix2 r x) = lanes L x := by
    intro x
    pointwise [k0_pay6]
    rw [select_low, word_neg_inf]
    unfold lanes
    by_cases hx : x.val < 8
    · rw [if_pos hx, dif_pos hx, hw x hx]
    · rw [if_neg hx, dif_neg hx]
  have h7 : k0_pay7 (F := Ideal) s g q w (ix2 r 0) = L a := by
    pointwise [k0_pay7]
    simp only [h6]
    rw [word_neg_inf]
    exact max_first hT
  have h8 : k0_pay8 (F := Ideal) s g q w (ix2 r 0) = BitVec.ofNat 32 a.val := by
    pointwise [k0_pay8]
    simp only [h6, h7]
    exact min_first hL hT _ fun k => rfl
  have h9 : ∀ x : Fin 128, k0_pay9 (F := Ideal) s g q w (ix2 r x) = others L a x := by
    intro x
    pointwise [k0_pay9]
    rw [h8, h6, select_eq, word_neg_inf]
    unfold others
    simp only [lane_eq]
  have h10 : k0_pay10 (F := Ideal) s g q w (ix2 r 0) = L b := by
    pointwise [k0_pay10]
    simp only [h9]
    rw [word_neg_inf]
    exact max_second hT
  have h11 : k0_pay11 (F := Ideal) s g q w (ix2 r 0) = BitVec.ofNat 32 b.val := by
    pointwise [k0_pay11]
    simp only [h9, h10]
    exact min_second hL hT _ fun k => rfl
  pointwise [k0_pay1]
  rw [h7, h8, h10, h11, select_eq, select_eq]
  rfl

end Cert.RoutePay

end
-- ==== Proof.RouteValue.lean ====
/- The merge with the routing: the arrays after the run are the reference's. -/
module

public import proofs.«01_k».proof.Proof.Gen.Kernel9Ideal.Value
public import proofs.«01_k».proof.Proof.RouteRef
public import proofs.«01_k».proof.Proof.RoutePay
public import Idealize.ShloMosaic.Lib.Pipeline.ValueKit

@[expose] public section

set_option maxRecDepth 16384

noncomputable section

namespace Cert.Route
open Idealize.ShloMosaic Idealize.ShloMosaic.TcCoe Idealize.SL.Sem
open Idealize.ShloMosaic.Pipeline (Dat)
open Cert.Kernel9Ideal Cert.Kernel9Ideal.Gen Cert.RowFns

/-- The windows' blocks at every grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![t.val, 0] ∧ win0_12.index t = ![t.val, 0] ∧ win0_13.index t = ![t.val, 0] :=
  (by decide +kernel : ∀ t : Fin grid0.N, _)

variable (m : (ℓ : Loc nD τ sig) → Buf (Elt Ideal) ℓ) (c : Dev nD)

/-- The residual rows, at their own type. -/
abbrev argX : FVec Ideal S16384x1024 .f32 := m ((c : Thread nD τ).loc main_arg0)
/-- The convolution branch, at their own type. -/
abbrev argCo : FVec Ideal S16384x512 .bf16 := m ((c : Thread nD τ).loc main_arg1)
/-- The latent branch, at their own type. -/
abbrev argMo : FVec Ideal S16384x512 .bf16 := m ((c : Thread nD τ).loc main_arg2)
/-- The state branch, at their own type. -/
abbrev argSo : FVec Ideal S16384x512 .bf16 := m ((c : Thread nD τ).loc main_arg3)
/-- The gates, at their own type. -/
abbrev argGt : FVec Ideal S16384x3072 .bf16 := m ((c : Thread nD τ).loc main_arg4)
/-- The first branch matrix, at their own type. -/
abbrev argWc : FVec Ideal S512x1024 .bf16 := m ((c : Thread nD τ).loc main_arg5)
/-- The second branch matrix, at their own type. -/
abbrev argWm : FVec Ideal S512x1024 .bf16 := m ((c : Thread nD τ).loc main_arg6)
/-- The third branch matrix, at their own type. -/
abbrev argWs : FVec Ideal S512x1024 .bf16 := m ((c : Thread nD τ).loc main_arg7)
/-- The output matrix, at their own type. -/
abbrev argWo : FVec Ideal S1024x1024 .bf16 := m ((c : Thread nD τ).loc main_arg8)
/-- The gain, at their own type. -/
abbrev argG : FVec Ideal S1x1024 .f32 := m ((c : Thread nD τ).loc main_arg9)

/-- The router's matrix, at its own type. -/
abbrev argR : FVec Ideal S1024x8 .f32 := m ((c : Thread nD τ).loc main_arg10)
/-- The reference's first result of these arguments. -/
abbrev refSum : FVec Ideal S16384x1024 .f32 := Cert.RouteRef.sum (argX m c) (argCo m c) (argMo m c) (argSo m c) (argGt m c) (argWc m c) (argWm m c) (argWs m c) (argWo m c)
/-- The reference's logits of these arguments. -/
abbrev refLogits : FVec Ideal Cert.Reference9Ideal.S16384x8 .f32 := Cert.RouteRef.logits (refSum m c) (argG m c) (argR m c)

/-- The router's matrix as the call finds it: widened with zeros. -/
theorem router : V m c main_v1 = truncf .bf16 (pad S1024x128 ![0, 0] ![0, 120] ![0, 0] (argR m c) (sitofp (F := Ideal) .f32 (constantI S_ 32 0#32)) pads_S1024x8_S1024x128_000_01200 h_S_) bitsLt_bf16_f32 := by
  unfold V
  simp only [hostOps0, hostOps0_1, hostOps0_2, List.flatten_cons, List.flatten_nil, List.append_nil, List.cons_append, List.nil_append]
  after_results_simp <;> rfl

/-- The router's matrix at a point. -/
theorem atR (t : Fin cfg0.N) (l : Fin 1024) (k : Fin 128) (hk : k.val < 8) :
    iblk m c 10 t (ix2 l k) = argR m c (ix2 l ⟨k.val, hk⟩) := by
  refine Eq.trans (b := (V m c main_v1 : FVec Ideal S1024x128 .bf16) (ix2 l k)) ?_ ?_
  · blk_ext [iblk, idx t]
  · rw [router]
    pointwise
    rw [dif_pos hk]

/-- The residual rows in a point's block. -/
theorem atX (t : Fin cfg0.N) (hB : t.val < 64) (r : Fin 256) (k : Fin 1024) :
    iblk m c 0 t (ix2 r k) = argX m c (ix2 ⟨t.val * 256 + r.val, by omega⟩ k) := by
  blk_ext [iblk, V, idx t]

/-- The convolution branch in a point's block. -/
theorem atCo (t : Fin cfg0.N) (hB : t.val < 64) (r : Fin 256) (k : Fin 512) :
    iblk m c 1 t (ix2 r k) = argCo m c (ix2 ⟨t.val * 256 + r.val, by omega⟩ k) := by
  blk_ext [iblk, V, idx t]

/-- The latent branch in a point's block. -/
theorem atMo (t : Fin cfg0.N) (hB : t.val < 64) (r : Fin 256) (k : Fin 512) :
    iblk m c 2 t (ix2 r k) = argMo m c (ix2 ⟨t.val * 256 + r.val, by omega⟩ k) := by
  blk_ext [iblk, V, idx t]

/-- The state branch in a point's block. -/
theorem atSo (t : Fin cfg0.N) (hB : t.val < 64) (r : Fin 256) (k : Fin 512) :
    iblk m c 3 t (ix2 r k) = argSo m c (ix2 ⟨t.val * 256 + r.val, by omega⟩ k) := by
  blk_ext [iblk, V, idx t]

/-- The gates in a point's block. -/
theorem atGt (t : Fin cfg0.N) (hB : t.val < 64) (r : Fin 256) (k : Fin 3072) :
    iblk m c 4 t (ix2 r k) = argGt m c (ix2 ⟨t.val * 256 + r.val, by omega⟩ k) := by
  blk_ext [iblk, V, idx t]

/-- The first branch matrix at a point. -/
theorem atWc (t : Fin cfg0.N) (l : Fin 512) (k : Fin 1024) :
    iblk m c 5 t (ix2 l k) = argWc m c (ix2 l k) := by
  blk_ext [iblk, V, idx t]

/-- The second branch matrix at a point. -/
theorem atWm (t : Fin cfg0.N) (l : Fin 512) (k : Fin 1024) :
    iblk m c 6 t (ix2 l k) = argWm m c (ix2 l k) := by
  blk_ext [iblk, V, idx t]

/-- The third branch matrix at a point. -/
theorem atWs (t : Fin cfg0.N) (l : Fin 512) (k : Fin 1024) :
    iblk m c 7 t (ix2 l k) = argWs m c (ix2 l k) := by
  blk_ext [iblk, V, idx t]

/-- The output matrix at a point. -/
theorem atWo (t : Fin cfg0.N) (l : Fin 1024) (k : Fin 1024) :
    iblk m c 8 t (ix2 l k) = argWo m c (ix2 l k) := by
  blk_ext [iblk, V, idx t]

/-- The gain at a point. -/
theorem atG (t : Fin cfg0.N) (l : Fin 1) (k : Fin 1024) :
    iblk m c 9 t (ix2 l k) = argG m c (ix2 l k) := by
  blk_ext [iblk, V, idx t]

/-- A block's rows with the merge added. -/
def total (x0 : FVec Ideal S256x1024 .f32) (x1 : FVec Ideal S256x512 .bf16) (x2 : FVec Ideal S256x512 .bf16) (x3 : FVec Ideal S256x512 .bf16) (x4 : FVec Ideal S256x3072 .bf16) (x5 : FVec Ideal S512x1024 .bf16) (x6 : FVec Ideal S512x1024 .bf16) (x7 : FVec Ideal S512x1024 .bf16) (x8 : FVec Ideal S1024x1024 .bf16) (x9 : FVec Ideal S1x1024 .f32) : FVec Ideal S256x1024 .f32 :=
  k0_pay2 (View.ld x4 r0_0) x1 x5 (View.ld x4 r0_3) x2 x6 (View.ld x4 r0_4) x3 x7 x0 x8

/-- The total at a place. -/
theorem total_at (x0 : FVec Ideal S256x1024 .f32) (x1 : FVec Ideal S256x512 .bf16) (x2 : FVec Ideal S256x512 .bf16) (x3 : FVec Ideal S256x512 .bf16) (x4 : FVec Ideal S256x3072 .bf16) (x5 : FVec Ideal S512x1024 .bf16) (x6 : FVec Ideal S512x1024 .bf16) (x7 : FVec Ideal S512x1024 .bf16) (x8 : FVec Ideal S1024x1024 .bf16) (x9 : FVec Ideal S1x1024 .f32) (r : Fin 256) (d : Fin 1024) :
    total x0 x1 x2 x3 x4 x5 x6 x7 x8 x9 (ix2 r d) = mergedRow (fun k => x0 (ix2 r k)) (fun k => x4 (ix2 r k)) (fun k => x1 (ix2 r k)) (fun k => x2 (ix2 r k)) (fun k => x3 (ix2 r k))
      (fun l k => x5 (ix2 l k)) (fun l k => x6 (ix2 l k)) (fun l k => x7 (ix2 l k)) (fun l k => x8 (ix2 l k)) d := by
  unfold total
  pointwise [k0_pay2]
  unfold mergedRow mixed
  refine congrArg (_ + ·) (Finset.sum_congr rfl fun k _ => congrArg (· * _) (congrArg₂ (· + ·) (congrArg₂ (· + ·) ?_ ?_) ?_))
  · exact congrArg (fun e => x4 (ix2 r e) * _) (Fin.ext (by show k.val = 0 * 1024 + k.val; omega))
  · exact congrArg (fun e => x4 (ix2 r e) * _) (Fin.ext (by show 1024 + k.val = 1 * 1024 + k.val; omega))
  · exact congrArg (fun e => x4 (ix2 r e) * _) (Fin.ext (by show 2048 + k.val = 2 * 1024 + k.val; omega))

/-- The total as the body names it. -/
theorem named_total (x0 : FVec Ideal S256x1024 .f32) (x1 : FVec Ideal S256x512 .bf16) (x2 : FVec Ideal S256x512 .bf16) (x3 : FVec Ideal S256x512 .bf16) (x4 : FVec Ideal S256x3072 .bf16) (x5 : FVec Ideal S512x1024 .bf16) (x6 : FVec Ideal S512x1024 .bf16) (x7 : FVec Ideal S512x1024 .bf16) (x8 : FVec Ideal S1024x1024 .bf16) (x9 : FVec Ideal S1x1024 .f32) (x10 : FVec Ideal S1024x128 .bf16) : k0_pay12 (F := Ideal) x0 x1 x2 x3 x4 x5 x6 x7 x8 x9 x10 = total x0 x1 x2 x3 x4 x5 x6 x7 x8 x9 := by
  unfold k0_pay12 total
  simp (disch := decide) only [View.ld_unit_lit']

/-- Its square as the body names it. -/
theorem named_square (x0 : FVec Ideal S256x1024 .f32) (x1 : FVec Ideal S256x512 .bf16) (x2 : FVec Ideal S256x512 .bf16) (x3 : FVec Ideal S256x512 .bf16) (x4 : FVec Ideal S256x3072 .bf16) (x5 : FVec Ideal S512x1024 .bf16) (x6 : FVec Ideal S512x1024 .bf16) (x7 : FVec Ideal S512x1024 .bf16) (x8 : FVec Ideal S1024x1024 .bf16) (x9 : FVec Ideal S1x1024 .f32) (x10 : FVec Ideal S1024x128 .bf16) : k0_pay13 (F := Ideal) x0 x1 x2 x3 x4 x5 x6 x7 x8 x9 x10 = mulf (total x0 x1 x2 x3 x4 x5 x6 x7 x8 x9) (total x0 x1 x2 x3 x4 x5 x6 x7 x8 x9) := by
  unfold k0_pay13 total
  simp (disch := decide) only [View.ld_unit_lit']
  rfl

/-- What the body leaves in the first output. -/
theorem first_at (x0 : FVec Ideal S256x1024 .f32) (x1 : FVec Ideal S256x512 .bf16) (x2 : FVec Ideal S256x512 .bf16) (x3 : FVec Ideal S256x512 .bf16) (x4 : FVec Ideal S256x3072 .bf16) (x5 : FVec Ideal S512x1024 .bf16) (x6 : FVec Ideal S512x1024 .bf16) (x7 : FVec Ideal S512x1024 .bf16) (x8 : FVec Ideal S1024x1024 .bf16) (x9 : FVec Ideal S1x1024 .f32) (x10 : FVec Ideal S1024x128 .bf16) (r : Fin 256) (d : Fin 1024) :
    out0_11 (F := Ideal) x0 x1 x2 x3 x4 x5 x6 x7 x8 x9 x10 (ix2 r d) = total x0 x1 x2 x3 x4 x5 x6 x7 x8 x9 (ix2 r d) := by
  frame_out
  rfl

/-- What the body leaves in the second output: the first one normed. -/
theorem second_at (x0 : FVec Ideal S256x1024 .f32) (x1 : FVec Ideal S256x512 .bf16) (x2 : FVec Ideal S256x512 .bf16) (x3 : FVec Ideal S256x512 .bf16) (x4 : FVec Ideal S256x3072 .bf16) (x5 : FVec Ideal S512x1024 .bf16) (x6 : FVec Ideal S512x1024 .bf16) (x7 : FVec Ideal S512x1024 .bf16) (x8 : FVec Ideal S1024x1024 .bf16) (x9 : FVec Ideal S1x1024 .f32) (x10 : FVec Ideal S1024x128 .bf16) (r : Fin 256) (d : Fin 1024) :
    out0_12 (F := Ideal) x0 x1 x2 x3 x4 x5 x6 x7 x8 x9 x10 (ix2 r d) = normed (fun k => total x0 x1 x2 x3 x4 x5 x6 x7 x8 x9 (ix2 r k)) (x9 (ix2 0 d)) d := by
  frame_out
  rw [named_total, named_square]
  exact Cert.RoutePay.normed_at _ _ _ rfl r d

/-- One number of a point's total. -/
theorem total_point (t : Fin cfg0.N) (hB : t.val < 64) (r : Fin 256) (d : Fin 1024) :
    total (iblk m c 0 t) (iblk m c 1 t) (iblk m c 2 t) (iblk m c 3 t) (iblk m c 4 t) (iblk m c 5 t) (iblk m c 6 t) (iblk m c 7 t) (iblk m c 8 t) (iblk m c 9 t) (ix2 r d) = Cert.RouteRef.sum (argX m c) (argCo m c) (argMo m c) (argSo m c) (argGt m c) (argWc m c) (argWm m c) (argWs m c) (argWo m c) (ix2 ⟨t.val * 256 + r.val, by omega⟩ d) := by
  refine (total_at _ _ _ _ _ _ _ _ _ (iblk m c 9 t) r d).trans ?_
  rw [Cert.RouteRef.sum_at]
  have e0 := funext fun k => atX m c t hB r k
  have e1 := funext fun k => atCo m c t hB r k
  have e2 := funext fun k => atMo m c t hB r k
  have e3 := funext fun k => atSo m c t hB r k
  have e4 := funext fun k => atGt m c t hB r k
  have e5 := funext fun l => funext fun k => atWc m c t l k
  have e6 := funext fun l => funext fun k => atWm m c t l k
  have e7 := funext fun l => funext fun k => atWs m c t l k
  have e8 := funext fun l => funext fun k => atWo m c t l k
  refine (congrArg₂ (fun x gt => mergedRow x gt _ _ _ _ _ _ _ d) e0 e4).trans ?_
  refine (congrArg₂ (fun a b => mergedRow _ _ a b _ _ _ _ _ d) e1 e2).trans ?_
  refine (congrArg₂ (fun a b => mergedRow _ _ _ _ a b _ _ _ d) e3 e5).trans ?_
  refine (congrArg₂ (fun a b => mergedRow _ _ _ _ _ _ a b _ d) e6 e7).trans ?_
  exact congrArg (fun a => mergedRow _ _ _ _ _ _ _ _ a d) e8

/-- The first result array. -/
theorem final_sum : (dats m 0 c).arrAt 11 (cfgs 0).N = Cert.RouteRef.sum (argX m c) (argCo m c) (argMo m c) (argSo m c) (argGt m c) (argWc m c) (argWm m c) (argWs m c) (argWo m c) := by
  refine (dats m 0 c).arrAt_eq_of_covers 11 _ (by decide +kernel) fun t hf y => ?_
  have hN : t.val < 64 := lt_of_lt_of_eq t.isLt N_0
  blk_simp
  rw [after0_11]
  idx_vars y
  refine (first_at _ _ _ _ _ _ _ _ _ _ _ y0 y1).trans ?_
  refine (total_point m c t hN y0 y1).trans ?_
  blk_ext [idx t]

/-- The second result array. -/
theorem final_norm : (dats m 0 c).arrAt 12 (cfgs 0).N = Cert.RouteRef.norm (Cert.RouteRef.sum (argX m c) (argCo m c) (argMo m c) (argSo m c) (argGt m c) (argWc m c) (argWm m c) (argWs m c) (argWo m c)) (argG m c) := by
  refine (dats m 0 c).arrAt_eq_of_covers 12 _ (by decide +kernel) fun t hf y => ?_
  have hN : t.val < 64 := lt_of_lt_of_eq t.isLt N_0
  blk_simp
  rw [after0_12]
  idx_vars y
  refine (second_at _ _ _ _ _ _ _ _ _ _ _ y0 y1).trans ?_
  refine (congrArg₂ (fun x g => normed x g y1) (funext fun k => total_point m c t hN y0 k) (atG m c t 0 y1)).trans ?_
  refine (Cert.RouteRef.norm_at _ _ _ _).symm.trans ?_
  blk_ext [idx t]

/-- What the body leaves in the third output: the gates of the block's rows. -/
theorem third_at (x0 : FVec Ideal S256x1024 .f32) (x1 : FVec Ideal S256x512 .bf16) (x2 : FVec Ideal S256x512 .bf16) (x3 : FVec Ideal S256x512 .bf16) (x4 : FVec Ideal S256x3072 .bf16) (x5 : FVec Ideal S512x1024 .bf16) (x6 : FVec Ideal S512x1024 .bf16) (x7 : FVec Ideal S512x1024 .bf16) (x8 : FVec Ideal S1024x1024 .bf16) (x9 : FVec Ideal S1x1024 .f32) (x10 : FVec Ideal S1024x128 .bf16) (r : Fin 256) (e : Fin 128) (L : Fin 8 → EReal) (a b : Fin 8)
    (hT : Cert.Top2.Top L a b) (hL : ∀ j, L j ≠ ⊥)
    (hw : ∀ e : Fin 128, ∀ h : e.val < 8, ∑ k : Fin 1024, normed (fun l => total x0 x1 x2 x3 x4 x5 x6 x7 x8 x9 (ix2 r l)) (x9 (ix2 0 k)) k * x10 (ix2 k e) = L ⟨e.val, h⟩) :
    out0_13 (F := Ideal) x0 x1 x2 x3 x4 x5 x6 x7 x8 x9 x10 (ix2 r e) = Cert.RouteFin.gateRow L a b e := by
  frame_out
  rw [named_total, named_square]
  refine Cert.RoutePay.gate_at _ _ _ _ r L a b hT hL (fun e h => ?_) e
  refine Eq.trans (Finset.sum_congr rfl fun k _ => ?_) (hw e h)
  exact congrArg (· * _) (Cert.RoutePay.normed_at (total x0 x1 x2 x3 x4 x5 x6 x7 x8 x9) _ _ rfl r k)

/-- What the precondition says of the arguments: the logits are real. -/
theorem logits_real [Cert.Pre_finite9.Facts] (h : Cert.Pre_finite9.fn (F := Ideal) (argX m c) (argCo m c) (argMo m c) (argSo m c) (argGt m c) (argWc m c) (argWm m c) (argWs m c) (argWo m c) (argG m c) (argR m c) = fun _ => 1#1)
    (R : Fin 16384) (E : Fin 8) : Cert.RouteFin.IsReal (refLogits m c (ix2 R E)) := by
  obtain ⟨⟨h0, h1, h2, h3, h4⟩, h5, h6, h7, h8, h9, h10⟩ := Cert.RouteFin.finite_real _ _ _ _ _ _ _ _ _ _ _ h
  unfold refLogits
  rw [Cert.RouteRef.logits_at]
  refine Cert.RouteFin.IsReal.sum _ fun k => (Cert.RouteFin.normed_real _ _ (fun l => ?_) (h9 _) k).mul (h10 _)
  unfold refSum
  rw [Cert.RouteRef.sum_at]
  exact Cert.RouteFin.mergedRow_real _ _ _ _ _ _ _ _ _ (fun _ => h0 _) (fun _ => h4 _) (fun _ => h1 _) (fun _ => h2 _) (fun _ => h3 _) (fun _ _ => h5 _) (fun _ _ => h6 _) (fun _ _ => h7 _) (fun _ _ => h8 _) l

/-- One number of a point's gates. -/
theorem third_point (hl : ∀ (R : Fin 16384) (E : Fin 8), Cert.RouteFin.IsReal (refLogits m c (ix2 R E))) (t : Fin cfg0.N) (hB : t.val < 64) (r : Fin 256) (e : Fin 128) :
    out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r e) = Cert.RouteRef.gate (refLogits m c) (ix2 ⟨t.val * 256 + r.val, by omega⟩ e) := by
  refine Eq.trans ?_ (Cert.RouteRef.gate_at (refLogits m c) ⟨t.val * 256 + r.val, by omega⟩ (hl _) e).symm
  refine third_at _ _ _ _ _ _ _ _ _ _ _ r e (fun j => refLogits m c (ix2 ⟨t.val * 256 + r.val, by omega⟩ j)) _ _
    (Cert.Top2.top_sorted _ _ (Cert.RouteRef.before_eq (refLogits m c) ⟨t.val * 256 + r.val, by omega⟩)) (fun j => (hl _ j).ne_bot) fun e h => ?_
  refine Eq.trans ?_ (Cert.RouteRef.logits_at (refSum m c) (argG m c) (argR m c) ⟨t.val * 256 + r.val, by omega⟩ ⟨e.val, h⟩).symm
  refine Finset.sum_congr rfl fun k _ => congrArg₂ (· * ·) ?_ (atR m c t k e h)
  exact congrArg₂ (fun x g => normed x g k) (funext fun l => total_point m c t hB r l) (atG m c t 0 k)

/-- The third result array. -/
theorem final_gate (hl : ∀ (R : Fin 16384) (E : Fin 8), Cert.RouteFin.IsReal (refLogits m c (ix2 R E))) : (dats m 0 c).arrAt 13 (cfgs 0).N = Cert.RouteRef.gate (refLogits m c) := by
  refine (dats m 0 c).arrAt_eq_of_covers 13 _ (by decide +kernel) fun t hf y => ?_
  have hN : t.val < 64 := lt_of_lt_of_eq t.isLt N_0
  blk_simp
  rw [after0_13]
  idx_vars y
  refine (third_point m c hl t hN y0 y1).trans ?_
  blk_ext [idx t]

end Cert.Route

end
-- ==== Proof.Route.lean ====
/- The claims about the merge with the routing. -/
module

public import proofs.«01_k».proof.Defs
public import proofs.«01_k».proof.Proof.Gen.Kernel9.Frame
public import proofs.«01_k».proof.Proof.RouteValue
public import Idealize.ShloMosaic.Lib.Claim

@[expose] public section

set_option maxRecDepth 16384

noncomputable section

namespace Cert.Route
open Idealize.ShloMosaic Idealize.ShloMosaic.TcCoe Idealize.SL.Sem

/-- The precondition's program states facts of shapes and widths. -/
theorem finite9_facts : Cert.Pre_finite9.Facts where
  bcast_S_S16384x1024 := by decide
  reducesTo_S16384x1024_S_d0_1 := by decide
  h_S_ := by decide
  bitsLt_bf16_f32 := by decide
  bcast_S_S16384x512 := by decide
  reducesTo_S16384x512_S_d0_1 := by decide
  bcast_S_S16384x3072 := by decide
  reducesTo_S16384x3072_S_d0_1 := by decide
  bcast_S_S512x1024 := by decide
  reducesTo_S512x1024_S_d0_1 := by decide
  bcast_S_S1024x1024 := by decide
  reducesTo_S1024x1024_S_d0_1 := by decide
  bcast_S_S1x1024 := by decide
  reducesTo_S1x1024_S_d0_1 := by decide
  bcast_S_S1024x8 := by decide
  reducesTo_S1024x8_S_d0_1 := by decide

attribute [local instance] Cert.Kernel9.Gen.facts Cert.Kernel9Ideal.Gen.facts Cert.Reference9Ideal.Gen.facts finite9_facts

/-- The reference changes nothing and ends quiet. -/
theorem quiet_reference : Cert.quiescent_Reference9Ideal := by
  intro m g _
  refine (θ_run _ _ _).mono (fun r h => ⟨fun c => (h c).2.2.2, ?_⟩) (Cert.Reference9Ideal.Value.run m g)
  exact Idealize.ShloMosaic.sem_eq_zero_of_no_sems (by decide) r.2

/-- Kernel and reference leave the same three arrays, when every number put in is finite. -/
theorem algebraic : Cert.algebraic_Kernel9Ideal_Reference9Ideal_pre_finite9 := by
  intro m g m' g' hpre hagree
  refine ⟨fun c => refSum m c, fun c => Cert.RouteRef.norm (refSum m c) (argG m c), fun c => Cert.RouteRef.gate (refLogits m c), ?_, ?_⟩
  · refine (θ_run _ _ _).mono (fun r h c => ?_) (Cert.Kernel9Ideal.Value.run_blocks m g)
    exact ⟨(h c).1.trans (final_sum m c), (h c).2.1.trans (final_norm m c), (h c).2.2.1.trans (final_gate m c (logits_real m c (hpre c))), (h c).2.2.2⟩
  · refine (θ_run _ _ _).mono (fun r h c => ?_) (Cert.RouteRef.run_result m' g')
    obtain ⟨a0, a1, a2, a3, a4, a5, a6, a7, a8, a9, a10⟩ := hagree c
    refine ⟨(h c).1.trans ?_, (h c).2.1.trans ?_, (h c).2.2.1.trans ?_, (h c).2.2.2⟩
    · rw [a0, a1, a2, a3, a4, a5, a6, a7, a8]
    · rw [a0, a1, a2, a3, a4, a5, a6, a7, a8, a9]
    · rw [a0, a1, a2, a3, a4, a5, a6, a7, a8, a9, a10]

end Cert.Route

end
-- ==== Proof.lean ====
module

public import proofs.«01_k».proof.Defs
public import proofs.«01_k».proof.Proof.Mla
public import proofs.«01_k».proof.Proof.Moe
public import proofs.«01_k».proof.Proof.Ffn
public import proofs.«01_k».proof.Proof.Merge
public import proofs.«01_k».proof.Proof.Norm
public import proofs.«01_k».proof.Proof.InProj
public import proofs.«01_k».proof.Proof.SmProj
public import proofs.«01_k».proof.Proof.SmNorm
public import proofs.«01_k».proof.Proof.Route
public import Idealize.ShloMosaic.Adequacy
public import Idealize.ShloMosaic.Init

@[expose] public section

noncomputable section

namespace Cert.Proof

open Idealize.ShloMosaic Idealize.SL.Sem

/-- Everything claimed. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Mla.finite_facts, Cert.Route.finite9_facts,
    fun m ρ _ => Cert.Kernel.Gen.frame m ρ,
    fun m ρ _ => Cert.KernelIdeal.Gen.frame m ρ,
    fun m ρ _ => Cert.KernelIdeal.Gen.frame m ρ,
    Cert.Mla.quiet_reference,
    fun m ρ _ => Cert.Mla.quiet_reference m ρ trivial,
    fun m ρ _ => Cert.Kernel2.Gen.frame m ρ,
    fun m ρ _ => Cert.Kernel2Ideal.Gen.frame m ρ,
    Cert.Moe.quiet_reference,
    fun m ρ _ => Cert.Kernel3.Gen.frame m ρ,
    fun m ρ _ => Cert.Kernel3Ideal.Gen.frame m ρ,
    Cert.Ffn.quiet_reference,
    fun m ρ _ => Cert.Kernel4.Gen.frame m ρ,
    fun m ρ _ => Cert.Kernel4Ideal.Gen.frame m ρ,
    Cert.Merge.quiet_reference,
    fun m ρ _ => Cert.Kernel5.Gen.frame m ρ,
    fun m ρ _ => Cert.Kernel5Ideal.Gen.frame m ρ,
    Cert.Norm.quiet_reference,
    fun m ρ _ => Cert.Kernel6.Gen.frame m ρ,
    fun m ρ _ => Cert.Kernel6Ideal.Gen.frame m ρ,
    Cert.InProj.quiet_reference,
    fun m ρ _ => Cert.Kernel7.Gen.frame m ρ,
    fun m ρ _ => Cert.Kernel7Ideal.Gen.frame m ρ,
    Cert.SmProj.quiet_reference,
    fun m ρ _ => Cert.Kernel8.Gen.frame m ρ,
    fun m ρ _ => Cert.Kernel8Ideal.Gen.frame m ρ,
    Cert.SmNorm.quiet_reference,
    fun m ρ _ => Cert.Kernel9.Gen.frame m ρ,
    fun m ρ _ => Cert.Kernel9Ideal.Gen.frame m ρ,
    fun m ρ _ => Cert.Kernel9Ideal.Gen.frame m ρ,
    Cert.Route.quiet_reference,
    fun m ρ _ => Cert.Route.quiet_reference m ρ trivial,
    trivial,
    Cert.Mla.algebraic,
    trivial,
    Cert.Moe.algebraic,
    trivial,
    Cert.Ffn.algebraic,
    trivial,
    Cert.Merge.algebraic,
    trivial,
    Cert.Norm.algebraic,
    trivial,
    Cert.InProj.algebraic,
    trivial,
    Cert.SmProj.algebraic,
    trivial,
    Cert.SmNorm.algebraic,
    trivial,
    Cert.Route.algebraic⟩

end Cert.Proof

end
